-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_tame : Cert.Pre_tame.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_ids_in_range.lean ====
abbrev S6x1x7168 : Shape := ⟨3, ![6, 1, 7168]⟩
abbrev S13x3584x4096 : Shape := ⟨3, ![13, 3584, 4096]⟩
abbrev S13x224x4096 : Shape := ⟨3, ![13, 224, 4096]⟩
abbrev S13x1024x7168 : Shape := ⟨3, ![13, 1024, 7168]⟩
abbrev S13x64x7168 : Shape := ⟨3, ![13, 64, 7168]⟩
abbrev S6x1x8 : Shape := ⟨3, ![6, 1, 8]⟩
abbrev S_ : Shape := ⟨0, ![]⟩

class Facts : Prop where
  bcast_S_S6x1x8 : S_.BroadcastsInDim S6x1x8 (![] : Fin 0 → Fin S6x1x8.rank)
  reducesTo_S6x1x8_S_d0_1_2 : S6x1x8.ReducesTo [0, 1, 2] S_
  h_S_ : 0 < S_.numel

variable [Facts]

def fn {F : FTy → Type} [FloatOps F] (main_arg0 : FVec F S6x1x7168 .bf16) (main_arg1 : IVec S13x3584x4096 8) (main_arg2 : IVec S13x224x4096 8) (main_arg3 : IVec S13x1024x7168 8) (main_arg4 : IVec S13x64x7168 8) (main_arg5 : IVec S6x1x8 32) (main_arg6 : FVec F S6x1x8 .f32) : IVec S_ 1 :=
  let main_c : IVec S_ 32 := constantI S_ 32 0#32
  let main_v0 : IVec S6x1x8 32 := broadcastInDim S6x1x8 ![] bcast_S_S6x1x8 main_c
  let main_v1 : IVec S6x1x8 1 := cmpi .sge main_arg5 main_v0
  let main_c_0 : IVec S_ 32 := constantI S_ 32 13#32
  let main_v2 : IVec S6x1x8 32 := broadcastInDim S6x1x8 ![] bcast_S_S6x1x8 main_c_0
  let main_v3 : IVec S6x1x8 1 := cmpi .slt main_arg5 main_v2
  let main_v4 : IVec S6x1x8 1 := andi main_v1 main_v3
  let main_c_1 : IVec S_ 1 := constantI S_ 1 1#1
  let main_v5 : IVec S_ 1 := (fun x v => Host.reduce IntOp.andi x v reducesTo_S6x1x8_S_d0_1_2 h_S_) main_v4 main_c_1
  main_v5
-- ==== Pre_tame.lean ====
abbrev S6x1x7168 : Shape := ⟨3, ![6, 1, 7168]⟩
abbrev S13x3584x4096 : Shape := ⟨3, ![13, 3584, 4096]⟩
abbrev S13x224x4096 : Shape := ⟨3, ![13, 224, 4096]⟩
abbrev S13x1024x7168 : Shape := ⟨3, ![13, 1024, 7168]⟩
abbrev S13x64x7168 : Shape := ⟨3, ![13, 64, 7168]⟩
abbrev S6x1x8 : Shape := ⟨3, ![6, 1, 8]⟩
abbrev S_ : Shape := ⟨0, ![]⟩

class Facts : Prop where
  natLt_8_32 : 8 < 32
  bcast_S_S6x1x8 : S_.BroadcastsInDim S6x1x8 (![] : Fin 0 → Fin S6x1x8.rank)
  reducesTo_S6x1x8_S_d0_1_2 : S6x1x8.ReducesTo [0, 1, 2] S_
  h_S_ : 0 < S_.numel
  bcast_S_S13x224x4096 : S_.BroadcastsInDim S13x224x4096 (![] : Fin 0 → Fin S13x224x4096.rank)
  reducesTo_S13x224x4096_S_d0_1_2 : S13x224x4096.ReducesTo [0, 1, 2] S_
  bcast_S_S13x64x7168 : S_.BroadcastsInDim S13x64x7168 (![] : Fin 0 → Fin S13x64x7168.rank)
  reducesTo_S13x64x7168_S_d0_1_2 : S13x64x7168.ReducesTo [0, 1, 2] S_
  bcast_S_S6x1x7168 : S_.BroadcastsInDim S6x1x7168 (![] : Fin 0 → Fin S6x1x7168.rank)
  reducesTo_S6x1x7168_S_d0_1_2 : S6x1x7168.ReducesTo [0, 1, 2] S_

variable [Facts]

def fn_part1 {F : FTy → Type} [FloatOps F] (main_arg0 : FVec F S6x1x7168 .bf16) (main_arg6 : FVec F S6x1x8 .f32) (main_v1 : IVec S13x64x7168 32) (main_v14 : IVec S_ 1) (main_v16 : IVec S13x64x7168 1) : IVec S_ 1 :=
  let main_c_6 : IVec S_ 32 := constantI S_ 32 254#32
  let main_v17 : IVec S13x64x7168 32 := broadcastInDim S13x64x7168 ![] bcast_S_S13x64x7168 main_c_6
  let main_v18 : IVec S13x64x7168 1 := cmpi .sle main_v1 main_v17
  let main_v19 : IVec S13x64x7168 1 := andi main_v16 main_v18
  let main_c_7 : IVec S_ 1 := constantI S_ 1 1#1
  let main_v20 : IVec S_ 1 := (fun x v => Host.reduce IntOp.andi x v reducesTo_S13x64x7168_S_d0_1_2 h_S_) main_v19 main_c_7
  let main_v21 : IVec S_ 1 := andi main_v14 main_v20
  let main_v22 : FVec F S6x1x7168 .bf16 := Host.absf main_arg0
  let main_cst : FVec F S_ .bf16 := constant S_ .bf16 0x7F80#16
  let main_v23 : FVec F S6x1x7168 .bf16 := broadcastInDim S6x1x7168 ![] bcast_S_S6x1x7168 main_cst
  let main_v24 : IVec S6x1x7168 1 := cmpf .olt main_v22 main_v23
  let main_c_8 : IVec S_ 1 := constantI S_ 1 1#1
  let main_v25 : IVec S_ 1 := (fun x v => Host.reduce IntOp.andi x v reducesTo_S6x1x7168_S_d0_1_2 h_S_) main_v24 main_c_8
  let main_v26 : IVec S_ 1 := andi main_v21 main_v25
  let main_v27 : FVec F S6x1x8 .f32 := Host.absf main_arg6
  let main_cst_9 : FVec F S_ .f32 := constant S_ .f32 0x7F800000#32
  let main_v28 : FVec F S6x1x8 .f32 := broadcastInDim S6x1x8 ![] bcast_S_S6x1x8 main_cst_9
  let main_v29 : IVec S6x1x8 1 := cmpf .olt main_v27 main_v28
  let main_c_10 : IVec S_ 1 := constantI S_ 1 1#1
  let main_v30 : IVec S_ 1 := (fun x v => Host.reduce IntOp.andi x v reducesTo_S6x1x8_S_d0_1_2 h_S_) main_v29 main_c_10
  let main_v31 : IVec S_ 1 := andi main_v26 main_v30
  main_v31

def fn {F : FTy → Type} [FloatOps F] (main_arg0 : FVec F S6x1x7168 .bf16) (main_arg1 : IVec S13x3584x4096 8) (main_arg2 : IVec S13x224x4096 8) (main_arg3 : IVec S13x1024x7168 8) (main_arg4 : IVec S13x64x7168 8) (main_arg5 : IVec S6x1x8 32) (main_arg6 : FVec F S6x1x8 .f32) : IVec S_ 1 :=
  let main_v0 : IVec S13x224x4096 32 := (extui 32 · natLt_8_32) main_arg2
  let main_v1 : IVec S13x64x7168 32 := (extui 32 · natLt_8_32) main_arg4
  let main_c : IVec S_ 32 := constantI S_ 32 0#32
  let main_v2 : IVec S6x1x8 32 := broadcastInDim S6x1x8 ![] bcast_S_S6x1x8 main_c
  let main_v3 : IVec S6x1x8 1 := cmpi .sge main_arg5 main_v2
  let main_c_0 : IVec S_ 32 := constantI S_ 32 13#32
  let main_v4 : IVec S6x1x8 32 := broadcastInDim S6x1x8 ![] bcast_S_S6x1x8 main_c_0
  let main_v5 : IVec S6x1x8 1 := cmpi .slt main_arg5 main_v4
  let main_v6 : IVec S6x1x8 1 := andi main_v3 main_v5
  let main_c_1 : IVec S_ 1 := constantI S_ 1 1#1
  let main_v7 : IVec S_ 1 := (fun x v => Host.reduce IntOp.andi x v reducesTo_S6x1x8_S_d0_1_2 h_S_) main_v6 main_c_1
  let main_c_2 : IVec S_ 32 := constantI S_ 32 1#32
  let main_v8 : IVec S13x224x4096 32 := broadcastInDim S13x224x4096 ![] bcast_S_S13x224x4096 main_c_2
  let main_v9 : IVec S13x224x4096 1 := cmpi .sge main_v0 main_v8
  let main_c_3 : IVec S_ 32 := constantI S_ 32 254#32
  let main_v10 : IVec S13x224x4096 32 := broadcastInDim S13x224x4096 ![] bcast_S_S13x224x4096 main_c_3
  let main_v11 : IVec S13x224x4096 1 := cmpi .sle main_v0 main_v10
  let main_v12 : IVec S13x224x4096 1 := andi main_v9 main_v11
  let main_c_4 : IVec S_ 1 := constantI S_ 1 1#1
  let main_v13 : IVec S_ 1 := (fun x v => Host.reduce IntOp.andi x v reducesTo_S13x224x4096_S_d0_1_2 h_S_) main_v12 main_c_4
  let main_v14 : IVec S_ 1 := andi main_v7 main_v13
  let main_c_5 : IVec S_ 32 := constantI S_ 32 1#32
  let main_v15 : IVec S13x64x7168 32 := broadcastInDim S13x64x7168 ![] bcast_S_S13x64x7168 main_c_5
  let main_v16 : IVec S13x64x7168 1 := cmpi .sge main_v1 main_v15
  fn_part1 (F := F) main_arg0 main_arg6 main_v1 main_v14 main_v16
-- ==== Kernel.lean ====
abbrev S6x1x7168 : Shape := ⟨3, ![6, 1, 7168]⟩
abbrev S13x3584x4096 : Shape := ⟨3, ![13, 3584, 4096]⟩
abbrev S13x224x4096 : Shape := ⟨3, ![13, 224, 4096]⟩
abbrev S13x1024x7168 : Shape := ⟨3, ![13, 1024, 7168]⟩
abbrev S13x64x7168 : Shape := ⟨3, ![13, 64, 7168]⟩
abbrev S6x1x8 : Shape := ⟨3, ![6, 1, 8]⟩
abbrev S48 : Shape := ⟨1, ![48]⟩
abbrev S4x2x3584x512 : Shape := ⟨4, ![4, 2, 3584, 512]⟩
abbrev S4x2x224x512 : Shape := ⟨4, ![4, 2, 224, 512]⟩
abbrev S2x1024x3584 : Shape := ⟨3, ![2, 1024, 3584]⟩
abbrev S2x64x3584 : Shape := ⟨3, ![2, 64, 3584]⟩
abbrev S28x48x256 : Shape := ⟨3, ![28, 48, 256]⟩
abbrev S8x48x256 : Shape := ⟨3, ![8, 48, 256]⟩
abbrev S6x8x128 : Shape := ⟨3, ![6, 8, 128]⟩
abbrev S6x8x7168 : Shape := ⟨3, ![6, 8, 7168]⟩
abbrev S13 : Shape := ⟨1, ![13]⟩
abbrev S4 : Shape := ⟨1, ![4]⟩
abbrev S2 : Shape := ⟨1, ![2]⟩
abbrev S1 : Shape := ⟨1, ![1]⟩
abbrev S_ : Shape := ⟨0, ![]⟩
abbrev S1x1x3584x512 : Shape := ⟨4, ![1, 1, 3584, 512]⟩
abbrev S3584x512 : Shape := ⟨2, ![3584, 512]⟩
abbrev S1x3584x512 : Shape := ⟨3, ![1, 3584, 512]⟩
abbrev S1x1x224x512 : Shape := ⟨4, ![1, 1, 224, 512]⟩
abbrev S224x512 : Shape := ⟨2, ![224, 512]⟩
abbrev S1x224x512 : Shape := ⟨3, ![1, 224, 512]⟩
abbrev S1x1024x3584 : Shape := ⟨3, ![1, 1024, 3584]⟩
abbrev S1024x3584 : Shape := ⟨2, ![1024, 3584]⟩
abbrev S1x64x3584 : Shape := ⟨3, ![1, 64, 3584]⟩
abbrev S64x3584 : Shape := ⟨2, ![64, 3584]⟩
abbrev S6x8x256 : Shape := ⟨3, ![6, 8, 256]⟩
abbrev S6x1x256 : Shape := ⟨3, ![6, 1, 256]⟩
abbrev S48x256 : Shape := ⟨2, ![48, 256]⟩
abbrev S1x48x256 : Shape := ⟨3, ![1, 48, 256]⟩
abbrev S6x1 : Shape := ⟨2, ![6, 1]⟩
abbrev S6x1x1 : Shape := ⟨3, ![6, 1, 1]⟩
abbrev S6x8x512 : Shape := ⟨3, ![6, 8, 512]⟩
abbrev S1x1x128x256 : Shape := ⟨4, ![1, 1, 128, 256]⟩
abbrev S128x256 : Shape := ⟨2, ![128, 256]⟩
abbrev S128x512 : Shape := ⟨2, ![128, 512]⟩
abbrev S1x1x8x256 : Shape := ⟨4, ![1, 1, 8, 256]⟩
abbrev S8x256 : Shape := ⟨2, ![8, 256]⟩
abbrev S8x512 : Shape := ⟨2, ![8, 512]⟩
abbrev S128x1x512 : Shape := ⟨3, ![128, 1, 512]⟩
abbrev S128x2x512 : Shape := ⟨3, ![128, 2, 512]⟩
abbrev S256x512 : Shape := ⟨2, ![256, 512]⟩
abbrev S48x512 : Shape := ⟨2, ![48, 512]⟩
abbrev S1x8x512 : Shape := ⟨3, ![1, 8, 512]⟩
abbrev S6x512 : Shape := ⟨2, ![6, 512]⟩
abbrev S6x1x512 : Shape := ⟨3, ![6, 1, 512]⟩
abbrev S1x128x512 : Shape := ⟨3, ![1, 128, 512]⟩
abbrev S6x8x1 : Shape := ⟨3, ![6, 8, 1]⟩
abbrev S6x7168 : Shape := ⟨2, ![6, 7168]⟩

abbrev nBuf : Space → Nat
  | .hbm => 9
  | .vmem => 12
  | .smem => 2
  | _ => 0

abbrev bufTy : (tb : Table) → Fin (tcTables nBuf tb) → BufTy
  | .hbm, ⟨0, _⟩ => ⟨S6x1x7168, .bf16⟩
  | .hbm, ⟨1, _⟩ => ⟨S13x3584x4096, .i8⟩
  | .hbm, ⟨2, _⟩ => ⟨S13x224x4096, .i8⟩
  | .hbm, ⟨3, _⟩ => ⟨S13x1024x7168, .i8⟩
  | .hbm, ⟨4, _⟩ => ⟨S13x64x7168, .i8⟩
  | .hbm, ⟨5, _⟩ => ⟨S6x1x8, .i32⟩
  | .hbm, ⟨6, _⟩ => ⟨S6x1x8, .f32⟩
  | .hbm, ⟨7, _⟩ => ⟨S48, .i32⟩
  | .hbm, ⟨8, _⟩ => ⟨S6x1x7168, .bf16⟩
  | .local _ .vmem, ⟨0, _⟩ => ⟨S6x1x8, .i32⟩
  | .local _ .vmem, ⟨1, _⟩ => ⟨S6x1x8, .f32⟩
  | .local _ .vmem, ⟨2, _⟩ => ⟨S6x1x7168, .bf16⟩
  | .local _ .vmem, ⟨3, _⟩ => ⟨S6x1x7168, .bf16⟩
  | .local _ .vmem, ⟨4, _⟩ => ⟨S4x2x3584x512, .i8⟩
  | .local _ .vmem, ⟨5, _⟩ => ⟨S4x2x224x512, .i8⟩
  | .local _ .vmem, ⟨6, _⟩ => ⟨S2x1024x3584, .i8⟩
  | .local _ .vmem, ⟨7, _⟩ => ⟨S2x64x3584, .i8⟩
  | .local _ .vmem, ⟨8, _⟩ => ⟨S28x48x256, .bf16⟩
  | .local _ .vmem, ⟨9, _⟩ => ⟨S8x48x256, .bf16⟩
  | .local _ .vmem, ⟨10, _⟩ => ⟨S6x8x128, .f32⟩
  | .local _ .vmem, ⟨11, _⟩ => ⟨S6x8x7168, .f32⟩
  | .local _ .smem, ⟨0, _⟩ => ⟨S48, .i32⟩
  | .local _ .smem, ⟨1, _⟩ => ⟨S13, .i32⟩
  | _, _ => ⟨S6x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_stg0_0 : Ref sig .tc := ⟨.smem, 0, rfl⟩
abbrev cc0_scratch8 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_12 : BitVec 32 := 0#32
  let c48_i32 : BitVec 32 := 48#32
  let v13 : BitVec 32 := Scalar.addi c0_i32_12 c48_i32
  let c1_i32 : BitVec 32 := 1#32
  ⟨c0_i32_12, v13, c1_i32⟩
def k0_off1 (k0_t1 : Fin k0_t1_loop.trips) : Fin 1 → Nat :=
  let c0_i32_171 : BitVec 32 := 0#32
  let c0_i32_12 : BitVec 32 := 0#32
  let c1_i32 : BitVec 32 := 1#32
  let arg20 : BitVec 32 := Scf.iv c0_i32_12 c1_i32 k0_t1
  let c1_i32_170 : BitVec 32 := 1#32
  let v179 : BitVec 32 := Scalar.muli arg20 c1_i32_170
  let v180 : BitVec 32 := Scalar.addi c0_i32_171 v179
  let v181 : Index := Scalar.indexCast v180
  ![v181.toNat]
def k0_off2 (v182 : BitVec 32) : Fin 1 → Nat :=
  let v183 : Index := Scalar.indexCast v182
  ![v183.toNat]

def k0_chk1 (v182 : BitVec 32) : Prop :=
  (∀ a, (k0_off2 v182) a + S1.size a ≤ S13.size a)
theorem k0_off2_inb : ∀ (v182 : BitVec 32) (k0_hw1 : k0_chk1 v182), ∀ a, (k0_off2 v182) a + S1.size a ≤ S13.size a := fun v182 k0_hw1 => k0_hw1

@[reducible] def k0_t2_loop : Scf.Loop 32 :=
  let c0_i32_15 : BitVec 32 := 0#32
  let c13_i32 : BitVec 32 := 13#32
  let v14 : BitVec 32 := Scalar.addi c0_i32_15 c13_i32
  let c1_i32_16 : BitVec 32 := 1#32
  ⟨c0_i32_15, v14, c1_i32_16⟩
def k0_off3 (k0_t2 : Fin k0_t2_loop.trips) : Fin 1 → Nat :=
  let c0_i32_15 : BitVec 32 := 0#32
  let c1_i32_16 : BitVec 32 := 1#32
  let arg20 : BitVec 32 := Scf.iv c0_i32_15 c1_i32_16 k0_t2
  let v179 : Index := Scalar.indexCast arg20
  ![v179.toNat]
def k0_off4 (arg21 : BitVec 32) : Fin 1 → Nat :=
  let v181 : Index := Scalar.indexCast arg21
  ![v181.toNat]

def k0_chk2 (arg21 : BitVec 32) : Prop :=
  (∀ a, (k0_off4 arg21) a + S1.size a ≤ S13.size a)
theorem k0_off4_inb : ∀ (arg21 : BitVec 32) (k0_hw2 : k0_chk2 arg21), ∀ a, (k0_off4 arg21) a + S1.size a ≤ S13.size a := fun arg21 k0_hw2 => k0_hw2

def k0_off5 (v16 : BitVec 32) : Fin 3 → Nat :=
  let c0_i32_24 : BitVec 32 := 0#32
  let c0_i32_25 : BitVec 32 := 0#32
  ![v16.toNat, 0, 0]

def k0_off6 (v16 : BitVec 32) : Fin 3 → Nat :=
  let c0_i32_31 : BitVec 32 := 0#32
  let c0_i32_32 : BitVec 32 := 0#32
  ![v16.toNat, 0, 0]
def k0_off7 (v16 : BitVec 32) : Fin 3 → Nat :=
  let c0_i32_38 : BitVec 32 := 0#32
  let c2048_i32 : BitVec 32 := 2048#32
  ![v16.toNat, 0, 2048]
def k0_off8 (v16 : BitVec 32) : Fin 3 → Nat :=
  let c0_i32_44 : BitVec 32 := 0#32
  let c2048_i32_45 : BitVec 32 := 2048#32
  ![v16.toNat, 0, 2048]
def k0_off9 (v16 : BitVec 32) : Fin 3 → Nat :=
  let c0_i32_51 : BitVec 32 := 0#32
  let c512_i32 : BitVec 32 := 512#32
  ![v16.toNat, 0, 512]
def k0_off10 (v16 : BitVec 32) : Fin 3 → Nat :=
  let c0_i32_57 : BitVec 32 := 0#32
  let c512_i32_58 : BitVec 32 := 512#32
  ![v16.toNat, 0, 512]
def k0_off11 (v16 : BitVec 32) : Fin 3 → Nat :=
  let c0_i32_64 : BitVec 32 := 0#32
  let c2560_i32 : BitVec 32 := 2560#32
  ![v16.toNat, 0, 2560]
def k0_off12 (v16 : BitVec 32) : Fin 3 → Nat :=
  let c0_i32_70 : BitVec 32 := 0#32
  let c2560_i32_71 : BitVec 32 := 2560#32
  ![v16.toNat, 0, 2560]
def k0_off13 (v16 : BitVec 32) : Fin 3 → Nat :=
  let c0_i32_76 : BitVec 32 := 0#32
  let c1024_i32 : BitVec 32 := 1024#32
  ![v16.toNat, 0, 1024]
def k0_off14 (v16 : BitVec 32) : Fin 3 → Nat :=
  let c0_i32_82 : BitVec 32 := 0#32
  let c1024_i32_83 : BitVec 32 := 1024#32
  ![v16.toNat, 0, 1024]
def k0_off15 (v16 : BitVec 32) : Fin 3 → Nat :=
  let c0_i32_89 : BitVec 32 := 0#32
  let c3072_i32 : BitVec 32 := 3072#32
  ![v16.toNat, 0, 3072]
def k0_off16 (v16 : BitVec 32) : Fin 3 → Nat :=
  let c0_i32_95 : BitVec 32 := 0#32
  let c3072_i32_96 : BitVec 32 := 3072#32
  ![v16.toNat, 0, 3072]
def k0_off17 (v16 : BitVec 32) : Fin 3 → Nat :=
  let c0_i32_101 : BitVec 32 := 0#32
  let c1536_i32 : BitVec 32 := 1536#32
  ![v16.toNat, 0, 1536]
def k0_off18 (v16 : BitVec 32) : Fin 3 → Nat :=
  let c0_i32_107 : BitVec 32 := 0#32
  let c1536_i32_108 : BitVec 32 := 1536#32
  ![v16.toNat, 0, 1536]
def k0_off19 (v16 : BitVec 32) : Fin 3 → Nat :=
  let c0_i32_114 : BitVec 32 := 0#32
  let c3584_i32 : BitVec 32 := 3584#32
  ![v16.toNat, 0, 3584]
def k0_off20 (v16 : BitVec 32) : Fin 3 → Nat :=
  let c0_i32_120 : BitVec 32 := 0#32
  let c3584_i32_121 : BitVec 32 := 3584#32
  ![v16.toNat, 0, 3584]
def k0_off21 (v16 : BitVec 32) : Fin 3 → Nat :=
  let c0_i32_126 : BitVec 32 := 0#32
  let c0_i32_127 : BitVec 32 := 0#32
  ![v16.toNat, 0, 0]
def k0_off22 (v16 : BitVec 32) : Fin 3 → Nat :=
  let c0_i32_132 : BitVec 32 := 0#32
  let c0_i32_133 : BitVec 32 := 0#32
  ![v16.toNat, 0, 0]
def k0_off23 (v16 : BitVec 32) : Fin 3 → Nat :=
  let c0_i32_138 : BitVec 32 := 0#32
  let c3584_i32_139 : BitVec 32 := 3584#32
  ![v16.toNat, 0, 3584]
def k0_off24 (v16 : BitVec 32) : Fin 3 → Nat :=
  let c0_i32_144 : BitVec 32 := 0#32
  let c3584_i32_145 : BitVec 32 := 3584#32
  ![v16.toNat, 0, 3584]

def k0_chk3_0 (v16 : BitVec 32) : Prop :=
  (∀ a, (k0_off5 v16) a + S1x3584x512.size a ≤ S13x3584x4096.size a) ∧
  (∀ (hinb : ∀ a, (k0_off5 v16) a + S1x3584x512.size a ≤ S13x3584x4096.size a), (Rect.unit (s := S13x3584x4096) (k0_off5 v16) S1x3584x512.size hinb).WholeWords (EltTy.packing .i8)) ∧
  (∀ a, (k0_off6 v16) a + S1x224x512.size a ≤ S13x224x4096.size a) ∧
  (∀ (hinb : ∀ a, (k0_off6 v16) a + S1x224x512.size a ≤ S13x224x4096.size a), (Rect.unit (s := S13x224x4096) (k0_off6 v16) S1x224x512.size hinb).WholeWords (EltTy.packing .i8)) ∧
  (∀ a, (k0_off7 v16) a + S1x3584x512.size a ≤ S13x3584x4096.size a) ∧
  (∀ (hinb : ∀ a, (k0_off7 v16) a + S1x3584x512.size a ≤ S13x3584x4096.size a), (Rect.unit (s := S13x3584x4096) (k0_off7 v16) S1x3584x512.size hinb).WholeWords (EltTy.packing .i8)) ∧
  (∀ a, (k0_off8 v16) a + S1x224x512.size a ≤ S13x224x4096.size a) ∧
  (∀ (hinb : ∀ a, (k0_off8 v16) a + S1x224x512.size a ≤ S13x224x4096.size a), (Rect.unit (s := S13x224x4096) (k0_off8 v16) S1x224x512.size hinb).WholeWords (EltTy.packing .i8)) ∧
  (∀ a, (k0_off9 v16) a + S1x3584x512.size a ≤ S13x3584x4096.size a) ∧
  (∀ (hinb : ∀ a, (k0_off9 v16) a + S1x3584x512.size a ≤ S13x3584x4096.size a), (Rect.unit (s := S13x3584x4096) (k0_off9 v16) S1x3584x512.size hinb).WholeWords (EltTy.packing .i8)) ∧
  (∀ a, (k0_off10 v16) a + S1x224x512.size a ≤ S13x224x4096.size a) ∧
  (∀ (hinb : ∀ a, (k0_off10 v16) a + S1x224x512.size a ≤ S13x224x4096.size a), (Rect.unit (s := S13x224x4096) (k0_off10 v16) S1x224x512.size hinb).WholeWords (EltTy.packing .i8)) ∧
  (∀ a, (k0_off11 v16) a + S1x3584x512.size a ≤ S13x3584x4096.size a) ∧
  (∀ (hinb : ∀ a, (k0_off11 v16) a + S1x3584x512.size a ≤ S13x3584x4096.size a), (Rect.unit (s := S13x3584x4096) (k0_off11 v16) S1x3584x512.size hinb).WholeWords (EltTy.packing .i8)) ∧
  (∀ a, (k0_off12 v16) a + S1x224x512.size a ≤ S13x224x4096.size a) ∧
  (∀ (hinb : ∀ a, (k0_off12 v16) a + S1x224x512.size a ≤ S13x224x4096.size a), (Rect.unit (s := S13x224x4096) (k0_off12 v16) S1x224x512.size hinb).WholeWords (EltTy.packing .i8)) ∧
  (∀ a, (k0_off13 v16) a + S1x3584x512.size a ≤ S13x3584x4096.size a) ∧
  (∀ (hinb : ∀ a, (k0_off13 v16) a + S1x3584x512.size a ≤ S13x3584x4096.size a), (Rect.unit (s := S13x3584x4096) (k0_off13 v16) S1x3584x512.size hinb).WholeWords (EltTy.packing .i8)) ∧
  (∀ a, (k0_off14 v16) a + S1x224x512.size a ≤ S13x224x4096.size a) ∧
  (∀ (hinb : ∀ a, (k0_off14 v16) a + S1x224x512.size a ≤ S13x224x4096.size a), (Rect.unit (s := S13x224x4096) (k0_off14 v16) S1x224x512.size hinb).WholeWords (EltTy.packing .i8)) ∧
  (∀ a, (k0_off15 v16) a + S1x3584x512.size a ≤ S13x3584x4096.size a) ∧
  (∀ (hinb : ∀ a, (k0_off15 v16) a + S1x3584x512.size a ≤ S13x3584x4096.size a), (Rect.unit (s := S13x3584x4096) (k0_off15 v16) S1x3584x512.size hinb).WholeWords (EltTy.packing .i8)) ∧
  (∀ a, (k0_off16 v16) a + S1x224x512.size a ≤ S13x224x4096.size a) ∧
  (∀ (hinb : ∀ a, (k0_off16 v16) a + S1x224x512.size a ≤ S13x224x4096.size a), (Rect.unit (s := S13x224x4096) (k0_off16 v16) S1x224x512.size hinb).WholeWords (EltTy.packing .i8)) ∧
  (∀ a, (k0_off17 v16) a + S1x3584x512.size a ≤ S13x3584x4096.size a) ∧
  (∀ (hinb : ∀ a, (k0_off17 v16) a + S1x3584x512.size a ≤ S13x3584x4096.size a), (Rect.unit (s := S13x3584x4096) (k0_off17 v16) S1x3584x512.size hinb).WholeWords (EltTy.packing .i8)) ∧
  (∀ a, (k0_off18 v16) a + S1x224x512.size a ≤ S13x224x4096.size a) ∧
  (∀ (hinb : ∀ a, (k0_off18 v16) a + S1x224x512.size a ≤ S13x224x4096.size a), (Rect.unit (s := S13x224x4096) (k0_off18 v16) S1x224x512.size hinb).WholeWords (EltTy.packing .i8)) ∧
  (∀ a, (k0_off19 v16) a + S1x3584x512.size a ≤ S13x3584x4096.size a) ∧
  (∀ (hinb : ∀ a, (k0_off19 v16) a + S1x3584x512.size a ≤ S13x3584x4096.size a), (Rect.unit (s := S13x3584x4096) (k0_off19 v16) S1x3584x512.size hinb).WholeWords (EltTy.packing .i8)) ∧
  (∀ a, (k0_off20 v16) a + S1x224x512.size a ≤ S13x224x4096.size a) ∧
  (∀ (hinb : ∀ a, (k0_off20 v16) a + S1x224x512.size a ≤ S13x224x4096.size a), (Rect.unit (s := S13x224x4096) (k0_off20 v16) S1x224x512.size hinb).WholeWords (EltTy.packing .i8))
def k0_chk3_1 (v16 : BitVec 32) : Prop :=
  (∀ a, (k0_off21 v16) a + S1x1024x3584.size a ≤ S13x1024x7168.size a) ∧
  (∀ (hinb : ∀ a, (k0_off21 v16) a + S1x1024x3584.size a ≤ S13x1024x7168.size a), (Rect.unit (s := S13x1024x7168) (k0_off21 v16) S1x1024x3584.size hinb).WholeWords (EltTy.packing .i8)) ∧
  (∀ a, (k0_off22 v16) a + S1x64x3584.size a ≤ S13x64x7168.size a) ∧
  (∀ (hinb : ∀ a, (k0_off22 v16) a + S1x64x3584.size a ≤ S13x64x7168.size a), (Rect.unit (s := S13x64x7168) (k0_off22 v16) S1x64x3584.size hinb).WholeWords (EltTy.packing .i8)) ∧
  (∀ a, (k0_off23 v16) a + S1x1024x3584.size a ≤ S13x1024x7168.size a) ∧
  (∀ (hinb : ∀ a, (k0_off23 v16) a + S1x1024x3584.size a ≤ S13x1024x7168.size a), (Rect.unit (s := S13x1024x7168) (k0_off23 v16) S1x1024x3584.size hinb).WholeWords (EltTy.packing .i8)) ∧
  (∀ a, (k0_off24 v16) a + S1x64x3584.size a ≤ S13x64x7168.size a) ∧
  (∀ (hinb : ∀ a, (k0_off24 v16) a + S1x64x3584.size a ≤ S13x64x7168.size a), (Rect.unit (s := S13x64x7168) (k0_off24 v16) S1x64x3584.size hinb).WholeWords (EltTy.packing .i8))
def k0_chk3 (v16 : BitVec 32) : Prop :=
  k0_chk3_0 v16 ∧
  k0_chk3_1 v16
theorem k0_off5_inb : ∀ (v16 : BitVec 32) (k0_hw3 : k0_chk3 v16), ∀ a, (k0_off5 v16) a + S1x3584x512.size a ≤ S13x3584x4096.size a := fun v16 k0_hw3 => k0_hw3.1.1
theorem k0_off5_wordsi8 : ∀ (v16 : BitVec 32) (k0_hw3 : k0_chk3 v16), (Rect.unit (s := S13x3584x4096) (k0_off5 v16) S1x3584x512.size (k0_off5_inb v16 k0_hw3)).WholeWords (EltTy.packing .i8) := fun v16 k0_hw3 => k0_hw3.1.2.1 (k0_off5_inb v16 k0_hw3)
theorem k0_off6_inb : ∀ (v16 : BitVec 32) (k0_hw3 : k0_chk3 v16), ∀ a, (k0_off6 v16) a + S1x224x512.size a ≤ S13x224x4096.size a := fun v16 k0_hw3 => k0_hw3.1.2.2.1
theorem k0_off6_wordsi8 : ∀ (v16 : BitVec 32) (k0_hw3 : k0_chk3 v16), (Rect.unit (s := S13x224x4096) (k0_off6 v16) S1x224x512.size (k0_off6_inb v16 k0_hw3)).WholeWords (EltTy.packing .i8) := fun v16 k0_hw3 => k0_hw3.1.2.2.2.1 (k0_off6_inb v16 k0_hw3)
theorem k0_off7_inb : ∀ (v16 : BitVec 32) (k0_hw3 : k0_chk3 v16), ∀ a, (k0_off7 v16) a + S1x3584x512.size a ≤ S13x3584x4096.size a := fun v16 k0_hw3 => k0_hw3.1.2.2.2.2.1
theorem k0_off7_wordsi8 : ∀ (v16 : BitVec 32) (k0_hw3 : k0_chk3 v16), (Rect.unit (s := S13x3584x4096) (k0_off7 v16) S1x3584x512.size (k0_off7_inb v16 k0_hw3)).WholeWords (EltTy.packing .i8) := fun v16 k0_hw3 => k0_hw3.1.2.2.2.2.2.1 (k0_off7_inb v16 k0_hw3)
theorem k0_off8_inb : ∀ (v16 : BitVec 32) (k0_hw3 : k0_chk3 v16), ∀ a, (k0_off8 v16) a + S1x224x512.size a ≤ S13x224x4096.size a := fun v16 k0_hw3 => k0_hw3.1.2.2.2.2.2.2.1
theorem k0_off8_wordsi8 : ∀ (v16 : BitVec 32) (k0_hw3 : k0_chk3 v16), (Rect.unit (s := S13x224x4096) (k0_off8 v16) S1x224x512.size (k0_off8_inb v16 k0_hw3)).WholeWords (EltTy.packing .i8) := fun v16 k0_hw3 => k0_hw3.1.2.2.2.2.2.2.2.1 (k0_off8_inb v16 k0_hw3)
theorem k0_off9_inb : ∀ (v16 : BitVec 32) (k0_hw3 : k0_chk3 v16), ∀ a, (k0_off9 v16) a + S1x3584x512.size a ≤ S13x3584x4096.size a := fun v16 k0_hw3 => k0_hw3.1.2.2.2.2.2.2.2.2.1
theorem k0_off9_wordsi8 : ∀ (v16 : BitVec 32) (k0_hw3 : k0_chk3 v16), (Rect.unit (s := S13x3584x4096) (k0_off9 v16) S1x3584x512.size (k0_off9_inb v16 k0_hw3)).WholeWords (EltTy.packing .i8) := fun v16 k0_hw3 => k0_hw3.1.2.2.2.2.2.2.2.2.2.1 (k0_off9_inb v16 k0_hw3)
theorem k0_off10_inb : ∀ (v16 : BitVec 32) (k0_hw3 : k0_chk3 v16), ∀ a, (k0_off10 v16) a + S1x224x512.size a ≤ S13x224x4096.size a := fun v16 k0_hw3 => k0_hw3.1.2.2.2.2.2.2.2.2.2.2.1
theorem k0_off10_wordsi8 : ∀ (v16 : BitVec 32) (k0_hw3 : k0_chk3 v16), (Rect.unit (s := S13x224x4096) (k0_off10 v16) S1x224x512.size (k0_off10_inb v16 k0_hw3)).WholeWords (EltTy.packing .i8) := fun v16 k0_hw3 => k0_hw3.1.2.2.2.2.2.2.2.2.2.2.2.1 (k0_off10_inb v16 k0_hw3)
theorem k0_off11_inb : ∀ (v16 : BitVec 32) (k0_hw3 : k0_chk3 v16), ∀ a, (k0_off11 v16) a + S1x3584x512.size a ≤ S13x3584x4096.size a := fun v16 k0_hw3 => k0_hw3.1.2.2.2.2.2.2.2.2.2.2.2.2.1
theorem k0_off11_wordsi8 : ∀ (v16 : BitVec 32) (k0_hw3 : k0_chk3 v16), (Rect.unit (s := S13x3584x4096) (k0_off11 v16) S1x3584x512.size (k0_off11_inb v16 k0_hw3)).WholeWords (EltTy.packing .i8) := fun v16 k0_hw3 => k0_hw3.1.2.2.2.2.2.2.2.2.2.2.2.2.2.1 (k0_off11_inb v16 k0_hw3)
theorem k0_off12_inb : ∀ (v16 : BitVec 32) (k0_hw3 : k0_chk3 v16), ∀ a, (k0_off12 v16) a + S1x224x512.size a ≤ S13x224x4096.size a := fun v16 k0_hw3 => k0_hw3.1.2.2.2.2.2.2.2.2.2.2.2.2.2.2.1
theorem k0_off12_wordsi8 : ∀ (v16 : BitVec 32) (k0_hw3 : k0_chk3 v16), (Rect.unit (s := S13x224x4096) (k0_off12 v16) S1x224x512.size (k0_off12_inb v16 k0_hw3)).WholeWords (EltTy.packing .i8) := fun v16 k0_hw3 => k0_hw3.1.2.2.2.2.2.2.2.2.2.2.2.2.2.2.2.1 (k0_off12_inb v16 k0_hw3)
theorem k0_off13_inb : ∀ (v16 : BitVec 32) (k0_hw3 : k0_chk3 v16), ∀ a, (k0_off13 v16) a + S1x3584x512.size a ≤ S13x3584x4096.size a := fun v16 k0_hw3 => k0_hw3.1.2.2.2.2.2.2.2.2.2.2.2.2.2.2.2.2.1
theorem k0_off13_wordsi8 : ∀ (v16 : BitVec 32) (k0_hw3 : k0_chk3 v16), (Rect.unit (s := S13x3584x4096) (k0_off13 v16) S1x3584x512.size (k0_off13_inb v16 k0_hw3)).WholeWords (EltTy.packing .i8) := fun v16 k0_hw3 => k0_hw3.1.2.2.2.2.2.2.2.2.2.2.2.2.2.2.2.2.2.1 (k0_off13_inb v16 k0_hw3)
theorem k0_off14_inb : ∀ (v16 : BitVec 32) (k0_hw3 : k0_chk3 v16), ∀ a, (k0_off14 v16) a + S1x224x512.size a ≤ S13x224x4096.size a := fun v16 k0_hw3 => k0_hw3.1.2.2.2.2.2.2.2.2.2.2.2.2.2.2.2.2.2.2.1
theorem k0_off14_wordsi8 : ∀ (v16 : BitVec 32) (k0_hw3 : k0_chk3 v16), (Rect.unit (s := S13x224x4096) (k0_off14 v16) S1x224x512.size (k0_off14_inb v16 k0_hw3)).WholeWords (EltTy.packing .i8) := fun v16 k0_hw3 => k0_hw3.1.2.2.2.2.2.2.2.2.2.2.2.2.2.2.2.2.2.2.2.1 (k0_off14_inb v16 k0_hw3)
theorem k0_off15_inb : ∀ (v16 : BitVec 32) (k0_hw3 : k0_chk3 v16), ∀ a, (k0_off15 v16) a + S1x3584x512.size a ≤ S13x3584x4096.size a := fun v16 k0_hw3 => k0_hw3.1.2.2.2.2.2.2.2.2.2.2.2.2.2.2.2.2.2.2.2.2.1
theorem k0_off15_wordsi8 : ∀ (v16 : BitVec 32) (k0_hw3 : k0_chk3 v16), (Rect.unit (s := S13x3584x4096) (k0_off15 v16) S1x3584x512.size (k0_off15_inb v16 k0_hw3)).WholeWords (EltTy.packing .i8) := fun v16 k0_hw3 => k0_hw3.1.2.2.2.2.2.2.2.2.2.2.2.2.2.2.2.2.2.2.2.2.2.1 (k0_off15_inb v16 k0_hw3)
theorem k0_off16_inb : ∀ (v16 : BitVec 32) (k0_hw3 : k0_chk3 v16), ∀ a, (k0_off16 v16) a + S1x224x512.size a ≤ S13x224x4096.size a := fun v16 k0_hw3 => k0_hw3.1.2.2.2.2.2.2.2.2.2.2.2.2.2.2.2.2.2.2.2.2.2.2.1
theorem k0_off16_wordsi8 : ∀ (v16 : BitVec 32) (k0_hw3 : k0_chk3 v16), (Rect.unit (s := S13x224x4096) (k0_off16 v16) S1x224x512.size (k0_off16_inb v16 k0_hw3)).WholeWords (EltTy.packing .i8) := fun v16 k0_hw3 => k0_hw3.1.2.2.2.2.2.2.2.2.2.2.2.2.2.2.2.2.2.2.2.2.2.2.2.1 (k0_off16_inb v16 k0_hw3)
theorem k0_off17_inb : ∀ (v16 : BitVec 32) (k0_hw3 : k0_chk3 v16), ∀ a, (k0_off17 v16) a + S1x3584x512.size a ≤ S13x3584x4096.size a := fun v16 k0_hw3 => k0_hw3.1.2.2.2.2.2.2.2.2.2.2.2.2.2.2.2.2.2.2.2.2.2.2.2.2.1
theorem k0_off17_wordsi8 : ∀ (v16 : BitVec 32) (k0_hw3 : k0_chk3 v16), (Rect.unit (s := S13x3584x4096) (k0_off17 v16) S1x3584x512.size (k0_off17_inb v16 k0_hw3)).WholeWords (EltTy.packing .i8) := fun v16 k0_hw3 => k0_hw3.1.2.2.2.2.2.2.2.2.2.2.2.2.2.2.2.2.2.2.2.2.2.2.2.2.2.1 (k0_off17_inb v16 k0_hw3)
theorem k0_off18_inb : ∀ (v16 : BitVec 32) (k0_hw3 : k0_chk3 v16), ∀ a, (k0_off18 v16) a + S1x224x512.size a ≤ S13x224x4096.size a := fun v16 k0_hw3 => k0_hw3.1.2.2.2.2.2.2.2.2.2.2.2.2.2.2.2.2.2.2.2.2.2.2.2.2.2.2.1
theorem k0_off18_wordsi8 : ∀ (v16 : BitVec 32) (k0_hw3 : k0_chk3 v16), (Rect.unit (s := S13x224x4096) (k0_off18 v16) S1x224x512.size (k0_off18_inb v16 k0_hw3)).WholeWords (EltTy.packing .i8) := fun v16 k0_hw3 => k0_hw3.1.2.2.2.2.2.2.2.2.2.2.2.2.2.2.2.2.2.2.2.2.2.2.2.2.2.2.2.1 (k0_off18_inb v16 k0_hw3)
theorem k0_off19_inb : ∀ (v16 : BitVec 32) (k0_hw3 : k0_chk3 v16), ∀ a, (k0_off19 v16) a + S1x3584x512.size a ≤ S13x3584x4096.size a := fun v16 k0_hw3 => k0_hw3.1.2.2.2.2.2.2.2.2.2.2.2.2.2.2.2.2.2.2.2.2.2.2.2.2.2.2.2.2.1
theorem k0_off19_wordsi8 : ∀ (v16 : BitVec 32) (k0_hw3 : k0_chk3 v16), (Rect.unit (s := S13x3584x4096) (k0_off19 v16) S1x3584x512.size (k0_off19_inb v16 k0_hw3)).WholeWords (EltTy.packing .i8) := fun v16 k0_hw3 => k0_hw3.1.2.2.2.2.2.2.2.2.2.2.2.2.2.2.2.2.2.2.2.2.2.2.2.2.2.2.2.2.2.1 (k0_off19_inb v16 k0_hw3)
theorem k0_off20_inb : ∀ (v16 : BitVec 32) (k0_hw3 : k0_chk3 v16), ∀ a, (k0_off20 v16) a + S1x224x512.size a ≤ S13x224x4096.size a := fun v16 k0_hw3 => k0_hw3.1.2.2.2.2.2.2.2.2.2.2.2.2.2.2.2.2.2.2.2.2.2.2.2.2.2.2.2.2.2.2.1
theorem k0_off20_wordsi8 : ∀ (v16 : BitVec 32) (k0_hw3 : k0_chk3 v16), (Rect.unit (s := S13x224x4096) (k0_off20 v16) S1x224x512.size (k0_off20_inb v16 k0_hw3)).WholeWords (EltTy.packing .i8) := fun v16 k0_hw3 => k0_hw3.1.2.2.2.2.2.2.2.2.2.2.2.2.2.2.2.2.2.2.2.2.2.2.2.2.2.2.2.2.2.2.2 (k0_off20_inb v16 k0_hw3)
theorem k0_off21_inb : ∀ (v16 : BitVec 32) (k0_hw3 : k0_chk3 v16), ∀ a, (k0_off21 v16) a + S1x1024x3584.size a ≤ S13x1024x7168.size a := fun v16 k0_hw3 => k0_hw3.2.1
theorem k0_off21_wordsi8 : ∀ (v16 : BitVec 32) (k0_hw3 : k0_chk3 v16), (Rect.unit (s := S13x1024x7168) (k0_off21 v16) S1x1024x3584.size (k0_off21_inb v16 k0_hw3)).WholeWords (EltTy.packing .i8) := fun v16 k0_hw3 => k0_hw3.2.2.1 (k0_off21_inb v16 k0_hw3)
theorem k0_off22_inb : ∀ (v16 : BitVec 32) (k0_hw3 : k0_chk3 v16), ∀ a, (k0_off22 v16) a + S1x64x3584.size a ≤ S13x64x7168.size a := fun v16 k0_hw3 => k0_hw3.2.2.2.1
theorem k0_off22_wordsi8 : ∀ (v16 : BitVec 32) (k0_hw3 : k0_chk3 v16), (Rect.unit (s := S13x64x7168) (k0_off22 v16) S1x64x3584.size (k0_off22_inb v16 k0_hw3)).WholeWords (EltTy.packing .i8) := fun v16 k0_hw3 => k0_hw3.2.2.2.2.1 (k0_off22_inb v16 k0_hw3)
theorem k0_off23_inb : ∀ (v16 : BitVec 32) (k0_hw3 : k0_chk3 v16), ∀ a, (k0_off23 v16) a + S1x1024x3584.size a ≤ S13x1024x7168.size a := fun v16 k0_hw3 => k0_hw3.2.2.2.2.2.1
theorem k0_off23_wordsi8 : ∀ (v16 : BitVec 32) (k0_hw3 : k0_chk3 v16), (Rect.unit (s := S13x1024x7168) (k0_off23 v16) S1x1024x3584.size (k0_off23_inb v16 k0_hw3)).WholeWords (EltTy.packing .i8) := fun v16 k0_hw3 => k0_hw3.2.2.2.2.2.2.1 (k0_off23_inb v16 k0_hw3)
theorem k0_off24_inb : ∀ (v16 : BitVec 32) (k0_hw3 : k0_chk3 v16), ∀ a, (k0_off24 v16) a + S1x64x3584.size a ≤ S13x64x7168.size a := fun v16 k0_hw3 => k0_hw3.2.2.2.2.2.2.2.1
theorem k0_off24_wordsi8 : ∀ (v16 : BitVec 32) (k0_hw3 : k0_chk3 v16), (Rect.unit (s := S13x64x7168) (k0_off24 v16) S1x64x3584.size (k0_off24_inb v16 k0_hw3)).WholeWords (EltTy.packing .i8) := fun v16 k0_hw3 => k0_hw3.2.2.2.2.2.2.2.2 (k0_off24_inb v16 k0_hw3)

@[reducible] def k0_t3_loop : Scf.Loop 32 :=
  let c0_i32_152 : BitVec 32 := 0#32
  let c28_i32 : BitVec 32 := 28#32
  let v164 : BitVec 32 := Scalar.addi c0_i32_152 c28_i32
  let c1_i32_153 : BitVec 32 := 1#32
  ⟨c0_i32_152, v164, c1_i32_153⟩
def k0_mult1 (k0_t3 : Fin k0_t3_loop.trips) : BitVec 32 :=
  let c0_i32_171 : BitVec 32 := 0#32
  let c0_i32_152 : BitVec 32 := 0#32
  let c1_i32_153 : BitVec 32 := 1#32
  let arg20 : BitVec 32 := Scf.iv c0_i32_152 c1_i32_153 k0_t3
  let c1_i32_170 : BitVec 32 := 1#32
  let v179 : BitVec 32 := Scalar.muli arg20 c1_i32_170
  let v180 : BitVec 32 := Scalar.addi c0_i32_171 v179
  let c256_i32 : BitVec 32 := 256#32
  let v181 : BitVec 32 := Scalar.muli v180 c256_i32
  v181
def k0_off25 (k0_t3 : Fin k0_t3_loop.trips) : Fin 3 → Nat :=
  let c0_172 : Index := 0#32
  let c0_173 : Index := 0#32
  let c0_i32_171 : BitVec 32 := 0#32
  let c0_i32_152 : BitVec 32 := 0#32
  let c1_i32_153 : BitVec 32 := 1#32
  let arg20 : BitVec 32 := Scf.iv c0_i32_152 c1_i32_153 k0_t3
  let c1_i32_170 : BitVec 32 := 1#32
  let v179 : BitVec 32 := Scalar.muli arg20 c1_i32_170
  let v180 : BitVec 32 := Scalar.addi c0_i32_171 v179
  let c256_i32 : BitVec 32 := 256#32
  let v181 : BitVec 32 := Scalar.muli v180 c256_i32
  let v182 : BitVec 32 := v181
  let v183 : Index := Scalar.indexCast v182
  ![0, 0, v183.toNat]
def k0_off26 (k0_t3 : Fin k0_t3_loop.trips) : Fin 3 → Nat :=
  let c0_i32_171 : BitVec 32 := 0#32
  let c0_i32_152 : BitVec 32 := 0#32
  let c1_i32_153 : BitVec 32 := 1#32
  let arg20 : BitVec 32 := Scf.iv c0_i32_152 c1_i32_153 k0_t3
  let c1_i32_170 : BitVec 32 := 1#32
  let v179 : BitVec 32 := Scalar.muli arg20 c1_i32_170
  let v180 : BitVec 32 := Scalar.addi c0_i32_171 v179
  let v192 : Index := Scalar.indexCast v180
  let c0_175 : Index := 0#32
  let c0_176 : Index := 0#32
  ![v192.toNat, 0, 0]
@[reducible] def k0_t4_loop (v15 : BitVec 32) : Scf.Loop 32 :=
  let c0_i32_159 : BitVec 32 := 0#32
  let v169 : BitVec 32 := Scalar.subi v15 c0_i32_159
  let c1_i32_160 : BitVec 32 := 1#32
  let v171 : BitVec 32 := Scalar.divsi v169 c1_i32_160
  let v172 : BitVec 32 := Scalar.muli v171 c1_i32_160
  let v173 : BitVec 32 := Scalar.addi c0_i32_159 v172
  let c1_i32_161 : BitVec 32 := 1#32
  ⟨c0_i32_159, v173, c1_i32_161⟩

def k0_off27 (v15 : BitVec 32) (k0_t4 : Fin (k0_t4_loop v15).trips) : Fin 1 → Nat :=
  let c0_i32_159 : BitVec 32 := 0#32
  let c1_i32_161 : BitVec 32 := 1#32
  let arg20 : BitVec 32 := Scf.iv c0_i32_159 c1_i32_161 k0_t4
  let v179 : Index := Scalar.indexCast arg20
  ![v179.toNat]
def k0_off28 (v15 : BitVec 32) (k0_t4 : Fin (k0_t4_loop v15).trips) : Fin 1 → Nat :=
  let c0_i32_159 : BitVec 32 := 0#32
  let c1_i32_161 : BitVec 32 := 1#32
  let arg20 : BitVec 32 := Scf.iv c0_i32_159 c1_i32_161 k0_t4
  let c1_i32_170 : BitVec 32 := 1#32
  let v181 : BitVec 32 := Scalar.addi arg20 c1_i32_170
  let c12_i32 : BitVec 32 := 12#32
  let v182 : BitVec 32 := Scalar.minsi v181 c12_i32
  let v183 : Index := Scalar.indexCast v182
  ![v183.toNat]
def k0_off29 (v180 : BitVec 32) : Fin 3 → Nat :=
  let c0_i32_188 : BitVec 32 := 0#32
  let c0_i32_189 : BitVec 32 := 0#32
  ![v180.toNat, 0, 0]

def k0_off30 (v180 : BitVec 32) : Fin 3 → Nat :=
  let c0_i32_195 : BitVec 32 := 0#32
  let c0_i32_196 : BitVec 32 := 0#32
  ![v180.toNat, 0, 0]
def k0_off31 (v180 : BitVec 32) : Fin 3 → Nat :=
  let c0_i32_202 : BitVec 32 := 0#32
  let c2048_i32_203 : BitVec 32 := 2048#32
  ![v180.toNat, 0, 2048]
def k0_off32 (v180 : BitVec 32) : Fin 3 → Nat :=
  let c0_i32_209 : BitVec 32 := 0#32
  let c2048_i32_210 : BitVec 32 := 2048#32
  ![v180.toNat, 0, 2048]
@[reducible] def k0_t5_loop : Scf.Loop 32 :=
  let c0_i32_211 : BitVec 32 := 0#32
  let c2_i32_212 : BitVec 32 := 2#32
  let v224 : BitVec 32 := Scalar.addi c0_i32_211 c2_i32_212
  let c1_i32_213 : BitVec 32 := 1#32
  ⟨c0_i32_211, v224, c1_i32_213⟩
def k0_mult2 (k0_t5 : Fin k0_t5_loop.trips) : BitVec 32 :=
  let c0_i32_349 : BitVec 32 := 0#32
  let c0_i32_211 : BitVec 32 := 0#32
  let c1_i32_213 : BitVec 32 := 1#32
  let arg21 : BitVec 32 := Scf.iv c0_i32_211 c1_i32_213 k0_t5
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  v340
@[reducible] def k0_t6_loop : Scf.Loop 32 :=
  let c0_i32_351 : BitVec 32 := 0#32
  let c28_i32_352 : BitVec 32 := 28#32
  let v343 : BitVec 32 := Scalar.addi c0_i32_351 c28_i32_352
  let c1_i32_353 : BitVec 32 := 1#32
  ⟨c0_i32_351, v343, c1_i32_353⟩
def k0_mult3 (k0_t6 : Fin k0_t6_loop.trips) : BitVec 32 :=
  let c0_i32_351 : BitVec 32 := 0#32
  let c1_i32_353 : BitVec 32 := 1#32
  let arg22 : BitVec 32 := Scf.iv c0_i32_351 c1_i32_353 k0_t6
  let c128_i32 : BitVec 32 := 128#32
  let v363 : BitVec 32 := Scalar.muli arg22 c128_i32
  v363
def k0_mult4 (k0_t6 : Fin k0_t6_loop.trips) : BitVec 32 :=
  let c0_i32_351 : BitVec 32 := 0#32
  let c1_i32_353 : BitVec 32 := 1#32
  let arg22 : BitVec 32 := Scf.iv c0_i32_351 c1_i32_353 k0_t6
  let c8_i32 : BitVec 32 := 8#32
  let v365 : BitVec 32 := Scalar.muli arg22 c8_i32
  v365
def k0_off33 (k0_t5 : Fin k0_t5_loop.trips) (k0_t6 : Fin k0_t6_loop.trips) : Fin 4 → Nat :=
  let c0_360 : Index := 0#32
  let c0_361 : Index := 0#32
  let c0_i32_351 : BitVec 32 := 0#32
  let c1_i32_353 : BitVec 32 := 1#32
  let arg22 : BitVec 32 := Scf.iv c0_i32_351 c1_i32_353 k0_t6
  let c128_i32 : BitVec 32 := 128#32
  let v363 : BitVec 32 := Scalar.muli arg22 c128_i32
  let v364 : BitVec 32 := v363
  let v367 : Index := Scalar.indexCast v364
  let c0_i32_349 : BitVec 32 := 0#32
  let c0_i32_211 : BitVec 32 := 0#32
  let c1_i32_213 : BitVec 32 := 1#32
  let arg21 : BitVec 32 := Scf.iv c0_i32_211 c1_i32_213 k0_t5
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v368 : Index := Scalar.indexCast v341
  ![0, 0, v367.toNat, v368.toNat]
def k0_off34 (k0_t5 : Fin k0_t5_loop.trips) (k0_t6 : Fin k0_t6_loop.trips) : Fin 4 → Nat :=
  let c0_362 : Index := 0#32
  let c1_363 : Index := 1#32
  let c0_i32_351 : BitVec 32 := 0#32
  let c1_i32_353 : BitVec 32 := 1#32
  let arg22 : BitVec 32 := Scf.iv c0_i32_351 c1_i32_353 k0_t6
  let c128_i32 : BitVec 32 := 128#32
  let v363 : BitVec 32 := Scalar.muli arg22 c128_i32
  let v364 : BitVec 32 := v363
  let v371 : Index := Scalar.indexCast v364
  let c0_i32_349 : BitVec 32 := 0#32
  let c0_i32_211 : BitVec 32 := 0#32
  let c1_i32_213 : BitVec 32 := 1#32
  let arg21 : BitVec 32 := Scf.iv c0_i32_211 c1_i32_213 k0_t5
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v372 : Index := Scalar.indexCast v341
  ![0, 1, v371.toNat, v372.toNat]
def k0_off35 (k0_t5 : Fin k0_t5_loop.trips) (k0_t6 : Fin k0_t6_loop.trips) : Fin 4 → Nat :=
  let c0_364 : Index := 0#32
  let c0_365 : Index := 0#32
  let c0_i32_351 : BitVec 32 := 0#32
  let c1_i32_353 : BitVec 32 := 1#32
  let arg22 : BitVec 32 := Scf.iv c0_i32_351 c1_i32_353 k0_t6
  let c8_i32 : BitVec 32 := 8#32
  let v365 : BitVec 32 := Scalar.muli arg22 c8_i32
  let v366 : BitVec 32 := v365
  let v376 : Index := Scalar.indexCast v366
  let c0_i32_349 : BitVec 32 := 0#32
  let c0_i32_211 : BitVec 32 := 0#32
  let c1_i32_213 : BitVec 32 := 1#32
  let arg21 : BitVec 32 := Scf.iv c0_i32_211 c1_i32_213 k0_t5
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v377 : Index := Scalar.indexCast v341
  ![0, 0, v376.toNat, v377.toNat]
def k0_off36 (k0_t5 : Fin k0_t5_loop.trips) (k0_t6 : Fin k0_t6_loop.trips) : Fin 4 → Nat :=
  let c0_366 : Index := 0#32
  let c1_367 : Index := 1#32
  let c0_i32_351 : BitVec 32 := 0#32
  let c1_i32_353 : BitVec 32 := 1#32
  let arg22 : BitVec 32 := Scf.iv c0_i32_351 c1_i32_353 k0_t6
  let c8_i32 : BitVec 32 := 8#32
  let v365 : BitVec 32 := Scalar.muli arg22 c8_i32
  let v366 : BitVec 32 := v365
  let v384 : Index := Scalar.indexCast v366
  let c0_i32_349 : BitVec 32 := 0#32
  let c0_i32_211 : BitVec 32 := 0#32
  let c1_i32_213 : BitVec 32 := 1#32
  let arg21 : BitVec 32 := Scf.iv c0_i32_211 c1_i32_213 k0_t5
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v385 : Index := Scalar.indexCast v341
  ![0, 1, v384.toNat, v385.toNat]
def k0_off37 (k0_t6 : Fin k0_t6_loop.trips) : Fin 3 → Nat :=
  let c0_i32_351 : BitVec 32 := 0#32
  let c1_i32_353 : BitVec 32 := 1#32
  let arg22 : BitVec 32 := Scf.iv c0_i32_351 c1_i32_353 k0_t6
  let v393 : Index := Scalar.indexCast arg22
  let c0_369 : Index := 0#32
  let c0_370 : Index := 0#32
  ![v393.toNat, 0, 0]
def k0_off38 (k0_t5 : Fin k0_t5_loop.trips) : Fin 3 → Nat :=
  let c0_i32_357 : BitVec 32 := 0#32
  let c0_i32_349 : BitVec 32 := 0#32
  let c0_i32_211 : BitVec 32 := 0#32
  let c1_i32_213 : BitVec 32 := 1#32
  let arg21 : BitVec 32 := Scf.iv c0_i32_211 c1_i32_213 k0_t5
  let c1_i32_348 : BitVec 32 := 1#32
  let v338 : BitVec 32 := Scalar.muli arg21 c1_i32_348
  let v339 : BitVec 32 := Scalar.addi c0_i32_349 v338
  let v358 : BitVec 32 := Scalar.addi c0_i32_357 v339
  let v359 : Index := Scalar.indexCast v358
  let c0_358 : Index := 0#32
  let c0_359 : Index := 0#32
  ![v359.toNat, 0, 0]
def k0_off39 (v184 : BitVec 32) : Fin 3 → Nat :=
  let c0_i32_353 : BitVec 32 := 0#32
  let c0_i32_354 : BitVec 32 := 0#32
  ![v184.toNat, 0, 0]
def k0_cond1 (v15 : BitVec 32) (k0_t4 : Fin (k0_t4_loop v15).trips) : BitVec 1 :=
  let c0_i32_159 : BitVec 32 := 0#32
  let c1_i32_161 : BitVec 32 := 1#32
  let arg20 : BitVec 32 := Scf.iv c0_i32_159 c1_i32_161 k0_t4
  let c1_i32_171 : BitVec 32 := 1#32
  let v185 : BitVec 32 := Scalar.addi arg20 c1_i32_171
  let v186 : BitVec 1 := Scalar.cmpi .slt v185 v15
  let v225 : BitVec 32 := Scalar.extui v186
  let c0_i32_215 : BitVec 32 := 0#32
  let v226 : BitVec 1 := Scalar.cmpi .ne v225 c0_i32_215
  v226

def k0_off40 (v184 : BitVec 32) : Fin 3 → Nat :=
  let c0_i32_360 : BitVec 32 := 0#32
  let c0_i32_361 : BitVec 32 := 0#32
  ![v184.toNat, 0, 0]
def k0_off41 (v184 : BitVec 32) : Fin 3 → Nat :=
  let c0_i32_367 : BitVec 32 := 0#32
  let c2048_i32_368 : BitVec 32 := 2048#32
  ![v184.toNat, 0, 2048]
def k0_off42 (v184 : BitVec 32) : Fin 3 → Nat :=
  let c0_i32_374 : BitVec 32 := 0#32
  let c2048_i32_375 : BitVec 32 := 2048#32
  ![v184.toNat, 0, 2048]
def k0_off43 (v180 : BitVec 32) : Fin 3 → Nat :=
  let c0_i32_221 : BitVec 32 := 0#32
  let c512_i32_222 : BitVec 32 := 512#32
  ![v180.toNat, 0, 512]
def k0_off44 (v180 : BitVec 32) : Fin 3 → Nat :=
  let c0_i32_228 : BitVec 32 := 0#32
  let c512_i32_229 : BitVec 32 := 512#32
  ![v180.toNat, 0, 512]
def k0_off45 (v180 : BitVec 32) : Fin 3 → Nat :=
  let c0_i32_235 : BitVec 32 := 0#32
  let c2560_i32_236 : BitVec 32 := 2560#32
  ![v180.toNat, 0, 2560]
def k0_off46 (v180 : BitVec 32) : Fin 3 → Nat :=
  let c0_i32_242 : BitVec 32 := 0#32
  let c2560_i32_243 : BitVec 32 := 2560#32
  ![v180.toNat, 0, 2560]
@[reducible] def k0_t7_loop : Scf.Loop 32 :=
  let c0_i32_244 : BitVec 32 := 0#32
  let c2_i32_245 : BitVec 32 := 2#32
  let v251 : BitVec 32 := Scalar.addi c0_i32_244 c2_i32_245
  let c1_i32_246 : BitVec 32 := 1#32
  ⟨c0_i32_244, v251, c1_i32_246⟩
def k0_mult5 (k0_t7 : Fin k0_t7_loop.trips) : BitVec 32 :=
  let c0_i32_349 : BitVec 32 := 0#32
  let c0_i32_244 : BitVec 32 := 0#32
  let c1_i32_246 : BitVec 32 := 1#32
  let arg21 : BitVec 32 := Scf.iv c0_i32_244 c1_i32_246 k0_t7
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  v340
@[reducible] def k0_t8_loop : Scf.Loop 32 :=
  let c0_i32_351 : BitVec 32 := 0#32
  let c28_i32_352 : BitVec 32 := 28#32
  let v343 : BitVec 32 := Scalar.addi c0_i32_351 c28_i32_352
  let c1_i32_353 : BitVec 32 := 1#32
  ⟨c0_i32_351, v343, c1_i32_353⟩
def k0_mult6 (k0_t8 : Fin k0_t8_loop.trips) : BitVec 32 :=
  let c0_i32_351 : BitVec 32 := 0#32
  let c1_i32_353 : BitVec 32 := 1#32
  let arg22 : BitVec 32 := Scf.iv c0_i32_351 c1_i32_353 k0_t8
  let c128_i32 : BitVec 32 := 128#32
  let v363 : BitVec 32 := Scalar.muli arg22 c128_i32
  v363
def k0_mult7 (k0_t8 : Fin k0_t8_loop.trips) : BitVec 32 :=
  let c0_i32_351 : BitVec 32 := 0#32
  let c1_i32_353 : BitVec 32 := 1#32
  let arg22 : BitVec 32 := Scf.iv c0_i32_351 c1_i32_353 k0_t8
  let c8_i32 : BitVec 32 := 8#32
  let v365 : BitVec 32 := Scalar.muli arg22 c8_i32
  v365
def k0_off47 (k0_t7 : Fin k0_t7_loop.trips) (k0_t8 : Fin k0_t8_loop.trips) : Fin 4 → Nat :=
  let c1_360 : Index := 1#32
  let c0_361 : Index := 0#32
  let c0_i32_351 : BitVec 32 := 0#32
  let c1_i32_353 : BitVec 32 := 1#32
  let arg22 : BitVec 32 := Scf.iv c0_i32_351 c1_i32_353 k0_t8
  let c128_i32 : BitVec 32 := 128#32
  let v363 : BitVec 32 := Scalar.muli arg22 c128_i32
  let v364 : BitVec 32 := v363
  let v367 : Index := Scalar.indexCast v364
  let c0_i32_349 : BitVec 32 := 0#32
  let c0_i32_244 : BitVec 32 := 0#32
  let c1_i32_246 : BitVec 32 := 1#32
  let arg21 : BitVec 32 := Scf.iv c0_i32_244 c1_i32_246 k0_t7
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v368 : Index := Scalar.indexCast v341
  ![1, 0, v367.toNat, v368.toNat]
def k0_off48 (k0_t7 : Fin k0_t7_loop.trips) (k0_t8 : Fin k0_t8_loop.trips) : Fin 4 → Nat :=
  let c1_362 : Index := 1#32
  let c1_363 : Index := 1#32
  let c0_i32_351 : BitVec 32 := 0#32
  let c1_i32_353 : BitVec 32 := 1#32
  let arg22 : BitVec 32 := Scf.iv c0_i32_351 c1_i32_353 k0_t8
  let c128_i32 : BitVec 32 := 128#32
  let v363 : BitVec 32 := Scalar.muli arg22 c128_i32
  let v364 : BitVec 32 := v363
  let v371 : Index := Scalar.indexCast v364
  let c0_i32_349 : BitVec 32 := 0#32
  let c0_i32_244 : BitVec 32 := 0#32
  let c1_i32_246 : BitVec 32 := 1#32
  let arg21 : BitVec 32 := Scf.iv c0_i32_244 c1_i32_246 k0_t7
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v372 : Index := Scalar.indexCast v341
  ![1, 1, v371.toNat, v372.toNat]
def k0_off49 (k0_t7 : Fin k0_t7_loop.trips) (k0_t8 : Fin k0_t8_loop.trips) : Fin 4 → Nat :=
  let c1_364 : Index := 1#32
  let c0_365 : Index := 0#32
  let c0_i32_351 : BitVec 32 := 0#32
  let c1_i32_353 : BitVec 32 := 1#32
  let arg22 : BitVec 32 := Scf.iv c0_i32_351 c1_i32_353 k0_t8
  let c8_i32 : BitVec 32 := 8#32
  let v365 : BitVec 32 := Scalar.muli arg22 c8_i32
  let v366 : BitVec 32 := v365
  let v376 : Index := Scalar.indexCast v366
  let c0_i32_349 : BitVec 32 := 0#32
  let c0_i32_244 : BitVec 32 := 0#32
  let c1_i32_246 : BitVec 32 := 1#32
  let arg21 : BitVec 32 := Scf.iv c0_i32_244 c1_i32_246 k0_t7
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v377 : Index := Scalar.indexCast v341
  ![1, 0, v376.toNat, v377.toNat]
def k0_off50 (k0_t7 : Fin k0_t7_loop.trips) (k0_t8 : Fin k0_t8_loop.trips) : Fin 4 → Nat :=
  let c1_366 : Index := 1#32
  let c1_367 : Index := 1#32
  let c0_i32_351 : BitVec 32 := 0#32
  let c1_i32_353 : BitVec 32 := 1#32
  let arg22 : BitVec 32 := Scf.iv c0_i32_351 c1_i32_353 k0_t8
  let c8_i32 : BitVec 32 := 8#32
  let v365 : BitVec 32 := Scalar.muli arg22 c8_i32
  let v366 : BitVec 32 := v365
  let v384 : Index := Scalar.indexCast v366
  let c0_i32_349 : BitVec 32 := 0#32
  let c0_i32_244 : BitVec 32 := 0#32
  let c1_i32_246 : BitVec 32 := 1#32
  let arg21 : BitVec 32 := Scf.iv c0_i32_244 c1_i32_246 k0_t7
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v385 : Index := Scalar.indexCast v341
  ![1, 1, v384.toNat, v385.toNat]
def k0_off51 (k0_t8 : Fin k0_t8_loop.trips) : Fin 3 → Nat :=
  let c0_i32_351 : BitVec 32 := 0#32
  let c1_i32_353 : BitVec 32 := 1#32
  let arg22 : BitVec 32 := Scf.iv c0_i32_351 c1_i32_353 k0_t8
  let v393 : Index := Scalar.indexCast arg22
  let c0_369 : Index := 0#32
  let c0_370 : Index := 0#32
  ![v393.toNat, 0, 0]
def k0_off52 (k0_t7 : Fin k0_t7_loop.trips) : Fin 3 → Nat :=
  let c2_i32_357 : BitVec 32 := 2#32
  let c0_i32_349 : BitVec 32 := 0#32
  let c0_i32_244 : BitVec 32 := 0#32
  let c1_i32_246 : BitVec 32 := 1#32
  let arg21 : BitVec 32 := Scf.iv c0_i32_244 c1_i32_246 k0_t7
  let c1_i32_348 : BitVec 32 := 1#32
  let v338 : BitVec 32 := Scalar.muli arg21 c1_i32_348
  let v339 : BitVec 32 := Scalar.addi c0_i32_349 v338
  let v358 : BitVec 32 := Scalar.addi c2_i32_357 v339
  let v359 : Index := Scalar.indexCast v358
  let c0_358 : Index := 0#32
  let c0_359 : Index := 0#32
  ![v359.toNat, 0, 0]
def k0_off53 (v184 : BitVec 32) : Fin 3 → Nat :=
  let c0_i32_353 : BitVec 32 := 0#32
  let c512_i32_354 : BitVec 32 := 512#32
  ![v184.toNat, 0, 512]
def k0_cond2 (v15 : BitVec 32) (k0_t4 : Fin (k0_t4_loop v15).trips) : BitVec 1 :=
  let c0_i32_159 : BitVec 32 := 0#32
  let c1_i32_161 : BitVec 32 := 1#32
  let arg20 : BitVec 32 := Scf.iv c0_i32_159 c1_i32_161 k0_t4
  let c1_i32_171 : BitVec 32 := 1#32
  let v185 : BitVec 32 := Scalar.addi arg20 c1_i32_171
  let v186 : BitVec 1 := Scalar.cmpi .slt v185 v15
  let v252 : BitVec 32 := Scalar.extui v186
  let c0_i32_248 : BitVec 32 := 0#32
  let v253 : BitVec 1 := Scalar.cmpi .ne v252 c0_i32_248
  v253

def k0_off54 (v184 : BitVec 32) : Fin 3 → Nat :=
  let c0_i32_360 : BitVec 32 := 0#32
  let c512_i32_361 : BitVec 32 := 512#32
  ![v184.toNat, 0, 512]
def k0_off55 (v184 : BitVec 32) : Fin 3 → Nat :=
  let c0_i32_367 : BitVec 32 := 0#32
  let c2560_i32_368 : BitVec 32 := 2560#32
  ![v184.toNat, 0, 2560]
def k0_off56 (v184 : BitVec 32) : Fin 3 → Nat :=
  let c0_i32_374 : BitVec 32 := 0#32
  let c2560_i32_375 : BitVec 32 := 2560#32
  ![v184.toNat, 0, 2560]
def k0_off57 (v180 : BitVec 32) : Fin 3 → Nat :=
  let c0_i32_254 : BitVec 32 := 0#32
  let c1024_i32_255 : BitVec 32 := 1024#32
  ![v180.toNat, 0, 1024]
def k0_off58 (v180 : BitVec 32) : Fin 3 → Nat :=
  let c0_i32_261 : BitVec 32 := 0#32
  let c1024_i32_262 : BitVec 32 := 1024#32
  ![v180.toNat, 0, 1024]
def k0_off59 (v180 : BitVec 32) : Fin 3 → Nat :=
  let c0_i32_268 : BitVec 32 := 0#32
  let c3072_i32_269 : BitVec 32 := 3072#32
  ![v180.toNat, 0, 3072]
def k0_off60 (v180 : BitVec 32) : Fin 3 → Nat :=
  let c0_i32_275 : BitVec 32 := 0#32
  let c3072_i32_276 : BitVec 32 := 3072#32
  ![v180.toNat, 0, 3072]
@[reducible] def k0_t9_loop : Scf.Loop 32 :=
  let c0_i32_277 : BitVec 32 := 0#32
  let c2_i32_278 : BitVec 32 := 2#32
  let v278 : BitVec 32 := Scalar.addi c0_i32_277 c2_i32_278
  let c1_i32_279 : BitVec 32 := 1#32
  ⟨c0_i32_277, v278, c1_i32_279⟩
def k0_mult8 (k0_t9 : Fin k0_t9_loop.trips) : BitVec 32 :=
  let c0_i32_349 : BitVec 32 := 0#32
  let c0_i32_277 : BitVec 32 := 0#32
  let c1_i32_279 : BitVec 32 := 1#32
  let arg21 : BitVec 32 := Scf.iv c0_i32_277 c1_i32_279 k0_t9
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  v340
@[reducible] def k0_t10_loop : Scf.Loop 32 :=
  let c0_i32_351 : BitVec 32 := 0#32
  let c28_i32_352 : BitVec 32 := 28#32
  let v343 : BitVec 32 := Scalar.addi c0_i32_351 c28_i32_352
  let c1_i32_353 : BitVec 32 := 1#32
  ⟨c0_i32_351, v343, c1_i32_353⟩
def k0_mult9 (k0_t10 : Fin k0_t10_loop.trips) : BitVec 32 :=
  let c0_i32_351 : BitVec 32 := 0#32
  let c1_i32_353 : BitVec 32 := 1#32
  let arg22 : BitVec 32 := Scf.iv c0_i32_351 c1_i32_353 k0_t10
  let c128_i32 : BitVec 32 := 128#32
  let v363 : BitVec 32 := Scalar.muli arg22 c128_i32
  v363
def k0_mult10 (k0_t10 : Fin k0_t10_loop.trips) : BitVec 32 :=
  let c0_i32_351 : BitVec 32 := 0#32
  let c1_i32_353 : BitVec 32 := 1#32
  let arg22 : BitVec 32 := Scf.iv c0_i32_351 c1_i32_353 k0_t10
  let c8_i32 : BitVec 32 := 8#32
  let v365 : BitVec 32 := Scalar.muli arg22 c8_i32
  v365
def k0_off61 (k0_t9 : Fin k0_t9_loop.trips) (k0_t10 : Fin k0_t10_loop.trips) : Fin 4 → Nat :=
  let c2_359 : Index := 2#32
  let c0_360 : Index := 0#32
  let c0_i32_351 : BitVec 32 := 0#32
  let c1_i32_353 : BitVec 32 := 1#32
  let arg22 : BitVec 32 := Scf.iv c0_i32_351 c1_i32_353 k0_t10
  let c128_i32 : BitVec 32 := 128#32
  let v363 : BitVec 32 := Scalar.muli arg22 c128_i32
  let v364 : BitVec 32 := v363
  let v367 : Index := Scalar.indexCast v364
  let c0_i32_349 : BitVec 32 := 0#32
  let c0_i32_277 : BitVec 32 := 0#32
  let c1_i32_279 : BitVec 32 := 1#32
  let arg21 : BitVec 32 := Scf.iv c0_i32_277 c1_i32_279 k0_t9
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v368 : Index := Scalar.indexCast v341
  ![2, 0, v367.toNat, v368.toNat]
def k0_off62 (k0_t9 : Fin k0_t9_loop.trips) (k0_t10 : Fin k0_t10_loop.trips) : Fin 4 → Nat :=
  let c2_361 : Index := 2#32
  let c1_362 : Index := 1#32
  let c0_i32_351 : BitVec 32 := 0#32
  let c1_i32_353 : BitVec 32 := 1#32
  let arg22 : BitVec 32 := Scf.iv c0_i32_351 c1_i32_353 k0_t10
  let c128_i32 : BitVec 32 := 128#32
  let v363 : BitVec 32 := Scalar.muli arg22 c128_i32
  let v364 : BitVec 32 := v363
  let v371 : Index := Scalar.indexCast v364
  let c0_i32_349 : BitVec 32 := 0#32
  let c0_i32_277 : BitVec 32 := 0#32
  let c1_i32_279 : BitVec 32 := 1#32
  let arg21 : BitVec 32 := Scf.iv c0_i32_277 c1_i32_279 k0_t9
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v372 : Index := Scalar.indexCast v341
  ![2, 1, v371.toNat, v372.toNat]
def k0_off63 (k0_t9 : Fin k0_t9_loop.trips) (k0_t10 : Fin k0_t10_loop.trips) : Fin 4 → Nat :=
  let c2_363 : Index := 2#32
  let c0_364 : Index := 0#32
  let c0_i32_351 : BitVec 32 := 0#32
  let c1_i32_353 : BitVec 32 := 1#32
  let arg22 : BitVec 32 := Scf.iv c0_i32_351 c1_i32_353 k0_t10
  let c8_i32 : BitVec 32 := 8#32
  let v365 : BitVec 32 := Scalar.muli arg22 c8_i32
  let v366 : BitVec 32 := v365
  let v376 : Index := Scalar.indexCast v366
  let c0_i32_349 : BitVec 32 := 0#32
  let c0_i32_277 : BitVec 32 := 0#32
  let c1_i32_279 : BitVec 32 := 1#32
  let arg21 : BitVec 32 := Scf.iv c0_i32_277 c1_i32_279 k0_t9
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v377 : Index := Scalar.indexCast v341
  ![2, 0, v376.toNat, v377.toNat]
def k0_off64 (k0_t9 : Fin k0_t9_loop.trips) (k0_t10 : Fin k0_t10_loop.trips) : Fin 4 → Nat :=
  let c2_365 : Index := 2#32
  let c1_366 : Index := 1#32
  let c0_i32_351 : BitVec 32 := 0#32
  let c1_i32_353 : BitVec 32 := 1#32
  let arg22 : BitVec 32 := Scf.iv c0_i32_351 c1_i32_353 k0_t10
  let c8_i32 : BitVec 32 := 8#32
  let v365 : BitVec 32 := Scalar.muli arg22 c8_i32
  let v366 : BitVec 32 := v365
  let v384 : Index := Scalar.indexCast v366
  let c0_i32_349 : BitVec 32 := 0#32
  let c0_i32_277 : BitVec 32 := 0#32
  let c1_i32_279 : BitVec 32 := 1#32
  let arg21 : BitVec 32 := Scf.iv c0_i32_277 c1_i32_279 k0_t9
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v385 : Index := Scalar.indexCast v341
  ![2, 1, v384.toNat, v385.toNat]
def k0_off65 (k0_t10 : Fin k0_t10_loop.trips) : Fin 3 → Nat :=
  let c0_i32_351 : BitVec 32 := 0#32
  let c1_i32_353 : BitVec 32 := 1#32
  let arg22 : BitVec 32 := Scf.iv c0_i32_351 c1_i32_353 k0_t10
  let v393 : Index := Scalar.indexCast arg22
  let c0_368 : Index := 0#32
  let c0_369 : Index := 0#32
  ![v393.toNat, 0, 0]
def k0_off66 (k0_t9 : Fin k0_t9_loop.trips) : Fin 3 → Nat :=
  let c4_i32 : BitVec 32 := 4#32
  let c0_i32_349 : BitVec 32 := 0#32
  let c0_i32_277 : BitVec 32 := 0#32
  let c1_i32_279 : BitVec 32 := 1#32
  let arg21 : BitVec 32 := Scf.iv c0_i32_277 c1_i32_279 k0_t9
  let c1_i32_348 : BitVec 32 := 1#32
  let v338 : BitVec 32 := Scalar.muli arg21 c1_i32_348
  let v339 : BitVec 32 := Scalar.addi c0_i32_349 v338
  let v358 : BitVec 32 := Scalar.addi c4_i32 v339
  let v359 : Index := Scalar.indexCast v358
  let c0_357 : Index := 0#32
  let c0_358 : Index := 0#32
  ![v359.toNat, 0, 0]
def k0_off67 (v184 : BitVec 32) : Fin 3 → Nat :=
  let c0_i32_353 : BitVec 32 := 0#32
  let c1024_i32_354 : BitVec 32 := 1024#32
  ![v184.toNat, 0, 1024]
def k0_cond3 (v15 : BitVec 32) (k0_t4 : Fin (k0_t4_loop v15).trips) : BitVec 1 :=
  let c0_i32_159 : BitVec 32 := 0#32
  let c1_i32_161 : BitVec 32 := 1#32
  let arg20 : BitVec 32 := Scf.iv c0_i32_159 c1_i32_161 k0_t4
  let c1_i32_171 : BitVec 32 := 1#32
  let v185 : BitVec 32 := Scalar.addi arg20 c1_i32_171
  let v186 : BitVec 1 := Scalar.cmpi .slt v185 v15
  let v279 : BitVec 32 := Scalar.extui v186
  let c0_i32_281 : BitVec 32 := 0#32
  let v280 : BitVec 1 := Scalar.cmpi .ne v279 c0_i32_281
  v280

def k0_off68 (v184 : BitVec 32) : Fin 3 → Nat :=
  let c0_i32_360 : BitVec 32 := 0#32
  let c1024_i32_361 : BitVec 32 := 1024#32
  ![v184.toNat, 0, 1024]
def k0_off69 (v184 : BitVec 32) : Fin 3 → Nat :=
  let c0_i32_367 : BitVec 32 := 0#32
  let c3072_i32_368 : BitVec 32 := 3072#32
  ![v184.toNat, 0, 3072]
def k0_off70 (v184 : BitVec 32) : Fin 3 → Nat :=
  let c0_i32_374 : BitVec 32 := 0#32
  let c3072_i32_375 : BitVec 32 := 3072#32
  ![v184.toNat, 0, 3072]
def k0_off71 (v180 : BitVec 32) : Fin 3 → Nat :=
  let c0_i32_287 : BitVec 32 := 0#32
  let c1536_i32_288 : BitVec 32 := 1536#32
  ![v180.toNat, 0, 1536]
def k0_off72 (v180 : BitVec 32) : Fin 3 → Nat :=
  let c0_i32_294 : BitVec 32 := 0#32
  let c1536_i32_295 : BitVec 32 := 1536#32
  ![v180.toNat, 0, 1536]
def k0_off73 (v180 : BitVec 32) : Fin 3 → Nat :=
  let c0_i32_301 : BitVec 32 := 0#32
  let c3584_i32_302 : BitVec 32 := 3584#32
  ![v180.toNat, 0, 3584]
def k0_off74 (v180 : BitVec 32) : Fin 3 → Nat :=
  let c0_i32_308 : BitVec 32 := 0#32
  let c3584_i32_309 : BitVec 32 := 3584#32
  ![v180.toNat, 0, 3584]
@[reducible] def k0_t11_loop : Scf.Loop 32 :=
  let c0_i32_310 : BitVec 32 := 0#32
  let c2_i32_311 : BitVec 32 := 2#32
  let v305 : BitVec 32 := Scalar.addi c0_i32_310 c2_i32_311
  let c1_i32_312 : BitVec 32 := 1#32
  ⟨c0_i32_310, v305, c1_i32_312⟩
def k0_mult11 (k0_t11 : Fin k0_t11_loop.trips) : BitVec 32 :=
  let c0_i32_349 : BitVec 32 := 0#32
  let c0_i32_310 : BitVec 32 := 0#32
  let c1_i32_312 : BitVec 32 := 1#32
  let arg21 : BitVec 32 := Scf.iv c0_i32_310 c1_i32_312 k0_t11
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  v340
@[reducible] def k0_t12_loop : Scf.Loop 32 :=
  let c0_i32_351 : BitVec 32 := 0#32
  let c28_i32_352 : BitVec 32 := 28#32
  let v343 : BitVec 32 := Scalar.addi c0_i32_351 c28_i32_352
  let c1_i32_353 : BitVec 32 := 1#32
  ⟨c0_i32_351, v343, c1_i32_353⟩
def k0_mult12 (k0_t12 : Fin k0_t12_loop.trips) : BitVec 32 :=
  let c0_i32_351 : BitVec 32 := 0#32
  let c1_i32_353 : BitVec 32 := 1#32
  let arg22 : BitVec 32 := Scf.iv c0_i32_351 c1_i32_353 k0_t12
  let c128_i32 : BitVec 32 := 128#32
  let v363 : BitVec 32 := Scalar.muli arg22 c128_i32
  v363
def k0_mult13 (k0_t12 : Fin k0_t12_loop.trips) : BitVec 32 :=
  let c0_i32_351 : BitVec 32 := 0#32
  let c1_i32_353 : BitVec 32 := 1#32
  let arg22 : BitVec 32 := Scf.iv c0_i32_351 c1_i32_353 k0_t12
  let c8_i32 : BitVec 32 := 8#32
  let v365 : BitVec 32 := Scalar.muli arg22 c8_i32
  v365
def k0_off75 (k0_t11 : Fin k0_t11_loop.trips) (k0_t12 : Fin k0_t12_loop.trips) : Fin 4 → Nat :=
  let c3_359 : Index := 3#32
  let c0_360 : Index := 0#32
  let c0_i32_351 : BitVec 32 := 0#32
  let c1_i32_353 : BitVec 32 := 1#32
  let arg22 : BitVec 32 := Scf.iv c0_i32_351 c1_i32_353 k0_t12
  let c128_i32 : BitVec 32 := 128#32
  let v363 : BitVec 32 := Scalar.muli arg22 c128_i32
  let v364 : BitVec 32 := v363
  let v367 : Index := Scalar.indexCast v364
  let c0_i32_349 : BitVec 32 := 0#32
  let c0_i32_310 : BitVec 32 := 0#32
  let c1_i32_312 : BitVec 32 := 1#32
  let arg21 : BitVec 32 := Scf.iv c0_i32_310 c1_i32_312 k0_t11
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v368 : Index := Scalar.indexCast v341
  ![3, 0, v367.toNat, v368.toNat]
def k0_off76 (k0_t11 : Fin k0_t11_loop.trips) (k0_t12 : Fin k0_t12_loop.trips) : Fin 4 → Nat :=
  let c3_361 : Index := 3#32
  let c1_362 : Index := 1#32
  let c0_i32_351 : BitVec 32 := 0#32
  let c1_i32_353 : BitVec 32 := 1#32
  let arg22 : BitVec 32 := Scf.iv c0_i32_351 c1_i32_353 k0_t12
  let c128_i32 : BitVec 32 := 128#32
  let v363 : BitVec 32 := Scalar.muli arg22 c128_i32
  let v364 : BitVec 32 := v363
  let v371 : Index := Scalar.indexCast v364
  let c0_i32_349 : BitVec 32 := 0#32
  let c0_i32_310 : BitVec 32 := 0#32
  let c1_i32_312 : BitVec 32 := 1#32
  let arg21 : BitVec 32 := Scf.iv c0_i32_310 c1_i32_312 k0_t11
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v372 : Index := Scalar.indexCast v341
  ![3, 1, v371.toNat, v372.toNat]
def k0_off77 (k0_t11 : Fin k0_t11_loop.trips) (k0_t12 : Fin k0_t12_loop.trips) : Fin 4 → Nat :=
  let c3_363 : Index := 3#32
  let c0_364 : Index := 0#32
  let c0_i32_351 : BitVec 32 := 0#32
  let c1_i32_353 : BitVec 32 := 1#32
  let arg22 : BitVec 32 := Scf.iv c0_i32_351 c1_i32_353 k0_t12
  let c8_i32 : BitVec 32 := 8#32
  let v365 : BitVec 32 := Scalar.muli arg22 c8_i32
  let v366 : BitVec 32 := v365
  let v376 : Index := Scalar.indexCast v366
  let c0_i32_349 : BitVec 32 := 0#32
  let c0_i32_310 : BitVec 32 := 0#32
  let c1_i32_312 : BitVec 32 := 1#32
  let arg21 : BitVec 32 := Scf.iv c0_i32_310 c1_i32_312 k0_t11
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v377 : Index := Scalar.indexCast v341
  ![3, 0, v376.toNat, v377.toNat]
def k0_off78 (k0_t11 : Fin k0_t11_loop.trips) (k0_t12 : Fin k0_t12_loop.trips) : Fin 4 → Nat :=
  let c3_365 : Index := 3#32
  let c1_366 : Index := 1#32
  let c0_i32_351 : BitVec 32 := 0#32
  let c1_i32_353 : BitVec 32 := 1#32
  let arg22 : BitVec 32 := Scf.iv c0_i32_351 c1_i32_353 k0_t12
  let c8_i32 : BitVec 32 := 8#32
  let v365 : BitVec 32 := Scalar.muli arg22 c8_i32
  let v366 : BitVec 32 := v365
  let v384 : Index := Scalar.indexCast v366
  let c0_i32_349 : BitVec 32 := 0#32
  let c0_i32_310 : BitVec 32 := 0#32
  let c1_i32_312 : BitVec 32 := 1#32
  let arg21 : BitVec 32 := Scf.iv c0_i32_310 c1_i32_312 k0_t11
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v385 : Index := Scalar.indexCast v341
  ![3, 1, v384.toNat, v385.toNat]
def k0_off79 (k0_t12 : Fin k0_t12_loop.trips) : Fin 3 → Nat :=
  let c0_i32_351 : BitVec 32 := 0#32
  let c1_i32_353 : BitVec 32 := 1#32
  let arg22 : BitVec 32 := Scf.iv c0_i32_351 c1_i32_353 k0_t12
  let v393 : Index := Scalar.indexCast arg22
  let c0_368 : Index := 0#32
  let c0_369 : Index := 0#32
  ![v393.toNat, 0, 0]
def k0_off80 (k0_t11 : Fin k0_t11_loop.trips) : Fin 3 → Nat :=
  let c6_i32 : BitVec 32 := 6#32
  let c0_i32_349 : BitVec 32 := 0#32
  let c0_i32_310 : BitVec 32 := 0#32
  let c1_i32_312 : BitVec 32 := 1#32
  let arg21 : BitVec 32 := Scf.iv c0_i32_310 c1_i32_312 k0_t11
  let c1_i32_348 : BitVec 32 := 1#32
  let v338 : BitVec 32 := Scalar.muli arg21 c1_i32_348
  let v339 : BitVec 32 := Scalar.addi c0_i32_349 v338
  let v358 : BitVec 32 := Scalar.addi c6_i32 v339
  let v359 : Index := Scalar.indexCast v358
  let c0_357 : Index := 0#32
  let c0_358 : Index := 0#32
  ![v359.toNat, 0, 0]
def k0_off81 (v184 : BitVec 32) : Fin 3 → Nat :=
  let c0_i32_353 : BitVec 32 := 0#32
  let c1536_i32_354 : BitVec 32 := 1536#32
  ![v184.toNat, 0, 1536]
def k0_cond4 (v15 : BitVec 32) (k0_t4 : Fin (k0_t4_loop v15).trips) : BitVec 1 :=
  let c0_i32_159 : BitVec 32 := 0#32
  let c1_i32_161 : BitVec 32 := 1#32
  let arg20 : BitVec 32 := Scf.iv c0_i32_159 c1_i32_161 k0_t4
  let c1_i32_171 : BitVec 32 := 1#32
  let v185 : BitVec 32 := Scalar.addi arg20 c1_i32_171
  let v186 : BitVec 1 := Scalar.cmpi .slt v185 v15
  let v306 : BitVec 32 := Scalar.extui v186
  let c0_i32_314 : BitVec 32 := 0#32
  let v307 : BitVec 1 := Scalar.cmpi .ne v306 c0_i32_314
  v307

def k0_off82 (v184 : BitVec 32) : Fin 3 → Nat :=
  let c0_i32_360 : BitVec 32 := 0#32
  let c1536_i32_361 : BitVec 32 := 1536#32
  ![v184.toNat, 0, 1536]
def k0_off83 (v184 : BitVec 32) : Fin 3 → Nat :=
  let c0_i32_367 : BitVec 32 := 0#32
  let c3584_i32_368 : BitVec 32 := 3584#32
  ![v184.toNat, 0, 3584]
def k0_off84 (v184 : BitVec 32) : Fin 3 → Nat :=
  let c0_i32_374 : BitVec 32 := 0#32
  let c3584_i32_375 : BitVec 32 := 3584#32
  ![v184.toNat, 0, 3584]
def k0_off85 (v180 : BitVec 32) : Fin 3 → Nat :=
  let c0_i32_319 : BitVec 32 := 0#32
  let c0_i32_320 : BitVec 32 := 0#32
  ![v180.toNat, 0, 0]
def k0_off86 (v180 : BitVec 32) : Fin 3 → Nat :=
  let c0_i32_325 : BitVec 32 := 0#32
  let c0_i32_326 : BitVec 32 := 0#32
  ![v180.toNat, 0, 0]
@[reducible] def k0_t13_loop : Scf.Loop 32 :=
  let c0_i32_327 : BitVec 32 := 0#32
  let c7_i32 : BitVec 32 := 7#32
  let v320 : BitVec 32 := Scalar.addi c0_i32_327 c7_i32
  let c1_i32_328 : BitVec 32 := 1#32
  ⟨c0_i32_327, v320, c1_i32_328⟩
def k0_mult14 (k0_t13 : Fin k0_t13_loop.trips) : BitVec 32 :=
  let c0_i32_349 : BitVec 32 := 0#32
  let c0_i32_327 : BitVec 32 := 0#32
  let c1_i32_328 : BitVec 32 := 1#32
  let arg21 : BitVec 32 := Scf.iv c0_i32_327 c1_i32_328 k0_t13
  let c1_i32_348 : BitVec 32 := 1#32
  let v338 : BitVec 32 := Scalar.muli arg21 c1_i32_348
  let v339 : BitVec 32 := Scalar.addi c0_i32_349 v338
  let c512_i32_350 : BitVec 32 := 512#32
  let v340 : BitVec 32 := Scalar.muli v339 c512_i32_350
  v340
@[reducible] def k0_t14_loop : Scf.Loop 32 :=
  let c0_i32_352 : BitVec 32 := 0#32
  let c8_i32 : BitVec 32 := 8#32
  let v343 : BitVec 32 := Scalar.addi c0_i32_352 c8_i32
  let c1_i32_353 : BitVec 32 := 1#32
  ⟨c0_i32_352, v343, c1_i32_353⟩
def k0_mult15 (k0_t14 : Fin k0_t14_loop.trips) : BitVec 32 :=
  let c0_i32_352 : BitVec 32 := 0#32
  let c1_i32_353 : BitVec 32 := 1#32
  let arg22 : BitVec 32 := Scf.iv c0_i32_352 c1_i32_353 k0_t14
  let c128_i32 : BitVec 32 := 128#32
  let v358 : BitVec 32 := Scalar.muli arg22 c128_i32
  v358
def k0_mult16 (k0_t14 : Fin k0_t14_loop.trips) : BitVec 32 :=
  let c0_i32_352 : BitVec 32 := 0#32
  let c1_i32_353 : BitVec 32 := 1#32
  let arg22 : BitVec 32 := Scf.iv c0_i32_352 c1_i32_353 k0_t14
  let c8_i32_364 : BitVec 32 := 8#32
  let v360 : BitVec 32 := Scalar.muli arg22 c8_i32_364
  v360
def k0_off87 (k0_t14 : Fin k0_t14_loop.trips) : Fin 3 → Nat :=
  let c0_i32_352 : BitVec 32 := 0#32
  let c1_i32_353 : BitVec 32 := 1#32
  let arg22 : BitVec 32 := Scf.iv c0_i32_352 c1_i32_353 k0_t14
  let v362 : Index := Scalar.indexCast arg22
  let c0_365 : Index := 0#32
  let c0_366 : Index := 0#32
  ![v362.toNat, 0, 0]
def k0_off88 (k0_t13 : Fin k0_t13_loop.trips) (k0_t14 : Fin k0_t14_loop.trips) : Fin 3 → Nat :=
  let c0_367 : Index := 0#32
  let c0_i32_352 : BitVec 32 := 0#32
  let c1_i32_353 : BitVec 32 := 1#32
  let arg22 : BitVec 32 := Scf.iv c0_i32_352 c1_i32_353 k0_t14
  let c128_i32 : BitVec 32 := 128#32
  let v358 : BitVec 32 := Scalar.muli arg22 c128_i32
  let v359 : BitVec 32 := v358
  let v365 : Index := Scalar.indexCast v359
  let c0_i32_349 : BitVec 32 := 0#32
  let c0_i32_327 : BitVec 32 := 0#32
  let c1_i32_328 : BitVec 32 := 1#32
  let arg21 : BitVec 32 := Scf.iv c0_i32_327 c1_i32_328 k0_t13
  let c1_i32_348 : BitVec 32 := 1#32
  let v338 : BitVec 32 := Scalar.muli arg21 c1_i32_348
  let v339 : BitVec 32 := Scalar.addi c0_i32_349 v338
  let c512_i32_350 : BitVec 32 := 512#32
  let v340 : BitVec 32 := Scalar.muli v339 c512_i32_350
  let v341 : BitVec 32 := v340
  let v366 : Index := Scalar.indexCast v341
  ![0, v365.toNat, v366.toNat]
def k0_off89 (k0_t13 : Fin k0_t13_loop.trips) (k0_t14 : Fin k0_t14_loop.trips) : Fin 3 → Nat :=
  let c0_368 : Index := 0#32
  let c0_i32_352 : BitVec 32 := 0#32
  let c1_i32_353 : BitVec 32 := 1#32
  let arg22 : BitVec 32 := Scf.iv c0_i32_352 c1_i32_353 k0_t14
  let c8_i32_364 : BitVec 32 := 8#32
  let v360 : BitVec 32 := Scalar.muli arg22 c8_i32_364
  let v361 : BitVec 32 := v360
  let v369 : Index := Scalar.indexCast v361
  let c0_i32_349 : BitVec 32 := 0#32
  let c0_i32_327 : BitVec 32 := 0#32
  let c1_i32_328 : BitVec 32 := 1#32
  let arg21 : BitVec 32 := Scf.iv c0_i32_327 c1_i32_328 k0_t13
  let c1_i32_348 : BitVec 32 := 1#32
  let v338 : BitVec 32 := Scalar.muli arg21 c1_i32_348
  let v339 : BitVec 32 := Scalar.addi c0_i32_349 v338
  let c512_i32_350 : BitVec 32 := 512#32
  let v340 : BitVec 32 := Scalar.muli v339 c512_i32_350
  let v341 : BitVec 32 := v340
  let v370 : Index := Scalar.indexCast v341
  ![0, v369.toNat, v370.toNat]
def k0_mult17 (k0_t13 : Fin k0_t13_loop.trips) : BitVec 32 :=
  let c0_i32_356 : BitVec 32 := 0#32
  let c0_i32_349 : BitVec 32 := 0#32
  let c0_i32_327 : BitVec 32 := 0#32
  let c1_i32_328 : BitVec 32 := 1#32
  let arg21 : BitVec 32 := Scf.iv c0_i32_327 c1_i32_328 k0_t13
  let c1_i32_348 : BitVec 32 := 1#32
  let v338 : BitVec 32 := Scalar.muli arg21 c1_i32_348
  let v339 : BitVec 32 := Scalar.addi c0_i32_349 v338
  let c512_i32_355 : BitVec 32 := 512#32
  let v345 : BitVec 32 := Scalar.muli v339 c512_i32_355
  let v346 : BitVec 32 := Scalar.addi c0_i32_356 v345
  v346
def k0_off90 (k0_t13 : Fin k0_t13_loop.trips) : Fin 3 → Nat :=
  let c0_357 : Index := 0#32
  let c0_358 : Index := 0#32
  let c0_i32_356 : BitVec 32 := 0#32
  let c0_i32_349 : BitVec 32 := 0#32
  let c0_i32_327 : BitVec 32 := 0#32
  let c1_i32_328 : BitVec 32 := 1#32
  let arg21 : BitVec 32 := Scf.iv c0_i32_327 c1_i32_328 k0_t13
  let c1_i32_348 : BitVec 32 := 1#32
  let v338 : BitVec 32 := Scalar.muli arg21 c1_i32_348
  let v339 : BitVec 32 := Scalar.addi c0_i32_349 v338
  let c512_i32_355 : BitVec 32 := 512#32
  let v345 : BitVec 32 := Scalar.muli v339 c512_i32_355
  let v346 : BitVec 32 := Scalar.addi c0_i32_356 v345
  let v347 : BitVec 32 := v346
  let v348 : Index := Scalar.indexCast v347
  ![0, 0, v348.toNat]
def k0_off91 (v184 : BitVec 32) : Fin 3 → Nat :=
  let c0_i32_352 : BitVec 32 := 0#32
  let c0_i32_353 : BitVec 32 := 0#32
  ![v184.toNat, 0, 0]
def k0_cond5 (v15 : BitVec 32) (k0_t4 : Fin (k0_t4_loop v15).trips) : BitVec 1 :=
  let c0_i32_159 : BitVec 32 := 0#32
  let c1_i32_161 : BitVec 32 := 1#32
  let arg20 : BitVec 32 := Scf.iv c0_i32_159 c1_i32_161 k0_t4
  let c1_i32_171 : BitVec 32 := 1#32
  let v185 : BitVec 32 := Scalar.addi arg20 c1_i32_171
  let v186 : BitVec 1 := Scalar.cmpi .slt v185 v15
  let v321 : BitVec 32 := Scalar.extui v186
  let c0_i32_330 : BitVec 32 := 0#32
  let v322 : BitVec 1 := Scalar.cmpi .ne v321 c0_i32_330
  v322

def k0_off92 (v184 : BitVec 32) : Fin 3 → Nat :=
  let c0_i32_358 : BitVec 32 := 0#32
  let c0_i32_359 : BitVec 32 := 0#32
  ![v184.toNat, 0, 0]
def k0_off93 (v180 : BitVec 32) : Fin 3 → Nat :=
  let c0_i32_335 : BitVec 32 := 0#32
  let c3584_i32_336 : BitVec 32 := 3584#32
  ![v180.toNat, 0, 3584]
def k0_off94 (v180 : BitVec 32) : Fin 3 → Nat :=
  let c0_i32_341 : BitVec 32 := 0#32
  let c3584_i32_342 : BitVec 32 := 3584#32
  ![v180.toNat, 0, 3584]

def k0_chk5_0 (v180 : BitVec 32) : Prop :=
  (∀ a, (k0_off29 v180) a + S1x3584x512.size a ≤ S13x3584x4096.size a) ∧
  (∀ (hinb : ∀ a, (k0_off29 v180) a + S1x3584x512.size a ≤ S13x3584x4096.size a), (Rect.unit (s := S13x3584x4096) (k0_off29 v180) S1x3584x512.size hinb).WholeWords (EltTy.packing .i8)) ∧
  (∀ a, (k0_off30 v180) a + S1x224x512.size a ≤ S13x224x4096.size a) ∧
  (∀ (hinb : ∀ a, (k0_off30 v180) a + S1x224x512.size a ≤ S13x224x4096.size a), (Rect.unit (s := S13x224x4096) (k0_off30 v180) S1x224x512.size hinb).WholeWords (EltTy.packing .i8)) ∧
  (∀ a, (k0_off31 v180) a + S1x3584x512.size a ≤ S13x3584x4096.size a) ∧
  (∀ (hinb : ∀ a, (k0_off31 v180) a + S1x3584x512.size a ≤ S13x3584x4096.size a), (Rect.unit (s := S13x3584x4096) (k0_off31 v180) S1x3584x512.size hinb).WholeWords (EltTy.packing .i8)) ∧
  (∀ a, (k0_off32 v180) a + S1x224x512.size a ≤ S13x224x4096.size a) ∧
  (∀ (hinb : ∀ a, (k0_off32 v180) a + S1x224x512.size a ≤ S13x224x4096.size a), (Rect.unit (s := S13x224x4096) (k0_off32 v180) S1x224x512.size hinb).WholeWords (EltTy.packing .i8)) ∧
  (∀ a, (k0_off43 v180) a + S1x3584x512.size a ≤ S13x3584x4096.size a) ∧
  (∀ (hinb : ∀ a, (k0_off43 v180) a + S1x3584x512.size a ≤ S13x3584x4096.size a), (Rect.unit (s := S13x3584x4096) (k0_off43 v180) S1x3584x512.size hinb).WholeWords (EltTy.packing .i8)) ∧
  (∀ a, (k0_off44 v180) a + S1x224x512.size a ≤ S13x224x4096.size a) ∧
  (∀ (hinb : ∀ a, (k0_off44 v180) a + S1x224x512.size a ≤ S13x224x4096.size a), (Rect.unit (s := S13x224x4096) (k0_off44 v180) S1x224x512.size hinb).WholeWords (EltTy.packing .i8)) ∧
  (∀ a, (k0_off45 v180) a + S1x3584x512.size a ≤ S13x3584x4096.size a) ∧
  (∀ (hinb : ∀ a, (k0_off45 v180) a + S1x3584x512.size a ≤ S13x3584x4096.size a), (Rect.unit (s := S13x3584x4096) (k0_off45 v180) S1x3584x512.size hinb).WholeWords (EltTy.packing .i8)) ∧
  (∀ a, (k0_off46 v180) a + S1x224x512.size a ≤ S13x224x4096.size a) ∧
  (∀ (hinb : ∀ a, (k0_off46 v180) a + S1x224x512.size a ≤ S13x224x4096.size a), (Rect.unit (s := S13x224x4096) (k0_off46 v180) S1x224x512.size hinb).WholeWords (EltTy.packing .i8)) ∧
  (∀ a, (k0_off57 v180) a + S1x3584x512.size a ≤ S13x3584x4096.size a) ∧
  (∀ (hinb : ∀ a, (k0_off57 v180) a + S1x3584x512.size a ≤ S13x3584x4096.size a), (Rect.unit (s := S13x3584x4096) (k0_off57 v180) S1x3584x512.size hinb).WholeWords (EltTy.packing .i8)) ∧
  (∀ a, (k0_off58 v180) a + S1x224x512.size a ≤ S13x224x4096.size a) ∧
  (∀ (hinb : ∀ a, (k0_off58 v180) a + S1x224x512.size a ≤ S13x224x4096.size a), (Rect.unit (s := S13x224x4096) (k0_off58 v180) S1x224x512.size hinb).WholeWords (EltTy.packing .i8)) ∧
  (∀ a, (k0_off59 v180) a + S1x3584x512.size a ≤ S13x3584x4096.size a) ∧
  (∀ (hinb : ∀ a, (k0_off59 v180) a + S1x3584x512.size a ≤ S13x3584x4096.size a), (Rect.unit (s := S13x3584x4096) (k0_off59 v180) S1x3584x512.size hinb).WholeWords (EltTy.packing .i8)) ∧
  (∀ a, (k0_off60 v180) a + S1x224x512.size a ≤ S13x224x4096.size a) ∧
  (∀ (hinb : ∀ a, (k0_off60 v180) a + S1x224x512.size a ≤ S13x224x4096.size a), (Rect.unit (s := S13x224x4096) (k0_off60 v180) S1x224x512.size hinb).WholeWords (EltTy.packing .i8)) ∧
  (∀ a, (k0_off71 v180) a + S1x3584x512.size a ≤ S13x3584x4096.size a) ∧
  (∀ (hinb : ∀ a, (k0_off71 v180) a + S1x3584x512.size a ≤ S13x3584x4096.size a), (Rect.unit (s := S13x3584x4096) (k0_off71 v180) S1x3584x512.size hinb).WholeWords (EltTy.packing .i8)) ∧
  (∀ a, (k0_off72 v180) a + S1x224x512.size a ≤ S13x224x4096.size a) ∧
  (∀ (hinb : ∀ a, (k0_off72 v180) a + S1x224x512.size a ≤ S13x224x4096.size a), (Rect.unit (s := S13x224x4096) (k0_off72 v180) S1x224x512.size hinb).WholeWords (EltTy.packing .i8)) ∧
  (∀ a, (k0_off73 v180) a + S1x3584x512.size a ≤ S13x3584x4096.size a) ∧
  (∀ (hinb : ∀ a, (k0_off73 v180) a + S1x3584x512.size a ≤ S13x3584x4096.size a), (Rect.unit (s := S13x3584x4096) (k0_off73 v180) S1x3584x512.size hinb).WholeWords (EltTy.packing .i8)) ∧
  (∀ a, (k0_off74 v180) a + S1x224x512.size a ≤ S13x224x4096.size a) ∧
  (∀ (hinb : ∀ a, (k0_off74 v180) a + S1x224x512.size a ≤ S13x224x4096.size a), (Rect.unit (s := S13x224x4096) (k0_off74 v180) S1x224x512.size hinb).WholeWords (EltTy.packing .i8))
def k0_chk5_1 (v180 : BitVec 32) : Prop :=
  (∀ a, (k0_off85 v180) a + S1x1024x3584.size a ≤ S13x1024x7168.size a) ∧
  (∀ (hinb : ∀ a, (k0_off85 v180) a + S1x1024x3584.size a ≤ S13x1024x7168.size a), (Rect.unit (s := S13x1024x7168) (k0_off85 v180) S1x1024x3584.size hinb).WholeWords (EltTy.packing .i8)) ∧
  (∀ a, (k0_off86 v180) a + S1x64x3584.size a ≤ S13x64x7168.size a) ∧
  (∀ (hinb : ∀ a, (k0_off86 v180) a + S1x64x3584.size a ≤ S13x64x7168.size a), (Rect.unit (s := S13x64x7168) (k0_off86 v180) S1x64x3584.size hinb).WholeWords (EltTy.packing .i8)) ∧
  (∀ a, (k0_off93 v180) a + S1x1024x3584.size a ≤ S13x1024x7168.size a) ∧
  (∀ (hinb : ∀ a, (k0_off93 v180) a + S1x1024x3584.size a ≤ S13x1024x7168.size a), (Rect.unit (s := S13x1024x7168) (k0_off93 v180) S1x1024x3584.size hinb).WholeWords (EltTy.packing .i8)) ∧
  (∀ a, (k0_off94 v180) a + S1x64x3584.size a ≤ S13x64x7168.size a) ∧
  (∀ (hinb : ∀ a, (k0_off94 v180) a + S1x64x3584.size a ≤ S13x64x7168.size a), (Rect.unit (s := S13x64x7168) (k0_off94 v180) S1x64x3584.size hinb).WholeWords (EltTy.packing .i8))
def k0_chk5 (v180 : BitVec 32) : Prop :=
  k0_chk5_0 v180 ∧
  k0_chk5_1 v180
theorem k0_off29_inb : ∀ (v180 : BitVec 32) (k0_hw5 : k0_chk5 v180), ∀ a, (k0_off29 v180) a + S1x3584x512.size a ≤ S13x3584x4096.size a := fun v180 k0_hw5 => k0_hw5.1.1
theorem k0_off29_wordsi8 : ∀ (v180 : BitVec 32) (k0_hw5 : k0_chk5 v180), (Rect.unit (s := S13x3584x4096) (k0_off29 v180) S1x3584x512.size (k0_off29_inb v180 k0_hw5)).WholeWords (EltTy.packing .i8) := fun v180 k0_hw5 => k0_hw5.1.2.1 (k0_off29_inb v180 k0_hw5)
theorem k0_off30_inb : ∀ (v180 : BitVec 32) (k0_hw5 : k0_chk5 v180), ∀ a, (k0_off30 v180) a + S1x224x512.size a ≤ S13x224x4096.size a := fun v180 k0_hw5 => k0_hw5.1.2.2.1
theorem k0_off30_wordsi8 : ∀ (v180 : BitVec 32) (k0_hw5 : k0_chk5 v180), (Rect.unit (s := S13x224x4096) (k0_off30 v180) S1x224x512.size (k0_off30_inb v180 k0_hw5)).WholeWords (EltTy.packing .i8) := fun v180 k0_hw5 => k0_hw5.1.2.2.2.1 (k0_off30_inb v180 k0_hw5)
theorem k0_off31_inb : ∀ (v180 : BitVec 32) (k0_hw5 : k0_chk5 v180), ∀ a, (k0_off31 v180) a + S1x3584x512.size a ≤ S13x3584x4096.size a := fun v180 k0_hw5 => k0_hw5.1.2.2.2.2.1
theorem k0_off31_wordsi8 : ∀ (v180 : BitVec 32) (k0_hw5 : k0_chk5 v180), (Rect.unit (s := S13x3584x4096) (k0_off31 v180) S1x3584x512.size (k0_off31_inb v180 k0_hw5)).WholeWords (EltTy.packing .i8) := fun v180 k0_hw5 => k0_hw5.1.2.2.2.2.2.1 (k0_off31_inb v180 k0_hw5)
theorem k0_off32_inb : ∀ (v180 : BitVec 32) (k0_hw5 : k0_chk5 v180), ∀ a, (k0_off32 v180) a + S1x224x512.size a ≤ S13x224x4096.size a := fun v180 k0_hw5 => k0_hw5.1.2.2.2.2.2.2.1
theorem k0_off32_wordsi8 : ∀ (v180 : BitVec 32) (k0_hw5 : k0_chk5 v180), (Rect.unit (s := S13x224x4096) (k0_off32 v180) S1x224x512.size (k0_off32_inb v180 k0_hw5)).WholeWords (EltTy.packing .i8) := fun v180 k0_hw5 => k0_hw5.1.2.2.2.2.2.2.2.1 (k0_off32_inb v180 k0_hw5)
theorem k0_off43_inb : ∀ (v180 : BitVec 32) (k0_hw5 : k0_chk5 v180), ∀ a, (k0_off43 v180) a + S1x3584x512.size a ≤ S13x3584x4096.size a := fun v180 k0_hw5 => k0_hw5.1.2.2.2.2.2.2.2.2.1
theorem k0_off43_wordsi8 : ∀ (v180 : BitVec 32) (k0_hw5 : k0_chk5 v180), (Rect.unit (s := S13x3584x4096) (k0_off43 v180) S1x3584x512.size (k0_off43_inb v180 k0_hw5)).WholeWords (EltTy.packing .i8) := fun v180 k0_hw5 => k0_hw5.1.2.2.2.2.2.2.2.2.2.1 (k0_off43_inb v180 k0_hw5)
theorem k0_off44_inb : ∀ (v180 : BitVec 32) (k0_hw5 : k0_chk5 v180), ∀ a, (k0_off44 v180) a + S1x224x512.size a ≤ S13x224x4096.size a := fun v180 k0_hw5 => k0_hw5.1.2.2.2.2.2.2.2.2.2.2.1
theorem k0_off44_wordsi8 : ∀ (v180 : BitVec 32) (k0_hw5 : k0_chk5 v180), (Rect.unit (s := S13x224x4096) (k0_off44 v180) S1x224x512.size (k0_off44_inb v180 k0_hw5)).WholeWords (EltTy.packing .i8) := fun v180 k0_hw5 => k0_hw5.1.2.2.2.2.2.2.2.2.2.2.2.1 (k0_off44_inb v180 k0_hw5)
theorem k0_off45_inb : ∀ (v180 : BitVec 32) (k0_hw5 : k0_chk5 v180), ∀ a, (k0_off45 v180) a + S1x3584x512.size a ≤ S13x3584x4096.size a := fun v180 k0_hw5 => k0_hw5.1.2.2.2.2.2.2.2.2.2.2.2.2.1
theorem k0_off45_wordsi8 : ∀ (v180 : BitVec 32) (k0_hw5 : k0_chk5 v180), (Rect.unit (s := S13x3584x4096) (k0_off45 v180) S1x3584x512.size (k0_off45_inb v180 k0_hw5)).WholeWords (EltTy.packing .i8) := fun v180 k0_hw5 => k0_hw5.1.2.2.2.2.2.2.2.2.2.2.2.2.2.1 (k0_off45_inb v180 k0_hw5)
theorem k0_off46_inb : ∀ (v180 : BitVec 32) (k0_hw5 : k0_chk5 v180), ∀ a, (k0_off46 v180) a + S1x224x512.size a ≤ S13x224x4096.size a := fun v180 k0_hw5 => k0_hw5.1.2.2.2.2.2.2.2.2.2.2.2.2.2.2.1
theorem k0_off46_wordsi8 : ∀ (v180 : BitVec 32) (k0_hw5 : k0_chk5 v180), (Rect.unit (s := S13x224x4096) (k0_off46 v180) S1x224x512.size (k0_off46_inb v180 k0_hw5)).WholeWords (EltTy.packing .i8) := fun v180 k0_hw5 => k0_hw5.1.2.2.2.2.2.2.2.2.2.2.2.2.2.2.2.1 (k0_off46_inb v180 k0_hw5)
theorem k0_off57_inb : ∀ (v180 : BitVec 32) (k0_hw5 : k0_chk5 v180), ∀ a, (k0_off57 v180) a + S1x3584x512.size a ≤ S13x3584x4096.size a := fun v180 k0_hw5 => k0_hw5.1.2.2.2.2.2.2.2.2.2.2.2.2.2.2.2.2.1
theorem k0_off57_wordsi8 : ∀ (v180 : BitVec 32) (k0_hw5 : k0_chk5 v180), (Rect.unit (s := S13x3584x4096) (k0_off57 v180) S1x3584x512.size (k0_off57_inb v180 k0_hw5)).WholeWords (EltTy.packing .i8) := fun v180 k0_hw5 => k0_hw5.1.2.2.2.2.2.2.2.2.2.2.2.2.2.2.2.2.2.1 (k0_off57_inb v180 k0_hw5)
theorem k0_off58_inb : ∀ (v180 : BitVec 32) (k0_hw5 : k0_chk5 v180), ∀ a, (k0_off58 v180) a + S1x224x512.size a ≤ S13x224x4096.size a := fun v180 k0_hw5 => k0_hw5.1.2.2.2.2.2.2.2.2.2.2.2.2.2.2.2.2.2.2.1
theorem k0_off58_wordsi8 : ∀ (v180 : BitVec 32) (k0_hw5 : k0_chk5 v180), (Rect.unit (s := S13x224x4096) (k0_off58 v180) S1x224x512.size (k0_off58_inb v180 k0_hw5)).WholeWords (EltTy.packing .i8) := fun v180 k0_hw5 => k0_hw5.1.2.2.2.2.2.2.2.2.2.2.2.2.2.2.2.2.2.2.2.1 (k0_off58_inb v180 k0_hw5)
theorem k0_off59_inb : ∀ (v180 : BitVec 32) (k0_hw5 : k0_chk5 v180), ∀ a, (k0_off59 v180) a + S1x3584x512.size a ≤ S13x3584x4096.size a := fun v180 k0_hw5 => k0_hw5.1.2.2.2.2.2.2.2.2.2.2.2.2.2.2.2.2.2.2.2.2.1
theorem k0_off59_wordsi8 : ∀ (v180 : BitVec 32) (k0_hw5 : k0_chk5 v180), (Rect.unit (s := S13x3584x4096) (k0_off59 v180) S1x3584x512.size (k0_off59_inb v180 k0_hw5)).WholeWords (EltTy.packing .i8) := fun v180 k0_hw5 => k0_hw5.1.2.2.2.2.2.2.2.2.2.2.2.2.2.2.2.2.2.2.2.2.2.1 (k0_off59_inb v180 k0_hw5)
theorem k0_off60_inb : ∀ (v180 : BitVec 32) (k0_hw5 : k0_chk5 v180), ∀ a, (k0_off60 v180) a + S1x224x512.size a ≤ S13x224x4096.size a := fun v180 k0_hw5 => k0_hw5.1.2.2.2.2.2.2.2.2.2.2.2.2.2.2.2.2.2.2.2.2.2.2.1
theorem k0_off60_wordsi8 : ∀ (v180 : BitVec 32) (k0_hw5 : k0_chk5 v180), (Rect.unit (s := S13x224x4096) (k0_off60 v180) S1x224x512.size (k0_off60_inb v180 k0_hw5)).WholeWords (EltTy.packing .i8) := fun v180 k0_hw5 => k0_hw5.1.2.2.2.2.2.2.2.2.2.2.2.2.2.2.2.2.2.2.2.2.2.2.2.1 (k0_off60_inb v180 k0_hw5)
theorem k0_off71_inb : ∀ (v180 : BitVec 32) (k0_hw5 : k0_chk5 v180), ∀ a, (k0_off71 v180) a + S1x3584x512.size a ≤ S13x3584x4096.size a := fun v180 k0_hw5 => k0_hw5.1.2.2.2.2.2.2.2.2.2.2.2.2.2.2.2.2.2.2.2.2.2.2.2.2.1
theorem k0_off71_wordsi8 : ∀ (v180 : BitVec 32) (k0_hw5 : k0_chk5 v180), (Rect.unit (s := S13x3584x4096) (k0_off71 v180) S1x3584x512.size (k0_off71_inb v180 k0_hw5)).WholeWords (EltTy.packing .i8) := fun v180 k0_hw5 => k0_hw5.1.2.2.2.2.2.2.2.2.2.2.2.2.2.2.2.2.2.2.2.2.2.2.2.2.2.1 (k0_off71_inb v180 k0_hw5)
theorem k0_off72_inb : ∀ (v180 : BitVec 32) (k0_hw5 : k0_chk5 v180), ∀ a, (k0_off72 v180) a + S1x224x512.size a ≤ S13x224x4096.size a := fun v180 k0_hw5 => k0_hw5.1.2.2.2.2.2.2.2.2.2.2.2.2.2.2.2.2.2.2.2.2.2.2.2.2.2.2.1
theorem k0_off72_wordsi8 : ∀ (v180 : BitVec 32) (k0_hw5 : k0_chk5 v180), (Rect.unit (s := S13x224x4096) (k0_off72 v180) S1x224x512.size (k0_off72_inb v180 k0_hw5)).WholeWords (EltTy.packing .i8) := fun v180 k0_hw5 => k0_hw5.1.2.2.2.2.2.2.2.2.2.2.2.2.2.2.2.2.2.2.2.2.2.2.2.2.2.2.2.1 (k0_off72_inb v180 k0_hw5)
theorem k0_off73_inb : ∀ (v180 : BitVec 32) (k0_hw5 : k0_chk5 v180), ∀ a, (k0_off73 v180) a + S1x3584x512.size a ≤ S13x3584x4096.size a := fun v180 k0_hw5 => k0_hw5.1.2.2.2.2.2.2.2.2.2.2.2.2.2.2.2.2.2.2.2.2.2.2.2.2.2.2.2.2.1
theorem k0_off73_wordsi8 : ∀ (v180 : BitVec 32) (k0_hw5 : k0_chk5 v180), (Rect.unit (s := S13x3584x4096) (k0_off73 v180) S1x3584x512.size (k0_off73_inb v180 k0_hw5)).WholeWords (EltTy.packing .i8) := fun v180 k0_hw5 => k0_hw5.1.2.2.2.2.2.2.2.2.2.2.2.2.2.2.2.2.2.2.2.2.2.2.2.2.2.2.2.2.2.1 (k0_off73_inb v180 k0_hw5)
theorem k0_off74_inb : ∀ (v180 : BitVec 32) (k0_hw5 : k0_chk5 v180), ∀ a, (k0_off74 v180) a + S1x224x512.size a ≤ S13x224x4096.size a := fun v180 k0_hw5 => k0_hw5.1.2.2.2.2.2.2.2.2.2.2.2.2.2.2.2.2.2.2.2.2.2.2.2.2.2.2.2.2.2.2.1
theorem k0_off74_wordsi8 : ∀ (v180 : BitVec 32) (k0_hw5 : k0_chk5 v180), (Rect.unit (s := S13x224x4096) (k0_off74 v180) S1x224x512.size (k0_off74_inb v180 k0_hw5)).WholeWords (EltTy.packing .i8) := fun v180 k0_hw5 => k0_hw5.1.2.2.2.2.2.2.2.2.2.2.2.2.2.2.2.2.2.2.2.2.2.2.2.2.2.2.2.2.2.2.2 (k0_off74_inb v180 k0_hw5)
theorem k0_off85_inb : ∀ (v180 : BitVec 32) (k0_hw5 : k0_chk5 v180), ∀ a, (k0_off85 v180) a + S1x1024x3584.size a ≤ S13x1024x7168.size a := fun v180 k0_hw5 => k0_hw5.2.1
theorem k0_off85_wordsi8 : ∀ (v180 : BitVec 32) (k0_hw5 : k0_chk5 v180), (Rect.unit (s := S13x1024x7168) (k0_off85 v180) S1x1024x3584.size (k0_off85_inb v180 k0_hw5)).WholeWords (EltTy.packing .i8) := fun v180 k0_hw5 => k0_hw5.2.2.1 (k0_off85_inb v180 k0_hw5)
theorem k0_off86_inb : ∀ (v180 : BitVec 32) (k0_hw5 : k0_chk5 v180), ∀ a, (k0_off86 v180) a + S1x64x3584.size a ≤ S13x64x7168.size a := fun v180 k0_hw5 => k0_hw5.2.2.2.1
theorem k0_off86_wordsi8 : ∀ (v180 : BitVec 32) (k0_hw5 : k0_chk5 v180), (Rect.unit (s := S13x64x7168) (k0_off86 v180) S1x64x3584.size (k0_off86_inb v180 k0_hw5)).WholeWords (EltTy.packing .i8) := fun v180 k0_hw5 => k0_hw5.2.2.2.2.1 (k0_off86_inb v180 k0_hw5)
theorem k0_off93_inb : ∀ (v180 : BitVec 32) (k0_hw5 : k0_chk5 v180), ∀ a, (k0_off93 v180) a + S1x1024x3584.size a ≤ S13x1024x7168.size a := fun v180 k0_hw5 => k0_hw5.2.2.2.2.2.1
theorem k0_off93_wordsi8 : ∀ (v180 : BitVec 32) (k0_hw5 : k0_chk5 v180), (Rect.unit (s := S13x1024x7168) (k0_off93 v180) S1x1024x3584.size (k0_off93_inb v180 k0_hw5)).WholeWords (EltTy.packing .i8) := fun v180 k0_hw5 => k0_hw5.2.2.2.2.2.2.1 (k0_off93_inb v180 k0_hw5)
theorem k0_off94_inb : ∀ (v180 : BitVec 32) (k0_hw5 : k0_chk5 v180), ∀ a, (k0_off94 v180) a + S1x64x3584.size a ≤ S13x64x7168.size a := fun v180 k0_hw5 => k0_hw5.2.2.2.2.2.2.2.1
theorem k0_off94_wordsi8 : ∀ (v180 : BitVec 32) (k0_hw5 : k0_chk5 v180), (Rect.unit (s := S13x64x7168) (k0_off94 v180) S1x64x3584.size (k0_off94_inb v180 k0_hw5)).WholeWords (EltTy.packing .i8) := fun v180 k0_hw5 => k0_hw5.2.2.2.2.2.2.2.2 (k0_off94_inb v180 k0_hw5)

@[reducible] def k0_t15_loop : Scf.Loop 32 :=
  let c0_i32_343 : BitVec 32 := 0#32
  let c7_i32_344 : BitVec 32 := 7#32
  let v335 : BitVec 32 := Scalar.addi c0_i32_343 c7_i32_344
  let c1_i32_345 : BitVec 32 := 1#32
  ⟨c0_i32_343, v335, c1_i32_345⟩
def k0_mult18 (k0_t15 : Fin k0_t15_loop.trips) : BitVec 32 :=
  let c0_i32_349 : BitVec 32 := 0#32
  let c0_i32_343 : BitVec 32 := 0#32
  let c1_i32_345 : BitVec 32 := 1#32
  let arg21 : BitVec 32 := Scf.iv c0_i32_343 c1_i32_345 k0_t15
  let c1_i32_348 : BitVec 32 := 1#32
  let v338 : BitVec 32 := Scalar.muli arg21 c1_i32_348
  let v339 : BitVec 32 := Scalar.addi c0_i32_349 v338
  let c512_i32_350 : BitVec 32 := 512#32
  let v340 : BitVec 32 := Scalar.muli v339 c512_i32_350
  v340
@[reducible] def k0_t16_loop : Scf.Loop 32 :=
  let c0_i32_352 : BitVec 32 := 0#32
  let c8_i32 : BitVec 32 := 8#32
  let v343 : BitVec 32 := Scalar.addi c0_i32_352 c8_i32
  let c1_i32_353 : BitVec 32 := 1#32
  ⟨c0_i32_352, v343, c1_i32_353⟩
def k0_mult19 (k0_t16 : Fin k0_t16_loop.trips) : BitVec 32 :=
  let c0_i32_352 : BitVec 32 := 0#32
  let c1_i32_353 : BitVec 32 := 1#32
  let arg22 : BitVec 32 := Scf.iv c0_i32_352 c1_i32_353 k0_t16
  let c128_i32 : BitVec 32 := 128#32
  let v358 : BitVec 32 := Scalar.muli arg22 c128_i32
  v358
def k0_mult20 (k0_t16 : Fin k0_t16_loop.trips) : BitVec 32 :=
  let c0_i32_352 : BitVec 32 := 0#32
  let c1_i32_353 : BitVec 32 := 1#32
  let arg22 : BitVec 32 := Scf.iv c0_i32_352 c1_i32_353 k0_t16
  let c8_i32_364 : BitVec 32 := 8#32
  let v360 : BitVec 32 := Scalar.muli arg22 c8_i32_364
  v360
def k0_off95 (k0_t16 : Fin k0_t16_loop.trips) : Fin 3 → Nat :=
  let c0_i32_352 : BitVec 32 := 0#32
  let c1_i32_353 : BitVec 32 := 1#32
  let arg22 : BitVec 32 := Scf.iv c0_i32_352 c1_i32_353 k0_t16
  let v362 : Index := Scalar.indexCast arg22
  let c0_365 : Index := 0#32
  let c0_366 : Index := 0#32
  ![v362.toNat, 0, 0]
def k0_off96 (k0_t15 : Fin k0_t15_loop.trips) (k0_t16 : Fin k0_t16_loop.trips) : Fin 3 → Nat :=
  let c1_367 : Index := 1#32
  let c0_i32_352 : BitVec 32 := 0#32
  let c1_i32_353 : BitVec 32 := 1#32
  let arg22 : BitVec 32 := Scf.iv c0_i32_352 c1_i32_353 k0_t16
  let c128_i32 : BitVec 32 := 128#32
  let v358 : BitVec 32 := Scalar.muli arg22 c128_i32
  let v359 : BitVec 32 := v358
  let v365 : Index := Scalar.indexCast v359
  let c0_i32_349 : BitVec 32 := 0#32
  let c0_i32_343 : BitVec 32 := 0#32
  let c1_i32_345 : BitVec 32 := 1#32
  let arg21 : BitVec 32 := Scf.iv c0_i32_343 c1_i32_345 k0_t15
  let c1_i32_348 : BitVec 32 := 1#32
  let v338 : BitVec 32 := Scalar.muli arg21 c1_i32_348
  let v339 : BitVec 32 := Scalar.addi c0_i32_349 v338
  let c512_i32_350 : BitVec 32 := 512#32
  let v340 : BitVec 32 := Scalar.muli v339 c512_i32_350
  let v341 : BitVec 32 := v340
  let v366 : Index := Scalar.indexCast v341
  ![1, v365.toNat, v366.toNat]
def k0_off97 (k0_t15 : Fin k0_t15_loop.trips) (k0_t16 : Fin k0_t16_loop.trips) : Fin 3 → Nat :=
  let c1_368 : Index := 1#32
  let c0_i32_352 : BitVec 32 := 0#32
  let c1_i32_353 : BitVec 32 := 1#32
  let arg22 : BitVec 32 := Scf.iv c0_i32_352 c1_i32_353 k0_t16
  let c8_i32_364 : BitVec 32 := 8#32
  let v360 : BitVec 32 := Scalar.muli arg22 c8_i32_364
  let v361 : BitVec 32 := v360
  let v369 : Index := Scalar.indexCast v361
  let c0_i32_349 : BitVec 32 := 0#32
  let c0_i32_343 : BitVec 32 := 0#32
  let c1_i32_345 : BitVec 32 := 1#32
  let arg21 : BitVec 32 := Scf.iv c0_i32_343 c1_i32_345 k0_t15
  let c1_i32_348 : BitVec 32 := 1#32
  let v338 : BitVec 32 := Scalar.muli arg21 c1_i32_348
  let v339 : BitVec 32 := Scalar.addi c0_i32_349 v338
  let c512_i32_350 : BitVec 32 := 512#32
  let v340 : BitVec 32 := Scalar.muli v339 c512_i32_350
  let v341 : BitVec 32 := v340
  let v370 : Index := Scalar.indexCast v341
  ![1, v369.toNat, v370.toNat]
def k0_mult21 (k0_t15 : Fin k0_t15_loop.trips) : BitVec 32 :=
  let c3584_i32_356 : BitVec 32 := 3584#32
  let c0_i32_349 : BitVec 32 := 0#32
  let c0_i32_343 : BitVec 32 := 0#32
  let c1_i32_345 : BitVec 32 := 1#32
  let arg21 : BitVec 32 := Scf.iv c0_i32_343 c1_i32_345 k0_t15
  let c1_i32_348 : BitVec 32 := 1#32
  let v338 : BitVec 32 := Scalar.muli arg21 c1_i32_348
  let v339 : BitVec 32 := Scalar.addi c0_i32_349 v338
  let c512_i32_355 : BitVec 32 := 512#32
  let v345 : BitVec 32 := Scalar.muli v339 c512_i32_355
  let v346 : BitVec 32 := Scalar.addi c3584_i32_356 v345
  v346
def k0_off98 (k0_t15 : Fin k0_t15_loop.trips) : Fin 3 → Nat :=
  let c0_357 : Index := 0#32
  let c0_358 : Index := 0#32
  let c3584_i32_356 : BitVec 32 := 3584#32
  let c0_i32_349 : BitVec 32 := 0#32
  let c0_i32_343 : BitVec 32 := 0#32
  let c1_i32_345 : BitVec 32 := 1#32
  let arg21 : BitVec 32 := Scf.iv c0_i32_343 c1_i32_345 k0_t15
  let c1_i32_348 : BitVec 32 := 1#32
  let v338 : BitVec 32 := Scalar.muli arg21 c1_i32_348
  let v339 : BitVec 32 := Scalar.addi c0_i32_349 v338
  let c512_i32_355 : BitVec 32 := 512#32
  let v345 : BitVec 32 := Scalar.muli v339 c512_i32_355
  let v346 : BitVec 32 := Scalar.addi c3584_i32_356 v345
  let v347 : BitVec 32 := v346
  let v348 : Index := Scalar.indexCast v347
  ![0, 0, v348.toNat]
def k0_off99 (v184 : BitVec 32) : Fin 3 → Nat :=
  let c0_i32_352 : BitVec 32 := 0#32
  let c3584_i32_353 : BitVec 32 := 3584#32
  ![v184.toNat, 0, 3584]
def k0_cond6 (v15 : BitVec 32) (k0_t4 : Fin (k0_t4_loop v15).trips) : BitVec 1 :=
  let c0_i32_159 : BitVec 32 := 0#32
  let c1_i32_161 : BitVec 32 := 1#32
  let arg20 : BitVec 32 := Scf.iv c0_i32_159 c1_i32_161 k0_t4
  let c1_i32_171 : BitVec 32 := 1#32
  let v185 : BitVec 32 := Scalar.addi arg20 c1_i32_171
  let v186 : BitVec 1 := Scalar.cmpi .slt v185 v15
  let v336 : BitVec 32 := Scalar.extui v186
  let c0_i32_347 : BitVec 32 := 0#32
  let v337 : BitVec 1 := Scalar.cmpi .ne v336 c0_i32_347
  v337

def k0_off100 (v184 : BitVec 32) : Fin 3 → Nat :=
  let c0_i32_358 : BitVec 32 := 0#32
  let c3584_i32_359 : BitVec 32 := 3584#32
  ![v184.toNat, 0, 3584]

def k0_chk6_0 (v15 : BitVec 32) (k0_t4 : Fin (k0_t4_loop v15).trips) (v184 : BitVec 32) : Prop :=
  (∀ (k0_h1 : k0_cond1 v15 k0_t4 = 1#1), ∀ a, (k0_off39 v184) a + S1x3584x512.size a ≤ S13x3584x4096.size a) ∧
  (∀ (k0_h1 : k0_cond1 v15 k0_t4 = 1#1), ∀ (hinb : ∀ a, (k0_off39 v184) a + S1x3584x512.size a ≤ S13x3584x4096.size a), (Rect.unit (s := S13x3584x4096) (k0_off39 v184) S1x3584x512.size hinb).WholeWords (EltTy.packing .i8)) ∧
  (∀ (k0_h1 : k0_cond1 v15 k0_t4 = 1#1), ∀ a, (k0_off40 v184) a + S1x224x512.size a ≤ S13x224x4096.size a) ∧
  (∀ (k0_h1 : k0_cond1 v15 k0_t4 = 1#1), ∀ (hinb : ∀ a, (k0_off40 v184) a + S1x224x512.size a ≤ S13x224x4096.size a), (Rect.unit (s := S13x224x4096) (k0_off40 v184) S1x224x512.size hinb).WholeWords (EltTy.packing .i8)) ∧
  (∀ (k0_h1 : k0_cond1 v15 k0_t4 = 1#1), ∀ a, (k0_off41 v184) a + S1x3584x512.size a ≤ S13x3584x4096.size a) ∧
  (∀ (k0_h1 : k0_cond1 v15 k0_t4 = 1#1), ∀ (hinb : ∀ a, (k0_off41 v184) a + S1x3584x512.size a ≤ S13x3584x4096.size a), (Rect.unit (s := S13x3584x4096) (k0_off41 v184) S1x3584x512.size hinb).WholeWords (EltTy.packing .i8)) ∧
  (∀ (k0_h1 : k0_cond1 v15 k0_t4 = 1#1), ∀ a, (k0_off42 v184) a + S1x224x512.size a ≤ S13x224x4096.size a) ∧
  (∀ (k0_h1 : k0_cond1 v15 k0_t4 = 1#1), ∀ (hinb : ∀ a, (k0_off42 v184) a + S1x224x512.size a ≤ S13x224x4096.size a), (Rect.unit (s := S13x224x4096) (k0_off42 v184) S1x224x512.size hinb).WholeWords (EltTy.packing .i8)) ∧
  (∀ (k0_h2 : k0_cond2 v15 k0_t4 = 1#1), ∀ a, (k0_off53 v184) a + S1x3584x512.size a ≤ S13x3584x4096.size a) ∧
  (∀ (k0_h2 : k0_cond2 v15 k0_t4 = 1#1), ∀ (hinb : ∀ a, (k0_off53 v184) a + S1x3584x512.size a ≤ S13x3584x4096.size a), (Rect.unit (s := S13x3584x4096) (k0_off53 v184) S1x3584x512.size hinb).WholeWords (EltTy.packing .i8)) ∧
  (∀ (k0_h2 : k0_cond2 v15 k0_t4 = 1#1), ∀ a, (k0_off54 v184) a + S1x224x512.size a ≤ S13x224x4096.size a) ∧
  (∀ (k0_h2 : k0_cond2 v15 k0_t4 = 1#1), ∀ (hinb : ∀ a, (k0_off54 v184) a + S1x224x512.size a ≤ S13x224x4096.size a), (Rect.unit (s := S13x224x4096) (k0_off54 v184) S1x224x512.size hinb).WholeWords (EltTy.packing .i8)) ∧
  (∀ (k0_h2 : k0_cond2 v15 k0_t4 = 1#1), ∀ a, (k0_off55 v184) a + S1x3584x512.size a ≤ S13x3584x4096.size a) ∧
  (∀ (k0_h2 : k0_cond2 v15 k0_t4 = 1#1), ∀ (hinb : ∀ a, (k0_off55 v184) a + S1x3584x512.size a ≤ S13x3584x4096.size a), (Rect.unit (s := S13x3584x4096) (k0_off55 v184) S1x3584x512.size hinb).WholeWords (EltTy.packing .i8)) ∧
  (∀ (k0_h2 : k0_cond2 v15 k0_t4 = 1#1), ∀ a, (k0_off56 v184) a + S1x224x512.size a ≤ S13x224x4096.size a) ∧
  (∀ (k0_h2 : k0_cond2 v15 k0_t4 = 1#1), ∀ (hinb : ∀ a, (k0_off56 v184) a + S1x224x512.size a ≤ S13x224x4096.size a), (Rect.unit (s := S13x224x4096) (k0_off56 v184) S1x224x512.size hinb).WholeWords (EltTy.packing .i8)) ∧
  (∀ (k0_h3 : k0_cond3 v15 k0_t4 = 1#1), ∀ a, (k0_off67 v184) a + S1x3584x512.size a ≤ S13x3584x4096.size a) ∧
  (∀ (k0_h3 : k0_cond3 v15 k0_t4 = 1#1), ∀ (hinb : ∀ a, (k0_off67 v184) a + S1x3584x512.size a ≤ S13x3584x4096.size a), (Rect.unit (s := S13x3584x4096) (k0_off67 v184) S1x3584x512.size hinb).WholeWords (EltTy.packing .i8)) ∧
  (∀ (k0_h3 : k0_cond3 v15 k0_t4 = 1#1), ∀ a, (k0_off68 v184) a + S1x224x512.size a ≤ S13x224x4096.size a) ∧
  (∀ (k0_h3 : k0_cond3 v15 k0_t4 = 1#1), ∀ (hinb : ∀ a, (k0_off68 v184) a + S1x224x512.size a ≤ S13x224x4096.size a), (Rect.unit (s := S13x224x4096) (k0_off68 v184) S1x224x512.size hinb).WholeWords (EltTy.packing .i8)) ∧
  (∀ (k0_h3 : k0_cond3 v15 k0_t4 = 1#1), ∀ a, (k0_off69 v184) a + S1x3584x512.size a ≤ S13x3584x4096.size a) ∧
  (∀ (k0_h3 : k0_cond3 v15 k0_t4 = 1#1), ∀ (hinb : ∀ a, (k0_off69 v184) a + S1x3584x512.size a ≤ S13x3584x4096.size a), (Rect.unit (s := S13x3584x4096) (k0_off69 v184) S1x3584x512.size hinb).WholeWords (EltTy.packing .i8)) ∧
  (∀ (k0_h3 : k0_cond3 v15 k0_t4 = 1#1), ∀ a, (k0_off70 v184) a + S1x224x512.size a ≤ S13x224x4096.size a) ∧
  (∀ (k0_h3 : k0_cond3 v15 k0_t4 = 1#1), ∀ (hinb : ∀ a, (k0_off70 v184) a + S1x224x512.size a ≤ S13x224x4096.size a), (Rect.unit (s := S13x224x4096) (k0_off70 v184) S1x224x512.size hinb).WholeWords (EltTy.packing .i8)) ∧
  (∀ (k0_h4 : k0_cond4 v15 k0_t4 = 1#1), ∀ a, (k0_off81 v184) a + S1x3584x512.size a ≤ S13x3584x4096.size a) ∧
  (∀ (k0_h4 : k0_cond4 v15 k0_t4 = 1#1), ∀ (hinb : ∀ a, (k0_off81 v184) a + S1x3584x512.size a ≤ S13x3584x4096.size a), (Rect.unit (s := S13x3584x4096) (k0_off81 v184) S1x3584x512.size hinb).WholeWords (EltTy.packing .i8)) ∧
  (∀ (k0_h4 : k0_cond4 v15 k0_t4 = 1#1), ∀ a, (k0_off82 v184) a + S1x224x512.size a ≤ S13x224x4096.size a) ∧
  (∀ (k0_h4 : k0_cond4 v15 k0_t4 = 1#1), ∀ (hinb : ∀ a, (k0_off82 v184) a + S1x224x512.size a ≤ S13x224x4096.size a), (Rect.unit (s := S13x224x4096) (k0_off82 v184) S1x224x512.size hinb).WholeWords (EltTy.packing .i8)) ∧
  (∀ (k0_h4 : k0_cond4 v15 k0_t4 = 1#1), ∀ a, (k0_off83 v184) a + S1x3584x512.size a ≤ S13x3584x4096.size a) ∧
  (∀ (k0_h4 : k0_cond4 v15 k0_t4 = 1#1), ∀ (hinb : ∀ a, (k0_off83 v184) a + S1x3584x512.size a ≤ S13x3584x4096.size a), (Rect.unit (s := S13x3584x4096) (k0_off83 v184) S1x3584x512.size hinb).WholeWords (EltTy.packing .i8)) ∧
  (∀ (k0_h4 : k0_cond4 v15 k0_t4 = 1#1), ∀ a, (k0_off84 v184) a + S1x224x512.size a ≤ S13x224x4096.size a) ∧
  (∀ (k0_h4 : k0_cond4 v15 k0_t4 = 1#1), ∀ (hinb : ∀ a, (k0_off84 v184) a + S1x224x512.size a ≤ S13x224x4096.size a), (Rect.unit (s := S13x224x4096) (k0_off84 v184) S1x224x512.size hinb).WholeWords (EltTy.packing .i8))
def k0_chk6_1 (v15 : BitVec 32) (k0_t4 : Fin (k0_t4_loop v15).trips) (v184 : BitVec 32) : Prop :=
  (∀ (k0_h5 : k0_cond5 v15 k0_t4 = 1#1), ∀ a, (k0_off91 v184) a + S1x1024x3584.size a ≤ S13x1024x7168.size a) ∧
  (∀ (k0_h5 : k0_cond5 v15 k0_t4 = 1#1), ∀ (hinb : ∀ a, (k0_off91 v184) a + S1x1024x3584.size a ≤ S13x1024x7168.size a), (Rect.unit (s := S13x1024x7168) (k0_off91 v184) S1x1024x3584.size hinb).WholeWords (EltTy.packing .i8)) ∧
  (∀ (k0_h5 : k0_cond5 v15 k0_t4 = 1#1), ∀ a, (k0_off92 v184) a + S1x64x3584.size a ≤ S13x64x7168.size a) ∧
  (∀ (k0_h5 : k0_cond5 v15 k0_t4 = 1#1), ∀ (hinb : ∀ a, (k0_off92 v184) a + S1x64x3584.size a ≤ S13x64x7168.size a), (Rect.unit (s := S13x64x7168) (k0_off92 v184) S1x64x3584.size hinb).WholeWords (EltTy.packing .i8)) ∧
  (∀ (k0_h6 : k0_cond6 v15 k0_t4 = 1#1), ∀ a, (k0_off99 v184) a + S1x1024x3584.size a ≤ S13x1024x7168.size a) ∧
  (∀ (k0_h6 : k0_cond6 v15 k0_t4 = 1#1), ∀ (hinb : ∀ a, (k0_off99 v184) a + S1x1024x3584.size a ≤ S13x1024x7168.size a), (Rect.unit (s := S13x1024x7168) (k0_off99 v184) S1x1024x3584.size hinb).WholeWords (EltTy.packing .i8)) ∧
  (∀ (k0_h6 : k0_cond6 v15 k0_t4 = 1#1), ∀ a, (k0_off100 v184) a + S1x64x3584.size a ≤ S13x64x7168.size a) ∧
  (∀ (k0_h6 : k0_cond6 v15 k0_t4 = 1#1), ∀ (hinb : ∀ a, (k0_off100 v184) a + S1x64x3584.size a ≤ S13x64x7168.size a), (Rect.unit (s := S13x64x7168) (k0_off100 v184) S1x64x3584.size hinb).WholeWords (EltTy.packing .i8))
def k0_chk6 (v15 : BitVec 32) (k0_t4 : Fin (k0_t4_loop v15).trips) (v184 : BitVec 32) : Prop :=
  k0_chk6_0 v15 k0_t4 v184 ∧
  k0_chk6_1 v15 k0_t4 v184
theorem k0_off39_inb : ∀ (v15 : BitVec 32) (k0_t4 : Fin (k0_t4_loop v15).trips) (v184 : BitVec 32) (k0_hw6 : k0_chk6 v15 k0_t4 v184), ∀ (k0_h1 : k0_cond1 v15 k0_t4 = 1#1), ∀ a, (k0_off39 v184) a + S1x3584x512.size a ≤ S13x3584x4096.size a := fun v15 k0_t4 v184 k0_hw6 k0_h1 => k0_hw6.1.1 k0_h1
theorem k0_off39_wordsi8 : ∀ (v15 : BitVec 32) (k0_t4 : Fin (k0_t4_loop v15).trips) (v184 : BitVec 32) (k0_hw6 : k0_chk6 v15 k0_t4 v184), ∀ (k0_h1 : k0_cond1 v15 k0_t4 = 1#1), (Rect.unit (s := S13x3584x4096) (k0_off39 v184) S1x3584x512.size (k0_off39_inb v15 k0_t4 v184 k0_hw6 k0_h1)).WholeWords (EltTy.packing .i8) := fun v15 k0_t4 v184 k0_hw6 k0_h1 => k0_hw6.1.2.1 k0_h1 (k0_off39_inb v15 k0_t4 v184 k0_hw6 k0_h1)
theorem k0_off40_inb : ∀ (v15 : BitVec 32) (k0_t4 : Fin (k0_t4_loop v15).trips) (v184 : BitVec 32) (k0_hw6 : k0_chk6 v15 k0_t4 v184), ∀ (k0_h1 : k0_cond1 v15 k0_t4 = 1#1), ∀ a, (k0_off40 v184) a + S1x224x512.size a ≤ S13x224x4096.size a := fun v15 k0_t4 v184 k0_hw6 k0_h1 => k0_hw6.1.2.2.1 k0_h1
theorem k0_off40_wordsi8 : ∀ (v15 : BitVec 32) (k0_t4 : Fin (k0_t4_loop v15).trips) (v184 : BitVec 32) (k0_hw6 : k0_chk6 v15 k0_t4 v184), ∀ (k0_h1 : k0_cond1 v15 k0_t4 = 1#1), (Rect.unit (s := S13x224x4096) (k0_off40 v184) S1x224x512.size (k0_off40_inb v15 k0_t4 v184 k0_hw6 k0_h1)).WholeWords (EltTy.packing .i8) := fun v15 k0_t4 v184 k0_hw6 k0_h1 => k0_hw6.1.2.2.2.1 k0_h1 (k0_off40_inb v15 k0_t4 v184 k0_hw6 k0_h1)
theorem k0_off41_inb : ∀ (v15 : BitVec 32) (k0_t4 : Fin (k0_t4_loop v15).trips) (v184 : BitVec 32) (k0_hw6 : k0_chk6 v15 k0_t4 v184), ∀ (k0_h1 : k0_cond1 v15 k0_t4 = 1#1), ∀ a, (k0_off41 v184) a + S1x3584x512.size a ≤ S13x3584x4096.size a := fun v15 k0_t4 v184 k0_hw6 k0_h1 => k0_hw6.1.2.2.2.2.1 k0_h1
theorem k0_off41_wordsi8 : ∀ (v15 : BitVec 32) (k0_t4 : Fin (k0_t4_loop v15).trips) (v184 : BitVec 32) (k0_hw6 : k0_chk6 v15 k0_t4 v184), ∀ (k0_h1 : k0_cond1 v15 k0_t4 = 1#1), (Rect.unit (s := S13x3584x4096) (k0_off41 v184) S1x3584x512.size (k0_off41_inb v15 k0_t4 v184 k0_hw6 k0_h1)).WholeWords (EltTy.packing .i8) := fun v15 k0_t4 v184 k0_hw6 k0_h1 => k0_hw6.1.2.2.2.2.2.1 k0_h1 (k0_off41_inb v15 k0_t4 v184 k0_hw6 k0_h1)
theorem k0_off42_inb : ∀ (v15 : BitVec 32) (k0_t4 : Fin (k0_t4_loop v15).trips) (v184 : BitVec 32) (k0_hw6 : k0_chk6 v15 k0_t4 v184), ∀ (k0_h1 : k0_cond1 v15 k0_t4 = 1#1), ∀ a, (k0_off42 v184) a + S1x224x512.size a ≤ S13x224x4096.size a := fun v15 k0_t4 v184 k0_hw6 k0_h1 => k0_hw6.1.2.2.2.2.2.2.1 k0_h1
theorem k0_off42_wordsi8 : ∀ (v15 : BitVec 32) (k0_t4 : Fin (k0_t4_loop v15).trips) (v184 : BitVec 32) (k0_hw6 : k0_chk6 v15 k0_t4 v184), ∀ (k0_h1 : k0_cond1 v15 k0_t4 = 1#1), (Rect.unit (s := S13x224x4096) (k0_off42 v184) S1x224x512.size (k0_off42_inb v15 k0_t4 v184 k0_hw6 k0_h1)).WholeWords (EltTy.packing .i8) := fun v15 k0_t4 v184 k0_hw6 k0_h1 => k0_hw6.1.2.2.2.2.2.2.2.1 k0_h1 (k0_off42_inb v15 k0_t4 v184 k0_hw6 k0_h1)
theorem k0_off53_inb : ∀ (v15 : BitVec 32) (k0_t4 : Fin (k0_t4_loop v15).trips) (v184 : BitVec 32) (k0_hw6 : k0_chk6 v15 k0_t4 v184), ∀ (k0_h2 : k0_cond2 v15 k0_t4 = 1#1), ∀ a, (k0_off53 v184) a + S1x3584x512.size a ≤ S13x3584x4096.size a := fun v15 k0_t4 v184 k0_hw6 k0_h2 => k0_hw6.1.2.2.2.2.2.2.2.2.1 k0_h2
theorem k0_off53_wordsi8 : ∀ (v15 : BitVec 32) (k0_t4 : Fin (k0_t4_loop v15).trips) (v184 : BitVec 32) (k0_hw6 : k0_chk6 v15 k0_t4 v184), ∀ (k0_h2 : k0_cond2 v15 k0_t4 = 1#1), (Rect.unit (s := S13x3584x4096) (k0_off53 v184) S1x3584x512.size (k0_off53_inb v15 k0_t4 v184 k0_hw6 k0_h2)).WholeWords (EltTy.packing .i8) := fun v15 k0_t4 v184 k0_hw6 k0_h2 => k0_hw6.1.2.2.2.2.2.2.2.2.2.1 k0_h2 (k0_off53_inb v15 k0_t4 v184 k0_hw6 k0_h2)
theorem k0_off54_inb : ∀ (v15 : BitVec 32) (k0_t4 : Fin (k0_t4_loop v15).trips) (v184 : BitVec 32) (k0_hw6 : k0_chk6 v15 k0_t4 v184), ∀ (k0_h2 : k0_cond2 v15 k0_t4 = 1#1), ∀ a, (k0_off54 v184) a + S1x224x512.size a ≤ S13x224x4096.size a := fun v15 k0_t4 v184 k0_hw6 k0_h2 => k0_hw6.1.2.2.2.2.2.2.2.2.2.2.1 k0_h2
theorem k0_off54_wordsi8 : ∀ (v15 : BitVec 32) (k0_t4 : Fin (k0_t4_loop v15).trips) (v184 : BitVec 32) (k0_hw6 : k0_chk6 v15 k0_t4 v184), ∀ (k0_h2 : k0_cond2 v15 k0_t4 = 1#1), (Rect.unit (s := S13x224x4096) (k0_off54 v184) S1x224x512.size (k0_off54_inb v15 k0_t4 v184 k0_hw6 k0_h2)).WholeWords (EltTy.packing .i8) := fun v15 k0_t4 v184 k0_hw6 k0_h2 => k0_hw6.1.2.2.2.2.2.2.2.2.2.2.2.1 k0_h2 (k0_off54_inb v15 k0_t4 v184 k0_hw6 k0_h2)
theorem k0_off55_inb : ∀ (v15 : BitVec 32) (k0_t4 : Fin (k0_t4_loop v15).trips) (v184 : BitVec 32) (k0_hw6 : k0_chk6 v15 k0_t4 v184), ∀ (k0_h2 : k0_cond2 v15 k0_t4 = 1#1), ∀ a, (k0_off55 v184) a + S1x3584x512.size a ≤ S13x3584x4096.size a := fun v15 k0_t4 v184 k0_hw6 k0_h2 => k0_hw6.1.2.2.2.2.2.2.2.2.2.2.2.2.1 k0_h2
theorem k0_off55_wordsi8 : ∀ (v15 : BitVec 32) (k0_t4 : Fin (k0_t4_loop v15).trips) (v184 : BitVec 32) (k0_hw6 : k0_chk6 v15 k0_t4 v184), ∀ (k0_h2 : k0_cond2 v15 k0_t4 = 1#1), (Rect.unit (s := S13x3584x4096) (k0_off55 v184) S1x3584x512.size (k0_off55_inb v15 k0_t4 v184 k0_hw6 k0_h2)).WholeWords (EltTy.packing .i8) := fun v15 k0_t4 v184 k0_hw6 k0_h2 => k0_hw6.1.2.2.2.2.2.2.2.2.2.2.2.2.2.1 k0_h2 (k0_off55_inb v15 k0_t4 v184 k0_hw6 k0_h2)
theorem k0_off56_inb : ∀ (v15 : BitVec 32) (k0_t4 : Fin (k0_t4_loop v15).trips) (v184 : BitVec 32) (k0_hw6 : k0_chk6 v15 k0_t4 v184), ∀ (k0_h2 : k0_cond2 v15 k0_t4 = 1#1), ∀ a, (k0_off56 v184) a + S1x224x512.size a ≤ S13x224x4096.size a := fun v15 k0_t4 v184 k0_hw6 k0_h2 => k0_hw6.1.2.2.2.2.2.2.2.2.2.2.2.2.2.2.1 k0_h2
theorem k0_off56_wordsi8 : ∀ (v15 : BitVec 32) (k0_t4 : Fin (k0_t4_loop v15).trips) (v184 : BitVec 32) (k0_hw6 : k0_chk6 v15 k0_t4 v184), ∀ (k0_h2 : k0_cond2 v15 k0_t4 = 1#1), (Rect.unit (s := S13x224x4096) (k0_off56 v184) S1x224x512.size (k0_off56_inb v15 k0_t4 v184 k0_hw6 k0_h2)).WholeWords (EltTy.packing .i8) := fun v15 k0_t4 v184 k0_hw6 k0_h2 => k0_hw6.1.2.2.2.2.2.2.2.2.2.2.2.2.2.2.2.1 k0_h2 (k0_off56_inb v15 k0_t4 v184 k0_hw6 k0_h2)
theorem k0_off67_inb : ∀ (v15 : BitVec 32) (k0_t4 : Fin (k0_t4_loop v15).trips) (v184 : BitVec 32) (k0_hw6 : k0_chk6 v15 k0_t4 v184), ∀ (k0_h3 : k0_cond3 v15 k0_t4 = 1#1), ∀ a, (k0_off67 v184) a + S1x3584x512.size a ≤ S13x3584x4096.size a := fun v15 k0_t4 v184 k0_hw6 k0_h3 => k0_hw6.1.2.2.2.2.2.2.2.2.2.2.2.2.2.2.2.2.1 k0_h3
theorem k0_off67_wordsi8 : ∀ (v15 : BitVec 32) (k0_t4 : Fin (k0_t4_loop v15).trips) (v184 : BitVec 32) (k0_hw6 : k0_chk6 v15 k0_t4 v184), ∀ (k0_h3 : k0_cond3 v15 k0_t4 = 1#1), (Rect.unit (s := S13x3584x4096) (k0_off67 v184) S1x3584x512.size (k0_off67_inb v15 k0_t4 v184 k0_hw6 k0_h3)).WholeWords (EltTy.packing .i8) := fun v15 k0_t4 v184 k0_hw6 k0_h3 => k0_hw6.1.2.2.2.2.2.2.2.2.2.2.2.2.2.2.2.2.2.1 k0_h3 (k0_off67_inb v15 k0_t4 v184 k0_hw6 k0_h3)
theorem k0_off68_inb : ∀ (v15 : BitVec 32) (k0_t4 : Fin (k0_t4_loop v15).trips) (v184 : BitVec 32) (k0_hw6 : k0_chk6 v15 k0_t4 v184), ∀ (k0_h3 : k0_cond3 v15 k0_t4 = 1#1), ∀ a, (k0_off68 v184) a + S1x224x512.size a ≤ S13x224x4096.size a := fun v15 k0_t4 v184 k0_hw6 k0_h3 => k0_hw6.1.2.2.2.2.2.2.2.2.2.2.2.2.2.2.2.2.2.2.1 k0_h3
theorem k0_off68_wordsi8 : ∀ (v15 : BitVec 32) (k0_t4 : Fin (k0_t4_loop v15).trips) (v184 : BitVec 32) (k0_hw6 : k0_chk6 v15 k0_t4 v184), ∀ (k0_h3 : k0_cond3 v15 k0_t4 = 1#1), (Rect.unit (s := S13x224x4096) (k0_off68 v184) S1x224x512.size (k0_off68_inb v15 k0_t4 v184 k0_hw6 k0_h3)).WholeWords (EltTy.packing .i8) := fun v15 k0_t4 v184 k0_hw6 k0_h3 => k0_hw6.1.2.2.2.2.2.2.2.2.2.2.2.2.2.2.2.2.2.2.2.1 k0_h3 (k0_off68_inb v15 k0_t4 v184 k0_hw6 k0_h3)
theorem k0_off69_inb : ∀ (v15 : BitVec 32) (k0_t4 : Fin (k0_t4_loop v15).trips) (v184 : BitVec 32) (k0_hw6 : k0_chk6 v15 k0_t4 v184), ∀ (k0_h3 : k0_cond3 v15 k0_t4 = 1#1), ∀ a, (k0_off69 v184) a + S1x3584x512.size a ≤ S13x3584x4096.size a := fun v15 k0_t4 v184 k0_hw6 k0_h3 => k0_hw6.1.2.2.2.2.2.2.2.2.2.2.2.2.2.2.2.2.2.2.2.2.1 k0_h3
theorem k0_off69_wordsi8 : ∀ (v15 : BitVec 32) (k0_t4 : Fin (k0_t4_loop v15).trips) (v184 : BitVec 32) (k0_hw6 : k0_chk6 v15 k0_t4 v184), ∀ (k0_h3 : k0_cond3 v15 k0_t4 = 1#1), (Rect.unit (s := S13x3584x4096) (k0_off69 v184) S1x3584x512.size (k0_off69_inb v15 k0_t4 v184 k0_hw6 k0_h3)).WholeWords (EltTy.packing .i8) := fun v15 k0_t4 v184 k0_hw6 k0_h3 => k0_hw6.1.2.2.2.2.2.2.2.2.2.2.2.2.2.2.2.2.2.2.2.2.2.1 k0_h3 (k0_off69_inb v15 k0_t4 v184 k0_hw6 k0_h3)
theorem k0_off70_inb : ∀ (v15 : BitVec 32) (k0_t4 : Fin (k0_t4_loop v15).trips) (v184 : BitVec 32) (k0_hw6 : k0_chk6 v15 k0_t4 v184), ∀ (k0_h3 : k0_cond3 v15 k0_t4 = 1#1), ∀ a, (k0_off70 v184) a + S1x224x512.size a ≤ S13x224x4096.size a := fun v15 k0_t4 v184 k0_hw6 k0_h3 => k0_hw6.1.2.2.2.2.2.2.2.2.2.2.2.2.2.2.2.2.2.2.2.2.2.2.1 k0_h3
theorem k0_off70_wordsi8 : ∀ (v15 : BitVec 32) (k0_t4 : Fin (k0_t4_loop v15).trips) (v184 : BitVec 32) (k0_hw6 : k0_chk6 v15 k0_t4 v184), ∀ (k0_h3 : k0_cond3 v15 k0_t4 = 1#1), (Rect.unit (s := S13x224x4096) (k0_off70 v184) S1x224x512.size (k0_off70_inb v15 k0_t4 v184 k0_hw6 k0_h3)).WholeWords (EltTy.packing .i8) := fun v15 k0_t4 v184 k0_hw6 k0_h3 => k0_hw6.1.2.2.2.2.2.2.2.2.2.2.2.2.2.2.2.2.2.2.2.2.2.2.2.1 k0_h3 (k0_off70_inb v15 k0_t4 v184 k0_hw6 k0_h3)
theorem k0_off81_inb : ∀ (v15 : BitVec 32) (k0_t4 : Fin (k0_t4_loop v15).trips) (v184 : BitVec 32) (k0_hw6 : k0_chk6 v15 k0_t4 v184), ∀ (k0_h4 : k0_cond4 v15 k0_t4 = 1#1), ∀ a, (k0_off81 v184) a + S1x3584x512.size a ≤ S13x3584x4096.size a := fun v15 k0_t4 v184 k0_hw6 k0_h4 => k0_hw6.1.2.2.2.2.2.2.2.2.2.2.2.2.2.2.2.2.2.2.2.2.2.2.2.2.1 k0_h4
theorem k0_off81_wordsi8 : ∀ (v15 : BitVec 32) (k0_t4 : Fin (k0_t4_loop v15).trips) (v184 : BitVec 32) (k0_hw6 : k0_chk6 v15 k0_t4 v184), ∀ (k0_h4 : k0_cond4 v15 k0_t4 = 1#1), (Rect.unit (s := S13x3584x4096) (k0_off81 v184) S1x3584x512.size (k0_off81_inb v15 k0_t4 v184 k0_hw6 k0_h4)).WholeWords (EltTy.packing .i8) := fun v15 k0_t4 v184 k0_hw6 k0_h4 => k0_hw6.1.2.2.2.2.2.2.2.2.2.2.2.2.2.2.2.2.2.2.2.2.2.2.2.2.2.1 k0_h4 (k0_off81_inb v15 k0_t4 v184 k0_hw6 k0_h4)
theorem k0_off82_inb : ∀ (v15 : BitVec 32) (k0_t4 : Fin (k0_t4_loop v15).trips) (v184 : BitVec 32) (k0_hw6 : k0_chk6 v15 k0_t4 v184), ∀ (k0_h4 : k0_cond4 v15 k0_t4 = 1#1), ∀ a, (k0_off82 v184) a + S1x224x512.size a ≤ S13x224x4096.size a := fun v15 k0_t4 v184 k0_hw6 k0_h4 => k0_hw6.1.2.2.2.2.2.2.2.2.2.2.2.2.2.2.2.2.2.2.2.2.2.2.2.2.2.2.1 k0_h4
theorem k0_off82_wordsi8 : ∀ (v15 : BitVec 32) (k0_t4 : Fin (k0_t4_loop v15).trips) (v184 : BitVec 32) (k0_hw6 : k0_chk6 v15 k0_t4 v184), ∀ (k0_h4 : k0_cond4 v15 k0_t4 = 1#1), (Rect.unit (s := S13x224x4096) (k0_off82 v184) S1x224x512.size (k0_off82_inb v15 k0_t4 v184 k0_hw6 k0_h4)).WholeWords (EltTy.packing .i8) := fun v15 k0_t4 v184 k0_hw6 k0_h4 => k0_hw6.1.2.2.2.2.2.2.2.2.2.2.2.2.2.2.2.2.2.2.2.2.2.2.2.2.2.2.2.1 k0_h4 (k0_off82_inb v15 k0_t4 v184 k0_hw6 k0_h4)
theorem k0_off83_inb : ∀ (v15 : BitVec 32) (k0_t4 : Fin (k0_t4_loop v15).trips) (v184 : BitVec 32) (k0_hw6 : k0_chk6 v15 k0_t4 v184), ∀ (k0_h4 : k0_cond4 v15 k0_t4 = 1#1), ∀ a, (k0_off83 v184) a + S1x3584x512.size a ≤ S13x3584x4096.size a := fun v15 k0_t4 v184 k0_hw6 k0_h4 => k0_hw6.1.2.2.2.2.2.2.2.2.2.2.2.2.2.2.2.2.2.2.2.2.2.2.2.2.2.2.2.2.1 k0_h4
theorem k0_off83_wordsi8 : ∀ (v15 : BitVec 32) (k0_t4 : Fin (k0_t4_loop v15).trips) (v184 : BitVec 32) (k0_hw6 : k0_chk6 v15 k0_t4 v184), ∀ (k0_h4 : k0_cond4 v15 k0_t4 = 1#1), (Rect.unit (s := S13x3584x4096) (k0_off83 v184) S1x3584x512.size (k0_off83_inb v15 k0_t4 v184 k0_hw6 k0_h4)).WholeWords (EltTy.packing .i8) := fun v15 k0_t4 v184 k0_hw6 k0_h4 => k0_hw6.1.2.2.2.2.2.2.2.2.2.2.2.2.2.2.2.2.2.2.2.2.2.2.2.2.2.2.2.2.2.1 k0_h4 (k0_off83_inb v15 k0_t4 v184 k0_hw6 k0_h4)
theorem k0_off84_inb : ∀ (v15 : BitVec 32) (k0_t4 : Fin (k0_t4_loop v15).trips) (v184 : BitVec 32) (k0_hw6 : k0_chk6 v15 k0_t4 v184), ∀ (k0_h4 : k0_cond4 v15 k0_t4 = 1#1), ∀ a, (k0_off84 v184) a + S1x224x512.size a ≤ S13x224x4096.size a := fun v15 k0_t4 v184 k0_hw6 k0_h4 => k0_hw6.1.2.2.2.2.2.2.2.2.2.2.2.2.2.2.2.2.2.2.2.2.2.2.2.2.2.2.2.2.2.2.1 k0_h4
theorem k0_off84_wordsi8 : ∀ (v15 : BitVec 32) (k0_t4 : Fin (k0_t4_loop v15).trips) (v184 : BitVec 32) (k0_hw6 : k0_chk6 v15 k0_t4 v184), ∀ (k0_h4 : k0_cond4 v15 k0_t4 = 1#1), (Rect.unit (s := S13x224x4096) (k0_off84 v184) S1x224x512.size (k0_off84_inb v15 k0_t4 v184 k0_hw6 k0_h4)).WholeWords (EltTy.packing .i8) := fun v15 k0_t4 v184 k0_hw6 k0_h4 => k0_hw6.1.2.2.2.2.2.2.2.2.2.2.2.2.2.2.2.2.2.2.2.2.2.2.2.2.2.2.2.2.2.2.2 k0_h4 (k0_off84_inb v15 k0_t4 v184 k0_hw6 k0_h4)
theorem k0_off91_inb : ∀ (v15 : BitVec 32) (k0_t4 : Fin (k0_t4_loop v15).trips) (v184 : BitVec 32) (k0_hw6 : k0_chk6 v15 k0_t4 v184), ∀ (k0_h5 : k0_cond5 v15 k0_t4 = 1#1), ∀ a, (k0_off91 v184) a + S1x1024x3584.size a ≤ S13x1024x7168.size a := fun v15 k0_t4 v184 k0_hw6 k0_h5 => k0_hw6.2.1 k0_h5
theorem k0_off91_wordsi8 : ∀ (v15 : BitVec 32) (k0_t4 : Fin (k0_t4_loop v15).trips) (v184 : BitVec 32) (k0_hw6 : k0_chk6 v15 k0_t4 v184), ∀ (k0_h5 : k0_cond5 v15 k0_t4 = 1#1), (Rect.unit (s := S13x1024x7168) (k0_off91 v184) S1x1024x3584.size (k0_off91_inb v15 k0_t4 v184 k0_hw6 k0_h5)).WholeWords (EltTy.packing .i8) := fun v15 k0_t4 v184 k0_hw6 k0_h5 => k0_hw6.2.2.1 k0_h5 (k0_off91_inb v15 k0_t4 v184 k0_hw6 k0_h5)
theorem k0_off92_inb : ∀ (v15 : BitVec 32) (k0_t4 : Fin (k0_t4_loop v15).trips) (v184 : BitVec 32) (k0_hw6 : k0_chk6 v15 k0_t4 v184), ∀ (k0_h5 : k0_cond5 v15 k0_t4 = 1#1), ∀ a, (k0_off92 v184) a + S1x64x3584.size a ≤ S13x64x7168.size a := fun v15 k0_t4 v184 k0_hw6 k0_h5 => k0_hw6.2.2.2.1 k0_h5
theorem k0_off92_wordsi8 : ∀ (v15 : BitVec 32) (k0_t4 : Fin (k0_t4_loop v15).trips) (v184 : BitVec 32) (k0_hw6 : k0_chk6 v15 k0_t4 v184), ∀ (k0_h5 : k0_cond5 v15 k0_t4 = 1#1), (Rect.unit (s := S13x64x7168) (k0_off92 v184) S1x64x3584.size (k0_off92_inb v15 k0_t4 v184 k0_hw6 k0_h5)).WholeWords (EltTy.packing .i8) := fun v15 k0_t4 v184 k0_hw6 k0_h5 => k0_hw6.2.2.2.2.1 k0_h5 (k0_off92_inb v15 k0_t4 v184 k0_hw6 k0_h5)
theorem k0_off99_inb : ∀ (v15 : BitVec 32) (k0_t4 : Fin (k0_t4_loop v15).trips) (v184 : BitVec 32) (k0_hw6 : k0_chk6 v15 k0_t4 v184), ∀ (k0_h6 : k0_cond6 v15 k0_t4 = 1#1), ∀ a, (k0_off99 v184) a + S1x1024x3584.size a ≤ S13x1024x7168.size a := fun v15 k0_t4 v184 k0_hw6 k0_h6 => k0_hw6.2.2.2.2.2.1 k0_h6
theorem k0_off99_wordsi8 : ∀ (v15 : BitVec 32) (k0_t4 : Fin (k0_t4_loop v15).trips) (v184 : BitVec 32) (k0_hw6 : k0_chk6 v15 k0_t4 v184), ∀ (k0_h6 : k0_cond6 v15 k0_t4 = 1#1), (Rect.unit (s := S13x1024x7168) (k0_off99 v184) S1x1024x3584.size (k0_off99_inb v15 k0_t4 v184 k0_hw6 k0_h6)).WholeWords (EltTy.packing .i8) := fun v15 k0_t4 v184 k0_hw6 k0_h6 => k0_hw6.2.2.2.2.2.2.1 k0_h6 (k0_off99_inb v15 k0_t4 v184 k0_hw6 k0_h6)
theorem k0_off100_inb : ∀ (v15 : BitVec 32) (k0_t4 : Fin (k0_t4_loop v15).trips) (v184 : BitVec 32) (k0_hw6 : k0_chk6 v15 k0_t4 v184), ∀ (k0_h6 : k0_cond6 v15 k0_t4 = 1#1), ∀ a, (k0_off100 v184) a + S1x64x3584.size a ≤ S13x64x7168.size a := fun v15 k0_t4 v184 k0_hw6 k0_h6 => k0_hw6.2.2.2.2.2.2.2.1 k0_h6
theorem k0_off100_wordsi8 : ∀ (v15 : BitVec 32) (k0_t4 : Fin (k0_t4_loop v15).trips) (v184 : BitVec 32) (k0_hw6 : k0_chk6 v15 k0_t4 v184), ∀ (k0_h6 : k0_cond6 v15 k0_t4 = 1#1), (Rect.unit (s := S13x64x7168) (k0_off100 v184) S1x64x3584.size (k0_off100_inb v15 k0_t4 v184 k0_hw6 k0_h6)).WholeWords (EltTy.packing .i8) := fun v15 k0_t4 v184 k0_hw6 k0_h6 => k0_hw6.2.2.2.2.2.2.2.2 k0_h6 (k0_off100_inb v15 k0_t4 v184 k0_hw6 k0_h6)

@[reducible] def k0_t17_loop (v15 : BitVec 32) : Scf.Loop 32 :=
  let c0_i32_159 : BitVec 32 := 0#32
  let v169 : BitVec 32 := Scalar.subi v15 c0_i32_159
  let c1_i32_160 : BitVec 32 := 1#32
  let v171 : BitVec 32 := Scalar.divsi v169 c1_i32_160
  let v172 : BitVec 32 := Scalar.muli v171 c1_i32_160
  let v173 : BitVec 32 := Scalar.addi c0_i32_159 v172
  let v170 : BitVec 32 := Scalar.addi c0_i32_159 v169
  let c1_i32_162 : BitVec 32 := 1#32
  ⟨v173, v170, c1_i32_162⟩
def k0_off101 (v15 : BitVec 32) (k0_t17 : Fin (k0_t17_loop v15).trips) : Fin 1 → Nat :=
  let c0_i32_159 : BitVec 32 := 0#32
  let v169 : BitVec 32 := Scalar.subi v15 c0_i32_159
  let c1_i32_160 : BitVec 32 := 1#32
  let v171 : BitVec 32 := Scalar.divsi v169 c1_i32_160
  let v172 : BitVec 32 := Scalar.muli v171 c1_i32_160
  let v173 : BitVec 32 := Scalar.addi c0_i32_159 v172
  let c1_i32_162 : BitVec 32 := 1#32
  let arg20 : BitVec 32 := Scf.iv v173 c1_i32_162 k0_t17
  let v179 : Index := Scalar.indexCast arg20
  ![v179.toNat]
def k0_off102 (v15 : BitVec 32) (k0_t17 : Fin (k0_t17_loop v15).trips) : Fin 1 → Nat :=
  let c0_i32_159 : BitVec 32 := 0#32
  let v169 : BitVec 32 := Scalar.subi v15 c0_i32_159
  let c1_i32_160 : BitVec 32 := 1#32
  let v171 : BitVec 32 := Scalar.divsi v169 c1_i32_160
  let v172 : BitVec 32 := Scalar.muli v171 c1_i32_160
  let v173 : BitVec 32 := Scalar.addi c0_i32_159 v172
  let c1_i32_162 : BitVec 32 := 1#32
  let arg20 : BitVec 32 := Scf.iv v173 c1_i32_162 k0_t17
  let c1_i32_170 : BitVec 32 := 1#32
  let v181 : BitVec 32 := Scalar.addi arg20 c1_i32_170
  let c12_i32 : BitVec 32 := 12#32
  let v182 : BitVec 32 := Scalar.minsi v181 c12_i32
  let v183 : Index := Scalar.indexCast v182
  ![v183.toNat]

def k0_chk4 (v15 : BitVec 32) : Prop :=
  ((k0_t4_loop v15).OK) ∧
  (∀ k0_t4 : Fin (k0_t4_loop v15).trips, ∀ a, (k0_off27 v15 k0_t4) a + S1.size a ≤ S13.size a) ∧
  (∀ k0_t4 : Fin (k0_t4_loop v15).trips, ∀ a, (k0_off28 v15 k0_t4) a + S1.size a ≤ S13.size a) ∧
  ((k0_t17_loop v15).OK) ∧
  (∀ k0_t17 : Fin (k0_t17_loop v15).trips, ∀ a, (k0_off101 v15 k0_t17) a + S1.size a ≤ S13.size a) ∧
  (∀ k0_t17 : Fin (k0_t17_loop v15).trips, ∀ a, (k0_off102 v15 k0_t17) a + S1.size a ≤ S13.size a)
theorem k0_t4_ok : ∀ (v15 : BitVec 32) (k0_hw4 : k0_chk4 v15), (k0_t4_loop v15).OK := fun v15 k0_hw4 => k0_hw4.1
theorem k0_off27_inb : ∀ (v15 : BitVec 32) (k0_hw4 : k0_chk4 v15) (k0_t4 : Fin (k0_t4_loop v15).trips), ∀ a, (k0_off27 v15 k0_t4) a + S1.size a ≤ S13.size a := fun v15 k0_hw4 k0_t4 => k0_hw4.2.1 k0_t4
theorem k0_off28_inb : ∀ (v15 : BitVec 32) (k0_hw4 : k0_chk4 v15) (k0_t4 : Fin (k0_t4_loop v15).trips), ∀ a, (k0_off28 v15 k0_t4) a + S1.size a ≤ S13.size a := fun v15 k0_hw4 k0_t4 => k0_hw4.2.2.1 k0_t4
theorem k0_t17_ok : ∀ (v15 : BitVec 32) (k0_hw4 : k0_chk4 v15), (k0_t17_loop v15).OK := fun v15 k0_hw4 => k0_hw4.2.2.2.1
theorem k0_off101_inb : ∀ (v15 : BitVec 32) (k0_hw4 : k0_chk4 v15) (k0_t17 : Fin (k0_t17_loop v15).trips), ∀ a, (k0_off101 v15 k0_t17) a + S1.size a ≤ S13.size a := fun v15 k0_hw4 k0_t17 => k0_hw4.2.2.2.2.1 k0_t17
theorem k0_off102_inb : ∀ (v15 : BitVec 32) (k0_hw4 : k0_chk4 v15) (k0_t17 : Fin (k0_t17_loop v15).trips), ∀ a, (k0_off102 v15 k0_t17) a + S1.size a ≤ S13.size a := fun v15 k0_hw4 k0_t17 => k0_hw4.2.2.2.2.2 k0_t17

def k0_off103 (v180 : BitVec 32) : Fin 3 → Nat :=
  let c0_i32_188 : BitVec 32 := 0#32
  let c0_i32_189 : BitVec 32 := 0#32
  ![v180.toNat, 0, 0]

def k0_off104 (v180 : BitVec 32) : Fin 3 → Nat :=
  let c0_i32_195 : BitVec 32 := 0#32
  let c0_i32_196 : BitVec 32 := 0#32
  ![v180.toNat, 0, 0]
def k0_off105 (v180 : BitVec 32) : Fin 3 → Nat :=
  let c0_i32_202 : BitVec 32 := 0#32
  let c2048_i32_203 : BitVec 32 := 2048#32
  ![v180.toNat, 0, 2048]
def k0_off106 (v180 : BitVec 32) : Fin 3 → Nat :=
  let c0_i32_209 : BitVec 32 := 0#32
  let c2048_i32_210 : BitVec 32 := 2048#32
  ![v180.toNat, 0, 2048]
@[reducible] def k0_t18_loop : Scf.Loop 32 :=
  let c0_i32_211 : BitVec 32 := 0#32
  let c2_i32_212 : BitVec 32 := 2#32
  let v224 : BitVec 32 := Scalar.addi c0_i32_211 c2_i32_212
  let c1_i32_213 : BitVec 32 := 1#32
  ⟨c0_i32_211, v224, c1_i32_213⟩
def k0_mult22 (k0_t18 : Fin k0_t18_loop.trips) : BitVec 32 :=
  let c0_i32_349 : BitVec 32 := 0#32
  let c0_i32_211 : BitVec 32 := 0#32
  let c1_i32_213 : BitVec 32 := 1#32
  let arg21 : BitVec 32 := Scf.iv c0_i32_211 c1_i32_213 k0_t18
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  v340
@[reducible] def k0_t19_loop : Scf.Loop 32 :=
  let c0_i32_351 : BitVec 32 := 0#32
  let c28_i32_352 : BitVec 32 := 28#32
  let v343 : BitVec 32 := Scalar.addi c0_i32_351 c28_i32_352
  let c1_i32_353 : BitVec 32 := 1#32
  ⟨c0_i32_351, v343, c1_i32_353⟩
def k0_mult23 (k0_t19 : Fin k0_t19_loop.trips) : BitVec 32 :=
  let c0_i32_351 : BitVec 32 := 0#32
  let c1_i32_353 : BitVec 32 := 1#32
  let arg22 : BitVec 32 := Scf.iv c0_i32_351 c1_i32_353 k0_t19
  let c128_i32 : BitVec 32 := 128#32
  let v363 : BitVec 32 := Scalar.muli arg22 c128_i32
  v363
def k0_mult24 (k0_t19 : Fin k0_t19_loop.trips) : BitVec 32 :=
  let c0_i32_351 : BitVec 32 := 0#32
  let c1_i32_353 : BitVec 32 := 1#32
  let arg22 : BitVec 32 := Scf.iv c0_i32_351 c1_i32_353 k0_t19
  let c8_i32 : BitVec 32 := 8#32
  let v365 : BitVec 32 := Scalar.muli arg22 c8_i32
  v365
def k0_off107 (k0_t18 : Fin k0_t18_loop.trips) (k0_t19 : Fin k0_t19_loop.trips) : Fin 4 → Nat :=
  let c0_360 : Index := 0#32
  let c0_361 : Index := 0#32
  let c0_i32_351 : BitVec 32 := 0#32
  let c1_i32_353 : BitVec 32 := 1#32
  let arg22 : BitVec 32 := Scf.iv c0_i32_351 c1_i32_353 k0_t19
  let c128_i32 : BitVec 32 := 128#32
  let v363 : BitVec 32 := Scalar.muli arg22 c128_i32
  let v364 : BitVec 32 := v363
  let v367 : Index := Scalar.indexCast v364
  let c0_i32_349 : BitVec 32 := 0#32
  let c0_i32_211 : BitVec 32 := 0#32
  let c1_i32_213 : BitVec 32 := 1#32
  let arg21 : BitVec 32 := Scf.iv c0_i32_211 c1_i32_213 k0_t18
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v368 : Index := Scalar.indexCast v341
  ![0, 0, v367.toNat, v368.toNat]
def k0_off108 (k0_t18 : Fin k0_t18_loop.trips) (k0_t19 : Fin k0_t19_loop.trips) : Fin 4 → Nat :=
  let c0_362 : Index := 0#32
  let c1_363 : Index := 1#32
  let c0_i32_351 : BitVec 32 := 0#32
  let c1_i32_353 : BitVec 32 := 1#32
  let arg22 : BitVec 32 := Scf.iv c0_i32_351 c1_i32_353 k0_t19
  let c128_i32 : BitVec 32 := 128#32
  let v363 : BitVec 32 := Scalar.muli arg22 c128_i32
  let v364 : BitVec 32 := v363
  let v371 : Index := Scalar.indexCast v364
  let c0_i32_349 : BitVec 32 := 0#32
  let c0_i32_211 : BitVec 32 := 0#32
  let c1_i32_213 : BitVec 32 := 1#32
  let arg21 : BitVec 32 := Scf.iv c0_i32_211 c1_i32_213 k0_t18
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v372 : Index := Scalar.indexCast v341
  ![0, 1, v371.toNat, v372.toNat]
def k0_off109 (k0_t18 : Fin k0_t18_loop.trips) (k0_t19 : Fin k0_t19_loop.trips) : Fin 4 → Nat :=
  let c0_364 : Index := 0#32
  let c0_365 : Index := 0#32
  let c0_i32_351 : BitVec 32 := 0#32
  let c1_i32_353 : BitVec 32 := 1#32
  let arg22 : BitVec 32 := Scf.iv c0_i32_351 c1_i32_353 k0_t19
  let c8_i32 : BitVec 32 := 8#32
  let v365 : BitVec 32 := Scalar.muli arg22 c8_i32
  let v366 : BitVec 32 := v365
  let v376 : Index := Scalar.indexCast v366
  let c0_i32_349 : BitVec 32 := 0#32
  let c0_i32_211 : BitVec 32 := 0#32
  let c1_i32_213 : BitVec 32 := 1#32
  let arg21 : BitVec 32 := Scf.iv c0_i32_211 c1_i32_213 k0_t18
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v377 : Index := Scalar.indexCast v341
  ![0, 0, v376.toNat, v377.toNat]
def k0_off110 (k0_t18 : Fin k0_t18_loop.trips) (k0_t19 : Fin k0_t19_loop.trips) : Fin 4 → Nat :=
  let c0_366 : Index := 0#32
  let c1_367 : Index := 1#32
  let c0_i32_351 : BitVec 32 := 0#32
  let c1_i32_353 : BitVec 32 := 1#32
  let arg22 : BitVec 32 := Scf.iv c0_i32_351 c1_i32_353 k0_t19
  let c8_i32 : BitVec 32 := 8#32
  let v365 : BitVec 32 := Scalar.muli arg22 c8_i32
  let v366 : BitVec 32 := v365
  let v384 : Index := Scalar.indexCast v366
  let c0_i32_349 : BitVec 32 := 0#32
  let c0_i32_211 : BitVec 32 := 0#32
  let c1_i32_213 : BitVec 32 := 1#32
  let arg21 : BitVec 32 := Scf.iv c0_i32_211 c1_i32_213 k0_t18
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v385 : Index := Scalar.indexCast v341
  ![0, 1, v384.toNat, v385.toNat]
def k0_off111 (k0_t19 : Fin k0_t19_loop.trips) : Fin 3 → Nat :=
  let c0_i32_351 : BitVec 32 := 0#32
  let c1_i32_353 : BitVec 32 := 1#32
  let arg22 : BitVec 32 := Scf.iv c0_i32_351 c1_i32_353 k0_t19
  let v393 : Index := Scalar.indexCast arg22
  let c0_369 : Index := 0#32
  let c0_370 : Index := 0#32
  ![v393.toNat, 0, 0]
def k0_off112 (k0_t18 : Fin k0_t18_loop.trips) : Fin 3 → Nat :=
  let c0_i32_357 : BitVec 32 := 0#32
  let c0_i32_349 : BitVec 32 := 0#32
  let c0_i32_211 : BitVec 32 := 0#32
  let c1_i32_213 : BitVec 32 := 1#32
  let arg21 : BitVec 32 := Scf.iv c0_i32_211 c1_i32_213 k0_t18
  let c1_i32_348 : BitVec 32 := 1#32
  let v338 : BitVec 32 := Scalar.muli arg21 c1_i32_348
  let v339 : BitVec 32 := Scalar.addi c0_i32_349 v338
  let v358 : BitVec 32 := Scalar.addi c0_i32_357 v339
  let v359 : Index := Scalar.indexCast v358
  let c0_358 : Index := 0#32
  let c0_359 : Index := 0#32
  ![v359.toNat, 0, 0]
def k0_off113 (v184 : BitVec 32) : Fin 3 → Nat :=
  let c0_i32_353 : BitVec 32 := 0#32
  let c0_i32_354 : BitVec 32 := 0#32
  ![v184.toNat, 0, 0]
def k0_cond7 (v15 : BitVec 32) (k0_t17 : Fin (k0_t17_loop v15).trips) : BitVec 1 :=
  let c0_i32_159 : BitVec 32 := 0#32
  let v169 : BitVec 32 := Scalar.subi v15 c0_i32_159
  let c1_i32_160 : BitVec 32 := 1#32
  let v171 : BitVec 32 := Scalar.divsi v169 c1_i32_160
  let v172 : BitVec 32 := Scalar.muli v171 c1_i32_160
  let v173 : BitVec 32 := Scalar.addi c0_i32_159 v172
  let c1_i32_162 : BitVec 32 := 1#32
  let arg20 : BitVec 32 := Scf.iv v173 c1_i32_162 k0_t17
  let c1_i32_171 : BitVec 32 := 1#32
  let v185 : BitVec 32 := Scalar.addi arg20 c1_i32_171
  let v186 : BitVec 1 := Scalar.cmpi .slt v185 v15
  let v225 : BitVec 32 := Scalar.extui v186
  let c0_i32_215 : BitVec 32 := 0#32
  let v226 : BitVec 1 := Scalar.cmpi .ne v225 c0_i32_215
  v226

def k0_off114 (v184 : BitVec 32) : Fin 3 → Nat :=
  let c0_i32_360 : BitVec 32 := 0#32
  let c0_i32_361 : BitVec 32 := 0#32
  ![v184.toNat, 0, 0]
def k0_off115 (v184 : BitVec 32) : Fin 3 → Nat :=
  let c0_i32_367 : BitVec 32 := 0#32
  let c2048_i32_368 : BitVec 32 := 2048#32
  ![v184.toNat, 0, 2048]
def k0_off116 (v184 : BitVec 32) : Fin 3 → Nat :=
  let c0_i32_374 : BitVec 32 := 0#32
  let c2048_i32_375 : BitVec 32 := 2048#32
  ![v184.toNat, 0, 2048]
def k0_off117 (v180 : BitVec 32) : Fin 3 → Nat :=
  let c0_i32_221 : BitVec 32 := 0#32
  let c512_i32_222 : BitVec 32 := 512#32
  ![v180.toNat, 0, 512]
def k0_off118 (v180 : BitVec 32) : Fin 3 → Nat :=
  let c0_i32_228 : BitVec 32 := 0#32
  let c512_i32_229 : BitVec 32 := 512#32
  ![v180.toNat, 0, 512]
def k0_off119 (v180 : BitVec 32) : Fin 3 → Nat :=
  let c0_i32_235 : BitVec 32 := 0#32
  let c2560_i32_236 : BitVec 32 := 2560#32
  ![v180.toNat, 0, 2560]
def k0_off120 (v180 : BitVec 32) : Fin 3 → Nat :=
  let c0_i32_242 : BitVec 32 := 0#32
  let c2560_i32_243 : BitVec 32 := 2560#32
  ![v180.toNat, 0, 2560]
@[reducible] def k0_t20_loop : Scf.Loop 32 :=
  let c0_i32_244 : BitVec 32 := 0#32
  let c2_i32_245 : BitVec 32 := 2#32
  let v251 : BitVec 32 := Scalar.addi c0_i32_244 c2_i32_245
  let c1_i32_246 : BitVec 32 := 1#32
  ⟨c0_i32_244, v251, c1_i32_246⟩
def k0_mult25 (k0_t20 : Fin k0_t20_loop.trips) : BitVec 32 :=
  let c0_i32_349 : BitVec 32 := 0#32
  let c0_i32_244 : BitVec 32 := 0#32
  let c1_i32_246 : BitVec 32 := 1#32
  let arg21 : BitVec 32 := Scf.iv c0_i32_244 c1_i32_246 k0_t20
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  v340
@[reducible] def k0_t21_loop : Scf.Loop 32 :=
  let c0_i32_351 : BitVec 32 := 0#32
  let c28_i32_352 : BitVec 32 := 28#32
  let v343 : BitVec 32 := Scalar.addi c0_i32_351 c28_i32_352
  let c1_i32_353 : BitVec 32 := 1#32
  ⟨c0_i32_351, v343, c1_i32_353⟩
def k0_mult26 (k0_t21 : Fin k0_t21_loop.trips) : BitVec 32 :=
  let c0_i32_351 : BitVec 32 := 0#32
  let c1_i32_353 : BitVec 32 := 1#32
  let arg22 : BitVec 32 := Scf.iv c0_i32_351 c1_i32_353 k0_t21
  let c128_i32 : BitVec 32 := 128#32
  let v363 : BitVec 32 := Scalar.muli arg22 c128_i32
  v363
def k0_mult27 (k0_t21 : Fin k0_t21_loop.trips) : BitVec 32 :=
  let c0_i32_351 : BitVec 32 := 0#32
  let c1_i32_353 : BitVec 32 := 1#32
  let arg22 : BitVec 32 := Scf.iv c0_i32_351 c1_i32_353 k0_t21
  let c8_i32 : BitVec 32 := 8#32
  let v365 : BitVec 32 := Scalar.muli arg22 c8_i32
  v365
def k0_off121 (k0_t20 : Fin k0_t20_loop.trips) (k0_t21 : Fin k0_t21_loop.trips) : Fin 4 → Nat :=
  let c1_360 : Index := 1#32
  let c0_361 : Index := 0#32
  let c0_i32_351 : BitVec 32 := 0#32
  let c1_i32_353 : BitVec 32 := 1#32
  let arg22 : BitVec 32 := Scf.iv c0_i32_351 c1_i32_353 k0_t21
  let c128_i32 : BitVec 32 := 128#32
  let v363 : BitVec 32 := Scalar.muli arg22 c128_i32
  let v364 : BitVec 32 := v363
  let v367 : Index := Scalar.indexCast v364
  let c0_i32_349 : BitVec 32 := 0#32
  let c0_i32_244 : BitVec 32 := 0#32
  let c1_i32_246 : BitVec 32 := 1#32
  let arg21 : BitVec 32 := Scf.iv c0_i32_244 c1_i32_246 k0_t20
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v368 : Index := Scalar.indexCast v341
  ![1, 0, v367.toNat, v368.toNat]
def k0_off122 (k0_t20 : Fin k0_t20_loop.trips) (k0_t21 : Fin k0_t21_loop.trips) : Fin 4 → Nat :=
  let c1_362 : Index := 1#32
  let c1_363 : Index := 1#32
  let c0_i32_351 : BitVec 32 := 0#32
  let c1_i32_353 : BitVec 32 := 1#32
  let arg22 : BitVec 32 := Scf.iv c0_i32_351 c1_i32_353 k0_t21
  let c128_i32 : BitVec 32 := 128#32
  let v363 : BitVec 32 := Scalar.muli arg22 c128_i32
  let v364 : BitVec 32 := v363
  let v371 : Index := Scalar.indexCast v364
  let c0_i32_349 : BitVec 32 := 0#32
  let c0_i32_244 : BitVec 32 := 0#32
  let c1_i32_246 : BitVec 32 := 1#32
  let arg21 : BitVec 32 := Scf.iv c0_i32_244 c1_i32_246 k0_t20
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v372 : Index := Scalar.indexCast v341
  ![1, 1, v371.toNat, v372.toNat]
def k0_off123 (k0_t20 : Fin k0_t20_loop.trips) (k0_t21 : Fin k0_t21_loop.trips) : Fin 4 → Nat :=
  let c1_364 : Index := 1#32
  let c0_365 : Index := 0#32
  let c0_i32_351 : BitVec 32 := 0#32
  let c1_i32_353 : BitVec 32 := 1#32
  let arg22 : BitVec 32 := Scf.iv c0_i32_351 c1_i32_353 k0_t21
  let c8_i32 : BitVec 32 := 8#32
  let v365 : BitVec 32 := Scalar.muli arg22 c8_i32
  let v366 : BitVec 32 := v365
  let v376 : Index := Scalar.indexCast v366
  let c0_i32_349 : BitVec 32 := 0#32
  let c0_i32_244 : BitVec 32 := 0#32
  let c1_i32_246 : BitVec 32 := 1#32
  let arg21 : BitVec 32 := Scf.iv c0_i32_244 c1_i32_246 k0_t20
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v377 : Index := Scalar.indexCast v341
  ![1, 0, v376.toNat, v377.toNat]
def k0_off124 (k0_t20 : Fin k0_t20_loop.trips) (k0_t21 : Fin k0_t21_loop.trips) : Fin 4 → Nat :=
  let c1_366 : Index := 1#32
  let c1_367 : Index := 1#32
  let c0_i32_351 : BitVec 32 := 0#32
  let c1_i32_353 : BitVec 32 := 1#32
  let arg22 : BitVec 32 := Scf.iv c0_i32_351 c1_i32_353 k0_t21
  let c8_i32 : BitVec 32 := 8#32
  let v365 : BitVec 32 := Scalar.muli arg22 c8_i32
  let v366 : BitVec 32 := v365
  let v384 : Index := Scalar.indexCast v366
  let c0_i32_349 : BitVec 32 := 0#32
  let c0_i32_244 : BitVec 32 := 0#32
  let c1_i32_246 : BitVec 32 := 1#32
  let arg21 : BitVec 32 := Scf.iv c0_i32_244 c1_i32_246 k0_t20
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v385 : Index := Scalar.indexCast v341
  ![1, 1, v384.toNat, v385.toNat]
def k0_off125 (k0_t21 : Fin k0_t21_loop.trips) : Fin 3 → Nat :=
  let c0_i32_351 : BitVec 32 := 0#32
  let c1_i32_353 : BitVec 32 := 1#32
  let arg22 : BitVec 32 := Scf.iv c0_i32_351 c1_i32_353 k0_t21
  let v393 : Index := Scalar.indexCast arg22
  let c0_369 : Index := 0#32
  let c0_370 : Index := 0#32
  ![v393.toNat, 0, 0]
def k0_off126 (k0_t20 : Fin k0_t20_loop.trips) : Fin 3 → Nat :=
  let c2_i32_357 : BitVec 32 := 2#32
  let c0_i32_349 : BitVec 32 := 0#32
  let c0_i32_244 : BitVec 32 := 0#32
  let c1_i32_246 : BitVec 32 := 1#32
  let arg21 : BitVec 32 := Scf.iv c0_i32_244 c1_i32_246 k0_t20
  let c1_i32_348 : BitVec 32 := 1#32
  let v338 : BitVec 32 := Scalar.muli arg21 c1_i32_348
  let v339 : BitVec 32 := Scalar.addi c0_i32_349 v338
  let v358 : BitVec 32 := Scalar.addi c2_i32_357 v339
  let v359 : Index := Scalar.indexCast v358
  let c0_358 : Index := 0#32
  let c0_359 : Index := 0#32
  ![v359.toNat, 0, 0]
def k0_off127 (v184 : BitVec 32) : Fin 3 → Nat :=
  let c0_i32_353 : BitVec 32 := 0#32
  let c512_i32_354 : BitVec 32 := 512#32
  ![v184.toNat, 0, 512]
def k0_cond8 (v15 : BitVec 32) (k0_t17 : Fin (k0_t17_loop v15).trips) : BitVec 1 :=
  let c0_i32_159 : BitVec 32 := 0#32
  let v169 : BitVec 32 := Scalar.subi v15 c0_i32_159
  let c1_i32_160 : BitVec 32 := 1#32
  let v171 : BitVec 32 := Scalar.divsi v169 c1_i32_160
  let v172 : BitVec 32 := Scalar.muli v171 c1_i32_160
  let v173 : BitVec 32 := Scalar.addi c0_i32_159 v172
  let c1_i32_162 : BitVec 32 := 1#32
  let arg20 : BitVec 32 := Scf.iv v173 c1_i32_162 k0_t17
  let c1_i32_171 : BitVec 32 := 1#32
  let v185 : BitVec 32 := Scalar.addi arg20 c1_i32_171
  let v186 : BitVec 1 := Scalar.cmpi .slt v185 v15
  let v252 : BitVec 32 := Scalar.extui v186
  let c0_i32_248 : BitVec 32 := 0#32
  let v253 : BitVec 1 := Scalar.cmpi .ne v252 c0_i32_248
  v253

def k0_off128 (v184 : BitVec 32) : Fin 3 → Nat :=
  let c0_i32_360 : BitVec 32 := 0#32
  let c512_i32_361 : BitVec 32 := 512#32
  ![v184.toNat, 0, 512]
def k0_off129 (v184 : BitVec 32) : Fin 3 → Nat :=
  let c0_i32_367 : BitVec 32 := 0#32
  let c2560_i32_368 : BitVec 32 := 2560#32
  ![v184.toNat, 0, 2560]
def k0_off130 (v184 : BitVec 32) : Fin 3 → Nat :=
  let c0_i32_374 : BitVec 32 := 0#32
  let c2560_i32_375 : BitVec 32 := 2560#32
  ![v184.toNat, 0, 2560]
def k0_off131 (v180 : BitVec 32) : Fin 3 → Nat :=
  let c0_i32_254 : BitVec 32 := 0#32
  let c1024_i32_255 : BitVec 32 := 1024#32
  ![v180.toNat, 0, 1024]
def k0_off132 (v180 : BitVec 32) : Fin 3 → Nat :=
  let c0_i32_261 : BitVec 32 := 0#32
  let c1024_i32_262 : BitVec 32 := 1024#32
  ![v180.toNat, 0, 1024]
def k0_off133 (v180 : BitVec 32) : Fin 3 → Nat :=
  let c0_i32_268 : BitVec 32 := 0#32
  let c3072_i32_269 : BitVec 32 := 3072#32
  ![v180.toNat, 0, 3072]
def k0_off134 (v180 : BitVec 32) : Fin 3 → Nat :=
  let c0_i32_275 : BitVec 32 := 0#32
  let c3072_i32_276 : BitVec 32 := 3072#32
  ![v180.toNat, 0, 3072]
@[reducible] def k0_t22_loop : Scf.Loop 32 :=
  let c0_i32_277 : BitVec 32 := 0#32
  let c2_i32_278 : BitVec 32 := 2#32
  let v278 : BitVec 32 := Scalar.addi c0_i32_277 c2_i32_278
  let c1_i32_279 : BitVec 32 := 1#32
  ⟨c0_i32_277, v278, c1_i32_279⟩
def k0_mult28 (k0_t22 : Fin k0_t22_loop.trips) : BitVec 32 :=
  let c0_i32_349 : BitVec 32 := 0#32
  let c0_i32_277 : BitVec 32 := 0#32
  let c1_i32_279 : BitVec 32 := 1#32
  let arg21 : BitVec 32 := Scf.iv c0_i32_277 c1_i32_279 k0_t22
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  v340
@[reducible] def k0_t23_loop : Scf.Loop 32 :=
  let c0_i32_351 : BitVec 32 := 0#32
  let c28_i32_352 : BitVec 32 := 28#32
  let v343 : BitVec 32 := Scalar.addi c0_i32_351 c28_i32_352
  let c1_i32_353 : BitVec 32 := 1#32
  ⟨c0_i32_351, v343, c1_i32_353⟩
def k0_mult29 (k0_t23 : Fin k0_t23_loop.trips) : BitVec 32 :=
  let c0_i32_351 : BitVec 32 := 0#32
  let c1_i32_353 : BitVec 32 := 1#32
  let arg22 : BitVec 32 := Scf.iv c0_i32_351 c1_i32_353 k0_t23
  let c128_i32 : BitVec 32 := 128#32
  let v363 : BitVec 32 := Scalar.muli arg22 c128_i32
  v363
def k0_mult30 (k0_t23 : Fin k0_t23_loop.trips) : BitVec 32 :=
  let c0_i32_351 : BitVec 32 := 0#32
  let c1_i32_353 : BitVec 32 := 1#32
  let arg22 : BitVec 32 := Scf.iv c0_i32_351 c1_i32_353 k0_t23
  let c8_i32 : BitVec 32 := 8#32
  let v365 : BitVec 32 := Scalar.muli arg22 c8_i32
  v365
def k0_off135 (k0_t22 : Fin k0_t22_loop.trips) (k0_t23 : Fin k0_t23_loop.trips) : Fin 4 → Nat :=
  let c2_359 : Index := 2#32
  let c0_360 : Index := 0#32
  let c0_i32_351 : BitVec 32 := 0#32
  let c1_i32_353 : BitVec 32 := 1#32
  let arg22 : BitVec 32 := Scf.iv c0_i32_351 c1_i32_353 k0_t23
  let c128_i32 : BitVec 32 := 128#32
  let v363 : BitVec 32 := Scalar.muli arg22 c128_i32
  let v364 : BitVec 32 := v363
  let v367 : Index := Scalar.indexCast v364
  let c0_i32_349 : BitVec 32 := 0#32
  let c0_i32_277 : BitVec 32 := 0#32
  let c1_i32_279 : BitVec 32 := 1#32
  let arg21 : BitVec 32 := Scf.iv c0_i32_277 c1_i32_279 k0_t22
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v368 : Index := Scalar.indexCast v341
  ![2, 0, v367.toNat, v368.toNat]
def k0_off136 (k0_t22 : Fin k0_t22_loop.trips) (k0_t23 : Fin k0_t23_loop.trips) : Fin 4 → Nat :=
  let c2_361 : Index := 2#32
  let c1_362 : Index := 1#32
  let c0_i32_351 : BitVec 32 := 0#32
  let c1_i32_353 : BitVec 32 := 1#32
  let arg22 : BitVec 32 := Scf.iv c0_i32_351 c1_i32_353 k0_t23
  let c128_i32 : BitVec 32 := 128#32
  let v363 : BitVec 32 := Scalar.muli arg22 c128_i32
  let v364 : BitVec 32 := v363
  let v371 : Index := Scalar.indexCast v364
  let c0_i32_349 : BitVec 32 := 0#32
  let c0_i32_277 : BitVec 32 := 0#32
  let c1_i32_279 : BitVec 32 := 1#32
  let arg21 : BitVec 32 := Scf.iv c0_i32_277 c1_i32_279 k0_t22
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v372 : Index := Scalar.indexCast v341
  ![2, 1, v371.toNat, v372.toNat]
def k0_off137 (k0_t22 : Fin k0_t22_loop.trips) (k0_t23 : Fin k0_t23_loop.trips) : Fin 4 → Nat :=
  let c2_363 : Index := 2#32
  let c0_364 : Index := 0#32
  let c0_i32_351 : BitVec 32 := 0#32
  let c1_i32_353 : BitVec 32 := 1#32
  let arg22 : BitVec 32 := Scf.iv c0_i32_351 c1_i32_353 k0_t23
  let c8_i32 : BitVec 32 := 8#32
  let v365 : BitVec 32 := Scalar.muli arg22 c8_i32
  let v366 : BitVec 32 := v365
  let v376 : Index := Scalar.indexCast v366
  let c0_i32_349 : BitVec 32 := 0#32
  let c0_i32_277 : BitVec 32 := 0#32
  let c1_i32_279 : BitVec 32 := 1#32
  let arg21 : BitVec 32 := Scf.iv c0_i32_277 c1_i32_279 k0_t22
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v377 : Index := Scalar.indexCast v341
  ![2, 0, v376.toNat, v377.toNat]
def k0_off138 (k0_t22 : Fin k0_t22_loop.trips) (k0_t23 : Fin k0_t23_loop.trips) : Fin 4 → Nat :=
  let c2_365 : Index := 2#32
  let c1_366 : Index := 1#32
  let c0_i32_351 : BitVec 32 := 0#32
  let c1_i32_353 : BitVec 32 := 1#32
  let arg22 : BitVec 32 := Scf.iv c0_i32_351 c1_i32_353 k0_t23
  let c8_i32 : BitVec 32 := 8#32
  let v365 : BitVec 32 := Scalar.muli arg22 c8_i32
  let v366 : BitVec 32 := v365
  let v384 : Index := Scalar.indexCast v366
  let c0_i32_349 : BitVec 32 := 0#32
  let c0_i32_277 : BitVec 32 := 0#32
  let c1_i32_279 : BitVec 32 := 1#32
  let arg21 : BitVec 32 := Scf.iv c0_i32_277 c1_i32_279 k0_t22
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v385 : Index := Scalar.indexCast v341
  ![2, 1, v384.toNat, v385.toNat]
def k0_off139 (k0_t23 : Fin k0_t23_loop.trips) : Fin 3 → Nat :=
  let c0_i32_351 : BitVec 32 := 0#32
  let c1_i32_353 : BitVec 32 := 1#32
  let arg22 : BitVec 32 := Scf.iv c0_i32_351 c1_i32_353 k0_t23
  let v393 : Index := Scalar.indexCast arg22
  let c0_368 : Index := 0#32
  let c0_369 : Index := 0#32
  ![v393.toNat, 0, 0]
def k0_off140 (k0_t22 : Fin k0_t22_loop.trips) : Fin 3 → Nat :=
  let c4_i32 : BitVec 32 := 4#32
  let c0_i32_349 : BitVec 32 := 0#32
  let c0_i32_277 : BitVec 32 := 0#32
  let c1_i32_279 : BitVec 32 := 1#32
  let arg21 : BitVec 32 := Scf.iv c0_i32_277 c1_i32_279 k0_t22
  let c1_i32_348 : BitVec 32 := 1#32
  let v338 : BitVec 32 := Scalar.muli arg21 c1_i32_348
  let v339 : BitVec 32 := Scalar.addi c0_i32_349 v338
  let v358 : BitVec 32 := Scalar.addi c4_i32 v339
  let v359 : Index := Scalar.indexCast v358
  let c0_357 : Index := 0#32
  let c0_358 : Index := 0#32
  ![v359.toNat, 0, 0]
def k0_off141 (v184 : BitVec 32) : Fin 3 → Nat :=
  let c0_i32_353 : BitVec 32 := 0#32
  let c1024_i32_354 : BitVec 32 := 1024#32
  ![v184.toNat, 0, 1024]
def k0_cond9 (v15 : BitVec 32) (k0_t17 : Fin (k0_t17_loop v15).trips) : BitVec 1 :=
  let c0_i32_159 : BitVec 32 := 0#32
  let v169 : BitVec 32 := Scalar.subi v15 c0_i32_159
  let c1_i32_160 : BitVec 32 := 1#32
  let v171 : BitVec 32 := Scalar.divsi v169 c1_i32_160
  let v172 : BitVec 32 := Scalar.muli v171 c1_i32_160
  let v173 : BitVec 32 := Scalar.addi c0_i32_159 v172
  let c1_i32_162 : BitVec 32 := 1#32
  let arg20 : BitVec 32 := Scf.iv v173 c1_i32_162 k0_t17
  let c1_i32_171 : BitVec 32 := 1#32
  let v185 : BitVec 32 := Scalar.addi arg20 c1_i32_171
  let v186 : BitVec 1 := Scalar.cmpi .slt v185 v15
  let v279 : BitVec 32 := Scalar.extui v186
  let c0_i32_281 : BitVec 32 := 0#32
  let v280 : BitVec 1 := Scalar.cmpi .ne v279 c0_i32_281
  v280

def k0_off142 (v184 : BitVec 32) : Fin 3 → Nat :=
  let c0_i32_360 : BitVec 32 := 0#32
  let c1024_i32_361 : BitVec 32 := 1024#32
  ![v184.toNat, 0, 1024]
def k0_off143 (v184 : BitVec 32) : Fin 3 → Nat :=
  let c0_i32_367 : BitVec 32 := 0#32
  let c3072_i32_368 : BitVec 32 := 3072#32
  ![v184.toNat, 0, 3072]
def k0_off144 (v184 : BitVec 32) : Fin 3 → Nat :=
  let c0_i32_374 : BitVec 32 := 0#32
  let c3072_i32_375 : BitVec 32 := 3072#32
  ![v184.toNat, 0, 3072]
def k0_off145 (v180 : BitVec 32) : Fin 3 → Nat :=
  let c0_i32_287 : BitVec 32 := 0#32
  let c1536_i32_288 : BitVec 32 := 1536#32
  ![v180.toNat, 0, 1536]
def k0_off146 (v180 : BitVec 32) : Fin 3 → Nat :=
  let c0_i32_294 : BitVec 32 := 0#32
  let c1536_i32_295 : BitVec 32 := 1536#32
  ![v180.toNat, 0, 1536]
def k0_off147 (v180 : BitVec 32) : Fin 3 → Nat :=
  let c0_i32_301 : BitVec 32 := 0#32
  let c3584_i32_302 : BitVec 32 := 3584#32
  ![v180.toNat, 0, 3584]
def k0_off148 (v180 : BitVec 32) : Fin 3 → Nat :=
  let c0_i32_308 : BitVec 32 := 0#32
  let c3584_i32_309 : BitVec 32 := 3584#32
  ![v180.toNat, 0, 3584]
@[reducible] def k0_t24_loop : Scf.Loop 32 :=
  let c0_i32_310 : BitVec 32 := 0#32
  let c2_i32_311 : BitVec 32 := 2#32
  let v305 : BitVec 32 := Scalar.addi c0_i32_310 c2_i32_311
  let c1_i32_312 : BitVec 32 := 1#32
  ⟨c0_i32_310, v305, c1_i32_312⟩
def k0_mult31 (k0_t24 : Fin k0_t24_loop.trips) : BitVec 32 :=
  let c0_i32_349 : BitVec 32 := 0#32
  let c0_i32_310 : BitVec 32 := 0#32
  let c1_i32_312 : BitVec 32 := 1#32
  let arg21 : BitVec 32 := Scf.iv c0_i32_310 c1_i32_312 k0_t24
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  v340
@[reducible] def k0_t25_loop : Scf.Loop 32 :=
  let c0_i32_351 : BitVec 32 := 0#32
  let c28_i32_352 : BitVec 32 := 28#32
  let v343 : BitVec 32 := Scalar.addi c0_i32_351 c28_i32_352
  let c1_i32_353 : BitVec 32 := 1#32
  ⟨c0_i32_351, v343, c1_i32_353⟩
def k0_mult32 (k0_t25 : Fin k0_t25_loop.trips) : BitVec 32 :=
  let c0_i32_351 : BitVec 32 := 0#32
  let c1_i32_353 : BitVec 32 := 1#32
  let arg22 : BitVec 32 := Scf.iv c0_i32_351 c1_i32_353 k0_t25
  let c128_i32 : BitVec 32 := 128#32
  let v363 : BitVec 32 := Scalar.muli arg22 c128_i32
  v363
def k0_mult33 (k0_t25 : Fin k0_t25_loop.trips) : BitVec 32 :=
  let c0_i32_351 : BitVec 32 := 0#32
  let c1_i32_353 : BitVec 32 := 1#32
  let arg22 : BitVec 32 := Scf.iv c0_i32_351 c1_i32_353 k0_t25
  let c8_i32 : BitVec 32 := 8#32
  let v365 : BitVec 32 := Scalar.muli arg22 c8_i32
  v365
def k0_off149 (k0_t24 : Fin k0_t24_loop.trips) (k0_t25 : Fin k0_t25_loop.trips) : Fin 4 → Nat :=
  let c3_359 : Index := 3#32
  let c0_360 : Index := 0#32
  let c0_i32_351 : BitVec 32 := 0#32
  let c1_i32_353 : BitVec 32 := 1#32
  let arg22 : BitVec 32 := Scf.iv c0_i32_351 c1_i32_353 k0_t25
  let c128_i32 : BitVec 32 := 128#32
  let v363 : BitVec 32 := Scalar.muli arg22 c128_i32
  let v364 : BitVec 32 := v363
  let v367 : Index := Scalar.indexCast v364
  let c0_i32_349 : BitVec 32 := 0#32
  let c0_i32_310 : BitVec 32 := 0#32
  let c1_i32_312 : BitVec 32 := 1#32
  let arg21 : BitVec 32 := Scf.iv c0_i32_310 c1_i32_312 k0_t24
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v368 : Index := Scalar.indexCast v341
  ![3, 0, v367.toNat, v368.toNat]
def k0_off150 (k0_t24 : Fin k0_t24_loop.trips) (k0_t25 : Fin k0_t25_loop.trips) : Fin 4 → Nat :=
  let c3_361 : Index := 3#32
  let c1_362 : Index := 1#32
  let c0_i32_351 : BitVec 32 := 0#32
  let c1_i32_353 : BitVec 32 := 1#32
  let arg22 : BitVec 32 := Scf.iv c0_i32_351 c1_i32_353 k0_t25
  let c128_i32 : BitVec 32 := 128#32
  let v363 : BitVec 32 := Scalar.muli arg22 c128_i32
  let v364 : BitVec 32 := v363
  let v371 : Index := Scalar.indexCast v364
  let c0_i32_349 : BitVec 32 := 0#32
  let c0_i32_310 : BitVec 32 := 0#32
  let c1_i32_312 : BitVec 32 := 1#32
  let arg21 : BitVec 32 := Scf.iv c0_i32_310 c1_i32_312 k0_t24
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v372 : Index := Scalar.indexCast v341
  ![3, 1, v371.toNat, v372.toNat]
def k0_off151 (k0_t24 : Fin k0_t24_loop.trips) (k0_t25 : Fin k0_t25_loop.trips) : Fin 4 → Nat :=
  let c3_363 : Index := 3#32
  let c0_364 : Index := 0#32
  let c0_i32_351 : BitVec 32 := 0#32
  let c1_i32_353 : BitVec 32 := 1#32
  let arg22 : BitVec 32 := Scf.iv c0_i32_351 c1_i32_353 k0_t25
  let c8_i32 : BitVec 32 := 8#32
  let v365 : BitVec 32 := Scalar.muli arg22 c8_i32
  let v366 : BitVec 32 := v365
  let v376 : Index := Scalar.indexCast v366
  let c0_i32_349 : BitVec 32 := 0#32
  let c0_i32_310 : BitVec 32 := 0#32
  let c1_i32_312 : BitVec 32 := 1#32
  let arg21 : BitVec 32 := Scf.iv c0_i32_310 c1_i32_312 k0_t24
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v377 : Index := Scalar.indexCast v341
  ![3, 0, v376.toNat, v377.toNat]
def k0_off152 (k0_t24 : Fin k0_t24_loop.trips) (k0_t25 : Fin k0_t25_loop.trips) : Fin 4 → Nat :=
  let c3_365 : Index := 3#32
  let c1_366 : Index := 1#32
  let c0_i32_351 : BitVec 32 := 0#32
  let c1_i32_353 : BitVec 32 := 1#32
  let arg22 : BitVec 32 := Scf.iv c0_i32_351 c1_i32_353 k0_t25
  let c8_i32 : BitVec 32 := 8#32
  let v365 : BitVec 32 := Scalar.muli arg22 c8_i32
  let v366 : BitVec 32 := v365
  let v384 : Index := Scalar.indexCast v366
  let c0_i32_349 : BitVec 32 := 0#32
  let c0_i32_310 : BitVec 32 := 0#32
  let c1_i32_312 : BitVec 32 := 1#32
  let arg21 : BitVec 32 := Scf.iv c0_i32_310 c1_i32_312 k0_t24
  let c1_i32_348 : BitVec 32 := 1#32
  let v338 : BitVec 32 := Scalar.muli arg21 c1_i32_348
  let v339 : BitVec 32 := Scalar.addi c0_i32_349 v338
  let c256_i32 : BitVec 32 := 256#32
  let v340 : BitVec 32 := Scalar.muli v339 c256_i32
  let v341 : BitVec 32 := v340
  let v385 : Index := Scalar.indexCast v341
  ![3, 1, v384.toNat, v385.toNat]
def k0_off153 (k0_t25 : Fin k0_t25_loop.trips) : Fin 3 → Nat :=
  let c0_i32_351 : BitVec 32 := 0#32
  let c1_i32_353 : BitVec 32 := 1#32
  let arg22 : BitVec 32 := Scf.iv c0_i32_351 c1_i32_353 k0_t25
  let v393 : Index := Scalar.indexCast arg22
  let c0_368 : Index := 0#32
  let c0_369 : Index := 0#32
  ![v393.toNat, 0, 0]
def k0_off154 (k0_t24 : Fin k0_t24_loop.trips) : Fin 3 → Nat :=
  let c6_i32 : BitVec 32 := 6#32
  let c0_i32_349 : BitVec 32 := 0#32
  let c0_i32_310 : BitVec 32 := 0#32
  let c1_i32_312 : BitVec 32 := 1#32
  let arg21 : BitVec 32 := Scf.iv c0_i32_310 c1_i32_312 k0_t24
  let c1_i32_348 : BitVec 32 := 1#32
  let v338 : BitVec 32 := Scalar.muli arg21 c1_i32_348
  let v339 : BitVec 32 := Scalar.addi c0_i32_349 v338
  let v358 : BitVec 32 := Scalar.addi c6_i32 v339
  let v359 : Index := Scalar.indexCast v358
  let c0_357 : Index := 0#32
  let c0_358 : Index := 0#32
  ![v359.toNat, 0, 0]
def k0_off155 (v184 : BitVec 32) : Fin 3 → Nat :=
  let c0_i32_353 : BitVec 32 := 0#32
  let c1536_i32_354 : BitVec 32 := 1536#32
  ![v184.toNat, 0, 1536]
def k0_cond10 (v15 : BitVec 32) (k0_t17 : Fin (k0_t17_loop v15).trips) : BitVec 1 :=
  let c0_i32_159 : BitVec 32 := 0#32
  let v169 : BitVec 32 := Scalar.subi v15 c0_i32_159
  let c1_i32_160 : BitVec 32 := 1#32
  let v171 : BitVec 32 := Scalar.divsi v169 c1_i32_160
  let v172 : BitVec 32 := Scalar.muli v171 c1_i32_160
  let v173 : BitVec 32 := Scalar.addi c0_i32_159 v172
  let c1_i32_162 : BitVec 32 := 1#32
  let arg20 : BitVec 32 := Scf.iv v173 c1_i32_162 k0_t17
  let c1_i32_171 : BitVec 32 := 1#32
  let v185 : BitVec 32 := Scalar.addi arg20 c1_i32_171
  let v186 : BitVec 1 := Scalar.cmpi .slt v185 v15
  let v306 : BitVec 32 := Scalar.extui v186
  let c0_i32_314 : BitVec 32 := 0#32
  let v307 : BitVec 1 := Scalar.cmpi .ne v306 c0_i32_314
  v307

def k0_off156 (v184 : BitVec 32) : Fin 3 → Nat :=
  let c0_i32_360 : BitVec 32 := 0#32
  let c1536_i32_361 : BitVec 32 := 1536#32
  ![v184.toNat, 0, 1536]
def k0_off157 (v184 : BitVec 32) : Fin 3 → Nat :=
  let c0_i32_367 : BitVec 32 := 0#32
  let c3584_i32_368 : BitVec 32 := 3584#32
  ![v184.toNat, 0, 3584]
def k0_off158 (v184 : BitVec 32) : Fin 3 → Nat :=
  let c0_i32_374 : BitVec 32 := 0#32
  let c3584_i32_375 : BitVec 32 := 3584#32
  ![v184.toNat, 0, 3584]
def k0_off159 (v180 : BitVec 32) : Fin 3 → Nat :=
  let c0_i32_319 : BitVec 32 := 0#32
  let c0_i32_320 : BitVec 32 := 0#32
  ![v180.toNat, 0, 0]
def k0_off160 (v180 : BitVec 32) : Fin 3 → Nat :=
  let c0_i32_325 : BitVec 32 := 0#32
  let c0_i32_326 : BitVec 32 := 0#32
  ![v180.toNat, 0, 0]
@[reducible] def k0_t26_loop : Scf.Loop 32 :=
  let c0_i32_327 : BitVec 32 := 0#32
  let c7_i32 : BitVec 32 := 7#32
  let v320 : BitVec 32 := Scalar.addi c0_i32_327 c7_i32
  let c1_i32_328 : BitVec 32 := 1#32
  ⟨c0_i32_327, v320, c1_i32_328⟩
def k0_mult34 (k0_t26 : Fin k0_t26_loop.trips) : BitVec 32 :=
  let c0_i32_349 : BitVec 32 := 0#32
  let c0_i32_327 : BitVec 32 := 0#32
  let c1_i32_328 : BitVec 32 := 1#32
  let arg21 : BitVec 32 := Scf.iv c0_i32_327 c1_i32_328 k0_t26
  let c1_i32_348 : BitVec 32 := 1#32
  let v338 : BitVec 32 := Scalar.muli arg21 c1_i32_348
  let v339 : BitVec 32 := Scalar.addi c0_i32_349 v338
  let c512_i32_350 : BitVec 32 := 512#32
  let v340 : BitVec 32 := Scalar.muli v339 c512_i32_350
  v340
@[reducible] def k0_t27_loop : Scf.Loop 32 :=
  let c0_i32_352 : BitVec 32 := 0#32
  let c8_i32 : BitVec 32 := 8#32
  let v343 : BitVec 32 := Scalar.addi c0_i32_352 c8_i32
  let c1_i32_353 : BitVec 32 := 1#32
  ⟨c0_i32_352, v343, c1_i32_353⟩
def k0_mult35 (k0_t27 : Fin k0_t27_loop.trips) : BitVec 32 :=
  let c0_i32_352 : BitVec 32 := 0#32
  let c1_i32_353 : BitVec 32 := 1#32
  let arg22 : BitVec 32 := Scf.iv c0_i32_352 c1_i32_353 k0_t27
  let c128_i32 : BitVec 32 := 128#32
  let v358 : BitVec 32 := Scalar.muli arg22 c128_i32
  v358
def k0_mult36 (k0_t27 : Fin k0_t27_loop.trips) : BitVec 32 :=
  let c0_i32_352 : BitVec 32 := 0#32
  let c1_i32_353 : BitVec 32 := 1#32
  let arg22 : BitVec 32 := Scf.iv c0_i32_352 c1_i32_353 k0_t27
  let c8_i32_364 : BitVec 32 := 8#32
  let v360 : BitVec 32 := Scalar.muli arg22 c8_i32_364
  v360
def k0_off161 (k0_t27 : Fin k0_t27_loop.trips) : Fin 3 → Nat :=
  let c0_i32_352 : BitVec 32 := 0#32
  let c1_i32_353 : BitVec 32 := 1#32
  let arg22 : BitVec 32 := Scf.iv c0_i32_352 c1_i32_353 k0_t27
  let v362 : Index := Scalar.indexCast arg22
  let c0_365 : Index := 0#32
  let c0_366 : Index := 0#32
  ![v362.toNat, 0, 0]
def k0_off162 (k0_t26 : Fin k0_t26_loop.trips) (k0_t27 : Fin k0_t27_loop.trips) : Fin 3 → Nat :=
  let c0_367 : Index := 0#32
  let c0_i32_352 : BitVec 32 := 0#32
  let c1_i32_353 : BitVec 32 := 1#32
  let arg22 : BitVec 32 := Scf.iv c0_i32_352 c1_i32_353 k0_t27
  let c128_i32 : BitVec 32 := 128#32
  let v358 : BitVec 32 := Scalar.muli arg22 c128_i32
  let v359 : BitVec 32 := v358
  let v365 : Index := Scalar.indexCast v359
  let c0_i32_349 : BitVec 32 := 0#32
  let c0_i32_327 : BitVec 32 := 0#32
  let c1_i32_328 : BitVec 32 := 1#32
  let arg21 : BitVec 32 := Scf.iv c0_i32_327 c1_i32_328 k0_t26
  let c1_i32_348 : BitVec 32 := 1#32
  let v338 : BitVec 32 := Scalar.muli arg21 c1_i32_348
  let v339 : BitVec 32 := Scalar.addi c0_i32_349 v338
  let c512_i32_350 : BitVec 32 := 512#32
  let v340 : BitVec 32 := Scalar.muli v339 c512_i32_350
  let v341 : BitVec 32 := v340
  let v366 : Index := Scalar.indexCast v341
  ![0, v365.toNat, v366.toNat]
def k0_off163 (k0_t26 : Fin k0_t26_loop.trips) (k0_t27 : Fin k0_t27_loop.trips) : Fin 3 → Nat :=
  let c0_368 : Index := 0#32
  let c0_i32_352 : BitVec 32 := 0#32
  let c1_i32_353 : BitVec 32 := 1#32
  let arg22 : BitVec 32 := Scf.iv c0_i32_352 c1_i32_353 k0_t27
  let c8_i32_364 : BitVec 32 := 8#32
  let v360 : BitVec 32 := Scalar.muli arg22 c8_i32_364
  let v361 : BitVec 32 := v360
  let v369 : Index := Scalar.indexCast v361
  let c0_i32_349 : BitVec 32 := 0#32
  let c0_i32_327 : BitVec 32 := 0#32
  let c1_i32_328 : BitVec 32 := 1#32
  let arg21 : BitVec 32 := Scf.iv c0_i32_327 c1_i32_328 k0_t26
  let c1_i32_348 : BitVec 32 := 1#32
  let v338 : BitVec 32 := Scalar.muli arg21 c1_i32_348
  let v339 : BitVec 32 := Scalar.addi c0_i32_349 v338
  let c512_i32_350 : BitVec 32 := 512#32
  let v340 : BitVec 32 := Scalar.muli v339 c512_i32_350
  let v341 : BitVec 32 := v340
  let v370 : Index := Scalar.indexCast v341
  ![0, v369.toNat, v370.toNat]
def k0_mult37 (k0_t26 : Fin k0_t26_loop.trips) : BitVec 32 :=
  let c0_i32_356 : BitVec 32 := 0#32
  let c0_i32_349 : BitVec 32 := 0#32
  let c0_i32_327 : BitVec 32 := 0#32
  let c1_i32_328 : BitVec 32 := 1#32
  let arg21 : BitVec 32 := Scf.iv c0_i32_327 c1_i32_328 k0_t26
  let c1_i32_348 : BitVec 32 := 1#32
  let v338 : BitVec 32 := Scalar.muli arg21 c1_i32_348
  let v339 : BitVec 32 := Scalar.addi c0_i32_349 v338
  let c512_i32_355 : BitVec 32 := 512#32
  let v345 : BitVec 32 := Scalar.muli v339 c512_i32_355
  let v346 : BitVec 32 := Scalar.addi c0_i32_356 v345
  v346
def k0_off164 (k0_t26 : Fin k0_t26_loop.trips) : Fin 3 → Nat :=
  let c0_357 : Index := 0#32
  let c0_358 : Index := 0#32
  let c0_i32_356 : BitVec 32 := 0#32
  let c0_i32_349 : BitVec 32 := 0#32
  let c0_i32_327 : BitVec 32 := 0#32
  let c1_i32_328 : BitVec 32 := 1#32
  let arg21 : BitVec 32 := Scf.iv c0_i32_327 c1_i32_328 k0_t26
  let c1_i32_348 : BitVec 32 := 1#32
  let v338 : BitVec 32 := Scalar.muli arg21 c1_i32_348
  let v339 : BitVec 32 := Scalar.addi c0_i32_349 v338
  let c512_i32_355 : BitVec 32 := 512#32
  let v345 : BitVec 32 := Scalar.muli v339 c512_i32_355
  let v346 : BitVec 32 := Scalar.addi c0_i32_356 v345
  let v347 : BitVec 32 := v346
  let v348 : Index := Scalar.indexCast v347
  ![0, 0, v348.toNat]
def k0_off165 (v184 : BitVec 32) : Fin 3 → Nat :=
  let c0_i32_352 : BitVec 32 := 0#32
  let c0_i32_353 : BitVec 32 := 0#32
  ![v184.toNat, 0, 0]
def k0_cond11 (v15 : BitVec 32) (k0_t17 : Fin (k0_t17_loop v15).trips) : BitVec 1 :=
  let c0_i32_159 : BitVec 32 := 0#32
  let v169 : BitVec 32 := Scalar.subi v15 c0_i32_159
  let c1_i32_160 : BitVec 32 := 1#32
  let v171 : BitVec 32 := Scalar.divsi v169 c1_i32_160
  let v172 : BitVec 32 := Scalar.muli v171 c1_i32_160
  let v173 : BitVec 32 := Scalar.addi c0_i32_159 v172
  let c1_i32_162 : BitVec 32 := 1#32
  let arg20 : BitVec 32 := Scf.iv v173 c1_i32_162 k0_t17
  let c1_i32_171 : BitVec 32 := 1#32
  let v185 : BitVec 32 := Scalar.addi arg20 c1_i32_171
  let v186 : BitVec 1 := Scalar.cmpi .slt v185 v15
  let v321 : BitVec 32 := Scalar.extui v186
  let c0_i32_330 : BitVec 32 := 0#32
  let v322 : BitVec 1 := Scalar.cmpi .ne v321 c0_i32_330
  v322

def k0_off166 (v184 : BitVec 32) : Fin 3 → Nat :=
  let c0_i32_358 : BitVec 32 := 0#32
  let c0_i32_359 : BitVec 32 := 0#32
  ![v184.toNat, 0, 0]
def k0_off167 (v180 : BitVec 32) : Fin 3 → Nat :=
  let c0_i32_335 : BitVec 32 := 0#32
  let c3584_i32_336 : BitVec 32 := 3584#32
  ![v180.toNat, 0, 3584]
def k0_off168 (v180 : BitVec 32) : Fin 3 → Nat :=
  let c0_i32_341 : BitVec 32 := 0#32
  let c3584_i32_342 : BitVec 32 := 3584#32
  ![v180.toNat, 0, 3584]

def k0_chk7_0 (v180 : BitVec 32) : Prop :=
  (∀ a, (k0_off103 v180) a + S1x3584x512.size a ≤ S13x3584x4096.size a) ∧
  (∀ (hinb : ∀ a, (k0_off103 v180) a + S1x3584x512.size a ≤ S13x3584x4096.size a), (Rect.unit (s := S13x3584x4096) (k0_off103 v180) S1x3584x512.size hinb).WholeWords (EltTy.packing .i8)) ∧
  (∀ a, (k0_off104 v180) a + S1x224x512.size a ≤ S13x224x4096.size a) ∧
  (∀ (hinb : ∀ a, (k0_off104 v180) a + S1x224x512.size a ≤ S13x224x4096.size a), (Rect.unit (s := S13x224x4096) (k0_off104 v180) S1x224x512.size hinb).WholeWords (EltTy.packing .i8)) ∧
  (∀ a, (k0_off105 v180) a + S1x3584x512.size a ≤ S13x3584x4096.size a) ∧
  (∀ (hinb : ∀ a, (k0_off105 v180) a + S1x3584x512.size a ≤ S13x3584x4096.size a), (Rect.unit (s := S13x3584x4096) (k0_off105 v180) S1x3584x512.size hinb).WholeWords (EltTy.packing .i8)) ∧
  (∀ a, (k0_off106 v180) a + S1x224x512.size a ≤ S13x224x4096.size a) ∧
  (∀ (hinb : ∀ a, (k0_off106 v180) a + S1x224x512.size a ≤ S13x224x4096.size a), (Rect.unit (s := S13x224x4096) (k0_off106 v180) S1x224x512.size hinb).WholeWords (EltTy.packing .i8)) ∧
  (∀ a, (k0_off117 v180) a + S1x3584x512.size a ≤ S13x3584x4096.size a) ∧
  (∀ (hinb : ∀ a, (k0_off117 v180) a + S1x3584x512.size a ≤ S13x3584x4096.size a), (Rect.unit (s := S13x3584x4096) (k0_off117 v180) S1x3584x512.size hinb).WholeWords (EltTy.packing .i8)) ∧
  (∀ a, (k0_off118 v180) a + S1x224x512.size a ≤ S13x224x4096.size a) ∧
  (∀ (hinb : ∀ a, (k0_off118 v180) a + S1x224x512.size a ≤ S13x224x4096.size a), (Rect.unit (s := S13x224x4096) (k0_off118 v180) S1x224x512.size hinb).WholeWords (EltTy.packing .i8)) ∧
  (∀ a, (k0_off119 v180) a + S1x3584x512.size a ≤ S13x3584x4096.size a) ∧
  (∀ (hinb : ∀ a, (k0_off119 v180) a + S1x3584x512.size a ≤ S13x3584x4096.size a), (Rect.unit (s := S13x3584x4096) (k0_off119 v180) S1x3584x512.size hinb).WholeWords (EltTy.packing .i8)) ∧
  (∀ a, (k0_off120 v180) a + S1x224x512.size a ≤ S13x224x4096.size a) ∧
  (∀ (hinb : ∀ a, (k0_off120 v180) a + S1x224x512.size a ≤ S13x224x4096.size a), (Rect.unit (s := S13x224x4096) (k0_off120 v180) S1x224x512.size hinb).WholeWords (EltTy.packing .i8)) ∧
  (∀ a, (k0_off131 v180) a + S1x3584x512.size a ≤ S13x3584x4096.size a) ∧
  (∀ (hinb : ∀ a, (k0_off131 v180) a + S1x3584x512.size a ≤ S13x3584x4096.size a), (Rect.unit (s := S13x3584x4096) (k0_off131 v180) S1x3584x512.size hinb).WholeWords (EltTy.packing .i8)) ∧
  (∀ a, (k0_off132 v180) a + S1x224x512.size a ≤ S13x224x4096.size a) ∧
  (∀ (hinb : ∀ a, (k0_off132 v180) a + S1x224x512.size a ≤ S13x224x4096.size a), (Rect.unit (s := S13x224x4096) (k0_off132 v180) S1x224x512.size hinb).WholeWords (EltTy.packing .i8)) ∧
  (∀ a, (k0_off133 v180) a + S1x3584x512.size a ≤ S13x3584x4096.size a) ∧
  (∀ (hinb : ∀ a, (k0_off133 v180) a + S1x3584x512.size a ≤ S13x3584x4096.size a), (Rect.unit (s := S13x3584x4096) (k0_off133 v180) S1x3584x512.size hinb).WholeWords (EltTy.packing .i8)) ∧
  (∀ a, (k0_off134 v180) a + S1x224x512.size a ≤ S13x224x4096.size a) ∧
  (∀ (hinb : ∀ a, (k0_off134 v180) a + S1x224x512.size a ≤ S13x224x4096.size a), (Rect.unit (s := S13x224x4096) (k0_off134 v180) S1x224x512.size hinb).WholeWords (EltTy.packing .i8)) ∧
  (∀ a, (k0_off145 v180) a + S1x3584x512.size a ≤ S13x3584x4096.size a) ∧
  (∀ (hinb : ∀ a, (k0_off145 v180) a + S1x3584x512.size a ≤ S13x3584x4096.size a), (Rect.unit (s := S13x3584x4096) (k0_off145 v180) S1x3584x512.size hinb).WholeWords (EltTy.packing .i8)) ∧
  (∀ a, (k0_off146 v180) a + S1x224x512.size a ≤ S13x224x4096.size a) ∧
  (∀ (hinb : ∀ a, (k0_off146 v180) a + S1x224x512.size a ≤ S13x224x4096.size a), (Rect.unit (s := S13x224x4096) (k0_off146 v180) S1x224x512.size hinb).WholeWords (EltTy.packing .i8)) ∧
  (∀ a, (k0_off147 v180) a + S1x3584x512.size a ≤ S13x3584x4096.size a) ∧
  (∀ (hinb : ∀ a, (k0_off147 v180) a + S1x3584x512.size a ≤ S13x3584x4096.size a), (Rect.unit (s := S13x3584x4096) (k0_off147 v180) S1x3584x512.size hinb).WholeWords (EltTy.packing .i8)) ∧
  (∀ a, (k0_off148 v180) a + S1x224x512.size a ≤ S13x224x4096.size a) ∧
  (∀ (hinb : ∀ a, (k0_off148 v180) a + S1x224x512.size a ≤ S13x224x4096.size a), (Rect.unit (s := S13x224x4096) (k0_off148 v180) S1x224x512.size hinb).WholeWords (EltTy.packing .i8))
def k0_chk7_1 (v180 : BitVec 32) : Prop :=
  (∀ a, (k0_off159 v180) a + S1x1024x3584.size a ≤ S13x1024x7168.size a) ∧
  (∀ (hinb : ∀ a, (k0_off159 v180) a + S1x1024x3584.size a ≤ S13x1024x7168.size a), (Rect.unit (s := S13x1024x7168) (k0_off159 v180) S1x1024x3584.size hinb).WholeWords (EltTy.packing .i8)) ∧
  (∀ a, (k0_off160 v180) a + S1x64x3584.size a ≤ S13x64x7168.size a) ∧
  (∀ (hinb : ∀ a, (k0_off160 v180) a + S1x64x3584.size a ≤ S13x64x7168.size a), (Rect.unit (s := S13x64x7168) (k0_off160 v180) S1x64x3584.size hinb).WholeWords (EltTy.packing .i8)) ∧
  (∀ a, (k0_off167 v180) a + S1x1024x3584.size a ≤ S13x1024x7168.size a) ∧
  (∀ (hinb : ∀ a, (k0_off167 v180) a + S1x1024x3584.size a ≤ S13x1024x7168.size a), (Rect.unit (s := S13x1024x7168) (k0_off167 v180) S1x1024x3584.size hinb).WholeWords (EltTy.packing .i8)) ∧
  (∀ a, (k0_off168 v180) a + S1x64x3584.size a ≤ S13x64x7168.size a) ∧
  (∀ (hinb : ∀ a, (k0_off168 v180) a + S1x64x3584.size a ≤ S13x64x7168.size a), (Rect.unit (s := S13x64x7168) (k0_off168 v180) S1x64x3584.size hinb).WholeWords (EltTy.packing .i8))
def k0_chk7 (v180 : BitVec 32) : Prop :=
  k0_chk7_0 v180 ∧
  k0_chk7_1 v180
theorem k0_off103_inb : ∀ (v180 : BitVec 32) (k0_hw7 : k0_chk7 v180), ∀ a, (k0_off103 v180) a + S1x3584x512.size a ≤ S13x3584x4096.size a := fun v180 k0_hw7 => k0_hw7.1.1
theorem k0_off103_wordsi8 : ∀ (v180 : BitVec 32) (k0_hw7 : k0_chk7 v180), (Rect.unit (s := S13x3584x4096) (k0_off103 v180) S1x3584x512.size (k0_off103_inb v180 k0_hw7)).WholeWords (EltTy.packing .i8) := fun v180 k0_hw7 => k0_hw7.1.2.1 (k0_off103_inb v180 k0_hw7)
theorem k0_off104_inb : ∀ (v180 : BitVec 32) (k0_hw7 : k0_chk7 v180), ∀ a, (k0_off104 v180) a + S1x224x512.size a ≤ S13x224x4096.size a := fun v180 k0_hw7 => k0_hw7.1.2.2.1
theorem k0_off104_wordsi8 : ∀ (v180 : BitVec 32) (k0_hw7 : k0_chk7 v180), (Rect.unit (s := S13x224x4096) (k0_off104 v180) S1x224x512.size (k0_off104_inb v180 k0_hw7)).WholeWords (EltTy.packing .i8) := fun v180 k0_hw7 => k0_hw7.1.2.2.2.1 (k0_off104_inb v180 k0_hw7)
theorem k0_off105_inb : ∀ (v180 : BitVec 32) (k0_hw7 : k0_chk7 v180), ∀ a, (k0_off105 v180) a + S1x3584x512.size a ≤ S13x3584x4096.size a := fun v180 k0_hw7 => k0_hw7.1.2.2.2.2.1
theorem k0_off105_wordsi8 : ∀ (v180 : BitVec 32) (k0_hw7 : k0_chk7 v180), (Rect.unit (s := S13x3584x4096) (k0_off105 v180) S1x3584x512.size (k0_off105_inb v180 k0_hw7)).WholeWords (EltTy.packing .i8) := fun v180 k0_hw7 => k0_hw7.1.2.2.2.2.2.1 (k0_off105_inb v180 k0_hw7)
theorem k0_off106_inb : ∀ (v180 : BitVec 32) (k0_hw7 : k0_chk7 v180), ∀ a, (k0_off106 v180) a + S1x224x512.size a ≤ S13x224x4096.size a := fun v180 k0_hw7 => k0_hw7.1.2.2.2.2.2.2.1
theorem k0_off106_wordsi8 : ∀ (v180 : BitVec 32) (k0_hw7 : k0_chk7 v180), (Rect.unit (s := S13x224x4096) (k0_off106 v180) S1x224x512.size (k0_off106_inb v180 k0_hw7)).WholeWords (EltTy.packing .i8) := fun v180 k0_hw7 => k0_hw7.1.2.2.2.2.2.2.2.1 (k0_off106_inb v180 k0_hw7)
theorem k0_off117_inb : ∀ (v180 : BitVec 32) (k0_hw7 : k0_chk7 v180), ∀ a, (k0_off117 v180) a + S1x3584x512.size a ≤ S13x3584x4096.size a := fun v180 k0_hw7 => k0_hw7.1.2.2.2.2.2.2.2.2.1
theorem k0_off117_wordsi8 : ∀ (v180 : BitVec 32) (k0_hw7 : k0_chk7 v180), (Rect.unit (s := S13x3584x4096) (k0_off117 v180) S1x3584x512.size (k0_off117_inb v180 k0_hw7)).WholeWords (EltTy.packing .i8) := fun v180 k0_hw7 => k0_hw7.1.2.2.2.2.2.2.2.2.2.1 (k0_off117_inb v180 k0_hw7)
theorem k0_off118_inb : ∀ (v180 : BitVec 32) (k0_hw7 : k0_chk7 v180), ∀ a, (k0_off118 v180) a + S1x224x512.size a ≤ S13x224x4096.size a := fun v180 k0_hw7 => k0_hw7.1.2.2.2.2.2.2.2.2.2.2.1
theorem k0_off118_wordsi8 : ∀ (v180 : BitVec 32) (k0_hw7 : k0_chk7 v180), (Rect.unit (s := S13x224x4096) (k0_off118 v180) S1x224x512.size (k0_off118_inb v180 k0_hw7)).WholeWords (EltTy.packing .i8) := fun v180 k0_hw7 => k0_hw7.1.2.2.2.2.2.2.2.2.2.2.2.1 (k0_off118_inb v180 k0_hw7)
theorem k0_off119_inb : ∀ (v180 : BitVec 32) (k0_hw7 : k0_chk7 v180), ∀ a, (k0_off119 v180) a + S1x3584x512.size a ≤ S13x3584x4096.size a := fun v180 k0_hw7 => k0_hw7.1.2.2.2.2.2.2.2.2.2.2.2.2.1
theorem k0_off119_wordsi8 : ∀ (v180 : BitVec 32) (k0_hw7 : k0_chk7 v180), (Rect.unit (s := S13x3584x4096) (k0_off119 v180) S1x3584x512.size (k0_off119_inb v180 k0_hw7)).WholeWords (EltTy.packing .i8) := fun v180 k0_hw7 => k0_hw7.1.2.2.2.2.2.2.2.2.2.2.2.2.2.1 (k0_off119_inb v180 k0_hw7)
theorem k0_off120_inb : ∀ (v180 : BitVec 32) (k0_hw7 : k0_chk7 v180), ∀ a, (k0_off120 v180) a + S1x224x512.size a ≤ S13x224x4096.size a := fun v180 k0_hw7 => k0_hw7.1.2.2.2.2.2.2.2.2.2.2.2.2.2.2.1
theorem k0_off120_wordsi8 : ∀ (v180 : BitVec 32) (k0_hw7 : k0_chk7 v180), (Rect.unit (s := S13x224x4096) (k0_off120 v180) S1x224x512.size (k0_off120_inb v180 k0_hw7)).WholeWords (EltTy.packing .i8) := fun v180 k0_hw7 => k0_hw7.1.2.2.2.2.2.2.2.2.2.2.2.2.2.2.2.1 (k0_off120_inb v180 k0_hw7)
theorem k0_off131_inb : ∀ (v180 : BitVec 32) (k0_hw7 : k0_chk7 v180), ∀ a, (k0_off131 v180) a + S1x3584x512.size a ≤ S13x3584x4096.size a := fun v180 k0_hw7 => k0_hw7.1.2.2.2.2.2.2.2.2.2.2.2.2.2.2.2.2.1
theorem k0_off131_wordsi8 : ∀ (v180 : BitVec 32) (k0_hw7 : k0_chk7 v180), (Rect.unit (s := S13x3584x4096) (k0_off131 v180) S1x3584x512.size (k0_off131_inb v180 k0_hw7)).WholeWords (EltTy.packing .i8) := fun v180 k0_hw7 => k0_hw7.1.2.2.2.2.2.2.2.2.2.2.2.2.2.2.2.2.2.1 (k0_off131_inb v180 k0_hw7)
theorem k0_off132_inb : ∀ (v180 : BitVec 32) (k0_hw7 : k0_chk7 v180), ∀ a, (k0_off132 v180) a + S1x224x512.size a ≤ S13x224x4096.size a := fun v180 k0_hw7 => k0_hw7.1.2.2.2.2.2.2.2.2.2.2.2.2.2.2.2.2.2.2.1
theorem k0_off132_wordsi8 : ∀ (v180 : BitVec 32) (k0_hw7 : k0_chk7 v180), (Rect.unit (s := S13x224x4096) (k0_off132 v180) S1x224x512.size (k0_off132_inb v180 k0_hw7)).WholeWords (EltTy.packing .i8) := fun v180 k0_hw7 => k0_hw7.1.2.2.2.2.2.2.2.2.2.2.2.2.2.2.2.2.2.2.2.1 (k0_off132_inb v180 k0_hw7)
theorem k0_off133_inb : ∀ (v180 : BitVec 32) (k0_hw7 : k0_chk7 v180), ∀ a, (k0_off133 v180) a + S1x3584x512.size a ≤ S13x3584x4096.size a := fun v180 k0_hw7 => k0_hw7.1.2.2.2.2.2.2.2.2.2.2.2.2.2.2.2.2.2.2.2.2.1
theorem k0_off133_wordsi8 : ∀ (v180 : BitVec 32) (k0_hw7 : k0_chk7 v180), (Rect.unit (s := S13x3584x4096) (k0_off133 v180) S1x3584x512.size (k0_off133_inb v180 k0_hw7)).WholeWords (EltTy.packing .i8) := fun v180 k0_hw7 => k0_hw7.1.2.2.2.2.2.2.2.2.2.2.2.2.2.2.2.2.2.2.2.2.2.1 (k0_off133_inb v180 k0_hw7)
theorem k0_off134_inb : ∀ (v180 : BitVec 32) (k0_hw7 : k0_chk7 v180), ∀ a, (k0_off134 v180) a + S1x224x512.size a ≤ S13x224x4096.size a := fun v180 k0_hw7 => k0_hw7.1.2.2.2.2.2.2.2.2.2.2.2.2.2.2.2.2.2.2.2.2.2.2.1
theorem k0_off134_wordsi8 : ∀ (v180 : BitVec 32) (k0_hw7 : k0_chk7 v180), (Rect.unit (s := S13x224x4096) (k0_off134 v180) S1x224x512.size (k0_off134_inb v180 k0_hw7)).WholeWords (EltTy.packing .i8) := fun v180 k0_hw7 => k0_hw7.1.2.2.2.2.2.2.2.2.2.2.2.2.2.2.2.2.2.2.2.2.2.2.2.1 (k0_off134_inb v180 k0_hw7)
theorem k0_off145_inb : ∀ (v180 : BitVec 32) (k0_hw7 : k0_chk7 v180), ∀ a, (k0_off145 v180) a + S1x3584x512.size a ≤ S13x3584x4096.size a := fun v180 k0_hw7 => k0_hw7.1.2.2.2.2.2.2.2.2.2.2.2.2.2.2.2.2.2.2.2.2.2.2.2.2.1
theorem k0_off145_wordsi8 : ∀ (v180 : BitVec 32) (k0_hw7 : k0_chk7 v180), (Rect.unit (s := S13x3584x4096) (k0_off145 v180) S1x3584x512.size (k0_off145_inb v180 k0_hw7)).WholeWords (EltTy.packing .i8) := fun v180 k0_hw7 => k0_hw7.1.2.2.2.2.2.2.2.2.2.2.2.2.2.2.2.2.2.2.2.2.2.2.2.2.2.1 (k0_off145_inb v180 k0_hw7)
theorem k0_off146_inb : ∀ (v180 : BitVec 32) (k0_hw7 : k0_chk7 v180), ∀ a, (k0_off146 v180) a + S1x224x512.size a ≤ S13x224x4096.size a := fun v180 k0_hw7 => k0_hw7.1.2.2.2.2.2.2.2.2.2.2.2.2.2.2.2.2.2.2.2.2.2.2.2.2.2.2.1
theorem k0_off146_wordsi8 : ∀ (v180 : BitVec 32) (k0_hw7 : k0_chk7 v180), (Rect.unit (s := S13x224x4096) (k0_off146 v180) S1x224x512.size (k0_off146_inb v180 k0_hw7)).WholeWords (EltTy.packing .i8) := fun v180 k0_hw7 => k0_hw7.1.2.2.2.2.2.2.2.2.2.2.2.2.2.2.2.2.2.2.2.2.2.2.2.2.2.2.2.1 (k0_off146_inb v180 k0_hw7)
theorem k0_off147_inb : ∀ (v180 : BitVec 32) (k0_hw7 : k0_chk7 v180), ∀ a, (k0_off147 v180) a + S1x3584x512.size a ≤ S13x3584x4096.size a := fun v180 k0_hw7 => k0_hw7.1.2.2.2.2.2.2.2.2.2.2.2.2.2.2.2.2.2.2.2.2.2.2.2.2.2.2.2.2.1
theorem k0_off147_wordsi8 : ∀ (v180 : BitVec 32) (k0_hw7 : k0_chk7 v180), (Rect.unit (s := S13x3584x4096) (k0_off147 v180) S1x3584x512.size (k0_off147_inb v180 k0_hw7)).WholeWords (EltTy.packing .i8) := fun v180 k0_hw7 => k0_hw7.1.2.2.2.2.2.2.2.2.2.2.2.2.2.2.2.2.2.2.2.2.2.2.2.2.2.2.2.2.2.1 (k0_off147_inb v180 k0_hw7)
theorem k0_off148_inb : ∀ (v180 : BitVec 32) (k0_hw7 : k0_chk7 v180), ∀ a, (k0_off148 v180) a + S1x224x512.size a ≤ S13x224x4096.size a := fun v180 k0_hw7 => k0_hw7.1.2.2.2.2.2.2.2.2.2.2.2.2.2.2.2.2.2.2.2.2.2.2.2.2.2.2.2.2.2.2.1
theorem k0_off148_wordsi8 : ∀ (v180 : BitVec 32) (k0_hw7 : k0_chk7 v180), (Rect.unit (s := S13x224x4096) (k0_off148 v180) S1x224x512.size (k0_off148_inb v180 k0_hw7)).WholeWords (EltTy.packing .i8) := fun v180 k0_hw7 => k0_hw7.1.2.2.2.2.2.2.2.2.2.2.2.2.2.2.2.2.2.2.2.2.2.2.2.2.2.2.2.2.2.2.2 (k0_off148_inb v180 k0_hw7)
theorem k0_off159_inb : ∀ (v180 : BitVec 32) (k0_hw7 : k0_chk7 v180), ∀ a, (k0_off159 v180) a + S1x1024x3584.size a ≤ S13x1024x7168.size a := fun v180 k0_hw7 => k0_hw7.2.1
theorem k0_off159_wordsi8 : ∀ (v180 : BitVec 32) (k0_hw7 : k0_chk7 v180), (Rect.unit (s := S13x1024x7168) (k0_off159 v180) S1x1024x3584.size (k0_off159_inb v180 k0_hw7)).WholeWords (EltTy.packing .i8) := fun v180 k0_hw7 => k0_hw7.2.2.1 (k0_off159_inb v180 k0_hw7)
theorem k0_off160_inb : ∀ (v180 : BitVec 32) (k0_hw7 : k0_chk7 v180), ∀ a, (k0_off160 v180) a + S1x64x3584.size a ≤ S13x64x7168.size a := fun v180 k0_hw7 => k0_hw7.2.2.2.1
theorem k0_off160_wordsi8 : ∀ (v180 : BitVec 32) (k0_hw7 : k0_chk7 v180), (Rect.unit (s := S13x64x7168) (k0_off160 v180) S1x64x3584.size (k0_off160_inb v180 k0_hw7)).WholeWords (EltTy.packing .i8) := fun v180 k0_hw7 => k0_hw7.2.2.2.2.1 (k0_off160_inb v180 k0_hw7)
theorem k0_off167_inb : ∀ (v180 : BitVec 32) (k0_hw7 : k0_chk7 v180), ∀ a, (k0_off167 v180) a + S1x1024x3584.size a ≤ S13x1024x7168.size a := fun v180 k0_hw7 => k0_hw7.2.2.2.2.2.1
theorem k0_off167_wordsi8 : ∀ (v180 : BitVec 32) (k0_hw7 : k0_chk7 v180), (Rect.unit (s := S13x1024x7168) (k0_off167 v180) S1x1024x3584.size (k0_off167_inb v180 k0_hw7)).WholeWords (EltTy.packing .i8) := fun v180 k0_hw7 => k0_hw7.2.2.2.2.2.2.1 (k0_off167_inb v180 k0_hw7)
theorem k0_off168_inb : ∀ (v180 : BitVec 32) (k0_hw7 : k0_chk7 v180), ∀ a, (k0_off168 v180) a + S1x64x3584.size a ≤ S13x64x7168.size a := fun v180 k0_hw7 => k0_hw7.2.2.2.2.2.2.2.1
theorem k0_off168_wordsi8 : ∀ (v180 : BitVec 32) (k0_hw7 : k0_chk7 v180), (Rect.unit (s := S13x64x7168) (k0_off168 v180) S1x64x3584.size (k0_off168_inb v180 k0_hw7)).WholeWords (EltTy.packing .i8) := fun v180 k0_hw7 => k0_hw7.2.2.2.2.2.2.2.2 (k0_off168_inb v180 k0_hw7)

@[reducible] def k0_t28_loop : Scf.Loop 32 :=
  let c0_i32_343 : BitVec 32 := 0#32
  let c7_i32_344 : BitVec 32 := 7#32
  let v335 : BitVec 32 := Scalar.addi c0_i32_343 c7_i32_344
  let c1_i32_345 : BitVec 32 := 1#32
  ⟨c0_i32_343, v335, c1_i32_345⟩
def k0_mult38 (k0_t28 : Fin k0_t28_loop.trips) : BitVec 32 :=
  let c0_i32_349 : BitVec 32 := 0#32
  let c0_i32_343 : BitVec 32 := 0#32
  let c1_i32_345 : BitVec 32 := 1#32
  let arg21 : BitVec 32 := Scf.iv c0_i32_343 c1_i32_345 k0_t28
  let c1_i32_348 : BitVec 32 := 1#32
  let v338 : BitVec 32 := Scalar.muli arg21 c1_i32_348
  let v339 : BitVec 32 := Scalar.addi c0_i32_349 v338
  let c512_i32_350 : BitVec 32 := 512#32
  let v340 : BitVec 32 := Scalar.muli v339 c512_i32_350
  v340
@[reducible] def k0_t29_loop : Scf.Loop 32 :=
  let c0_i32_352 : BitVec 32 := 0#32
  let c8_i32 : BitVec 32 := 8#32
  let v343 : BitVec 32 := Scalar.addi c0_i32_352 c8_i32
  let c1_i32_353 : BitVec 32 := 1#32
  ⟨c0_i32_352, v343, c1_i32_353⟩
def k0_mult39 (k0_t29 : Fin k0_t29_loop.trips) : BitVec 32 :=
  let c0_i32_352 : BitVec 32 := 0#32
  let c1_i32_353 : BitVec 32 := 1#32
  let arg22 : BitVec 32 := Scf.iv c0_i32_352 c1_i32_353 k0_t29
  let c128_i32 : BitVec 32 := 128#32
  let v358 : BitVec 32 := Scalar.muli arg22 c128_i32
  v358
def k0_mult40 (k0_t29 : Fin k0_t29_loop.trips) : BitVec 32 :=
  let c0_i32_352 : BitVec 32 := 0#32
  let c1_i32_353 : BitVec 32 := 1#32
  let arg22 : BitVec 32 := Scf.iv c0_i32_352 c1_i32_353 k0_t29
  let c8_i32_364 : BitVec 32 := 8#32
  let v360 : BitVec 32 := Scalar.muli arg22 c8_i32_364
  v360
def k0_off169 (k0_t29 : Fin k0_t29_loop.trips) : Fin 3 → Nat :=
  let c0_i32_352 : BitVec 32 := 0#32
  let c1_i32_353 : BitVec 32 := 1#32
  let arg22 : BitVec 32 := Scf.iv c0_i32_352 c1_i32_353 k0_t29
  let v362 : Index := Scalar.indexCast arg22
  let c0_365 : Index := 0#32
  let c0_366 : Index := 0#32
  ![v362.toNat, 0, 0]
def k0_off170 (k0_t28 : Fin k0_t28_loop.trips) (k0_t29 : Fin k0_t29_loop.trips) : Fin 3 → Nat :=
  let c1_367 : Index := 1#32
  let c0_i32_352 : BitVec 32 := 0#32
  let c1_i32_353 : BitVec 32 := 1#32
  let arg22 : BitVec 32 := Scf.iv c0_i32_352 c1_i32_353 k0_t29
  let c128_i32 : BitVec 32 := 128#32
  let v358 : BitVec 32 := Scalar.muli arg22 c128_i32
  let v359 : BitVec 32 := v358
  let v365 : Index := Scalar.indexCast v359
  let c0_i32_349 : BitVec 32 := 0#32
  let c0_i32_343 : BitVec 32 := 0#32
  let c1_i32_345 : BitVec 32 := 1#32
  let arg21 : BitVec 32 := Scf.iv c0_i32_343 c1_i32_345 k0_t28
  let c1_i32_348 : BitVec 32 := 1#32
  let v338 : BitVec 32 := Scalar.muli arg21 c1_i32_348
  let v339 : BitVec 32 := Scalar.addi c0_i32_349 v338
  let c512_i32_350 : BitVec 32 := 512#32
  let v340 : BitVec 32 := Scalar.muli v339 c512_i32_350
  let v341 : BitVec 32 := v340
  let v366 : Index := Scalar.indexCast v341
  ![1, v365.toNat, v366.toNat]
def k0_off171 (k0_t28 : Fin k0_t28_loop.trips) (k0_t29 : Fin k0_t29_loop.trips) : Fin 3 → Nat :=
  let c1_368 : Index := 1#32
  let c0_i32_352 : BitVec 32 := 0#32
  let c1_i32_353 : BitVec 32 := 1#32
  let arg22 : BitVec 32 := Scf.iv c0_i32_352 c1_i32_353 k0_t29
  let c8_i32_364 : BitVec 32 := 8#32
  let v360 : BitVec 32 := Scalar.muli arg22 c8_i32_364
  let v361 : BitVec 32 := v360
  let v369 : Index := Scalar.indexCast v361
  let c0_i32_349 : BitVec 32 := 0#32
  let c0_i32_343 : BitVec 32 := 0#32
  let c1_i32_345 : BitVec 32 := 1#32
  let arg21 : BitVec 32 := Scf.iv c0_i32_343 c1_i32_345 k0_t28
  let c1_i32_348 : BitVec 32 := 1#32
  let v338 : BitVec 32 := Scalar.muli arg21 c1_i32_348
  let v339 : BitVec 32 := Scalar.addi c0_i32_349 v338
  let c512_i32_350 : BitVec 32 := 512#32
  let v340 : BitVec 32 := Scalar.muli v339 c512_i32_350
  let v341 : BitVec 32 := v340
  let v370 : Index := Scalar.indexCast v341
  ![1, v369.toNat, v370.toNat]
def k0_mult41 (k0_t28 : Fin k0_t28_loop.trips) : BitVec 32 :=
  let c3584_i32_356 : BitVec 32 := 3584#32
  let c0_i32_349 : BitVec 32 := 0#32
  let c0_i32_343 : BitVec 32 := 0#32
  let c1_i32_345 : BitVec 32 := 1#32
  let arg21 : BitVec 32 := Scf.iv c0_i32_343 c1_i32_345 k0_t28
  let c1_i32_348 : BitVec 32 := 1#32
  let v338 : BitVec 32 := Scalar.muli arg21 c1_i32_348
  let v339 : BitVec 32 := Scalar.addi c0_i32_349 v338
  let c512_i32_355 : BitVec 32 := 512#32
  let v345 : BitVec 32 := Scalar.muli v339 c512_i32_355
  let v346 : BitVec 32 := Scalar.addi c3584_i32_356 v345
  v346
def k0_off172 (k0_t28 : Fin k0_t28_loop.trips) : Fin 3 → Nat :=
  let c0_357 : Index := 0#32
  let c0_358 : Index := 0#32
  let c3584_i32_356 : BitVec 32 := 3584#32
  let c0_i32_349 : BitVec 32 := 0#32
  let c0_i32_343 : BitVec 32 := 0#32
  let c1_i32_345 : BitVec 32 := 1#32
  let arg21 : BitVec 32 := Scf.iv c0_i32_343 c1_i32_345 k0_t28
  let c1_i32_348 : BitVec 32 := 1#32
  let v338 : BitVec 32 := Scalar.muli arg21 c1_i32_348
  let v339 : BitVec 32 := Scalar.addi c0_i32_349 v338
  let c512_i32_355 : BitVec 32 := 512#32
  let v345 : BitVec 32 := Scalar.muli v339 c512_i32_355
  let v346 : BitVec 32 := Scalar.addi c3584_i32_356 v345
  let v347 : BitVec 32 := v346
  let v348 : Index := Scalar.indexCast v347
  ![0, 0, v348.toNat]
def k0_off173 (v184 : BitVec 32) : Fin 3 → Nat :=
  let c0_i32_352 : BitVec 32 := 0#32
  let c3584_i32_353 : BitVec 32 := 3584#32
  ![v184.toNat, 0, 3584]
def k0_cond12 (v15 : BitVec 32) (k0_t17 : Fin (k0_t17_loop v15).trips) : BitVec 1 :=
  let c0_i32_159 : BitVec 32 := 0#32
  let v169 : BitVec 32 := Scalar.subi v15 c0_i32_159
  let c1_i32_160 : BitVec 32 := 1#32
  let v171 : BitVec 32 := Scalar.divsi v169 c1_i32_160
  let v172 : BitVec 32 := Scalar.muli v171 c1_i32_160
  let v173 : BitVec 32 := Scalar.addi c0_i32_159 v172
  let c1_i32_162 : BitVec 32 := 1#32
  let arg20 : BitVec 32 := Scf.iv v173 c1_i32_162 k0_t17
  let c1_i32_171 : BitVec 32 := 1#32
  let v185 : BitVec 32 := Scalar.addi arg20 c1_i32_171
  let v186 : BitVec 1 := Scalar.cmpi .slt v185 v15
  let v336 : BitVec 32 := Scalar.extui v186
  let c0_i32_347 : BitVec 32 := 0#32
  let v337 : BitVec 1 := Scalar.cmpi .ne v336 c0_i32_347
  v337

def k0_off174 (v184 : BitVec 32) : Fin 3 → Nat :=
  let c0_i32_358 : BitVec 32 := 0#32
  let c3584_i32_359 : BitVec 32 := 3584#32
  ![v184.toNat, 0, 3584]

def k0_chk8_0 (v15 : BitVec 32) (k0_t17 : Fin (k0_t17_loop v15).trips) (v184 : BitVec 32) : Prop :=
  (∀ (k0_h7 : k0_cond7 v15 k0_t17 = 1#1), ∀ a, (k0_off113 v184) a + S1x3584x512.size a ≤ S13x3584x4096.size a) ∧
  (∀ (k0_h7 : k0_cond7 v15 k0_t17 = 1#1), ∀ (hinb : ∀ a, (k0_off113 v184) a + S1x3584x512.size a ≤ S13x3584x4096.size a), (Rect.unit (s := S13x3584x4096) (k0_off113 v184) S1x3584x512.size hinb).WholeWords (EltTy.packing .i8)) ∧
  (∀ (k0_h7 : k0_cond7 v15 k0_t17 = 1#1), ∀ a, (k0_off114 v184) a + S1x224x512.size a ≤ S13x224x4096.size a) ∧
  (∀ (k0_h7 : k0_cond7 v15 k0_t17 = 1#1), ∀ (hinb : ∀ a, (k0_off114 v184) a + S1x224x512.size a ≤ S13x224x4096.size a), (Rect.unit (s := S13x224x4096) (k0_off114 v184) S1x224x512.size hinb).WholeWords (EltTy.packing .i8)) ∧
  (∀ (k0_h7 : k0_cond7 v15 k0_t17 = 1#1), ∀ a, (k0_off115 v184) a + S1x3584x512.size a ≤ S13x3584x4096.size a) ∧
  (∀ (k0_h7 : k0_cond7 v15 k0_t17 = 1#1), ∀ (hinb : ∀ a, (k0_off115 v184) a + S1x3584x512.size a ≤ S13x3584x4096.size a), (Rect.unit (s := S13x3584x4096) (k0_off115 v184) S1x3584x512.size hinb).WholeWords (EltTy.packing .i8)) ∧
  (∀ (k0_h7 : k0_cond7 v15 k0_t17 = 1#1), ∀ a, (k0_off116 v184) a + S1x224x512.size a ≤ S13x224x4096.size a) ∧
  (∀ (k0_h7 : k0_cond7 v15 k0_t17 = 1#1), ∀ (hinb : ∀ a, (k0_off116 v184) a + S1x224x512.size a ≤ S13x224x4096.size a), (Rect.unit (s := S13x224x4096) (k0_off116 v184) S1x224x512.size hinb).WholeWords (EltTy.packing .i8)) ∧
  (∀ (k0_h8 : k0_cond8 v15 k0_t17 = 1#1), ∀ a, (k0_off127 v184) a + S1x3584x512.size a ≤ S13x3584x4096.size a) ∧
  (∀ (k0_h8 : k0_cond8 v15 k0_t17 = 1#1), ∀ (hinb : ∀ a, (k0_off127 v184) a + S1x3584x512.size a ≤ S13x3584x4096.size a), (Rect.unit (s := S13x3584x4096) (k0_off127 v184) S1x3584x512.size hinb).WholeWords (EltTy.packing .i8)) ∧
  (∀ (k0_h8 : k0_cond8 v15 k0_t17 = 1#1), ∀ a, (k0_off128 v184) a + S1x224x512.size a ≤ S13x224x4096.size a) ∧
  (∀ (k0_h8 : k0_cond8 v15 k0_t17 = 1#1), ∀ (hinb : ∀ a, (k0_off128 v184) a + S1x224x512.size a ≤ S13x224x4096.size a), (Rect.unit (s := S13x224x4096) (k0_off128 v184) S1x224x512.size hinb).WholeWords (EltTy.packing .i8)) ∧
  (∀ (k0_h8 : k0_cond8 v15 k0_t17 = 1#1), ∀ a, (k0_off129 v184) a + S1x3584x512.size a ≤ S13x3584x4096.size a) ∧
  (∀ (k0_h8 : k0_cond8 v15 k0_t17 = 1#1), ∀ (hinb : ∀ a, (k0_off129 v184) a + S1x3584x512.size a ≤ S13x3584x4096.size a), (Rect.unit (s := S13x3584x4096) (k0_off129 v184) S1x3584x512.size hinb).WholeWords (EltTy.packing .i8)) ∧
  (∀ (k0_h8 : k0_cond8 v15 k0_t17 = 1#1), ∀ a, (k0_off130 v184) a + S1x224x512.size a ≤ S13x224x4096.size a) ∧
  (∀ (k0_h8 : k0_cond8 v15 k0_t17 = 1#1), ∀ (hinb : ∀ a, (k0_off130 v184) a + S1x224x512.size a ≤ S13x224x4096.size a), (Rect.unit (s := S13x224x4096) (k0_off130 v184) S1x224x512.size hinb).WholeWords (EltTy.packing .i8)) ∧
  (∀ (k0_h9 : k0_cond9 v15 k0_t17 = 1#1), ∀ a, (k0_off141 v184) a + S1x3584x512.size a ≤ S13x3584x4096.size a) ∧
  (∀ (k0_h9 : k0_cond9 v15 k0_t17 = 1#1), ∀ (hinb : ∀ a, (k0_off141 v184) a + S1x3584x512.size a ≤ S13x3584x4096.size a), (Rect.unit (s := S13x3584x4096) (k0_off141 v184) S1x3584x512.size hinb).WholeWords (EltTy.packing .i8)) ∧
  (∀ (k0_h9 : k0_cond9 v15 k0_t17 = 1#1), ∀ a, (k0_off142 v184) a + S1x224x512.size a ≤ S13x224x4096.size a) ∧
  (∀ (k0_h9 : k0_cond9 v15 k0_t17 = 1#1), ∀ (hinb : ∀ a, (k0_off142 v184) a + S1x224x512.size a ≤ S13x224x4096.size a), (Rect.unit (s := S13x224x4096) (k0_off142 v184) S1x224x512.size hinb).WholeWords (EltTy.packing .i8)) ∧
  (∀ (k0_h9 : k0_cond9 v15 k0_t17 = 1#1), ∀ a, (k0_off143 v184) a + S1x3584x512.size a ≤ S13x3584x4096.size a) ∧
  (∀ (k0_h9 : k0_cond9 v15 k0_t17 = 1#1), ∀ (hinb : ∀ a, (k0_off143 v184) a + S1x3584x512.size a ≤ S13x3584x4096.size a), (Rect.unit (s := S13x3584x4096) (k0_off143 v184) S1x3584x512.size hinb).WholeWords (EltTy.packing .i8)) ∧
  (∀ (k0_h9 : k0_cond9 v15 k0_t17 = 1#1), ∀ a, (k0_off144 v184) a + S1x224x512.size a ≤ S13x224x4096.size a) ∧
  (∀ (k0_h9 : k0_cond9 v15 k0_t17 = 1#1), ∀ (hinb : ∀ a, (k0_off144 v184) a + S1x224x512.size a ≤ S13x224x4096.size a), (Rect.unit (s := S13x224x4096) (k0_off144 v184) S1x224x512.size hinb).WholeWords (EltTy.packing .i8)) ∧
  (∀ (k0_h10 : k0_cond10 v15 k0_t17 = 1#1), ∀ a, (k0_off155 v184) a + S1x3584x512.size a ≤ S13x3584x4096.size a) ∧
  (∀ (k0_h10 : k0_cond10 v15 k0_t17 = 1#1), ∀ (hinb : ∀ a, (k0_off155 v184) a + S1x3584x512.size a ≤ S13x3584x4096.size a), (Rect.unit (s := S13x3584x4096) (k0_off155 v184) S1x3584x512.size hinb).WholeWords (EltTy.packing .i8)) ∧
  (∀ (k0_h10 : k0_cond10 v15 k0_t17 = 1#1), ∀ a, (k0_off156 v184) a + S1x224x512.size a ≤ S13x224x4096.size a) ∧
  (∀ (k0_h10 : k0_cond10 v15 k0_t17 = 1#1), ∀ (hinb : ∀ a, (k0_off156 v184) a + S1x224x512.size a ≤ S13x224x4096.size a), (Rect.unit (s := S13x224x4096) (k0_off156 v184) S1x224x512.size hinb).WholeWords (EltTy.packing .i8)) ∧
  (∀ (k0_h10 : k0_cond10 v15 k0_t17 = 1#1), ∀ a, (k0_off157 v184) a + S1x3584x512.size a ≤ S13x3584x4096.size a) ∧
  (∀ (k0_h10 : k0_cond10 v15 k0_t17 = 1#1), ∀ (hinb : ∀ a, (k0_off157 v184) a + S1x3584x512.size a ≤ S13x3584x4096.size a), (Rect.unit (s := S13x3584x4096) (k0_off157 v184) S1x3584x512.size hinb).WholeWords (EltTy.packing .i8)) ∧
  (∀ (k0_h10 : k0_cond10 v15 k0_t17 = 1#1), ∀ a, (k0_off158 v184) a + S1x224x512.size a ≤ S13x224x4096.size a) ∧
  (∀ (k0_h10 : k0_cond10 v15 k0_t17 = 1#1), ∀ (hinb : ∀ a, (k0_off158 v184) a + S1x224x512.size a ≤ S13x224x4096.size a), (Rect.unit (s := S13x224x4096) (k0_off158 v184) S1x224x512.size hinb).WholeWords (EltTy.packing .i8))
def k0_chk8_1 (v15 : BitVec 32) (k0_t17 : Fin (k0_t17_loop v15).trips) (v184 : BitVec 32) : Prop :=
  (∀ (k0_h11 : k0_cond11 v15 k0_t17 = 1#1), ∀ a, (k0_off165 v184) a + S1x1024x3584.size a ≤ S13x1024x7168.size a) ∧
  (∀ (k0_h11 : k0_cond11 v15 k0_t17 = 1#1), ∀ (hinb : ∀ a, (k0_off165 v184) a + S1x1024x3584.size a ≤ S13x1024x7168.size a), (Rect.unit (s := S13x1024x7168) (k0_off165 v184) S1x1024x3584.size hinb).WholeWords (EltTy.packing .i8)) ∧
  (∀ (k0_h11 : k0_cond11 v15 k0_t17 = 1#1), ∀ a, (k0_off166 v184) a + S1x64x3584.size a ≤ S13x64x7168.size a) ∧
  (∀ (k0_h11 : k0_cond11 v15 k0_t17 = 1#1), ∀ (hinb : ∀ a, (k0_off166 v184) a + S1x64x3584.size a ≤ S13x64x7168.size a), (Rect.unit (s := S13x64x7168) (k0_off166 v184) S1x64x3584.size hinb).WholeWords (EltTy.packing .i8)) ∧
  (∀ (k0_h12 : k0_cond12 v15 k0_t17 = 1#1), ∀ a, (k0_off173 v184) a + S1x1024x3584.size a ≤ S13x1024x7168.size a) ∧
  (∀ (k0_h12 : k0_cond12 v15 k0_t17 = 1#1), ∀ (hinb : ∀ a, (k0_off173 v184) a + S1x1024x3584.size a ≤ S13x1024x7168.size a), (Rect.unit (s := S13x1024x7168) (k0_off173 v184) S1x1024x3584.size hinb).WholeWords (EltTy.packing .i8)) ∧
  (∀ (k0_h12 : k0_cond12 v15 k0_t17 = 1#1), ∀ a, (k0_off174 v184) a + S1x64x3584.size a ≤ S13x64x7168.size a) ∧
  (∀ (k0_h12 : k0_cond12 v15 k0_t17 = 1#1), ∀ (hinb : ∀ a, (k0_off174 v184) a + S1x64x3584.size a ≤ S13x64x7168.size a), (Rect.unit (s := S13x64x7168) (k0_off174 v184) S1x64x3584.size hinb).WholeWords (EltTy.packing .i8))
def k0_chk8 (v15 : BitVec 32) (k0_t17 : Fin (k0_t17_loop v15).trips) (v184 : BitVec 32) : Prop :=
  k0_chk8_0 v15 k0_t17 v184 ∧
  k0_chk8_1 v15 k0_t17 v184
theorem k0_off113_inb : ∀ (v15 : BitVec 32) (k0_t17 : Fin (k0_t17_loop v15).trips) (v184 : BitVec 32) (k0_hw8 : k0_chk8 v15 k0_t17 v184), ∀ (k0_h7 : k0_cond7 v15 k0_t17 = 1#1), ∀ a, (k0_off113 v184) a + S1x3584x512.size a ≤ S13x3584x4096.size a := fun v15 k0_t17 v184 k0_hw8 k0_h7 => k0_hw8.1.1 k0_h7
theorem k0_off113_wordsi8 : ∀ (v15 : BitVec 32) (k0_t17 : Fin (k0_t17_loop v15).trips) (v184 : BitVec 32) (k0_hw8 : k0_chk8 v15 k0_t17 v184), ∀ (k0_h7 : k0_cond7 v15 k0_t17 = 1#1), (Rect.unit (s := S13x3584x4096) (k0_off113 v184) S1x3584x512.size (k0_off113_inb v15 k0_t17 v184 k0_hw8 k0_h7)).WholeWords (EltTy.packing .i8) := fun v15 k0_t17 v184 k0_hw8 k0_h7 => k0_hw8.1.2.1 k0_h7 (k0_off113_inb v15 k0_t17 v184 k0_hw8 k0_h7)
theorem k0_off114_inb : ∀ (v15 : BitVec 32) (k0_t17 : Fin (k0_t17_loop v15).trips) (v184 : BitVec 32) (k0_hw8 : k0_chk8 v15 k0_t17 v184), ∀ (k0_h7 : k0_cond7 v15 k0_t17 = 1#1), ∀ a, (k0_off114 v184) a + S1x224x512.size a ≤ S13x224x4096.size a := fun v15 k0_t17 v184 k0_hw8 k0_h7 => k0_hw8.1.2.2.1 k0_h7
theorem k0_off114_wordsi8 : ∀ (v15 : BitVec 32) (k0_t17 : Fin (k0_t17_loop v15).trips) (v184 : BitVec 32) (k0_hw8 : k0_chk8 v15 k0_t17 v184), ∀ (k0_h7 : k0_cond7 v15 k0_t17 = 1#1), (Rect.unit (s := S13x224x4096) (k0_off114 v184) S1x224x512.size (k0_off114_inb v15 k0_t17 v184 k0_hw8 k0_h7)).WholeWords (EltTy.packing .i8) := fun v15 k0_t17 v184 k0_hw8 k0_h7 => k0_hw8.1.2.2.2.1 k0_h7 (k0_off114_inb v15 k0_t17 v184 k0_hw8 k0_h7)
theorem k0_off115_inb : ∀ (v15 : BitVec 32) (k0_t17 : Fin (k0_t17_loop v15).trips) (v184 : BitVec 32) (k0_hw8 : k0_chk8 v15 k0_t17 v184), ∀ (k0_h7 : k0_cond7 v15 k0_t17 = 1#1), ∀ a, (k0_off115 v184) a + S1x3584x512.size a ≤ S13x3584x4096.size a := fun v15 k0_t17 v184 k0_hw8 k0_h7 => k0_hw8.1.2.2.2.2.1 k0_h7
theorem k0_off115_wordsi8 : ∀ (v15 : BitVec 32) (k0_t17 : Fin (k0_t17_loop v15).trips) (v184 : BitVec 32) (k0_hw8 : k0_chk8 v15 k0_t17 v184), ∀ (k0_h7 : k0_cond7 v15 k0_t17 = 1#1), (Rect.unit (s := S13x3584x4096) (k0_off115 v184) S1x3584x512.size (k0_off115_inb v15 k0_t17 v184 k0_hw8 k0_h7)).WholeWords (EltTy.packing .i8) := fun v15 k0_t17 v184 k0_hw8 k0_h7 => k0_hw8.1.2.2.2.2.2.1 k0_h7 (k0_off115_inb v15 k0_t17 v184 k0_hw8 k0_h7)
theorem k0_off116_inb : ∀ (v15 : BitVec 32) (k0_t17 : Fin (k0_t17_loop v15).trips) (v184 : BitVec 32) (k0_hw8 : k0_chk8 v15 k0_t17 v184), ∀ (k0_h7 : k0_cond7 v15 k0_t17 = 1#1), ∀ a, (k0_off116 v184) a + S1x224x512.size a ≤ S13x224x4096.size a := fun v15 k0_t17 v184 k0_hw8 k0_h7 => k0_hw8.1.2.2.2.2.2.2.1 k0_h7
theorem k0_off116_wordsi8 : ∀ (v15 : BitVec 32) (k0_t17 : Fin (k0_t17_loop v15).trips) (v184 : BitVec 32) (k0_hw8 : k0_chk8 v15 k0_t17 v184), ∀ (k0_h7 : k0_cond7 v15 k0_t17 = 1#1), (Rect.unit (s := S13x224x4096) (k0_off116 v184) S1x224x512.size (k0_off116_inb v15 k0_t17 v184 k0_hw8 k0_h7)).WholeWords (EltTy.packing .i8) := fun v15 k0_t17 v184 k0_hw8 k0_h7 => k0_hw8.1.2.2.2.2.2.2.2.1 k0_h7 (k0_off116_inb v15 k0_t17 v184 k0_hw8 k0_h7)
theorem k0_off127_inb : ∀ (v15 : BitVec 32) (k0_t17 : Fin (k0_t17_loop v15).trips) (v184 : BitVec 32) (k0_hw8 : k0_chk8 v15 k0_t17 v184), ∀ (k0_h8 : k0_cond8 v15 k0_t17 = 1#1), ∀ a, (k0_off127 v184) a + S1x3584x512.size a ≤ S13x3584x4096.size a := fun v15 k0_t17 v184 k0_hw8 k0_h8 => k0_hw8.1.2.2.2.2.2.2.2.2.1 k0_h8
theorem k0_off127_wordsi8 : ∀ (v15 : BitVec 32) (k0_t17 : Fin (k0_t17_loop v15).trips) (v184 : BitVec 32) (k0_hw8 : k0_chk8 v15 k0_t17 v184), ∀ (k0_h8 : k0_cond8 v15 k0_t17 = 1#1), (Rect.unit (s := S13x3584x4096) (k0_off127 v184) S1x3584x512.size (k0_off127_inb v15 k0_t17 v184 k0_hw8 k0_h8)).WholeWords (EltTy.packing .i8) := fun v15 k0_t17 v184 k0_hw8 k0_h8 => k0_hw8.1.2.2.2.2.2.2.2.2.2.1 k0_h8 (k0_off127_inb v15 k0_t17 v184 k0_hw8 k0_h8)
theorem k0_off128_inb : ∀ (v15 : BitVec 32) (k0_t17 : Fin (k0_t17_loop v15).trips) (v184 : BitVec 32) (k0_hw8 : k0_chk8 v15 k0_t17 v184), ∀ (k0_h8 : k0_cond8 v15 k0_t17 = 1#1), ∀ a, (k0_off128 v184) a + S1x224x512.size a ≤ S13x224x4096.size a := fun v15 k0_t17 v184 k0_hw8 k0_h8 => k0_hw8.1.2.2.2.2.2.2.2.2.2.2.1 k0_h8
theorem k0_off128_wordsi8 : ∀ (v15 : BitVec 32) (k0_t17 : Fin (k0_t17_loop v15).trips) (v184 : BitVec 32) (k0_hw8 : k0_chk8 v15 k0_t17 v184), ∀ (k0_h8 : k0_cond8 v15 k0_t17 = 1#1), (Rect.unit (s := S13x224x4096) (k0_off128 v184) S1x224x512.size (k0_off128_inb v15 k0_t17 v184 k0_hw8 k0_h8)).WholeWords (EltTy.packing .i8) := fun v15 k0_t17 v184 k0_hw8 k0_h8 => k0_hw8.1.2.2.2.2.2.2.2.2.2.2.2.1 k0_h8 (k0_off128_inb v15 k0_t17 v184 k0_hw8 k0_h8)
theorem k0_off129_inb : ∀ (v15 : BitVec 32) (k0_t17 : Fin (k0_t17_loop v15).trips) (v184 : BitVec 32) (k0_hw8 : k0_chk8 v15 k0_t17 v184), ∀ (k0_h8 : k0_cond8 v15 k0_t17 = 1#1), ∀ a, (k0_off129 v184) a + S1x3584x512.size a ≤ S13x3584x4096.size a := fun v15 k0_t17 v184 k0_hw8 k0_h8 => k0_hw8.1.2.2.2.2.2.2.2.2.2.2.2.2.1 k0_h8
theorem k0_off129_wordsi8 : ∀ (v15 : BitVec 32) (k0_t17 : Fin (k0_t17_loop v15).trips) (v184 : BitVec 32) (k0_hw8 : k0_chk8 v15 k0_t17 v184), ∀ (k0_h8 : k0_cond8 v15 k0_t17 = 1#1), (Rect.unit (s := S13x3584x4096) (k0_off129 v184) S1x3584x512.size (k0_off129_inb v15 k0_t17 v184 k0_hw8 k0_h8)).WholeWords (EltTy.packing .i8) := fun v15 k0_t17 v184 k0_hw8 k0_h8 => k0_hw8.1.2.2.2.2.2.2.2.2.2.2.2.2.2.1 k0_h8 (k0_off129_inb v15 k0_t17 v184 k0_hw8 k0_h8)
theorem k0_off130_inb : ∀ (v15 : BitVec 32) (k0_t17 : Fin (k0_t17_loop v15).trips) (v184 : BitVec 32) (k0_hw8 : k0_chk8 v15 k0_t17 v184), ∀ (k0_h8 : k0_cond8 v15 k0_t17 = 1#1), ∀ a, (k0_off130 v184) a + S1x224x512.size a ≤ S13x224x4096.size a := fun v15 k0_t17 v184 k0_hw8 k0_h8 => k0_hw8.1.2.2.2.2.2.2.2.2.2.2.2.2.2.2.1 k0_h8
theorem k0_off130_wordsi8 : ∀ (v15 : BitVec 32) (k0_t17 : Fin (k0_t17_loop v15).trips) (v184 : BitVec 32) (k0_hw8 : k0_chk8 v15 k0_t17 v184), ∀ (k0_h8 : k0_cond8 v15 k0_t17 = 1#1), (Rect.unit (s := S13x224x4096) (k0_off130 v184) S1x224x512.size (k0_off130_inb v15 k0_t17 v184 k0_hw8 k0_h8)).WholeWords (EltTy.packing .i8) := fun v15 k0_t17 v184 k0_hw8 k0_h8 => k0_hw8.1.2.2.2.2.2.2.2.2.2.2.2.2.2.2.2.1 k0_h8 (k0_off130_inb v15 k0_t17 v184 k0_hw8 k0_h8)
theorem k0_off141_inb : ∀ (v15 : BitVec 32) (k0_t17 : Fin (k0_t17_loop v15).trips) (v184 : BitVec 32) (k0_hw8 : k0_chk8 v15 k0_t17 v184), ∀ (k0_h9 : k0_cond9 v15 k0_t17 = 1#1), ∀ a, (k0_off141 v184) a + S1x3584x512.size a ≤ S13x3584x4096.size a := fun v15 k0_t17 v184 k0_hw8 k0_h9 => k0_hw8.1.2.2.2.2.2.2.2.2.2.2.2.2.2.2.2.2.1 k0_h9
theorem k0_off141_wordsi8 : ∀ (v15 : BitVec 32) (k0_t17 : Fin (k0_t17_loop v15).trips) (v184 : BitVec 32) (k0_hw8 : k0_chk8 v15 k0_t17 v184), ∀ (k0_h9 : k0_cond9 v15 k0_t17 = 1#1), (Rect.unit (s := S13x3584x4096) (k0_off141 v184) S1x3584x512.size (k0_off141_inb v15 k0_t17 v184 k0_hw8 k0_h9)).WholeWords (EltTy.packing .i8) := fun v15 k0_t17 v184 k0_hw8 k0_h9 => k0_hw8.1.2.2.2.2.2.2.2.2.2.2.2.2.2.2.2.2.2.1 k0_h9 (k0_off141_inb v15 k0_t17 v184 k0_hw8 k0_h9)
theorem k0_off142_inb : ∀ (v15 : BitVec 32) (k0_t17 : Fin (k0_t17_loop v15).trips) (v184 : BitVec 32) (k0_hw8 : k0_chk8 v15 k0_t17 v184), ∀ (k0_h9 : k0_cond9 v15 k0_t17 = 1#1), ∀ a, (k0_off142 v184) a + S1x224x512.size a ≤ S13x224x4096.size a := fun v15 k0_t17 v184 k0_hw8 k0_h9 => k0_hw8.1.2.2.2.2.2.2.2.2.2.2.2.2.2.2.2.2.2.2.1 k0_h9
theorem k0_off142_wordsi8 : ∀ (v15 : BitVec 32) (k0_t17 : Fin (k0_t17_loop v15).trips) (v184 : BitVec 32) (k0_hw8 : k0_chk8 v15 k0_t17 v184), ∀ (k0_h9 : k0_cond9 v15 k0_t17 = 1#1), (Rect.unit (s := S13x224x4096) (k0_off142 v184) S1x224x512.size (k0_off142_inb v15 k0_t17 v184 k0_hw8 k0_h9)).WholeWords (EltTy.packing .i8) := fun v15 k0_t17 v184 k0_hw8 k0_h9 => k0_hw8.1.2.2.2.2.2.2.2.2.2.2.2.2.2.2.2.2.2.2.2.1 k0_h9 (k0_off142_inb v15 k0_t17 v184 k0_hw8 k0_h9)
theorem k0_off143_inb : ∀ (v15 : BitVec 32) (k0_t17 : Fin (k0_t17_loop v15).trips) (v184 : BitVec 32) (k0_hw8 : k0_chk8 v15 k0_t17 v184), ∀ (k0_h9 : k0_cond9 v15 k0_t17 = 1#1), ∀ a, (k0_off143 v184) a + S1x3584x512.size a ≤ S13x3584x4096.size a := fun v15 k0_t17 v184 k0_hw8 k0_h9 => k0_hw8.1.2.2.2.2.2.2.2.2.2.2.2.2.2.2.2.2.2.2.2.2.1 k0_h9
theorem k0_off143_wordsi8 : ∀ (v15 : BitVec 32) (k0_t17 : Fin (k0_t17_loop v15).trips) (v184 : BitVec 32) (k0_hw8 : k0_chk8 v15 k0_t17 v184), ∀ (k0_h9 : k0_cond9 v15 k0_t17 = 1#1), (Rect.unit (s := S13x3584x4096) (k0_off143 v184) S1x3584x512.size (k0_off143_inb v15 k0_t17 v184 k0_hw8 k0_h9)).WholeWords (EltTy.packing .i8) := fun v15 k0_t17 v184 k0_hw8 k0_h9 => k0_hw8.1.2.2.2.2.2.2.2.2.2.2.2.2.2.2.2.2.2.2.2.2.2.1 k0_h9 (k0_off143_inb v15 k0_t17 v184 k0_hw8 k0_h9)
theorem k0_off144_inb : ∀ (v15 : BitVec 32) (k0_t17 : Fin (k0_t17_loop v15).trips) (v184 : BitVec 32) (k0_hw8 : k0_chk8 v15 k0_t17 v184), ∀ (k0_h9 : k0_cond9 v15 k0_t17 = 1#1), ∀ a, (k0_off144 v184) a + S1x224x512.size a ≤ S13x224x4096.size a := fun v15 k0_t17 v184 k0_hw8 k0_h9 => k0_hw8.1.2.2.2.2.2.2.2.2.2.2.2.2.2.2.2.2.2.2.2.2.2.2.1 k0_h9
theorem k0_off144_wordsi8 : ∀ (v15 : BitVec 32) (k0_t17 : Fin (k0_t17_loop v15).trips) (v184 : BitVec 32) (k0_hw8 : k0_chk8 v15 k0_t17 v184), ∀ (k0_h9 : k0_cond9 v15 k0_t17 = 1#1), (Rect.unit (s := S13x224x4096) (k0_off144 v184) S1x224x512.size (k0_off144_inb v15 k0_t17 v184 k0_hw8 k0_h9)).WholeWords (EltTy.packing .i8) := fun v15 k0_t17 v184 k0_hw8 k0_h9 => k0_hw8.1.2.2.2.2.2.2.2.2.2.2.2.2.2.2.2.2.2.2.2.2.2.2.2.1 k0_h9 (k0_off144_inb v15 k0_t17 v184 k0_hw8 k0_h9)
theorem k0_off155_inb : ∀ (v15 : BitVec 32) (k0_t17 : Fin (k0_t17_loop v15).trips) (v184 : BitVec 32) (k0_hw8 : k0_chk8 v15 k0_t17 v184), ∀ (k0_h10 : k0_cond10 v15 k0_t17 = 1#1), ∀ a, (k0_off155 v184) a + S1x3584x512.size a ≤ S13x3584x4096.size a := fun v15 k0_t17 v184 k0_hw8 k0_h10 => k0_hw8.1.2.2.2.2.2.2.2.2.2.2.2.2.2.2.2.2.2.2.2.2.2.2.2.2.1 k0_h10
theorem k0_off155_wordsi8 : ∀ (v15 : BitVec 32) (k0_t17 : Fin (k0_t17_loop v15).trips) (v184 : BitVec 32) (k0_hw8 : k0_chk8 v15 k0_t17 v184), ∀ (k0_h10 : k0_cond10 v15 k0_t17 = 1#1), (Rect.unit (s := S13x3584x4096) (k0_off155 v184) S1x3584x512.size (k0_off155_inb v15 k0_t17 v184 k0_hw8 k0_h10)).WholeWords (EltTy.packing .i8) := fun v15 k0_t17 v184 k0_hw8 k0_h10 => k0_hw8.1.2.2.2.2.2.2.2.2.2.2.2.2.2.2.2.2.2.2.2.2.2.2.2.2.2.1 k0_h10 (k0_off155_inb v15 k0_t17 v184 k0_hw8 k0_h10)
theorem k0_off156_inb : ∀ (v15 : BitVec 32) (k0_t17 : Fin (k0_t17_loop v15).trips) (v184 : BitVec 32) (k0_hw8 : k0_chk8 v15 k0_t17 v184), ∀ (k0_h10 : k0_cond10 v15 k0_t17 = 1#1), ∀ a, (k0_off156 v184) a + S1x224x512.size a ≤ S13x224x4096.size a := fun v15 k0_t17 v184 k0_hw8 k0_h10 => k0_hw8.1.2.2.2.2.2.2.2.2.2.2.2.2.2.2.2.2.2.2.2.2.2.2.2.2.2.2.1 k0_h10
theorem k0_off156_wordsi8 : ∀ (v15 : BitVec 32) (k0_t17 : Fin (k0_t17_loop v15).trips) (v184 : BitVec 32) (k0_hw8 : k0_chk8 v15 k0_t17 v184), ∀ (k0_h10 : k0_cond10 v15 k0_t17 = 1#1), (Rect.unit (s := S13x224x4096) (k0_off156 v184) S1x224x512.size (k0_off156_inb v15 k0_t17 v184 k0_hw8 k0_h10)).WholeWords (EltTy.packing .i8) := fun v15 k0_t17 v184 k0_hw8 k0_h10 => k0_hw8.1.2.2.2.2.2.2.2.2.2.2.2.2.2.2.2.2.2.2.2.2.2.2.2.2.2.2.2.1 k0_h10 (k0_off156_inb v15 k0_t17 v184 k0_hw8 k0_h10)
theorem k0_off157_inb : ∀ (v15 : BitVec 32) (k0_t17 : Fin (k0_t17_loop v15).trips) (v184 : BitVec 32) (k0_hw8 : k0_chk8 v15 k0_t17 v184), ∀ (k0_h10 : k0_cond10 v15 k0_t17 = 1#1), ∀ a, (k0_off157 v184) a + S1x3584x512.size a ≤ S13x3584x4096.size a := fun v15 k0_t17 v184 k0_hw8 k0_h10 => k0_hw8.1.2.2.2.2.2.2.2.2.2.2.2.2.2.2.2.2.2.2.2.2.2.2.2.2.2.2.2.2.1 k0_h10
theorem k0_off157_wordsi8 : ∀ (v15 : BitVec 32) (k0_t17 : Fin (k0_t17_loop v15).trips) (v184 : BitVec 32) (k0_hw8 : k0_chk8 v15 k0_t17 v184), ∀ (k0_h10 : k0_cond10 v15 k0_t17 = 1#1), (Rect.unit (s := S13x3584x4096) (k0_off157 v184) S1x3584x512.size (k0_off157_inb v15 k0_t17 v184 k0_hw8 k0_h10)).WholeWords (EltTy.packing .i8) := fun v15 k0_t17 v184 k0_hw8 k0_h10 => k0_hw8.1.2.2.2.2.2.2.2.2.2.2.2.2.2.2.2.2.2.2.2.2.2.2.2.2.2.2.2.2.2.1 k0_h10 (k0_off157_inb v15 k0_t17 v184 k0_hw8 k0_h10)
theorem k0_off158_inb : ∀ (v15 : BitVec 32) (k0_t17 : Fin (k0_t17_loop v15).trips) (v184 : BitVec 32) (k0_hw8 : k0_chk8 v15 k0_t17 v184), ∀ (k0_h10 : k0_cond10 v15 k0_t17 = 1#1), ∀ a, (k0_off158 v184) a + S1x224x512.size a ≤ S13x224x4096.size a := fun v15 k0_t17 v184 k0_hw8 k0_h10 => k0_hw8.1.2.2.2.2.2.2.2.2.2.2.2.2.2.2.2.2.2.2.2.2.2.2.2.2.2.2.2.2.2.2.1 k0_h10
theorem k0_off158_wordsi8 : ∀ (v15 : BitVec 32) (k0_t17 : Fin (k0_t17_loop v15).trips) (v184 : BitVec 32) (k0_hw8 : k0_chk8 v15 k0_t17 v184), ∀ (k0_h10 : k0_cond10 v15 k0_t17 = 1#1), (Rect.unit (s := S13x224x4096) (k0_off158 v184) S1x224x512.size (k0_off158_inb v15 k0_t17 v184 k0_hw8 k0_h10)).WholeWords (EltTy.packing .i8) := fun v15 k0_t17 v184 k0_hw8 k0_h10 => k0_hw8.1.2.2.2.2.2.2.2.2.2.2.2.2.2.2.2.2.2.2.2.2.2.2.2.2.2.2.2.2.2.2.2 k0_h10 (k0_off158_inb v15 k0_t17 v184 k0_hw8 k0_h10)
theorem k0_off165_inb : ∀ (v15 : BitVec 32) (k0_t17 : Fin (k0_t17_loop v15).trips) (v184 : BitVec 32) (k0_hw8 : k0_chk8 v15 k0_t17 v184), ∀ (k0_h11 : k0_cond11 v15 k0_t17 = 1#1), ∀ a, (k0_off165 v184) a + S1x1024x3584.size a ≤ S13x1024x7168.size a := fun v15 k0_t17 v184 k0_hw8 k0_h11 => k0_hw8.2.1 k0_h11
theorem k0_off165_wordsi8 : ∀ (v15 : BitVec 32) (k0_t17 : Fin (k0_t17_loop v15).trips) (v184 : BitVec 32) (k0_hw8 : k0_chk8 v15 k0_t17 v184), ∀ (k0_h11 : k0_cond11 v15 k0_t17 = 1#1), (Rect.unit (s := S13x1024x7168) (k0_off165 v184) S1x1024x3584.size (k0_off165_inb v15 k0_t17 v184 k0_hw8 k0_h11)).WholeWords (EltTy.packing .i8) := fun v15 k0_t17 v184 k0_hw8 k0_h11 => k0_hw8.2.2.1 k0_h11 (k0_off165_inb v15 k0_t17 v184 k0_hw8 k0_h11)
theorem k0_off166_inb : ∀ (v15 : BitVec 32) (k0_t17 : Fin (k0_t17_loop v15).trips) (v184 : BitVec 32) (k0_hw8 : k0_chk8 v15 k0_t17 v184), ∀ (k0_h11 : k0_cond11 v15 k0_t17 = 1#1), ∀ a, (k0_off166 v184) a + S1x64x3584.size a ≤ S13x64x7168.size a := fun v15 k0_t17 v184 k0_hw8 k0_h11 => k0_hw8.2.2.2.1 k0_h11
theorem k0_off166_wordsi8 : ∀ (v15 : BitVec 32) (k0_t17 : Fin (k0_t17_loop v15).trips) (v184 : BitVec 32) (k0_hw8 : k0_chk8 v15 k0_t17 v184), ∀ (k0_h11 : k0_cond11 v15 k0_t17 = 1#1), (Rect.unit (s := S13x64x7168) (k0_off166 v184) S1x64x3584.size (k0_off166_inb v15 k0_t17 v184 k0_hw8 k0_h11)).WholeWords (EltTy.packing .i8) := fun v15 k0_t17 v184 k0_hw8 k0_h11 => k0_hw8.2.2.2.2.1 k0_h11 (k0_off166_inb v15 k0_t17 v184 k0_hw8 k0_h11)
theorem k0_off173_inb : ∀ (v15 : BitVec 32) (k0_t17 : Fin (k0_t17_loop v15).trips) (v184 : BitVec 32) (k0_hw8 : k0_chk8 v15 k0_t17 v184), ∀ (k0_h12 : k0_cond12 v15 k0_t17 = 1#1), ∀ a, (k0_off173 v184) a + S1x1024x3584.size a ≤ S13x1024x7168.size a := fun v15 k0_t17 v184 k0_hw8 k0_h12 => k0_hw8.2.2.2.2.2.1 k0_h12
theorem k0_off173_wordsi8 : ∀ (v15 : BitVec 32) (k0_t17 : Fin (k0_t17_loop v15).trips) (v184 : BitVec 32) (k0_hw8 : k0_chk8 v15 k0_t17 v184), ∀ (k0_h12 : k0_cond12 v15 k0_t17 = 1#1), (Rect.unit (s := S13x1024x7168) (k0_off173 v184) S1x1024x3584.size (k0_off173_inb v15 k0_t17 v184 k0_hw8 k0_h12)).WholeWords (EltTy.packing .i8) := fun v15 k0_t17 v184 k0_hw8 k0_h12 => k0_hw8.2.2.2.2.2.2.1 k0_h12 (k0_off173_inb v15 k0_t17 v184 k0_hw8 k0_h12)
theorem k0_off174_inb : ∀ (v15 : BitVec 32) (k0_t17 : Fin (k0_t17_loop v15).trips) (v184 : BitVec 32) (k0_hw8 : k0_chk8 v15 k0_t17 v184), ∀ (k0_h12 : k0_cond12 v15 k0_t17 = 1#1), ∀ a, (k0_off174 v184) a + S1x64x3584.size a ≤ S13x64x7168.size a := fun v15 k0_t17 v184 k0_hw8 k0_h12 => k0_hw8.2.2.2.2.2.2.2.1 k0_h12
theorem k0_off174_wordsi8 : ∀ (v15 : BitVec 32) (k0_t17 : Fin (k0_t17_loop v15).trips) (v184 : BitVec 32) (k0_hw8 : k0_chk8 v15 k0_t17 v184), ∀ (k0_h12 : k0_cond12 v15 k0_t17 = 1#1), (Rect.unit (s := S13x64x7168) (k0_off174 v184) S1x64x3584.size (k0_off174_inb v15 k0_t17 v184 k0_hw8 k0_h12)).WholeWords (EltTy.packing .i8) := fun v15 k0_t17 v184 k0_hw8 k0_h12 => k0_hw8.2.2.2.2.2.2.2.2 k0_h12 (k0_off174_inb v15 k0_t17 v184 k0_hw8 k0_h12)

abbrev stage0_0 : Fin 1 → Memref sig .tc .smem S48 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x1x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S6x1x7168 : Shape := ⟨3, ![6, 1, 7168]⟩
abbrev S13x3584x4096 : Shape := ⟨3, ![13, 3584, 4096]⟩
abbrev S13x224x4096 : Shape := ⟨3, ![13, 224, 4096]⟩
abbrev S13x1024x7168 : Shape := ⟨3, ![13, 1024, 7168]⟩
abbrev S13x64x7168 : Shape := ⟨3, ![13, 64, 7168]⟩
abbrev S6x1x8 : Shape := ⟨3, ![6, 1, 8]⟩
abbrev S6x7168 : Shape := ⟨2, ![6, 7168]⟩
abbrev S_ : Shape := ⟨0, ![]⟩
abbrev S13x224x16x4096 : Shape := ⟨4, ![13, 224, 16, 4096]⟩
abbrev S6x3584 : Shape := ⟨2, ![6, 3584]⟩
abbrev S13x4096x6 : Shape := ⟨3, ![13, 4096, 6]⟩
abbrev S13x6x4096 : Shape := ⟨3, ![13, 6, 4096]⟩
abbrev S13x6x2048 : Shape := ⟨3, ![13, 6, 2048]⟩
abbrev S13x64x16x7168 : Shape := ⟨4, ![13, 64, 16, 7168]⟩
abbrev S13x6x1024 : Shape := ⟨3, ![13, 6, 1024]⟩
abbrev S13x6x7168 : Shape := ⟨3, ![13, 6, 7168]⟩
abbrev S6x8 : Shape := ⟨2, ![6, 8]⟩
abbrev S6x8x1 : Shape := ⟨3, ![6, 8, 1]⟩
abbrev S13 : Shape := ⟨1, ![13]⟩
abbrev S1x1x13 : Shape := ⟨3, ![1, 1, 13]⟩
abbrev S6x8x13 : Shape := ⟨3, ![6, 8, 13]⟩
abbrev S6x8x13x1 : Shape := ⟨4, ![6, 8, 13, 1]⟩
abbrev S6x13x7168 : Shape := ⟨3, ![6, 13, 7168]⟩
abbrev S6x1x13x7168 : Shape := ⟨4, ![6, 1, 13, 7168]⟩
abbrev S6x8x13x7168 : Shape := ⟨4, ![6, 8, 13, 7168]⟩
abbrev S6x8x7168 : Shape := ⟨3, ![6, 8, 7168]⟩

abbrev nBuf : Space → Nat
  | .hbm => 294
  | .vmem => 0
  | .smem => 0
  | _ => 0

abbrev hbmTy0_0 (i : Nat) : BufTy := match i % 128 with
  | 0 => ⟨S6x1x7168, .bf16⟩
  | 1 => ⟨S13x3584x4096, .i8⟩
  | 2 => ⟨S13x224x4096, .i8⟩
  | 3 => ⟨S13x1024x7168, .i8⟩
  | 4 => ⟨S13x64x7168, .i8⟩
  | 5 => ⟨S6x1x8, .i32⟩
  | 6 => ⟨S6x1x8, .f32⟩
  | 7 => ⟨S6x7168, .bf16⟩
  | 8 => ⟨S13x3584x4096, .i32⟩
  | 9 => ⟨S13x224x4096, .i32⟩
  | 10 => ⟨S_, .i32⟩
  | 11 => ⟨S13x224x4096, .i32⟩
  | 12 => ⟨S13x224x4096, .i32⟩
  | 13 => ⟨S13x224x4096, .f32⟩
  | 14 => ⟨S_, .f32⟩
  | 15 => ⟨S13x224x4096, .f32⟩
  | 16 => ⟨S13x224x4096, .f32⟩
  | 17 => ⟨S13x224x4096, .bf16⟩
  | 18 => ⟨S13x224x16x4096, .bf16⟩
  | 19 => ⟨S13x3584x4096, .bf16⟩
  | 20 => ⟨S_, .i32⟩
  | 21 => ⟨S13x3584x4096, .i32⟩
  | 22 => ⟨S13x3584x4096, .i32⟩
  | 23 => ⟨S_, .i32⟩
  | 24 => ⟨S13x3584x4096, .i32⟩
  | 25 => ⟨S13x3584x4096, .i32⟩
  | 26 => ⟨S_, .i32⟩
  | 27 => ⟨S13x3584x4096, .i32⟩
  | 28 => ⟨S13x3584x4096, .i1⟩
  | 29 => ⟨S_, .i32⟩
  | 30 => ⟨S13x3584x4096, .i32⟩
  | 31 => ⟨S13x3584x4096, .i32⟩
  | 32 => ⟨S_, .i32⟩
  | 33 => ⟨S13x3584x4096, .i32⟩
  | 34 => ⟨S13x3584x4096, .i1⟩
  | 35 => ⟨S_, .i32⟩
  | 36 => ⟨S13x3584x4096, .i32⟩
  | 37 => ⟨S13x3584x4096, .i32⟩
  | 38 => ⟨S_, .i32⟩
  | 39 => ⟨S13x3584x4096, .i32⟩
  | 40 => ⟨S13x3584x4096, .i1⟩
  | 41 => ⟨S_, .i32⟩
  | 42 => ⟨S13x3584x4096, .i32⟩
  | 43 => ⟨S13x3584x4096, .i32⟩
  | 44 => ⟨S_, .i32⟩
  | 45 => ⟨S13x3584x4096, .i32⟩
  | 46 => ⟨S13x3584x4096, .i1⟩
  | 47 => ⟨S_, .bf16⟩
  | 48 => ⟨S_, .bf16⟩
  | 49 => ⟨S13x3584x4096, .bf16⟩
  | 50 => ⟨S13x3584x4096, .bf16⟩
  | 51 => ⟨S13x3584x4096, .bf16⟩
  | 52 => ⟨S_, .bf16⟩
  | 53 => ⟨S_, .bf16⟩
  | 54 => ⟨S13x3584x4096, .bf16⟩
  | 55 => ⟨S13x3584x4096, .bf16⟩
  | 56 => ⟨S13x3584x4096, .bf16⟩
  | 57 => ⟨S13x3584x4096, .bf16⟩
  | 58 => ⟨S_, .bf16⟩
  | 59 => ⟨S_, .bf16⟩
  | 60 => ⟨S13x3584x4096, .bf16⟩
  | 61 => ⟨S13x3584x4096, .bf16⟩
  | 62 => ⟨S13x3584x4096, .bf16⟩
  | 63 => ⟨S_, .bf16⟩
  | 64 => ⟨S_, .bf16⟩
  | 65 => ⟨S13x3584x4096, .bf16⟩
  | 66 => ⟨S13x3584x4096, .bf16⟩
  | 67 => ⟨S13x3584x4096, .bf16⟩
  | 68 => ⟨S13x3584x4096, .bf16⟩
  | 69 => ⟨S13x3584x4096, .bf16⟩
  | 70 => ⟨S13x3584x4096, .bf16⟩
  | 71 => ⟨S13x3584x4096, .bf16⟩
  | 72 => ⟨S13x3584x4096, .bf16⟩
  | 73 => ⟨S_, .i32⟩
  | 74 => ⟨S13x3584x4096, .i32⟩
  | 75 => ⟨S13x3584x4096, .i32⟩
  | 76 => ⟨S_, .i32⟩
  | 77 => ⟨S13x3584x4096, .i32⟩
  | 78 => ⟨S13x3584x4096, .i32⟩
  | 79 => ⟨S_, .i32⟩
  | 80 => ⟨S13x3584x4096, .i32⟩
  | 81 => ⟨S13x3584x4096, .i1⟩
  | 82 => ⟨S_, .i32⟩
  | 83 => ⟨S13x3584x4096, .i32⟩
  | 84 => ⟨S13x3584x4096, .i32⟩
  | 85 => ⟨S_, .i32⟩
  | 86 => ⟨S13x3584x4096, .i32⟩
  | 87 => ⟨S13x3584x4096, .i1⟩
  | 88 => ⟨S_, .i32⟩
  | 89 => ⟨S13x3584x4096, .i32⟩
  | 90 => ⟨S13x3584x4096, .i32⟩
  | 91 => ⟨S_, .i32⟩
  | 92 => ⟨S13x3584x4096, .i32⟩
  | 93 => ⟨S13x3584x4096, .i1⟩
  | 94 => ⟨S_, .i32⟩
  | 95 => ⟨S13x3584x4096, .i32⟩
  | 96 => ⟨S13x3584x4096, .i32⟩
  | 97 => ⟨S_, .i32⟩
  | 98 => ⟨S13x3584x4096, .i32⟩
  | 99 => ⟨S13x3584x4096, .i1⟩
  | 100 => ⟨S_, .bf16⟩
  | 101 => ⟨S_, .bf16⟩
  | 102 => ⟨S13x3584x4096, .bf16⟩
  | 103 => ⟨S13x3584x4096, .bf16⟩
  | 104 => ⟨S13x3584x4096, .bf16⟩
  | 105 => ⟨S_, .bf16⟩
  | 106 => ⟨S_, .bf16⟩
  | 107 => ⟨S13x3584x4096, .bf16⟩
  | 108 => ⟨S13x3584x4096, .bf16⟩
  | 109 => ⟨S13x3584x4096, .bf16⟩
  | 110 => ⟨S13x3584x4096, .bf16⟩
  | 111 => ⟨S_, .bf16⟩
  | 112 => ⟨S_, .bf16⟩
  | 113 => ⟨S13x3584x4096, .bf16⟩
  | 114 => ⟨S13x3584x4096, .bf16⟩
  | 115 => ⟨S13x3584x4096, .bf16⟩
  | 116 => ⟨S_, .bf16⟩
  | 117 => ⟨S_, .bf16⟩
  | 118 => ⟨S13x3584x4096, .bf16⟩
  | 119 => ⟨S13x3584x4096, .bf16⟩
  | 120 => ⟨S13x3584x4096, .bf16⟩
  | 121 => ⟨S13x3584x4096, .bf16⟩
  | 122 => ⟨S13x3584x4096, .bf16⟩
  | 123 => ⟨S13x3584x4096, .bf16⟩
  | 124 => ⟨S13x3584x4096, .bf16⟩
  | 125 => ⟨S13x3584x4096, .bf16⟩
  | 126 => ⟨S6x3584, .bf16⟩
  | 127 => ⟨S13x4096x6, .f32⟩
  | _ => ⟨S6x1x7168, .bf16⟩

abbrev hbmTy0_1 (i : Nat) : BufTy := match i % 128 with
  | 0 => ⟨S13x6x4096, .f32⟩
  | 1 => ⟨S6x3584, .bf16⟩
  | 2 => ⟨S13x4096x6, .f32⟩
  | 3 => ⟨S13x6x4096, .f32⟩
  | 4 => ⟨S13x6x4096, .f32⟩
  | 5 => ⟨S13x6x2048, .f32⟩
  | 6 => ⟨S13x6x2048, .f32⟩
  | 7 => ⟨S13x6x2048, .f32⟩
  | 8 => ⟨S13x6x2048, .f32⟩
  | 9 => ⟨S_, .f32⟩
  | 10 => ⟨S13x6x2048, .f32⟩
  | 11 => ⟨S13x6x2048, .f32⟩
  | 12 => ⟨S_, .f32⟩
  | 13 => ⟨S13x6x2048, .f32⟩
  | 14 => ⟨S13x6x2048, .f32⟩
  | 15 => ⟨S13x6x2048, .f32⟩
  | 16 => ⟨S13x6x2048, .f32⟩
  | 17 => ⟨S13x6x2048, .bf16⟩
  | 18 => ⟨S13x1024x7168, .i32⟩
  | 19 => ⟨S13x64x7168, .i32⟩
  | 20 => ⟨S_, .i32⟩
  | 21 => ⟨S13x64x7168, .i32⟩
  | 22 => ⟨S13x64x7168, .i32⟩
  | 23 => ⟨S13x64x7168, .f32⟩
  | 24 => ⟨S_, .f32⟩
  | 25 => ⟨S13x64x7168, .f32⟩
  | 26 => ⟨S13x64x7168, .f32⟩
  | 27 => ⟨S13x64x7168, .bf16⟩
  | 28 => ⟨S13x64x16x7168, .bf16⟩
  | 29 => ⟨S13x1024x7168, .bf16⟩
  | 30 => ⟨S_, .i32⟩
  | 31 => ⟨S13x1024x7168, .i32⟩
  | 32 => ⟨S13x1024x7168, .i32⟩
  | 33 => ⟨S_, .i32⟩
  | 34 => ⟨S13x1024x7168, .i32⟩
  | 35 => ⟨S13x1024x7168, .i32⟩
  | 36 => ⟨S_, .i32⟩
  | 37 => ⟨S13x1024x7168, .i32⟩
  | 38 => ⟨S13x1024x7168, .i1⟩
  | 39 => ⟨S_, .i32⟩
  | 40 => ⟨S13x1024x7168, .i32⟩
  | 41 => ⟨S13x1024x7168, .i32⟩
  | 42 => ⟨S_, .i32⟩
  | 43 => ⟨S13x1024x7168, .i32⟩
  | 44 => ⟨S13x1024x7168, .i1⟩
  | 45 => ⟨S_, .i32⟩
  | 46 => ⟨S13x1024x7168, .i32⟩
  | 47 => ⟨S13x1024x7168, .i32⟩
  | 48 => ⟨S_, .i32⟩
  | 49 => ⟨S13x1024x7168, .i32⟩
  | 50 => ⟨S13x1024x7168, .i1⟩
  | 51 => ⟨S_, .i32⟩
  | 52 => ⟨S13x1024x7168, .i32⟩
  | 53 => ⟨S13x1024x7168, .i32⟩
  | 54 => ⟨S_, .i32⟩
  | 55 => ⟨S13x1024x7168, .i32⟩
  | 56 => ⟨S13x1024x7168, .i1⟩
  | 57 => ⟨S_, .bf16⟩
  | 58 => ⟨S_, .bf16⟩
  | 59 => ⟨S13x1024x7168, .bf16⟩
  | 60 => ⟨S13x1024x7168, .bf16⟩
  | 61 => ⟨S13x1024x7168, .bf16⟩
  | 62 => ⟨S_, .bf16⟩
  | 63 => ⟨S_, .bf16⟩
  | 64 => ⟨S13x1024x7168, .bf16⟩
  | 65 => ⟨S13x1024x7168, .bf16⟩
  | 66 => ⟨S13x1024x7168, .bf16⟩
  | 67 => ⟨S13x1024x7168, .bf16⟩
  | 68 => ⟨S_, .bf16⟩
  | 69 => ⟨S_, .bf16⟩
  | 70 => ⟨S13x1024x7168, .bf16⟩
  | 71 => ⟨S13x1024x7168, .bf16⟩
  | 72 => ⟨S13x1024x7168, .bf16⟩
  | 73 => ⟨S_, .bf16⟩
  | 74 => ⟨S_, .bf16⟩
  | 75 => ⟨S13x1024x7168, .bf16⟩
  | 76 => ⟨S13x1024x7168, .bf16⟩
  | 77 => ⟨S13x1024x7168, .bf16⟩
  | 78 => ⟨S13x1024x7168, .bf16⟩
  | 79 => ⟨S13x1024x7168, .bf16⟩
  | 80 => ⟨S13x1024x7168, .bf16⟩
  | 81 => ⟨S13x1024x7168, .bf16⟩
  | 82 => ⟨S13x1024x7168, .bf16⟩
  | 83 => ⟨S_, .i32⟩
  | 84 => ⟨S13x1024x7168, .i32⟩
  | 85 => ⟨S13x1024x7168, .i32⟩
  | 86 => ⟨S_, .i32⟩
  | 87 => ⟨S13x1024x7168, .i32⟩
  | 88 => ⟨S13x1024x7168, .i32⟩
  | 89 => ⟨S_, .i32⟩
  | 90 => ⟨S13x1024x7168, .i32⟩
  | 91 => ⟨S13x1024x7168, .i1⟩
  | 92 => ⟨S_, .i32⟩
  | 93 => ⟨S13x1024x7168, .i32⟩
  | 94 => ⟨S13x1024x7168, .i32⟩
  | 95 => ⟨S_, .i32⟩
  | 96 => ⟨S13x1024x7168, .i32⟩
  | 97 => ⟨S13x1024x7168, .i1⟩
  | 98 => ⟨S_, .i32⟩
  | 99 => ⟨S13x1024x7168, .i32⟩
  | 100 => ⟨S13x1024x7168, .i32⟩
  | 101 => ⟨S_, .i32⟩
  | 102 => ⟨S13x1024x7168, .i32⟩
  | 103 => ⟨S13x1024x7168, .i1⟩
  | 104 => ⟨S_, .i32⟩
  | 105 => ⟨S13x1024x7168, .i32⟩
  | 106 => ⟨S13x1024x7168, .i32⟩
  | 107 => ⟨S_, .i32⟩
  | 108 => ⟨S13x1024x7168, .i32⟩
  | 109 => ⟨S13x1024x7168, .i1⟩
  | 110 => ⟨S_, .bf16⟩
  | 111 => ⟨S_, .bf16⟩
  | 112 => ⟨S13x1024x7168, .bf16⟩
  | 113 => ⟨S13x1024x7168, .bf16⟩
  | 114 => ⟨S13x1024x7168, .bf16⟩
  | 115 => ⟨S_, .bf16⟩
  | 116 => ⟨S_, .bf16⟩
  | 117 => ⟨S13x1024x7168, .bf16⟩
  | 118 => ⟨S13x1024x7168, .bf16⟩
  | 119 => ⟨S13x1024x7168, .bf16⟩
  | 120 => ⟨S13x1024x7168, .bf16⟩
  | 121 => ⟨S_, .bf16⟩
  | 122 => ⟨S_, .bf16⟩
  | 123 => ⟨S13x1024x7168, .bf16⟩
  | 124 => ⟨S13x1024x7168, .bf16⟩
  | 125 => ⟨S13x1024x7168, .bf16⟩
  | 126 => ⟨S_, .bf16⟩
  | 127 => ⟨S_, .bf16⟩
  | _ => ⟨S6x1x7168, .bf16⟩

abbrev hbmTy0_2 (i : Nat) : BufTy := match i % 128 with
  | 0 => ⟨S13x1024x7168, .bf16⟩
  | 1 => ⟨S13x1024x7168, .bf16⟩
  | 2 => ⟨S13x1024x7168, .bf16⟩
  | 3 => ⟨S13x1024x7168, .bf16⟩
  | 4 => ⟨S13x1024x7168, .bf16⟩
  | 5 => ⟨S13x1024x7168, .bf16⟩
  | 6 => ⟨S13x1024x7168, .bf16⟩
  | 7 => ⟨S13x1024x7168, .bf16⟩
  | 8 => ⟨S13x6x1024, .bf16⟩
  | 9 => ⟨S13x6x7168, .f32⟩
  | 10 => ⟨S13x6x1024, .bf16⟩
  | 11 => ⟨S13x6x7168, .f32⟩
  | 12 => ⟨S13x6x7168, .f32⟩
  | 13 => ⟨S6x8, .i32⟩
  | 14 => ⟨S6x8x1, .i32⟩
  | 15 => ⟨S13, .i32⟩
  | 16 => ⟨S1x1x13, .i32⟩
  | 17 => ⟨S6x8x13, .i32⟩
  | 18 => ⟨S6x8x13, .i32⟩
  | 19 => ⟨S6x8x13, .i1⟩
  | 20 => ⟨S6x8x13x1, .i1⟩
  | 21 => ⟨S6x13x7168, .f32⟩
  | 22 => ⟨S6x1x13x7168, .f32⟩
  | 23 => ⟨S_, .f32⟩
  | 24 => ⟨S_, .f32⟩
  | 25 => ⟨S6x8x13x7168, .i1⟩
  | 26 => ⟨S6x8x13x7168, .f32⟩
  | 27 => ⟨S6x8x13x7168, .f32⟩
  | 28 => ⟨S6x8x13x7168, .f32⟩
  | 29 => ⟨S_, .f32⟩
  | 30 => ⟨S6x8x7168, .f32⟩
  | 31 => ⟨S6x8x1, .f32⟩
  | 32 => ⟨S6x8x7168, .f32⟩
  | 33 => ⟨S6x8x7168, .f32⟩
  | 34 => ⟨S_, .f32⟩
  | 35 => ⟨S6x7168, .f32⟩
  | 36 => ⟨S6x7168, .bf16⟩
  | 37 => ⟨S6x1x7168, .bf16⟩
  | _ => ⟨S6x1x7168, .bf16⟩

abbrev hbmTy (i : Nat) : BufTy := match i / 128 with
  | 0 => hbmTy0_0 i
  | 1 => hbmTy0_1 i
  | 2 => hbmTy0_2 i
  | _ => ⟨S6x1x7168, .bf16⟩

abbrev bufTy : (tb : Table) → Fin (tcTables nBuf tb) → BufTy
  | .hbm, ⟨i, _⟩ => hbmTy i
  | _, _ => ⟨S6x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_cst_10 : Ref sig .tc := ⟨.hbm, 48, rfl⟩
abbrev main_call0_v0 : Ref sig .tc := ⟨.hbm, 49, rfl⟩
abbrev main_call0_v1 : Ref sig .tc := ⟨.hbm, 50, rfl⟩
abbrev main_v29 : Ref sig .tc := ⟨.hbm, 51, rfl⟩
abbrev main_cst_11 : Ref sig .tc := ⟨.hbm, 52, rfl⟩
abbrev main_cst_12 : Ref sig .tc := ⟨.hbm, 53, rfl⟩
abbrev main_call1_v0 : Ref sig .tc := ⟨.hbm, 54, rfl⟩
abbrev main_call1_v1 : Ref sig .tc := ⟨.hbm, 55, rfl⟩
abbrev main_v30 : Ref sig .tc := ⟨.hbm, 56, rfl⟩
abbrev main_v31 : Ref sig .tc := ⟨.hbm, 57, rfl⟩
abbrev main_cst_13 : Ref sig .tc := ⟨.hbm, 58, rfl⟩
abbrev main_cst_14 : Ref sig .tc := ⟨.hbm, 59, rfl⟩
abbrev main_call3_v0 : Ref sig .tc := ⟨.hbm, 60, rfl⟩
abbrev main_call3_v1 : Ref sig .tc := ⟨.hbm, 61, rfl⟩
abbrev main_v32 : Ref sig .tc := ⟨.hbm, 62, rfl⟩
abbrev main_cst_15 : Ref sig .tc := ⟨.hbm, 63, rfl⟩
abbrev main_cst_16 : Ref sig .tc := ⟨.hbm, 64, rfl⟩
abbrev main_call4_v0 : Ref sig .tc := ⟨.hbm, 65, rfl⟩
abbrev main_call4_v1 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_17 : Ref sig .tc := ⟨.hbm, 73, rfl⟩
abbrev main_v39 : Ref sig .tc := ⟨.hbm, 74, rfl⟩
abbrev main_v40 : Ref sig .tc := ⟨.hbm, 75, rfl⟩
abbrev main_c_18 : Ref sig .tc := ⟨.hbm, 76, rfl⟩
abbrev main_v41 : Ref sig .tc := ⟨.hbm, 77, rfl⟩
abbrev main_v42 : Ref sig .tc := ⟨.hbm, 78, rfl⟩
abbrev main_c_19 : Ref sig .tc := ⟨.hbm, 79, rfl⟩
abbrev main_v43 : Ref sig .tc := ⟨.hbm, 80, rfl⟩
abbrev main_v44 : Ref sig .tc := ⟨.hbm, 81, rfl⟩
abbrev main_c_20 : Ref sig .tc := ⟨.hbm, 82, rfl⟩
abbrev main_v45 : Ref sig .tc := ⟨.hbm, 83, rfl⟩
abbrev main_v46 : Ref sig .tc := ⟨.hbm, 84, rfl⟩
abbrev main_c_21 : Ref sig .tc := ⟨.hbm, 85, rfl⟩
abbrev main_v47 : Ref sig .tc := ⟨.hbm, 86, rfl⟩
abbrev main_v48 : Ref sig .tc := ⟨.hbm, 87, rfl⟩
abbrev main_c_22 : Ref sig .tc := ⟨.hbm, 88, rfl⟩
abbrev main_v49 : Ref sig .tc := ⟨.hbm, 89, rfl⟩
abbrev main_v50 : Ref sig .tc := ⟨.hbm, 90, rfl⟩
abbrev main_c_23 : Ref sig .tc := ⟨.hbm, 91, rfl⟩
abbrev main_v51 : Ref sig .tc := ⟨.hbm, 92, rfl⟩
abbrev main_v52 : Ref sig .tc := ⟨.hbm, 93, rfl⟩
abbrev main_c_24 : Ref sig .tc := ⟨.hbm, 94, rfl⟩
abbrev main_v53 : Ref sig .tc := ⟨.hbm, 95, rfl⟩
abbrev main_v54 : Ref sig .tc := ⟨.hbm, 96, rfl⟩
abbrev main_c_25 : Ref sig .tc := ⟨.hbm, 97, rfl⟩
abbrev main_v55 : Ref sig .tc := ⟨.hbm, 98, rfl⟩
abbrev main_v56 : Ref sig .tc := ⟨.hbm, 99, rfl⟩
abbrev main_cst_26 : Ref sig .tc := ⟨.hbm, 100, rfl⟩
abbrev main_cst_27 : Ref sig .tc := ⟨.hbm, 101, rfl⟩
abbrev main_call8_v0 : Ref sig .tc := ⟨.hbm, 102, rfl⟩
abbrev main_call8_v1 : Ref sig .tc := ⟨.hbm, 103, rfl⟩
abbrev main_v57 : Ref sig .tc := ⟨.hbm, 104, rfl⟩
abbrev main_cst_28 : Ref sig .tc := ⟨.hbm, 105, rfl⟩
abbrev main_cst_29 : Ref sig .tc := ⟨.hbm, 106, rfl⟩
abbrev main_call9_v0 : Ref sig .tc := ⟨.hbm, 107, rfl⟩
abbrev main_call9_v1 : Ref sig .tc := ⟨.hbm, 108, rfl⟩
abbrev main_v58 : Ref sig .tc := ⟨.hbm, 109, rfl⟩
abbrev main_v59 : Ref sig .tc := ⟨.hbm, 110, rfl⟩
abbrev main_cst_30 : Ref sig .tc := ⟨.hbm, 111, rfl⟩
abbrev main_cst_31 : Ref sig .tc := ⟨.hbm, 112, rfl⟩
abbrev main_call11_v0 : Ref sig .tc := ⟨.hbm, 113, rfl⟩
abbrev main_call11_v1 : Ref sig .tc := ⟨.hbm, 114, rfl⟩
abbrev main_v60 : Ref sig .tc := ⟨.hbm, 115, rfl⟩
abbrev main_cst_32 : Ref sig .tc := ⟨.hbm, 116, rfl⟩
abbrev main_cst_33 : Ref sig .tc := ⟨.hbm, 117, rfl⟩
abbrev main_call12_v0 : Ref sig .tc := ⟨.hbm, 118, rfl⟩
abbrev main_call12_v1 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_cst_34 : Ref sig .tc := ⟨.hbm, 137, rfl⟩
abbrev main_v78 : Ref sig .tc := ⟨.hbm, 138, rfl⟩
abbrev main_v79 : Ref sig .tc := ⟨.hbm, 139, rfl⟩
abbrev main_cst_35 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_c_36 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_cst_37 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_c_38 : Ref sig .tc := ⟨.hbm, 158, rfl⟩
abbrev main_v95 : Ref sig .tc := ⟨.hbm, 159, rfl⟩
abbrev main_v96 : Ref sig .tc := ⟨.hbm, 160, rfl⟩
abbrev main_c_39 : Ref sig .tc := ⟨.hbm, 161, rfl⟩
abbrev main_v97 : Ref sig .tc := ⟨.hbm, 162, rfl⟩
abbrev main_v98 : Ref sig .tc := ⟨.hbm, 163, rfl⟩
abbrev main_c_40 : Ref sig .tc := ⟨.hbm, 164, rfl⟩
abbrev main_v99 : Ref sig .tc := ⟨.hbm, 165, rfl⟩
abbrev main_v100 : Ref sig .tc := ⟨.hbm, 166, rfl⟩
abbrev main_c_41 : Ref sig .tc := ⟨.hbm, 167, rfl⟩
abbrev main_v101 : Ref sig .tc := ⟨.hbm, 168, rfl⟩
abbrev main_v102 : Ref sig .tc := ⟨.hbm, 169, rfl⟩
abbrev main_c_42 : Ref sig .tc := ⟨.hbm, 170, rfl⟩
abbrev main_v103 : Ref sig .tc := ⟨.hbm, 171, rfl⟩
abbrev main_v104 : Ref sig .tc := ⟨.hbm, 172, rfl⟩
abbrev main_c_43 : Ref sig .tc := ⟨.hbm, 173, rfl⟩
abbrev main_v105 : Ref sig .tc := ⟨.hbm, 174, rfl⟩
abbrev main_v106 : Ref sig .tc := ⟨.hbm, 175, rfl⟩
abbrev main_c_44 : Ref sig .tc := ⟨.hbm, 176, rfl⟩
abbrev main_v107 : Ref sig .tc := ⟨.hbm, 177, rfl⟩
abbrev main_v108 : Ref sig .tc := ⟨.hbm, 178, rfl⟩
abbrev main_c_45 : Ref sig .tc := ⟨.hbm, 179, rfl⟩
abbrev main_v109 : Ref sig .tc := ⟨.hbm, 180, rfl⟩
abbrev main_v110 : Ref sig .tc := ⟨.hbm, 181, rfl⟩
abbrev main_c_46 : Ref sig .tc := ⟨.hbm, 182, rfl⟩
abbrev main_v111 : Ref sig .tc := ⟨.hbm, 183, rfl⟩
abbrev main_v112 : Ref sig .tc := ⟨.hbm, 184, rfl⟩
abbrev main_cst_47 : Ref sig .tc := ⟨.hbm, 185, rfl⟩
abbrev main_cst_48 : Ref sig .tc := ⟨.hbm, 186, rfl⟩
abbrev main_call16_v0 : Ref sig .tc := ⟨.hbm, 187, rfl⟩
abbrev main_call16_v1 : Ref sig .tc := ⟨.hbm, 188, rfl⟩
abbrev main_v113 : Ref sig .tc := ⟨.hbm, 189, rfl⟩
abbrev main_cst_49 : Ref sig .tc := ⟨.hbm, 190, rfl⟩
abbrev main_cst_50 : Ref sig .tc := ⟨.hbm, 191, rfl⟩
abbrev main_call17_v0 : Ref sig .tc := ⟨.hbm, 192, rfl⟩
abbrev main_call17_v1 : Ref sig .tc := ⟨.hbm, 193, rfl⟩
abbrev main_v114 : Ref sig .tc := ⟨.hbm, 194, rfl⟩
abbrev main_v115 : Ref sig .tc := ⟨.hbm, 195, rfl⟩
abbrev main_cst_51 : Ref sig .tc := ⟨.hbm, 196, rfl⟩
abbrev main_cst_52 : Ref sig .tc := ⟨.hbm, 197, rfl⟩
abbrev main_call19_v0 : Ref sig .tc := ⟨.hbm, 198, rfl⟩
abbrev main_call19_v1 : Ref sig .tc := ⟨.hbm, 199, rfl⟩
abbrev main_v116 : Ref sig .tc := ⟨.hbm, 200, rfl⟩
abbrev main_cst_53 : Ref sig .tc := ⟨.hbm, 201, rfl⟩
abbrev main_cst_54 : Ref sig .tc := ⟨.hbm, 202, rfl⟩
abbrev main_call20_v0 : Ref sig .tc := ⟨.hbm, 203, rfl⟩
abbrev main_call20_v1 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_c_55 : Ref sig .tc := ⟨.hbm, 211, rfl⟩
abbrev main_v123 : Ref sig .tc := ⟨.hbm, 212, rfl⟩
abbrev main_v124 : Ref sig .tc := ⟨.hbm, 213, rfl⟩
abbrev main_c_56 : Ref sig .tc := ⟨.hbm, 214, rfl⟩
abbrev main_v125 : Ref sig .tc := ⟨.hbm, 215, rfl⟩
abbrev main_v126 : Ref sig .tc := ⟨.hbm, 216, rfl⟩
abbrev main_c_57 : Ref sig .tc := ⟨.hbm, 217, rfl⟩
abbrev main_v127 : Ref sig .tc := ⟨.hbm, 218, rfl⟩
abbrev main_v128 : Ref sig .tc := ⟨.hbm, 219, rfl⟩
abbrev main_c_58 : Ref sig .tc := ⟨.hbm, 220, rfl⟩
abbrev main_v129 : Ref sig .tc := ⟨.hbm, 221, rfl⟩
abbrev main_v130 : Ref sig .tc := ⟨.hbm, 222, rfl⟩
abbrev main_c_59 : Ref sig .tc := ⟨.hbm, 223, rfl⟩
abbrev main_v131 : Ref sig .tc := ⟨.hbm, 224, rfl⟩
abbrev main_v132 : Ref sig .tc := ⟨.hbm, 225, rfl⟩
abbrev main_c_60 : Ref sig .tc := ⟨.hbm, 226, rfl⟩
abbrev main_v133 : Ref sig .tc := ⟨.hbm, 227, rfl⟩
abbrev main_v134 : Ref sig .tc := ⟨.hbm, 228, rfl⟩
abbrev main_c_61 : Ref sig .tc := ⟨.hbm, 229, rfl⟩
abbrev main_v135 : Ref sig .tc := ⟨.hbm, 230, rfl⟩
abbrev main_v136 : Ref sig .tc := ⟨.hbm, 231, rfl⟩
abbrev main_c_62 : Ref sig .tc := ⟨.hbm, 232, rfl⟩
abbrev main_v137 : Ref sig .tc := ⟨.hbm, 233, rfl⟩
abbrev main_v138 : Ref sig .tc := ⟨.hbm, 234, rfl⟩
abbrev main_c_63 : Ref sig .tc := ⟨.hbm, 235, rfl⟩
abbrev main_v139 : Ref sig .tc := ⟨.hbm, 236, rfl⟩
abbrev main_v140 : Ref sig .tc := ⟨.hbm, 237, rfl⟩
abbrev main_cst_64 : Ref sig .tc := ⟨.hbm, 238, rfl⟩
abbrev main_cst_65 : Ref sig .tc := ⟨.hbm, 239, rfl⟩
abbrev main_call24_v0 : Ref sig .tc := ⟨.hbm, 240, rfl⟩
abbrev main_call24_v1 : Ref sig .tc := ⟨.hbm, 241, rfl⟩
abbrev main_v141 : Ref sig .tc := ⟨.hbm, 242, rfl⟩
abbrev main_cst_66 : Ref sig .tc := ⟨.hbm, 243, rfl⟩
abbrev main_cst_67 : Ref sig .tc := ⟨.hbm, 244, rfl⟩
abbrev main_call25_v0 : Ref sig .tc := ⟨.hbm, 245, rfl⟩
abbrev main_call25_v1 : Ref sig .tc := ⟨.hbm, 246, rfl⟩
abbrev main_v142 : Ref sig .tc := ⟨.hbm, 247, rfl⟩
abbrev main_v143 : Ref sig .tc := ⟨.hbm, 248, rfl⟩
abbrev main_cst_68 : Ref sig .tc := ⟨.hbm, 249, rfl⟩
abbrev main_cst_69 : Ref sig .tc := ⟨.hbm, 250, rfl⟩
abbrev main_call27_v0 : Ref sig .tc := ⟨.hbm, 251, rfl⟩
abbrev main_call27_v1 : Ref sig .tc := ⟨.hbm, 252, rfl⟩
abbrev main_v144 : Ref sig .tc := ⟨.hbm, 253, rfl⟩
abbrev main_cst_70 : Ref sig .tc := ⟨.hbm, 254, rfl⟩
abbrev main_cst_71 : Ref sig .tc := ⟨.hbm, 255, rfl⟩
abbrev main_call28_v0 : Ref sig .tc := ⟨.hbm, 256, rfl⟩
abbrev main_call28_v1 : Ref sig .tc := ⟨.hbm, 257, rfl⟩
abbrev main_v145 : Ref sig .tc := ⟨.hbm, 258, rfl⟩
abbrev main_v146 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_v153 : Ref sig .tc := ⟨.hbm, 266, rfl⟩
abbrev main_v154 : Ref sig .tc := ⟨.hbm, 267, rfl⟩
abbrev main_v155 : Ref sig .tc := ⟨.hbm, 268, rfl⟩
abbrev main_v156 : Ref sig .tc := ⟨.hbm, 269, rfl⟩
abbrev main_v157 : Ref sig .tc := ⟨.hbm, 270, rfl⟩
abbrev main_v158 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_v163 : Ref sig .tc := ⟨.hbm, 276, rfl⟩
abbrev main_v164 : Ref sig .tc := ⟨.hbm, 277, rfl⟩
abbrev main_v165 : Ref sig .tc := ⟨.hbm, 278, rfl⟩
abbrev main_cst_72 : Ref sig .tc := ⟨.hbm, 279, rfl⟩
abbrev main_call32_v0 : Ref sig .tc := ⟨.hbm, 280, rfl⟩
abbrev main_call32_v1 : Ref sig .tc := ⟨.hbm, 281, rfl⟩
abbrev main_call32_v2 : Ref sig .tc := ⟨.hbm, 282, rfl⟩
abbrev main_call32_v3 : Ref sig .tc := ⟨.hbm, 283, rfl⟩
abbrev main_v166 : Ref sig .tc := ⟨.hbm, 284, rfl⟩
abbrev main_cst_73 : Ref sig .tc := ⟨.hbm, 285, rfl⟩
abbrev main_v167 : Ref sig .tc := ⟨.hbm, 286, rfl⟩
abbrev main_v168 : Ref sig .tc := ⟨.hbm, 287, rfl⟩
abbrev main_v169 : Ref sig .tc := ⟨.hbm, 288, rfl⟩
abbrev main_v170 : Ref sig .tc := ⟨.hbm, 289, rfl⟩
abbrev main_cst_74 : Ref sig .tc := ⟨.hbm, 290, rfl⟩
abbrev main_v171 : Ref sig .tc := ⟨.hbm, 291, rfl⟩
abbrev main_v172 : Ref sig .tc := ⟨.hbm, 292, rfl⟩
abbrev main_v173 : Ref sig .tc := ⟨.hbm, 293, rfl⟩

abbrev nD : Nat := 1
abbrev τ : Topo := Topo.v7x

variable {F : FTy → Type} [FloatOps F]
-- ==== Proof.HandIdeal.Rules.lean ====
/- The kernel's buffers by name, and the rules of a load, a store and an `assume` at the head of a block,
   each stated with the contents it leaves as a function given by the caller. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Tactic
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weights and scales left in HBM. -/
abbrev mW1 : Memref sig .tc .hbm S13x3584x4096 .i8 := Memref.whole main_arg1
abbrev mS1 : Memref sig .tc .hbm S13x224x4096 .i8 := Memref.whole main_arg2
abbrev mW2 : Memref sig .tc .hbm S13x1024x7168 .i8 := Memref.whole main_arg3
abbrev mS2 : Memref sig .tc .hbm S13x64x7168 .i8 := Memref.whole main_arg4
/-- The scratch buffers. -/
abbrev bW1 : Memref sig .tc .vmem S4x2x3584x512 .i8 := Memref.whole cc0_scratch0
abbrev bS1 : Memref sig .tc .vmem S4x2x224x512 .i8 := Memref.whole cc0_scratch1
abbrev bW2 : Memref sig .tc .vmem S2x1024x3584 .i8 := Memref.whole cc0_scratch2
abbrev bS2 : Memref sig .tc .vmem S2x64x3584 .i8 := Memref.whole cc0_scratch3
abbrev bX : Memref sig .tc .vmem S28x48x256 .bf16 := Memref.whole cc0_scratch4
abbrev bH : Memref sig .tc .vmem S8x48x256 .bf16 := Memref.whole cc0_scratch5
abbrev bC : Memref sig .tc .vmem S6x8x128 .f32 := Memref.whole cc0_scratch6
abbrev bO : Memref sig .tc .vmem S6x8x7168 .f32 := Memref.whole cc0_scratch7
abbrev bA : Memref sig .tc .smem S13 .i32 := Memref.whole cc0_scratch8

/-- A buffer's elements `S` at contents `f`. -/
abbrev pt (c : Dev nD) {sp : Space} {s : Shape} {e : EltTy} (m : Memref sig .tc sp s e)
    (S : Finset (Idx (m.view.loc (c : Thread nD τ)))) (q : PosShare TreeShare) (f : Buf (Elt F) (m.view.loc (c : Thread nD τ))) : sProp 𝕄 :=
  m.view.loc (c : Thread nD τ) ↦[S]{q} f

/-- A block of the kernel on core `c`: it runs, and its result satisfies `Q`. -/
def WP {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

theorem WP_bind {α β : Type} (c : Dev nD) (p : Prog (TpuEff nD τ sig (Elt F) Λ₀ .tc) α)
    (k : α → Prog (TpuEff nD τ sig (Elt F) Λ₀ .tc) β) (Q : β → sProp 𝕄) :
    WP c p (fun x => WP c (k x) Q) ⊢ WP c (p >>= k) Q := by
  unfold WP; rw [wp_bind]

theorem WP_pure {α : Type} (c : Dev nD) (a : α) (Q : α → sProp 𝕄) : Q a ⊢ WP c (pure a) Q := le_wp_ret _ _ _ a Q

theorem WP_mono {α : Type} (c : Dev nD) (p : Prog (TpuEff nD τ sig (Elt F) Λ₀ .tc) α) {P Q : α → sProp 𝕄}
    (h : ∀ a, P a ⊢ Q a) : WP c p P ⊢ WP c p Q := wp_mono _ _ _ h

theorem WP_wand {α : Type} (c : Dev nD) (p : Prog (TpuEff nD τ sig (Elt F) Λ₀ .tc) α) {P Q : α → sProp 𝕄} :
    iprop(WP c p P ∗ (∀ a, P a -∗ Q a)) ⊢ WP c p Q := wp_wand_r _ _ _

/-- A block whose triple is known, at the head of a longer one. -/
theorem WP_step {α β : Type} (c : Dev nD) {p : Prog (TpuEff nD τ sig (Elt F) Λ₀ .tc) α} {R : sProp 𝕄} {P : α → sProp 𝕄}
    {k : α → Prog (TpuEff nD τ sig (Elt F) Λ₀ .tc) β} {Q : β → sProp 𝕄} (h : R ⊢ WP c p P) :
    R ⊢ iprop((∀ a, P a -∗ WP c (k a) Q) -∗ WP c (p >>= k) Q) := by
  iintro H HK
  iapply (WP_bind c p k Q)
  iapply (WP_wand c p (P := P))
  isplitl [H]
  · iapply h $$ H
  · iexact HK

theorem WP_fupd {α : Type} (c : Dev nD) (p : Prog (TpuEff nD τ sig (Elt F) Λ₀ .tc) α) (Q : α → sProp 𝕄) :
    iprop(|={Set.univ}=> WP c p Q) ⊢ WP c p Q := fupd_wp _ _ _ p Q

theorem WP_load (c : Dev nD) {sp : CoreSpace} {s : Shape} {e : EltTy} {m : Memref sig .tc sp s e} {r : LoadRect s} {hl : m.view.LoadsAt r}
    {S : Finset (Idx (m.view.loc (c : Thread nD τ)))} {q : PosShare TreeShare} {f : Buf (Elt F) (m.view.loc (c : Thread nD τ))}
    {β : Type} {k : (r.shape.Idx → Elt F e) → Prog (TpuEff nD τ sig (Elt F) Λ₀ .tc) β} {Q : β → sProp 𝕄} (v : r.shape.Idx → Elt F e)
    (hS : m.view.setOn r.set ⊆ S) (hv : m.view.readAt (Elt F) r f = v) :
    pt c m S q f ⊢ iprop((pt c m S q f -∗ WP c (k v) Q) -∗ WP c (Prog.lift (.load m r hl) >>= k) Q) := by
  subst hv
  exact wp_load (Γ := .empty) (defs := defs₀ (F := F)) Variants.none (c : Thread nD τ) none Set.univ hS

theorem WP_store (c : Dev nD) {sp : CoreSpace} {s : Shape} {e : EltTy} {m : Memref sig .tc sp s e} {r : Rect s} {w : r.shape.Idx → Elt F e}
    {hx : (m.access r).Stores Finset.univ} {hm : Finset.univ = Finset.univ ∨ ∀ a, r.stride a = 1}
    {S : Finset (Idx (m.view.loc (c : Thread nD τ)))} {f : Buf (Elt F) (m.view.loc (c : Thread nD τ))}
    {β : Type} {k : PUnit → Prog (TpuEff nD τ sig (Elt F) Λ₀ .tc) β} {Q : β → sProp 𝕄} (g : Buf (Elt F) (m.view.loc (c : Thread nD τ)))
    (hS : (m.access r).set ⊆ S) (hg : ∀ i ∈ S, (m.access r).write (Elt F) f w Finset.univ i = g i) :
    pt c m S fullShare f ⊢ iprop((pt c m S fullShare g -∗ WP c (k ⟨⟩) Q) -∗ WP c (Prog.lift (.store m r w Finset.univ hx hm) >>= k) Q) := by
  have h : pt c m S fullShare f ⊢ iprop((pt c m S fullShare ((m.access r).write (Elt F) f w Finset.univ) -∗ WP c (k ⟨⟩) Q) -∗ WP c (Prog.lift (.store m r w Finset.univ hx hm) >>= k) Q) :=
    wp_store (Γ := .empty) (defs := defs₀ (F := F)) (U := Pipeline.UD sig nD τ) (Ix := Unit) (Name := ℕ) (Lvl := ℕ) Variants.none (c : Thread nD τ) none Set.univ (m := m) (r := r) (w := w) (hx := hx) (hm := hm) (k := k)
    (S := S) (f := f) (Q := Q) hS
  iintro H HQ
  iapply h $$ H
  iintro H
  iapply HQ
  iapply (Entails.of_eq (pointsTo_congr hg)) $$ H

theorem WP_storeW (c : Dev nD) {sp : CoreSpace} {s : Shape} {e : EltTy} {m : Memref sig .tc sp s e} {r : Rect s} {w : r.shape.Idx → Elt F e}
    {hx : (m.access r).Stores Finset.univ} {hm : Finset.univ = Finset.univ ∨ ∀ a, r.stride a = 1}
    {S : Finset (Idx (m.view.loc (c : Thread nD τ)))} {f : Buf (Elt F) (m.view.loc (c : Thread nD τ))}
    {β : Type} {k : PUnit → Prog (TpuEff nD τ sig (Elt F) Λ₀ .tc) β} {Q : β → sProp 𝕄} (hS : (m.access r).set ⊆ S) :
    pt c m S fullShare f ⊢ iprop((pt c m S fullShare ((m.access r).write (Elt F) f w Finset.univ) -∗ WP c (k ⟨⟩) Q) -∗ WP c (Prog.lift (.store m r w Finset.univ hx hm) >>= k) Q) :=
  WP_store c _ hS fun _ _ => rfl

theorem WP_smemLoad (c : Dev nD) {s : Shape} {e : EltTy} {m : Memref sig .tc .smem s e} {r : Rect s} {h1 : r.shape.numel = 1} {hp : e.packing = 1}
    {S : Finset (Idx (m.view.loc (c : Thread nD τ)))} {q : PosShare TreeShare} {f : Buf (Elt F) (m.view.loc (c : Thread nD τ))}
    {β : Type} {k : Elt F e → Prog (TpuEff nD τ sig (Elt F) Λ₀ .tc) β} {Q : β → sProp 𝕄} (v : Elt F e)
    (hS : (m.access r).set ⊆ S) (hv : (m.access r).read (Elt F) f (Shape.Idx.first (h1.symm ▸ Nat.one_pos)) = v) :
    pt c m S q f ⊢ iprop((pt c m S q f -∗ WP c (k v) Q) -∗ WP c (smemLoad m r h1 hp >>= k) Q) := by
  subst hv
  unfold smemLoad smemLoadElt
  exact wp_load_rect (Γ := .empty) (defs := defs₀ (F := F)) Variants.none (c : Thread nD τ) none Set.univ (m := m) (r := r)
    (k := fun x => k (x (Shape.Idx.first (h1.symm ▸ Nat.one_pos)))) hS

theorem WP_assume (c : Dev nD) {P : Prop} {d : Decidable P} {β : Type} {k : PLift P → Prog (TpuEff nD τ sig (Elt F) Λ₀ .tc) β} {Q : β → sProp 𝕄} (h : P) :
    WP c (k ⟨h⟩) Q ⊢ WP c (Prog.lift (TpuEff.assume P d) >>= k) Q :=
  wp_assume (Γ := .empty) (defs := defs₀ (F := F)) Variants.none (c : Thread nD τ) none Set.univ h

/-- A counted loop by an invariant. -/
theorem WP_for {σ : Type} (c : Dev nD) {l : Scf.Loop 32} {hok : Scf.OK l.lb l.ub l.st} {init : σ}
    {body : Fin l.trips → σ → Prog (TpuEff nD τ sig (Elt F) Λ₀ .tc) σ} (I : ℕ → σ → sProp 𝕄)
    (hbody : ∀ (k : Fin l.trips) (acc : σ), I k acc ⊢ WP c (body k acc) (I (k.val + 1)))
    {β : Type} {kk : σ → Prog (TpuEff nD τ sig (Elt F) Λ₀ .tc) β} {Q : β → sProp 𝕄} :
    I 0 init ⊢ iprop((∀ acc, I l.trips acc -∗ WP c (kk acc) Q) -∗ WP c (Scf.Loop.for l hok init body >>= kk) Q) :=
  Scf.wp_for_bind _ _ _ l.lb l.ub l.st hok init body I hbody

/-- A batch of copies on one semaphore: `j` issued, `u` units waited for. -/
abbrev MB {n : ℕ} (c : Dev nD) (sm : SemLoc sig) (A : Fin n → ℕ) (D : Fin n → sProp 𝕄) (j u : ℕ) : sProp 𝕄 :=
  Transfers.MixedBatch (Lvl := ℕ) (countersEmb (U := Pipeline.UD sig nD τ)) (c : Thread nD τ) sm () A D j u

/-- Start a copy: the source stays where the copy does not read, the batch has one more copy issued. -/
theorem WP_enq (c : Dev nD) {n : ℕ} {sp sp' : Space} {s : Shape} {e : EltTy} {src : Memref sig .tc sp s e} {dst : Memref sig .tc sp' s e} {sm : SemLoc sig}
    {hsrc : src.view.WordExact} {hdst : dst.view.WordExact} {hsem : DmaTarget.Typed (nD := nD) (τ := τ) (p := .tc) sp sm (.here dst)}
    {q : PosShare TreeShare} {fs : Buf (Elt F) (src.view.loc (c : Thread nD τ))} {Ss : Finset (Idx (src.view.loc (c : Thread nD τ)))}
    {Sd : Finset (Idx (dst.view.loc (c : Thread nD τ)))} {fd : Buf (Elt F) (dst.view.loc (c : Thread nD τ))}
    {A : Fin n → ℕ} {D : Fin n → sProp 𝕄} {j u : ℕ}
    {β : Type} {k : PUnit → Prog (TpuEff nD τ sig (Elt F) Λ₀ .tc) β} {Q : β → sProp 𝕄}
    (g : Buf (Elt F) (dst.view.loc (c : Thread nD τ))) (hSs : src.view.set ⊆ Ss) (hSd : dst.view.set ⊆ Sd) (hj : j < n)
    (hA : dst.view.amount sm = A ⟨j, hj⟩) (hu : u ≤ Transfers.sumTo A j)
    (hg : ∀ i ∈ Sd, dst.view.write (Elt F) fd (src.view.read (Elt F) fs) Finset.univ i = g i)
    (hD : iprop(pt c dst Sd fullShare g ∗ pt c src src.view.set q fs) ⊢ D ⟨j, hj⟩) :
    iprop(pt c src Ss q fs ∗ pt c dst Sd fullShare fd ∗ MB c sm A D j u)
      ⊢ iprop((iprop(pt c src (Ss \ src.view.set) q fs ∗ MB c sm A D (j + 1) u) -∗ WP c (k ⟨⟩) Q)
          -∗ WP c (Prog.lift (.enqueueDma src (.here dst) sm hsrc hdst hsem) >>= k) Q) := by
  have h : iprop(pt c src src.view.set q fs ∗ pt c dst Sd fullShare fd ∗ MB c sm A D j u)
      ⊢ iprop((MB c sm A D (j + 1) u -∗ WP c (k ⟨⟩) Q)
          -∗ WP c (Prog.lift (.enqueueDma src (.here dst) sm hsrc hdst hsem) >>= k) Q) := Transfers.wp_dmaMixedBatch (defs := defs₀ (F := F)) (Lvl := ℕ) (countersEmb (U := Pipeline.UD sig nD τ)) Variants.none (c : Thread nD τ) none (src := src)
    (via := .same) (dst := dst) (sm := sm) (hsrc := hsrc) (hdst := hdst) (hsem := hsem) (k := k) (q := q) (fs := fs) (Sd := Sd) (fd := fd)
    (D := D) (j := j) (u := u) (Q := Q) () A hSd hj hA hu ((sep_mono_left (Entails.of_eq (pointsTo_congr hg))).trans hD)
  iintro ⟨Hs, Hd, HB⟩ HK
  ihave H := (pointsTo_split_subset hSs).1 $$ Hs
  icases H with ⟨Hs, Hr⟩
  iapply h $$ [Hs Hd HB]
  · isplitl [Hs]; · iexact Hs
    isplitl [Hd]; · iexact Hd
    iexact HB
  iintro HB
  iapply HK
  isplitl [Hr]; · iexact Hr
  iexact HB

/-- What the core has waited for so far, of no matter. -/
def Owe (c : Dev nD) : sProp 𝕄 := iprop(∃ W, owes (c : Thread nD τ) 0 W)

theorem WP_wait (c : Dev nD) {n : ℕ} {sp sp' : Space} {s s' : Shape} {e e' : EltTy} {sem : DmaSem sig}
    {srcw : Memref sig .tc sp' s' e'} {dstw : Memref sig .tc sp s e} {hsrc : srcw.view.WordExact} {hdst : dstw.view.WordExact}
    {A : Fin n → ℕ} {D : Fin n → sProp 𝕄} {j u : ℕ}
    {β : Type} {k : PUnit → Prog (TpuEff nD τ sig (Elt F) Λ₀ .tc) β} {Q : β → sProp 𝕄}
    (u' : ℕ) (hJ : u + dstw.view.dmaCredit = u') (hu : u' ≤ Transfers.sumTo A j) :
    iprop(MB c (.dma sem) A D j u ∗ Owe c)
      ⊢ iprop((iprop(MB c (.dma sem) A D j u' ∗ Owe c) -∗ WP c (k ⟨⟩) Q)
          -∗ WP c (Prog.lift (.waitDma2 sem srcw dstw hsrc hdst) >>= k) Q) := by
  subst hJ
  unfold Owe
  iintro ⟨HB, ⟨%W, HW⟩⟩ HK
  have h : iprop(MB c (.dma sem) A D j u ∗ owes (c : Thread nD τ) 0 W)
      ⊢ iprop((iprop(MB c (.dma sem) A D j (u + dstw.view.dmaCredit) ∗ owes (c : Thread nD τ) 0 (insert (SemLoc.dma sem, ()) W)) -∗ WP c (k ⟨⟩) Q)
          -∗ WP c (Prog.lift (.waitDma2 sem srcw dstw hsrc hdst) >>= k) Q) := (Transfers.wp_waitMixedBatch (defs := defs₀ (F := F)) (Lvl := ℕ) (countersEmb (U := Pipeline.UD sig nD τ)) Variants.none (c : Thread nD τ) none () rfl hu)
  iapply h $$ [HB HW]
  · isplitl [HB]; · iexact HB
    iexact HW
  iintro ⟨HB, HW⟩
  iapply HK
  isplitl [HB]; · iexact HB
  iexists _; iexact HW

/-- Once everything issued has been waited for, the deliveries are here. -/
theorem MB_collect (c : Dev nD) {n : ℕ} {sm : SemLoc sig} {A : Fin n → ℕ} (hA0 : ∀ t, 0 < A t) {D : Fin n → sProp 𝕄} (u : ℕ) (hu : u = Transfers.sumTo A n) :
    MB c sm A D n u ⊢ (|={Set.univ}=> iprop(bigSep Finset.univ D ∗ semVal ((c : Thread nD τ), sm) 0) : sProp 𝕄) := by
  subst hu
  exact Transfers.mixedBatch_collect' (Lvl := ℕ) (countersEmb (U := Pipeline.UD sig nD τ)) (c : Thread nD τ) hA0

theorem MB_alloc (c : Dev nD) {n : ℕ} {sm : SemLoc sig} (A : Fin n → ℕ) (D : Fin n → sProp 𝕄)
    [∀ t, BI.Storable (upEmb : UEmb _ 𝕄) (D t)] :
    (semVal ((c : Thread nD τ), sm) 0 : sProp 𝕄) ⊢ |={Set.univ}=> MB c sm A D 0 0 :=
  Transfers.mixedBatch_alloc' (Lvl := ℕ) (countersEmb (U := Pipeline.UD sig nD τ)) (c : Thread nD τ) () A D

end Cert.KernelIdeal.Hand

end
-- ==== Proof.HandIdeal.Copies.lean ====
/- The copies from HBM into the scratch buffers: what each buffer holds for an expert, which elements each copy reads and
   writes, and the rule that starts it. -/
module

public import proofs.«01_k».proof.Proof.HandIdeal.Rules
public import Idealize.ShloMosaic.Lib.QrPanel.StackBlock

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix1 ix2 ix3 ix4)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem resh3 {a b : ℕ} (h : (⟨2, ![a, b]⟩ : Shape).numel = (⟨3, ![1, a, b]⟩ : Shape).numel) (x : (⟨2, ![a, b]⟩ : Shape).Idx) :
    Shape.reshapeEquiv h x = ix3 (n0 := 1) ⟨0, Nat.one_pos⟩ (x 0) (x 1) :=
  (Shape.reshapeEquiv_cons_one (d := ![a, b]) h x).trans (by
    funext i; match i with
    | ⟨0, _⟩ => rfl
    | ⟨1, _⟩ => rfl
    | ⟨2, _⟩ => rfl)

theorem resh4 {a b : ℕ} (h : (⟨2, ![a, b]⟩ : Shape).numel = (⟨4, ![1, 1, a, b]⟩ : Shape).numel) (x : (⟨2, ![a, b]⟩ : Shape).Idx) :
    Shape.reshapeEquiv h x = ix4 (n0 := 1) (n1 := 1) ⟨0, Nat.one_pos⟩ ⟨0, Nat.one_pos⟩ (x 0) (x 1) :=
  (Idealize.ShloMosaic.QrPanel.StackBlock.reshapeEquiv_cons_one_one (d := ![a, b]) h x).trans (by
    funext i; match i with
    | ⟨0, _⟩ => rfl
    | ⟨1, _⟩ => rfl
    | ⟨2, _⟩ => rfl
    | ⟨3, _⟩ => rfl)

/-- The first-layer codes of expert `e`, as the scratch buffer holds them: chunk, half, row, lane. -/
def GW1 (w : S13x3584x4096.Idx → Elt F .i8) (e : BitVec 32) : S4x2x3584x512.Idx → Elt F .i8 := fun i =>
  w (ix3 (n0 := 13) (n1 := 3584) (n2 := 4096) ⟨e.toNat % 13, Nat.mod_lt _ (by decide)⟩ ⟨(i 2).val, (i 2).isLt⟩
    ⟨(i 1).val * 2048 + (i 0).val * 512 + (i 3).val, by
      have h0 : (i 0).val < 4 := (i 0).isLt
      have h1 : (i 1).val < 2 := (i 1).isLt
      have h3 : (i 3).val < 512 := (i 3).isLt
      omega⟩)

/-- Chunk `cc`, half `h` of the scratch buffer. -/
def PW1 (cc h : ℕ) : Finset S4x2x3584x512.Idx := Finset.univ.filter fun i => (i 0).val = cc ∧ (i 1).val = h

/-- The elements of expert `e`'s array a copy of chunk `cc`, half `h` reads. -/
def UW1 (e : BitVec 32) (cc h : ℕ) : Finset S13x3584x4096.Idx :=
  Finset.univ.filter fun i => (i 0).val = e.toNat ∧ h * 2048 + cc * 512 ≤ (i 2).val ∧ (i 2).val < h * 2048 + cc * 512 + 512

theorem PW1_set (cc h : ℕ) (hi : ∀ a, (![cc, h, 0, 0] : Fin 4 → ℕ) a + S1x1x3584x512.size a ≤ S4x2x3584x512.size a) :
    (Rect.unit (s := S4x2x3584x512) ![cc, h, 0, 0] S1x1x3584x512.size hi).set = PW1 cc h := by
  ext i
  rw [Rect.mem_set_unit]
  simp only [PW1, Finset.mem_filter, Finset.mem_univ, true_and]
  have h2 : (i 2).val < 3584 := (i 2).isLt
  have h3 : (i 3).val < 512 := (i 3).isLt
  constructor
  · intro H
    have a0 := H 0; have a1 := H 1
    change cc ≤ (i 0).val ∧ (i 0).val < cc + 1 at a0
    change h ≤ (i 1).val ∧ (i 1).val < h + 1 at a1
    omega
  · rintro ⟨a0, a1⟩ a
    fin_cases a
    · show cc ≤ (i 0).val ∧ (i 0).val < cc + 1; omega
    · show h ≤ (i 1).val ∧ (i 1).val < h + 1; omega
    · show 0 ≤ (i 2).val ∧ (i 2).val < 0 + 3584; omega
    · show 0 ≤ (i 3).val ∧ (i 3).val < 0 + 512; omega

theorem UW1_set (e : BitVec 32) (cc h : ℕ) (hi : ∀ a, (![e.toNat, 0, h * 2048 + cc * 512] : Fin 3 → ℕ) a + S1x3584x512.size a ≤ S13x3584x4096.size a) :
    (Rect.unit (s := S13x3584x4096) ![e.toNat, 0, h * 2048 + cc * 512] S1x3584x512.size hi).set = UW1 e cc h := by
  ext i
  rw [Rect.mem_set_unit]
  simp only [UW1, Finset.mem_filter, Finset.mem_univ, true_and]
  have h1 : (i 1).val < 3584 := (i 1).isLt
  constructor
  · intro H
    have a0 := H 0; have a2 := H 2
    change e.toNat ≤ (i 0).val ∧ (i 0).val < e.toNat + 1 at a0
    change h * 2048 + cc * 512 ≤ (i 2).val ∧ (i 2).val < h * 2048 + cc * 512 + 512 at a2
    omega
  · rintro ⟨a0, a2, a3⟩ a
    fin_cases a
    · show e.toNat ≤ (i 0).val ∧ (i 0).val < e.toNat + 1; omega
    · show 0 ≤ (i 1).val ∧ (i 1).val < 0 + 3584; omega
    · show h * 2048 + cc * 512 ≤ (i 2).val ∧ (i 2).val < h * 2048 + cc * 512 + 512; omega

/-- A copy's destination and source as the kernel names them. -/
abbrev dW1 (od : Fin 4 → ℕ) (hi : ∀ a, od a + S1x1x3584x512.size a ≤ S4x2x3584x512.size a) : Memref sig .tc .vmem S3584x512 .i8 :=
  (bW1.slice (Rect.unit (s := S4x2x3584x512) od S1x1x3584x512.size hi) (fun _ => rfl)).squeeze S3584x512 squeezes_S1x1x3584x512_S3584x512
abbrev sW1 (os : Fin 3 → ℕ) (hi : ∀ a, os a + S1x3584x512.size a ≤ S13x3584x4096.size a) : Memref sig .tc .hbm S3584x512 .i8 :=
  (mW1.slice (Rect.unit (s := S13x3584x4096) os S1x3584x512.size hi) (fun _ => rfl)).squeeze S3584x512 squeezes_S1x3584x512_S3584x512

theorem dW1_set (cc h : ℕ) (hi) : (dW1 ![cc, h, 0, 0] hi).view.set = PW1 cc h :=
  (Memref.set_view_squeeze _ _).trans ((View.set_slice_whole _ _).trans (PW1_set cc h hi))
theorem sW1_set (e : BitVec 32) (cc h : ℕ) (hi) : (sW1 ![e.toNat, 0, h * 2048 + cc * 512] hi).view.set = UW1 e cc h :=
  (Memref.set_view_squeeze _ _).trans ((View.set_slice_whole _ _).trans (UW1_set e cc h hi))

set_option backward.isDefEq.respectTransparency false in
/-- What a copy puts into the buffer. -/
theorem landW1 (w : S13x3584x4096.Idx → Elt F .i8) (fd : S4x2x3584x512.Idx → Elt F .i8) (e : BitVec 32) (he : e.toNat < 13) (cc h : ℕ) (hd) (hs) :
    ∀ i ∈ PW1 cc h, (dW1 ![cc, h, 0, 0] hd).view.write (Elt F) fd ((sW1 ![e.toNat, 0, h * 2048 + cc * 512] hs).view.read (Elt F) w) Finset.univ i = GW1 w e i := by
  intro i hi
  rw [← dW1_set cc h hd] at hi
  obtain ⟨x, -, rfl⟩ := Finset.mem_map.mp hi
  refine (View.write_emb_of_mem _ _ (Finset.mem_univ x)).trans ?_
  have e1 : ((dW1 ![cc, h, 0, 0] hd).view.emb x) = (Rect.unit (s := S4x2x3584x512) ![cc, h, 0, 0] S1x1x3584x512.size hd).emb (ix4 (n0 := 1) (n1 := 1) ⟨0, Nat.one_pos⟩ ⟨0, Nat.one_pos⟩ (x 0) (x 1)) :=
    congrArg (Rect.unit (s := S4x2x3584x512) ![cc, h, 0, 0] S1x1x3584x512.size hd).emb (resh4 (a := 3584) (b := 512) _ x)
  have e2 : ((sW1 ![e.toNat, 0, h * 2048 + cc * 512] hs).view.emb x) = (Rect.unit (s := S13x3584x4096) ![e.toNat, 0, h * 2048 + cc * 512] S1x3584x512.size hs).emb (ix3 (n0 := 1) ⟨0, Nat.one_pos⟩ (x 0) (x 1)) :=
    congrArg (Rect.unit (s := S13x3584x4096) ![e.toNat, 0, h * 2048 + cc * 512] S1x3584x512.size hs).emb (resh3 (a := 3584) (b := 512) _ x)
  show w ((sW1 ![e.toNat, 0, h * 2048 + cc * 512] hs).view.emb x) = GW1 w e ((dW1 ![cc, h, 0, 0] hd).view.emb x)
  rw [e1, e2]
  unfold GW1
  refine congrArg w (funext fun a => Fin.ext ?_)
  fin_cases a
  · show e.toNat + 0 * 1 = e.toNat % 13
    omega
  · show 0 + 1 * (x 0).val = 0 + 1 * (x 0).val
    rfl
  · show h * 2048 + cc * 512 + 1 * (x 1).val = (h + 0 * 1) * 2048 + (cc + 0 * 1) * 512 + (0 + 1 * (x 1).val)
    omega

/-- Starting the copy of chunk `cc`, half `h`. -/
theorem enqW1 (c : Dev nD) (e : BitVec 32) (he : e.toNat < 13) (cc h : ℕ) {od : Fin 4 → ℕ} {os : Fin 3 → ℕ} {hod} {hos}
    (eod : od = ![cc, h, 0, 0]) (eos : os = ![e.toNat, 0, h * 2048 + cc * 512]) {n : ℕ} {sm : SemLoc sig}
    {hsrc : (sW1 os hos).view.WordExact} {hdst : (dW1 od hod).view.WordExact} {hsem : DmaTarget.Typed (nD := nD) (τ := τ) (p := .tc) .hbm sm (.here (dW1 od hod))}
    {q : PosShare TreeShare} {w : S13x3584x4096.Idx → Elt F .i8} {fd : S4x2x3584x512.Idx → Elt F .i8} {A : Fin n → ℕ} {D : Fin n → sProp 𝕄} {j u : ℕ}
    {β : Type} {k : PUnit → Prog (TpuEff nD τ sig (Elt F) Λ₀ .tc) β} {Q : β → sProp 𝕄}
    (hj : j < n) (hA : (dW1 od hod).view.amount sm = A ⟨j, hj⟩) (hu : u ≤ Transfers.sumTo A j)
    (hD : D ⟨j, hj⟩ = iprop(pt c bW1 (PW1 cc h) fullShare (GW1 w e) ∗ pt c mW1 (UW1 e cc h) q w)) :
    iprop(pt c mW1 Finset.univ q w ∗ pt c bW1 (PW1 cc h) fullShare fd ∗ MB c sm A D j u)
      ⊢ iprop((iprop(pt c mW1 (Finset.univ \ UW1 e cc h) q w ∗ MB c sm A D (j + 1) u) -∗ WP c (k ⟨⟩) Q)
          -∗ WP c (Prog.lift (.enqueueDma (sW1 os hos) (.here (dW1 od hod)) sm hsrc hdst hsem) >>= k) Q) := by
  subst eod eos
  have h := WP_enq c (src := sW1 _ hos) (dst := dW1 _ hod) (hsrc := hsrc) (hdst := hdst) (hsem := hsem) (fs := w) (Ss := Finset.univ) (Sd := PW1 cc h) (fd := fd) (q := q) (A := A) (D := D)
    (k := k) (Q := Q) (GW1 w e) (Finset.subset_univ _) (dW1_set cc h hod).subset hj hA hu (landW1 w fd e he cc h hod hos)
    (by rw [hD, sW1_set])
  rw [sW1_set] at h
  exact h

/-- The first-layer scales of expert `e`, as the scratch buffer holds them: chunk, half, row, lane. -/
def GS1 (w : S13x224x4096.Idx → Elt F .i8) (e : BitVec 32) : S4x2x224x512.Idx → Elt F .i8 := fun i =>
  w (ix3 (n0 := 13) (n1 := 224) (n2 := 4096) ⟨e.toNat % 13, Nat.mod_lt _ (by decide)⟩ ⟨(i 2).val, (i 2).isLt⟩
    ⟨(i 1).val * 2048 + (i 0).val * 512 + (i 3).val, by
      have h0 : (i 0).val < 4 := (i 0).isLt
      have h1 : (i 1).val < 2 := (i 1).isLt
      have h3 : (i 3).val < 512 := (i 3).isLt
      omega⟩)

/-- Chunk `cc`, half `h` of the scratch buffer. -/
def PS1 (cc h : ℕ) : Finset S4x2x224x512.Idx := Finset.univ.filter fun i => (i 0).val = cc ∧ (i 1).val = h

/-- The elements of expert `e`'s array a copy of chunk `cc`, half `h` reads. -/
def US1 (e : BitVec 32) (cc h : ℕ) : Finset S13x224x4096.Idx :=
  Finset.univ.filter fun i => (i 0).val = e.toNat ∧ h * 2048 + cc * 512 ≤ (i 2).val ∧ (i 2).val < h * 2048 + cc * 512 + 512

theorem PS1_set (cc h : ℕ) (hi : ∀ a, (![cc, h, 0, 0] : Fin 4 → ℕ) a + S1x1x224x512.size a ≤ S4x2x224x512.size a) :
    (Rect.unit (s := S4x2x224x512) ![cc, h, 0, 0] S1x1x224x512.size hi).set = PS1 cc h := by
  ext i
  rw [Rect.mem_set_unit]
  simp only [PS1, Finset.mem_filter, Finset.mem_univ, true_and]
  have h2 : (i 2).val < 224 := (i 2).isLt
  have h3 : (i 3).val < 512 := (i 3).isLt
  constructor
  · intro H
    have a0 := H 0; have a1 := H 1
    change cc ≤ (i 0).val ∧ (i 0).val < cc + 1 at a0
    change h ≤ (i 1).val ∧ (i 1).val < h + 1 at a1
    omega
  · rintro ⟨a0, a1⟩ a
    fin_cases a
    · show cc ≤ (i 0).val ∧ (i 0).val < cc + 1; omega
    · show h ≤ (i 1).val ∧ (i 1).val < h + 1; omega
    · show 0 ≤ (i 2).val ∧ (i 2).val < 0 + 224; omega
    · show 0 ≤ (i 3).val ∧ (i 3).val < 0 + 512; omega

theorem US1_set (e : BitVec 32) (cc h : ℕ) (hi : ∀ a, (![e.toNat, 0, h * 2048 + cc * 512] : Fin 3 → ℕ) a + S1x224x512.size a ≤ S13x224x4096.size a) :
    (Rect.unit (s := S13x224x4096) ![e.toNat, 0, h * 2048 + cc * 512] S1x224x512.size hi).set = US1 e cc h := by
  ext i
  rw [Rect.mem_set_unit]
  simp only [US1, Finset.mem_filter, Finset.mem_univ, true_and]
  have h1 : (i 1).val < 224 := (i 1).isLt
  constructor
  · intro H
    have a0 := H 0; have a2 := H 2
    change e.toNat ≤ (i 0).val ∧ (i 0).val < e.toNat + 1 at a0
    change h * 2048 + cc * 512 ≤ (i 2).val ∧ (i 2).val < h * 2048 + cc * 512 + 512 at a2
    omega
  · rintro ⟨a0, a2, a3⟩ a
    fin_cases a
    · show e.toNat ≤ (i 0).val ∧ (i 0).val < e.toNat + 1; omega
    · show 0 ≤ (i 1).val ∧ (i 1).val < 0 + 224; omega
    · show h * 2048 + cc * 512 ≤ (i 2).val ∧ (i 2).val < h * 2048 + cc * 512 + 512; omega

/-- A copy's destination and source as the kernel names them. -/
abbrev dS1 (od : Fin 4 → ℕ) (hi : ∀ a, od a + S1x1x224x512.size a ≤ S4x2x224x512.size a) : Memref sig .tc .vmem S224x512 .i8 :=
  (bS1.slice (Rect.unit (s := S4x2x224x512) od S1x1x224x512.size hi) (fun _ => rfl)).squeeze S224x512 squeezes_S1x1x224x512_S224x512
abbrev sS1 (os : Fin 3 → ℕ) (hi : ∀ a, os a + S1x224x512.size a ≤ S13x224x4096.size a) : Memref sig .tc .hbm S224x512 .i8 :=
  (mS1.slice (Rect.unit (s := S13x224x4096) os S1x224x512.size hi) (fun _ => rfl)).squeeze S224x512 squeezes_S1x224x512_S224x512

theorem dS1_set (cc h : ℕ) (hi) : (dS1 ![cc, h, 0, 0] hi).view.set = PS1 cc h :=
  (Memref.set_view_squeeze _ _).trans ((View.set_slice_whole _ _).trans (PS1_set cc h hi))
theorem sS1_set (e : BitVec 32) (cc h : ℕ) (hi) : (sS1 ![e.toNat, 0, h * 2048 + cc * 512] hi).view.set = US1 e cc h :=
  (Memref.set_view_squeeze _ _).trans ((View.set_slice_whole _ _).trans (US1_set e cc h hi))

set_option backward.isDefEq.respectTransparency false in
/-- What a copy puts into the buffer. -/
theorem landS1 (w : S13x224x4096.Idx → Elt F .i8) (fd : S4x2x224x512.Idx → Elt F .i8) (e : BitVec 32) (he : e.toNat < 13) (cc h : ℕ) (hd) (hs) :
    ∀ i ∈ PS1 cc h, (dS1 ![cc, h, 0, 0] hd).view.write (Elt F) fd ((sS1 ![e.toNat, 0, h * 2048 + cc * 512] hs).view.read (Elt F) w) Finset.univ i = GS1 w e i := by
  intro i hi
  rw [← dS1_set cc h hd] at hi
  obtain ⟨x, -, rfl⟩ := Finset.mem_map.mp hi
  refine (View.write_emb_of_mem _ _ (Finset.mem_univ x)).trans ?_
  have e1 : ((dS1 ![cc, h, 0, 0] hd).view.emb x) = (Rect.unit (s := S4x2x224x512) ![cc, h, 0, 0] S1x1x224x512.size hd).emb (ix4 (n0 := 1) (n1 := 1) ⟨0, Nat.one_pos⟩ ⟨0, Nat.one_pos⟩ (x 0) (x 1)) :=
    congrArg (Rect.unit (s := S4x2x224x512) ![cc, h, 0, 0] S1x1x224x512.size hd).emb (resh4 (a := 224) (b := 512) _ x)
  have e2 : ((sS1 ![e.toNat, 0, h * 2048 + cc * 512] hs).view.emb x) = (Rect.unit (s := S13x224x4096) ![e.toNat, 0, h * 2048 + cc * 512] S1x224x512.size hs).emb (ix3 (n0 := 1) ⟨0, Nat.one_pos⟩ (x 0) (x 1)) :=
    congrArg (Rect.unit (s := S13x224x4096) ![e.toNat, 0, h * 2048 + cc * 512] S1x224x512.size hs).emb (resh3 (a := 224) (b := 512) _ x)
  show w ((sS1 ![e.toNat, 0, h * 2048 + cc * 512] hs).view.emb x) = GS1 w e ((dS1 ![cc, h, 0, 0] hd).view.emb x)
  rw [e1, e2]
  unfold GS1
  refine congrArg w (funext fun a => Fin.ext ?_)
  fin_cases a
  · show e.toNat + 0 * 1 = e.toNat % 13
    omega
  · show 0 + 1 * (x 0).val = 0 + 1 * (x 0).val
    rfl
  · show h * 2048 + cc * 512 + 1 * (x 1).val = (h + 0 * 1) * 2048 + (cc + 0 * 1) * 512 + (0 + 1 * (x 1).val)
    omega

/-- Starting the copy of chunk `cc`, half `h`. -/
theorem enqS1 (c : Dev nD) (e : BitVec 32) (he : e.toNat < 13) (cc h : ℕ) {od : Fin 4 → ℕ} {os : Fin 3 → ℕ} {hod} {hos}
    (eod : od = ![cc, h, 0, 0]) (eos : os = ![e.toNat, 0, h * 2048 + cc * 512]) {n : ℕ} {sm : SemLoc sig}
    {hsrc : (sS1 os hos).view.WordExact} {hdst : (dS1 od hod).view.WordExact} {hsem : DmaTarget.Typed (nD := nD) (τ := τ) (p := .tc) .hbm sm (.here (dS1 od hod))}
    {q : PosShare TreeShare} {w : S13x224x4096.Idx → Elt F .i8} {fd : S4x2x224x512.Idx → Elt F .i8} {A : Fin n → ℕ} {D : Fin n → sProp 𝕄} {j u : ℕ}
    {β : Type} {k : PUnit → Prog (TpuEff nD τ sig (Elt F) Λ₀ .tc) β} {Q : β → sProp 𝕄}
    (hj : j < n) (hA : (dS1 od hod).view.amount sm = A ⟨j, hj⟩) (hu : u ≤ Transfers.sumTo A j)
    (hD : D ⟨j, hj⟩ = iprop(pt c bS1 (PS1 cc h) fullShare (GS1 w e) ∗ pt c mS1 (US1 e cc h) q w)) :
    iprop(pt c mS1 Finset.univ q w ∗ pt c bS1 (PS1 cc h) fullShare fd ∗ MB c sm A D j u)
      ⊢ iprop((iprop(pt c mS1 (Finset.univ \ US1 e cc h) q w ∗ MB c sm A D (j + 1) u) -∗ WP c (k ⟨⟩) Q)
          -∗ WP c (Prog.lift (.enqueueDma (sS1 os hos) (.here (dS1 od hod)) sm hsrc hdst hsem) >>= k) Q) := by
  subst eod eos
  have h := WP_enq c (src := sS1 _ hos) (dst := dS1 _ hod) (hsrc := hsrc) (hdst := hdst) (hsem := hsem) (fs := w) (Ss := Finset.univ) (Sd := PS1 cc h) (fd := fd) (q := q) (A := A) (D := D)
    (k := k) (Q := Q) (GS1 w e) (Finset.subset_univ _) (dS1_set cc h hod).subset hj hA hu (landS1 w fd e he cc h hod hos)
    (by rw [hD, sS1_set])
  rw [sS1_set] at h
  exact h

/-- The second-layer codes of expert `e`, as the scratch buffer holds them: half, row, lane. -/
def GW2 (w : S13x1024x7168.Idx → Elt F .i8) (e : BitVec 32) : S2x1024x3584.Idx → Elt F .i8 := fun i =>
  w (ix3 (n0 := 13) (n1 := 1024) (n2 := 7168) ⟨e.toNat % 13, Nat.mod_lt _ (by decide)⟩ ⟨(i 1).val, (i 1).isLt⟩
    ⟨(i 0).val * 3584 + (i 2).val, by
      have h0 : (i 0).val < 2 := (i 0).isLt
      have h3 : (i 2).val < 3584 := (i 2).isLt
      omega⟩)

/-- Half `cc` of the scratch buffer. -/
def PW2 (cc : ℕ) : Finset S2x1024x3584.Idx := Finset.univ.filter fun i => (i 0).val = cc

/-- The elements of expert `e`'s array a copy of half `cc` reads. -/
def UW2 (e : BitVec 32) (cc : ℕ) : Finset S13x1024x7168.Idx :=
  Finset.univ.filter fun i => (i 0).val = e.toNat ∧ cc * 3584 ≤ (i 2).val ∧ (i 2).val < cc * 3584 + 3584

theorem PW2_set (cc : ℕ) (hi : ∀ a, (![cc, 0, 0] : Fin 3 → ℕ) a + S1x1024x3584.size a ≤ S2x1024x3584.size a) :
    (Rect.unit (s := S2x1024x3584) ![cc, 0, 0] S1x1024x3584.size hi).set = PW2 cc := by
  ext i
  rw [Rect.mem_set_unit]
  simp only [PW2, Finset.mem_filter, Finset.mem_univ, true_and]
  have h1 : (i 1).val < 1024 := (i 1).isLt
  have h2 : (i 2).val < 3584 := (i 2).isLt
  constructor
  · intro H
    have a0 := H 0
    change cc ≤ (i 0).val ∧ (i 0).val < cc + 1 at a0
    omega
  · rintro a0 a
    fin_cases a
    · show cc ≤ (i 0).val ∧ (i 0).val < cc + 1; omega
    · show 0 ≤ (i 1).val ∧ (i 1).val < 0 + 1024; omega
    · show 0 ≤ (i 2).val ∧ (i 2).val < 0 + 3584; omega

theorem UW2_set (e : BitVec 32) (cc : ℕ) (hi : ∀ a, (![e.toNat, 0, cc * 3584] : Fin 3 → ℕ) a + S1x1024x3584.size a ≤ S13x1024x7168.size a) :
    (Rect.unit (s := S13x1024x7168) ![e.toNat, 0, cc * 3584] S1x1024x3584.size hi).set = UW2 e cc := by
  ext i
  rw [Rect.mem_set_unit]
  simp only [UW2, Finset.mem_filter, Finset.mem_univ, true_and]
  have h1 : (i 1).val < 1024 := (i 1).isLt
  constructor
  · intro H
    have a0 := H 0; have a2 := H 2
    change e.toNat ≤ (i 0).val ∧ (i 0).val < e.toNat + 1 at a0
    change cc * 3584 ≤ (i 2).val ∧ (i 2).val < cc * 3584 + 3584 at a2
    omega
  · rintro ⟨a0, a2, a3⟩ a
    fin_cases a
    · show e.toNat ≤ (i 0).val ∧ (i 0).val < e.toNat + 1; omega
    · show 0 ≤ (i 1).val ∧ (i 1).val < 0 + 1024; omega
    · show cc * 3584 ≤ (i 2).val ∧ (i 2).val < cc * 3584 + 3584; omega

/-- A copy's destination and source as the kernel names them. -/
abbrev dW2 (od : Fin 3 → ℕ) (hi : ∀ a, od a + S1x1024x3584.size a ≤ S2x1024x3584.size a) : Memref sig .tc .vmem S1024x3584 .i8 :=
  (bW2.slice (Rect.unit (s := S2x1024x3584) od S1x1024x3584.size hi) (fun _ => rfl)).squeeze S1024x3584 squeezes_S1x1024x3584_S1024x3584
abbrev sW2 (os : Fin 3 → ℕ) (hi : ∀ a, os a + S1x1024x3584.size a ≤ S13x1024x7168.size a) : Memref sig .tc .hbm S1024x3584 .i8 :=
  (mW2.slice (Rect.unit (s := S13x1024x7168) os S1x1024x3584.size hi) (fun _ => rfl)).squeeze S1024x3584 squeezes_S1x1024x3584_S1024x3584

theorem dW2_set (cc : ℕ) (hi) : (dW2 ![cc, 0, 0] hi).view.set = PW2 cc :=
  (Memref.set_view_squeeze _ _).trans ((View.set_slice_whole _ _).trans (PW2_set cc hi))
theorem sW2_set (e : BitVec 32) (cc : ℕ) (hi) : (sW2 ![e.toNat, 0, cc * 3584] hi).view.set = UW2 e cc :=
  (Memref.set_view_squeeze _ _).trans ((View.set_slice_whole _ _).trans (UW2_set e cc hi))

set_option backward.isDefEq.respectTransparency false in
/-- What a copy puts into the buffer. -/
theorem landW2 (w : S13x1024x7168.Idx → Elt F .i8) (fd : S2x1024x3584.Idx → Elt F .i8) (e : BitVec 32) (he : e.toNat < 13) (cc : ℕ) (hd) (hs) :
    ∀ i ∈ PW2 cc, (dW2 ![cc, 0, 0] hd).view.write (Elt F) fd ((sW2 ![e.toNat, 0, cc * 3584] hs).view.read (Elt F) w) Finset.univ i = GW2 w e i := by
  intro i hi
  rw [← dW2_set cc hd] at hi
  obtain ⟨x, -, rfl⟩ := Finset.mem_map.mp hi
  refine (View.write_emb_of_mem _ _ (Finset.mem_univ x)).trans ?_
  have e1 : ((dW2 ![cc, 0, 0] hd).view.emb x) = (Rect.unit (s := S2x1024x3584) ![cc, 0, 0] S1x1024x3584.size hd).emb (ix3 (n0 := 1) ⟨0, Nat.one_pos⟩ (x 0) (x 1)) :=
    congrArg (Rect.unit (s := S2x1024x3584) ![cc, 0, 0] S1x1024x3584.size hd).emb (resh3 (a := 1024) (b := 3584) _ x)
  have e2 : ((sW2 ![e.toNat, 0, cc * 3584] hs).view.emb x) = (Rect.unit (s := S13x1024x7168) ![e.toNat, 0, cc * 3584] S1x1024x3584.size hs).emb (ix3 (n0 := 1) ⟨0, Nat.one_pos⟩ (x 0) (x 1)) :=
    congrArg (Rect.unit (s := S13x1024x7168) ![e.toNat, 0, cc * 3584] S1x1024x3584.size hs).emb (resh3 (a := 1024) (b := 3584) _ x)
  show w ((sW2 ![e.toNat, 0, cc * 3584] hs).view.emb x) = GW2 w e ((dW2 ![cc, 0, 0] hd).view.emb x)
  rw [e1, e2]
  unfold GW2
  refine congrArg w (funext fun a => Fin.ext ?_)
  fin_cases a
  · show e.toNat + 0 * 1 = e.toNat % 13
    omega
  · show 0 + 1 * (x 0).val = 0 + 1 * (x 0).val
    rfl
  · show cc * 3584 + 1 * (x 1).val = (cc + 0 * 1) * 3584 + (0 + 1 * (x 1).val)
    omega

/-- Starting the copy of half `cc`. -/
theorem enqW2 (c : Dev nD) (e : BitVec 32) (he : e.toNat < 13) (cc : ℕ) {od : Fin 3 → ℕ} {os : Fin 3 → ℕ} {hod} {hos}
    (eod : od = ![cc, 0, 0]) (eos : os = ![e.toNat, 0, cc * 3584]) {n : ℕ} {sm : SemLoc sig}
    {hsrc : (sW2 os hos).view.WordExact} {hdst : (dW2 od hod).view.WordExact} {hsem : DmaTarget.Typed (nD := nD) (τ := τ) (p := .tc) .hbm sm (.here (dW2 od hod))}
    {q : PosShare TreeShare} {w : S13x1024x7168.Idx → Elt F .i8} {fd : S2x1024x3584.Idx → Elt F .i8} {A : Fin n → ℕ} {D : Fin n → sProp 𝕄} {j u : ℕ}
    {β : Type} {k : PUnit → Prog (TpuEff nD τ sig (Elt F) Λ₀ .tc) β} {Q : β → sProp 𝕄}
    (hj : j < n) (hA : (dW2 od hod).view.amount sm = A ⟨j, hj⟩) (hu : u ≤ Transfers.sumTo A j)
    (hD : D ⟨j, hj⟩ = iprop(pt c bW2 (PW2 cc) fullShare (GW2 w e) ∗ pt c mW2 (UW2 e cc) q w)) :
    iprop(pt c mW2 Finset.univ q w ∗ pt c bW2 (PW2 cc) fullShare fd ∗ MB c sm A D j u)
      ⊢ iprop((iprop(pt c mW2 (Finset.univ \ UW2 e cc) q w ∗ MB c sm A D (j + 1) u) -∗ WP c (k ⟨⟩) Q)
          -∗ WP c (Prog.lift (.enqueueDma (sW2 os hos) (.here (dW2 od hod)) sm hsrc hdst hsem) >>= k) Q) := by
  subst eod eos
  have h := WP_enq c (src := sW2 _ hos) (dst := dW2 _ hod) (hsrc := hsrc) (hdst := hdst) (hsem := hsem) (fs := w) (Ss := Finset.univ) (Sd := PW2 cc) (fd := fd) (q := q) (A := A) (D := D)
    (k := k) (Q := Q) (GW2 w e) (Finset.subset_univ _) (dW2_set cc hod).subset hj hA hu (landW2 w fd e he cc hod hos)
    (by rw [hD, sW2_set])
  rw [sW2_set] at h
  exact h

/-- The second-layer scales of expert `e`, as the scratch buffer holds them: half, row, lane. -/
def GS2 (w : S13x64x7168.Idx → Elt F .i8) (e : BitVec 32) : S2x64x3584.Idx → Elt F .i8 := fun i =>
  w (ix3 (n0 := 13) (n1 := 64) (n2 := 7168) ⟨e.toNat % 13, Nat.mod_lt _ (by decide)⟩ ⟨(i 1).val, (i 1).isLt⟩
    ⟨(i 0).val * 3584 + (i 2).val, by
      have h0 : (i 0).val < 2 := (i 0).isLt
      have h3 : (i 2).val < 3584 := (i 2).isLt
      omega⟩)

/-- Half `cc` of the scratch buffer. -/
def PS2 (cc : ℕ) : Finset S2x64x3584.Idx := Finset.univ.filter fun i => (i 0).val = cc

/-- The elements of expert `e`'s array a copy of half `cc` reads. -/
def US2 (e : BitVec 32) (cc : ℕ) : Finset S13x64x7168.Idx :=
  Finset.univ.filter fun i => (i 0).val = e.toNat ∧ cc * 3584 ≤ (i 2).val ∧ (i 2).val < cc * 3584 + 3584

theorem PS2_set (cc : ℕ) (hi : ∀ a, (![cc, 0, 0] : Fin 3 → ℕ) a + S1x64x3584.size a ≤ S2x64x3584.size a) :
    (Rect.unit (s := S2x64x3584) ![cc, 0, 0] S1x64x3584.size hi).set = PS2 cc := by
  ext i
  rw [Rect.mem_set_unit]
  simp only [PS2, Finset.mem_filter, Finset.mem_univ, true_and]
  have h1 : (i 1).val < 64 := (i 1).isLt
  have h2 : (i 2).val < 3584 := (i 2).isLt
  constructor
  · intro H
    have a0 := H 0
    change cc ≤ (i 0).val ∧ (i 0).val < cc + 1 at a0
    omega
  · rintro a0 a
    fin_cases a
    · show cc ≤ (i 0).val ∧ (i 0).val < cc + 1; omega
    · show 0 ≤ (i 1).val ∧ (i 1).val < 0 + 64; omega
    · show 0 ≤ (i 2).val ∧ (i 2).val < 0 + 3584; omega

theorem US2_set (e : BitVec 32) (cc : ℕ) (hi : ∀ a, (![e.toNat, 0, cc * 3584] : Fin 3 → ℕ) a + S1x64x3584.size a ≤ S13x64x7168.size a) :
    (Rect.unit (s := S13x64x7168) ![e.toNat, 0, cc * 3584] S1x64x3584.size hi).set = US2 e cc := by
  ext i
  rw [Rect.mem_set_unit]
  simp only [US2, Finset.mem_filter, Finset.mem_univ, true_and]
  have h1 : (i 1).val < 64 := (i 1).isLt
  constructor
  · intro H
    have a0 := H 0; have a2 := H 2
    change e.toNat ≤ (i 0).val ∧ (i 0).val < e.toNat + 1 at a0
    change cc * 3584 ≤ (i 2).val ∧ (i 2).val < cc * 3584 + 3584 at a2
    omega
  · rintro ⟨a0, a2, a3⟩ a
    fin_cases a
    · show e.toNat ≤ (i 0).val ∧ (i 0).val < e.toNat + 1; omega
    · show 0 ≤ (i 1).val ∧ (i 1).val < 0 + 64; omega
    · show cc * 3584 ≤ (i 2).val ∧ (i 2).val < cc * 3584 + 3584; omega

/-- A copy's destination and source as the kernel names them. -/
abbrev dS2 (od : Fin 3 → ℕ) (hi : ∀ a, od a + S1x64x3584.size a ≤ S2x64x3584.size a) : Memref sig .tc .vmem S64x3584 .i8 :=
  (bS2.slice (Rect.unit (s := S2x64x3584) od S1x64x3584.size hi) (fun _ => rfl)).squeeze S64x3584 squeezes_S1x64x3584_S64x3584
abbrev sS2 (os : Fin 3 → ℕ) (hi : ∀ a, os a + S1x64x3584.size a ≤ S13x64x7168.size a) : Memref sig .tc .hbm S64x3584 .i8 :=
  (mS2.slice (Rect.unit (s := S13x64x7168) os S1x64x3584.size hi) (fun _ => rfl)).squeeze S64x3584 squeezes_S1x64x3584_S64x3584

theorem dS2_set (cc : ℕ) (hi) : (dS2 ![cc, 0, 0] hi).view.set = PS2 cc :=
  (Memref.set_view_squeeze _ _).trans ((View.set_slice_whole _ _).trans (PS2_set cc hi))
theorem sS2_set (e : BitVec 32) (cc : ℕ) (hi) : (sS2 ![e.toNat, 0, cc * 3584] hi).view.set = US2 e cc :=
  (Memref.set_view_squeeze _ _).trans ((View.set_slice_whole _ _).trans (US2_set e cc hi))

set_option backward.isDefEq.respectTransparency false in
/-- What a copy puts into the buffer. -/
theorem landS2 (w : S13x64x7168.Idx → Elt F .i8) (fd : S2x64x3584.Idx → Elt F .i8) (e : BitVec 32) (he : e.toNat < 13) (cc : ℕ) (hd) (hs) :
    ∀ i ∈ PS2 cc, (dS2 ![cc, 0, 0] hd).view.write (Elt F) fd ((sS2 ![e.toNat, 0, cc * 3584] hs).view.read (Elt F) w) Finset.univ i = GS2 w e i := by
  intro i hi
  rw [← dS2_set cc hd] at hi
  obtain ⟨x, -, rfl⟩ := Finset.mem_map.mp hi
  refine (View.write_emb_of_mem _ _ (Finset.mem_univ x)).trans ?_
  have e1 : ((dS2 ![cc, 0, 0] hd).view.emb x) = (Rect.unit (s := S2x64x3584) ![cc, 0, 0] S1x64x3584.size hd).emb (ix3 (n0 := 1) ⟨0, Nat.one_pos⟩ (x 0) (x 1)) :=
    congrArg (Rect.unit (s := S2x64x3584) ![cc, 0, 0] S1x64x3584.size hd).emb (resh3 (a := 64) (b := 3584) _ x)
  have e2 : ((sS2 ![e.toNat, 0, cc * 3584] hs).view.emb x) = (Rect.unit (s := S13x64x7168) ![e.toNat, 0, cc * 3584] S1x64x3584.size hs).emb (ix3 (n0 := 1) ⟨0, Nat.one_pos⟩ (x 0) (x 1)) :=
    congrArg (Rect.unit (s := S13x64x7168) ![e.toNat, 0, cc * 3584] S1x64x3584.size hs).emb (resh3 (a := 64) (b := 3584) _ x)
  show w ((sS2 ![e.toNat, 0, cc * 3584] hs).view.emb x) = GS2 w e ((dS2 ![cc, 0, 0] hd).view.emb x)
  rw [e1, e2]
  unfold GS2
  refine congrArg w (funext fun a => Fin.ext ?_)
  fin_cases a
  · show e.toNat + 0 * 1 = e.toNat % 13
    omega
  · show 0 + 1 * (x 0).val = 0 + 1 * (x 0).val
    rfl
  · show cc * 3584 + 1 * (x 1).val = (cc + 0 * 1) * 3584 + (0 + 1 * (x 1).val)
    omega

/-- Starting the copy of half `cc`. -/
theorem enqS2 (c : Dev nD) (e : BitVec 32) (he : e.toNat < 13) (cc : ℕ) {od : Fin 3 → ℕ} {os : Fin 3 → ℕ} {hod} {hos}
    (eod : od = ![cc, 0, 0]) (eos : os = ![e.toNat, 0, cc * 3584]) {n : ℕ} {sm : SemLoc sig}
    {hsrc : (sS2 os hos).view.WordExact} {hdst : (dS2 od hod).view.WordExact} {hsem : DmaTarget.Typed (nD := nD) (τ := τ) (p := .tc) .hbm sm (.here (dS2 od hod))}
    {q : PosShare TreeShare} {w : S13x64x7168.Idx → Elt F .i8} {fd : S2x64x3584.Idx → Elt F .i8} {A : Fin n → ℕ} {D : Fin n → sProp 𝕄} {j u : ℕ}
    {β : Type} {k : PUnit → Prog (TpuEff nD τ sig (Elt F) Λ₀ .tc) β} {Q : β → sProp 𝕄}
    (hj : j < n) (hA : (dS2 od hod).view.amount sm = A ⟨j, hj⟩) (hu : u ≤ Transfers.sumTo A j)
    (hD : D ⟨j, hj⟩ = iprop(pt c bS2 (PS2 cc) fullShare (GS2 w e) ∗ pt c mS2 (US2 e cc) q w)) :
    iprop(pt c mS2 Finset.univ q w ∗ pt c bS2 (PS2 cc) fullShare fd ∗ MB c sm A D j u)
      ⊢ iprop((iprop(pt c mS2 (Finset.univ \ US2 e cc) q w ∗ MB c sm A D (j + 1) u) -∗ WP c (k ⟨⟩) Q)
          -∗ WP c (Prog.lift (.enqueueDma (sS2 os hos) (.here (dS2 od hod)) sm hsrc hdst hsem) >>= k) Q) := by
  subst eod eos
  have h := WP_enq c (src := sS2 _ hos) (dst := dS2 _ hod) (hsrc := hsrc) (hdst := hdst) (hsem := hsem) (fs := w) (Ss := Finset.univ) (Sd := PS2 cc) (fd := fd) (q := q) (A := A) (D := D)
    (k := k) (Q := Q) (GS2 w e) (Finset.subset_univ _) (dS2_set cc hod).subset hj hA hu (landS2 w fd e he cc hod hos)
    (by rw [hD, sS2_set])
  rw [sS2_set] at h
  exact h

end Cert.KernelIdeal.Hand

end
-- ==== Proof.HandIdeal.Flights.lean ====
/- The copies in flight: what a chunk's batch of copies delivers, what stays at home meanwhile, and the steps that start the
   copies, wait for them and collect what they bring. -/
module

public import proofs.«01_k».proof.Proof.HandIdeal.Copies

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix1 ix2 ix3 ix4)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The arrays left in HBM. -/
structure HB (F : FTy → Type) where
  w1 : S13x3584x4096.Idx → Elt F .i8
  s1 : S13x224x4096.Idx → Elt F .i8
  w2 : S13x1024x7168.Idx → Elt F .i8
  s2 : S13x64x7168.Idx → Elt F .i8

/-- The share of an HBM array lent to copy `k`. -/
abbrev tk (k : ℕ) : PosShare TreeShare := Transfers.shareTokN fullShare k

/-- The semaphores: one per chunk of the first layer, one per half of the second. -/
def sem1 : ℕ → DmaSem sig | 0 => 5 | 1 => 6 | 2 => 7 | _ => 8
def sem2 : ℕ → DmaSem sig | 0 => 9 | _ => 10

def aW1 : ℕ := (dW1 ![0, 0, 0, 0] inb_S4x2x3584x512_S1x1x3584x512_0_0_0_0).view.dmaCredit
def aS1 : ℕ := (dS1 ![0, 0, 0, 0] inb_S4x2x224x512_S1x1x224x512_0_0_0_0).view.dmaCredit
def aW2 : ℕ := (dW2 ![0, 0, 0] inb_S2x1024x3584_S1x1024x3584_0_0_0).view.dmaCredit
def aS2 : ℕ := (dS2 ![0, 0, 0] inb_S2x64x3584_S1x64x3584_0_0_0).view.dmaCredit

def A1 : Fin 4 → ℕ | 0 => aW1 | 1 => aS1 | 2 => aW1 | 3 => aS1
def A2 : Fin 2 → ℕ | 0 => aW2 | 1 => aS2

theorem aW1_pos : 0 < aW1 := View.dmaCredit_pos _ (by decide)
theorem aS1_pos : 0 < aS1 := View.dmaCredit_pos _ (by decide)
theorem aW2_pos : 0 < aW2 := View.dmaCredit_pos _ (by decide)
theorem aS2_pos : 0 < aS2 := View.dmaCredit_pos _ (by decide)

theorem A1_pos : ∀ t, 0 < A1 t := by
  intro t; match t with
  | 0 => exact aW1_pos
  | 1 => exact aS1_pos
  | 2 => exact aW1_pos
  | 3 => exact aS1_pos
theorem A2_pos : ∀ t, 0 < A2 t := by
  intro t; match t with
  | 0 => exact aW2_pos
  | 1 => exact aS2_pos

theorem sumA1 : Transfers.sumTo A1 4 = aW1 + aS1 + aW1 + aS1 := by
  show 0 + aW1 + aS1 + aW1 + aS1 = _
  omega
theorem sumA2 : Transfers.sumTo A2 2 = aW2 + aS2 := by
  show 0 + aW2 + aS2 = _
  omega

/-- What copy `t` of a chunk brings. -/
def D1 (c : Dev nD) (M : HB F) (e : BitVec 32) (cc : ℕ) : Fin 4 → sProp 𝕄
  | 0 => iprop(pt c bW1 (PW1 cc 0) fullShare (GW1 M.w1 e) ∗ pt c mW1 (UW1 e cc 0) (tk (2 * cc + 0)) M.w1)
  | 1 => iprop(pt c bS1 (PS1 cc 0) fullShare (GS1 M.s1 e) ∗ pt c mS1 (US1 e cc 0) (tk (2 * cc + 0)) M.s1)
  | 2 => iprop(pt c bW1 (PW1 cc 1) fullShare (GW1 M.w1 e) ∗ pt c mW1 (UW1 e cc 1) (tk (2 * cc + 1)) M.w1)
  | 3 => iprop(pt c bS1 (PS1 cc 1) fullShare (GS1 M.s1 e) ∗ pt c mS1 (US1 e cc 1) (tk (2 * cc + 1)) M.s1)

instance D1_storable (c : Dev nD) (M : HB F) (e : BitVec 32) (cc : ℕ) (t) : BI.Storable (upEmb : UEmb _ 𝕄) (D1 c M e cc t) := by
  match t with
  | 0 => unfold D1 pt; infer_instance
  | 1 => unfold D1 pt; infer_instance
  | 2 => unfold D1 pt; infer_instance
  | 3 => unfold D1 pt; infer_instance

/-- Copy `t`'s resources before it starts (`false`) and what stays at home after (`true`). -/
def Sl1 (c : Dev nD) (M : HB F) (e : BitVec 32) (cc : ℕ) : Fin 4 → Bool → sProp 𝕄
  | 0, false => iprop(pt c mW1 Finset.univ (tk (2 * cc + 0)) M.w1 ∗ ∃ f, pt c bW1 (PW1 cc 0) fullShare f)
  | 0, true => pt c mW1 (Finset.univ \ UW1 e cc 0) (tk (2 * cc + 0)) M.w1
  | 1, false => iprop(pt c mS1 Finset.univ (tk (2 * cc + 0)) M.s1 ∗ ∃ f, pt c bS1 (PS1 cc 0) fullShare f)
  | 1, true => pt c mS1 (Finset.univ \ US1 e cc 0) (tk (2 * cc + 0)) M.s1
  | 2, false => iprop(pt c mW1 Finset.univ (tk (2 * cc + 1)) M.w1 ∗ ∃ f, pt c bW1 (PW1 cc 1) fullShare f)
  | 2, true => pt c mW1 (Finset.univ \ UW1 e cc 1) (tk (2 * cc + 1)) M.w1
  | 3, false => iprop(pt c mS1 Finset.univ (tk (2 * cc + 1)) M.s1 ∗ ∃ f, pt c bS1 (PS1 cc 1) fullShare f)
  | 3, true => pt c mS1 (Finset.univ \ US1 e cc 1) (tk (2 * cc + 1)) M.s1

/-- `j` copies of the chunk started. -/
def Iss1 (c : Dev nD) (M : HB F) (e : BitVec 32) (cc j : ℕ) : sProp 𝕄 :=
  iprop(MB c (.dma (sem1 cc)) A1 (D1 c M e cc) j 0 ∗ Sl1 c M e cc 0 (decide (0 < j)) ∗ Sl1 c M e cc 1 (decide (1 < j)) ∗ Sl1 c M e cc 2 (decide (2 < j)) ∗ Sl1 c M e cc 3 (decide (3 < j)))

/-- All copies of the chunk started, `u` units waited for. -/
def Wt1 (c : Dev nD) (M : HB F) (e : BitVec 32) (cc u : ℕ) : sProp 𝕄 :=
  iprop(MB c (.dma (sem1 cc)) A1 (D1 c M e cc) 4 u ∗ Sl1 c M e cc 0 true ∗ Sl1 c M e cc 1 true ∗ Sl1 c M e cc 2 true ∗ Sl1 c M e cc 3 true)

/-- The chunk's buffers free, of any contents. -/
def Free1 (c : Dev nD) (M : HB F) (cc : ℕ) : sProp 𝕄 :=
  iprop(semVal ((c : Thread nD τ), .dma (sem1 cc)) 0 ∗ Sl1 c M 0#32 cc 0 false ∗ Sl1 c M 0#32 cc 1 false ∗ Sl1 c M 0#32 cc 2 false ∗ Sl1 c M 0#32 cc 3 false)

/-- The chunk's data for expert `e` in the scratch buffers. -/
def Arr1 (c : Dev nD) (M : HB F) (e : BitVec 32) (cc : ℕ) : sProp 𝕄 :=
  iprop(semVal ((c : Thread nD τ), .dma (sem1 cc)) 0 ∗ pt c bW1 (PW1 cc 0) fullShare (GW1 M.w1 e) ∗ pt c bS1 (PS1 cc 0) fullShare (GS1 M.s1 e) ∗ pt c bW1 (PW1 cc 1) fullShare (GW1 M.w1 e) ∗ pt c bS1 (PS1 cc 1) fullShare (GS1 M.s1 e)
    ∗ pt c mW1 Finset.univ (tk (2 * cc + 0)) M.w1 ∗ pt c mS1 Finset.univ (tk (2 * cc + 0)) M.s1 ∗ pt c mW1 Finset.univ (tk (2 * cc + 1)) M.w1 ∗ pt c mS1 Finset.univ (tk (2 * cc + 1)) M.s1)

theorem Arr1_free (c : Dev nD) (M : HB F) (e : BitVec 32) (cc : ℕ) : Arr1 c M e cc ⊢ Free1 c M cc := by
  unfold Arr1 Free1
  iintro ⟨HV, P0, P1, P2, P3, H0, H1, H2, H3⟩
  isplitl [HV]; · iexact HV
  isplitl [H0 P0]
  · unfold Sl1
    isplitl [H0]; · iexact H0
    iexists _; iexact P0
  isplitl [H1 P1]
  · unfold Sl1
    isplitl [H1]; · iexact H1
    iexists _; iexact P1
  isplitl [H2 P2]
  · unfold Sl1
    isplitl [H2]; · iexact H2
    iexists _; iexact P2
  unfold Sl1
  isplitl [H3]; · iexact H3
  iexists _; iexact P3

theorem Iss1_start (c : Dev nD) (M : HB F) (e : BitVec 32) (cc : ℕ) : Free1 c M cc ⊢ (|={Set.univ}=> Iss1 c M e cc 0 : sProp 𝕄) := by
  unfold Free1 Iss1
  iintro ⟨HV, H0, H1, H2, H3⟩
  imod (MB_alloc c A1 (D1 c M e cc)) $$ HV with HB
  imodintro
  isplitl [HB]; · iexact HB
  isplitl [H0]; · iexact H0
  isplitl [H1]; · iexact H1
  isplitl [H2]; · iexact H2
  iexact H3

theorem Iss1_all (c : Dev nD) (M : HB F) (e : BitVec 32) (cc : ℕ) : Iss1 c M e cc 4 ⊢ Wt1 c M e cc 0 := .rfl

/-- Starting copy 0 of a chunk. -/
theorem start1_0 (c : Dev nD) (M : HB F) (e : BitVec 32) (he : e.toNat < 13) (cc : ℕ) {od : Fin 4 → ℕ} {os : Fin 3 → ℕ} {hod} {hos} {sem : DmaSem sig}
    (eod : od = ![cc, 0, 0, 0]) (eos : os = ![e.toNat, 0, 0 * 2048 + cc * 512]) (esem : sem = sem1 cc)
    {hsrc : (sW1 os hos).view.WordExact} {hdst : (dW1 od hod).view.WordExact} {hsem : DmaTarget.Typed (nD := nD) (τ := τ) (p := .tc) .hbm (.dma sem) (.here (dW1 od hod))}
    {β : Type} {k : PUnit → Prog (TpuEff nD τ sig (Elt F) Λ₀ .tc) β} {Q : β → sProp 𝕄} :
    Iss1 c M e cc 0 ⊢ iprop((Iss1 c M e cc 1 -∗ WP c (k ⟨⟩) Q)
      -∗ WP c (Prog.lift (.enqueueDma (sW1 os hos) (.here (dW1 od hod)) (.dma sem) hsrc hdst hsem) >>= k) Q) := by
  subst esem
  have h := fun fd => enqW1 c e he cc 0 (hod := hod) (hos := hos) eod eos (sm := .dma (sem1 cc)) (hsrc := hsrc) (hdst := hdst) (hsem := hsem) (q := tk (2 * cc + 0)) (w := M.w1) (fd := fd)
    (A := A1) (D := D1 c M e cc) (j := 0) (u := 0) (k := k) (Q := Q) (by decide) rfl (Nat.zero_le _) rfl
  unfold Iss1
  iintro ⟨HB, H0, H1, H2, H3⟩ HK
  icases (show Sl1 c M e cc 0 (decide (0 < 0)) ⊢ iprop(pt c mW1 Finset.univ (tk (2 * cc + 0)) M.w1 ∗ ∃ f, pt c bW1 (PW1 cc 0) fullShare f) from .rfl) $$ H0 with ⟨HS, ⟨%fd, HD⟩⟩
  iapply (h fd) $$ [HS HD HB]
  · isplitl [HS]; · iexact HS
    isplitl [HD]; · iexact HD
    iexact HB
  iintro ⟨H0, HB⟩
  iapply HK
  isplitl [HB]; · iexact HB
  isplitl [H0]; · iapply (show pt c mW1 (Finset.univ \ UW1 e cc 0) (tk (2 * cc + 0)) M.w1 ⊢ Sl1 c M e cc 0 (decide (0 < 1)) from .rfl) $$ H0
  isplitl [H1]; · iexact H1
  isplitl [H2]; · iexact H2
  iexact H3

/-- Starting copy 1 of a chunk. -/
theorem start1_1 (c : Dev nD) (M : HB F) (e : BitVec 32) (he : e.toNat < 13) (cc : ℕ) {od : Fin 4 → ℕ} {os : Fin 3 → ℕ} {hod} {hos} {sem : DmaSem sig}
    (eod : od = ![cc, 0, 0, 0]) (eos : os = ![e.toNat, 0, 0 * 2048 + cc * 512]) (esem : sem = sem1 cc)
    {hsrc : (sS1 os hos).view.WordExact} {hdst : (dS1 od hod).view.WordExact} {hsem : DmaTarget.Typed (nD := nD) (τ := τ) (p := .tc) .hbm (.dma sem) (.here (dS1 od hod))}
    {β : Type} {k : PUnit → Prog (TpuEff nD τ sig (Elt F) Λ₀ .tc) β} {Q : β → sProp 𝕄} :
    Iss1 c M e cc 1 ⊢ iprop((Iss1 c M e cc 2 -∗ WP c (k ⟨⟩) Q)
      -∗ WP c (Prog.lift (.enqueueDma (sS1 os hos) (.here (dS1 od hod)) (.dma sem) hsrc hdst hsem) >>= k) Q) := by
  subst esem
  have h := fun fd => enqS1 c e he cc 0 (hod := hod) (hos := hos) eod eos (sm := .dma (sem1 cc)) (hsrc := hsrc) (hdst := hdst) (hsem := hsem) (q := tk (2 * cc + 0)) (w := M.s1) (fd := fd)
    (A := A1) (D := D1 c M e cc) (j := 1) (u := 0) (k := k) (Q := Q) (by decide) rfl (Nat.zero_le _) rfl
  unfold Iss1
  iintro ⟨HB, H0, H1, H2, H3⟩ HK
  icases (show Sl1 c M e cc 1 (decide (1 < 1)) ⊢ iprop(pt c mS1 Finset.univ (tk (2 * cc + 0)) M.s1 ∗ ∃ f, pt c bS1 (PS1 cc 0) fullShare f) from .rfl) $$ H1 with ⟨HS, ⟨%fd, HD⟩⟩
  iapply (h fd) $$ [HS HD HB]
  · isplitl [HS]; · iexact HS
    isplitl [HD]; · iexact HD
    iexact HB
  iintro ⟨H1, HB⟩
  iapply HK
  isplitl [HB]; · iexact HB
  isplitl [H0]; · iexact H0
  isplitl [H1]; · iapply (show pt c mS1 (Finset.univ \ US1 e cc 0) (tk (2 * cc + 0)) M.s1 ⊢ Sl1 c M e cc 1 (decide (1 < 2)) from .rfl) $$ H1
  isplitl [H2]; · iexact H2
  iexact H3

/-- Starting copy 2 of a chunk. -/
theorem start1_2 (c : Dev nD) (M : HB F) (e : BitVec 32) (he : e.toNat < 13) (cc : ℕ) {od : Fin 4 → ℕ} {os : Fin 3 → ℕ} {hod} {hos} {sem : DmaSem sig}
    (eod : od = ![cc, 1, 0, 0]) (eos : os = ![e.toNat, 0, 1 * 2048 + cc * 512]) (esem : sem = sem1 cc)
    {hsrc : (sW1 os hos).view.WordExact} {hdst : (dW1 od hod).view.WordExact} {hsem : DmaTarget.Typed (nD := nD) (τ := τ) (p := .tc) .hbm (.dma sem) (.here (dW1 od hod))}
    {β : Type} {k : PUnit → Prog (TpuEff nD τ sig (Elt F) Λ₀ .tc) β} {Q : β → sProp 𝕄} :
    Iss1 c M e cc 2 ⊢ iprop((Iss1 c M e cc 3 -∗ WP c (k ⟨⟩) Q)
      -∗ WP c (Prog.lift (.enqueueDma (sW1 os hos) (.here (dW1 od hod)) (.dma sem) hsrc hdst hsem) >>= k) Q) := by
  subst esem
  have h := fun fd => enqW1 c e he cc 1 (hod := hod) (hos := hos) eod eos (sm := .dma (sem1 cc)) (hsrc := hsrc) (hdst := hdst) (hsem := hsem) (q := tk (2 * cc + 1)) (w := M.w1) (fd := fd)
    (A := A1) (D := D1 c M e cc) (j := 2) (u := 0) (k := k) (Q := Q) (by decide) rfl (Nat.zero_le _) rfl
  unfold Iss1
  iintro ⟨HB, H0, H1, H2, H3⟩ HK
  icases (show Sl1 c M e cc 2 (decide (2 < 2)) ⊢ iprop(pt c mW1 Finset.univ (tk (2 * cc + 1)) M.w1 ∗ ∃ f, pt c bW1 (PW1 cc 1) fullShare f) from .rfl) $$ H2 with ⟨HS, ⟨%fd, HD⟩⟩
  iapply (h fd) $$ [HS HD HB]
  · isplitl [HS]; · iexact HS
    isplitl [HD]; · iexact HD
    iexact HB
  iintro ⟨H2, HB⟩
  iapply HK
  isplitl [HB]; · iexact HB
  isplitl [H0]; · iexact H0
  isplitl [H1]; · iexact H1
  isplitl [H2]; · iapply (show pt c mW1 (Finset.univ \ UW1 e cc 1) (tk (2 * cc + 1)) M.w1 ⊢ Sl1 c M e cc 2 (decide (2 < 3)) from .rfl) $$ H2
  iexact H3

/-- Starting copy 3 of a chunk. -/
theorem start1_3 (c : Dev nD) (M : HB F) (e : BitVec 32) (he : e.toNat < 13) (cc : ℕ) {od : Fin 4 → ℕ} {os : Fin 3 → ℕ} {hod} {hos} {sem : DmaSem sig}
    (eod : od = ![cc, 1, 0, 0]) (eos : os = ![e.toNat, 0, 1 * 2048 + cc * 512]) (esem : sem = sem1 cc)
    {hsrc : (sS1 os hos).view.WordExact} {hdst : (dS1 od hod).view.WordExact} {hsem : DmaTarget.Typed (nD := nD) (τ := τ) (p := .tc) .hbm (.dma sem) (.here (dS1 od hod))}
    {β : Type} {k : PUnit → Prog (TpuEff nD τ sig (Elt F) Λ₀ .tc) β} {Q : β → sProp 𝕄} :
    Iss1 c M e cc 3 ⊢ iprop((Iss1 c M e cc 4 -∗ WP c (k ⟨⟩) Q)
      -∗ WP c (Prog.lift (.enqueueDma (sS1 os hos) (.here (dS1 od hod)) (.dma sem) hsrc hdst hsem) >>= k) Q) := by
  subst esem
  have h := fun fd => enqS1 c e he cc 1 (hod := hod) (hos := hos) eod eos (sm := .dma (sem1 cc)) (hsrc := hsrc) (hdst := hdst) (hsem := hsem) (q := tk (2 * cc + 1)) (w := M.s1) (fd := fd)
    (A := A1) (D := D1 c M e cc) (j := 3) (u := 0) (k := k) (Q := Q) (by decide) rfl (Nat.zero_le _) rfl
  unfold Iss1
  iintro ⟨HB, H0, H1, H2, H3⟩ HK
  icases (show Sl1 c M e cc 3 (decide (3 < 3)) ⊢ iprop(pt c mS1 Finset.univ (tk (2 * cc + 1)) M.s1 ∗ ∃ f, pt c bS1 (PS1 cc 1) fullShare f) from .rfl) $$ H3 with ⟨HS, ⟨%fd, HD⟩⟩
  iapply (h fd) $$ [HS HD HB]
  · isplitl [HS]; · iexact HS
    isplitl [HD]; · iexact HD
    iexact HB
  iintro ⟨H3, HB⟩
  iapply HK
  isplitl [HB]; · iexact HB
  isplitl [H0]; · iexact H0
  isplitl [H1]; · iexact H1
  isplitl [H2]; · iexact H2
  iapply (show pt c mS1 (Finset.univ \ US1 e cc 1) (tk (2 * cc + 1)) M.s1 ⊢ Sl1 c M e cc 3 (decide (3 < 4)) from .rfl) $$ H3

/-- Waiting for one copy's units. -/
theorem waitW1 (c : Dev nD) (M : HB F) (e : BitVec 32) (cc u : ℕ) {od : Fin 4 → ℕ} {os : Fin 3 → ℕ} {hod} {hos} {sem : DmaSem sig} (esem : sem = sem1 cc)
    {hsrc : (sW1 os hos).view.WordExact} {hdst : (dW1 od hod).view.WordExact} (hu : u + aW1 ≤ Transfers.sumTo A1 4)
    {β : Type} {k : PUnit → Prog (TpuEff nD τ sig (Elt F) Λ₀ .tc) β} {Q : β → sProp 𝕄} :
    iprop(Wt1 c M e cc u ∗ Owe c) ⊢ iprop((iprop(Wt1 c M e cc (u + aW1) ∗ Owe c) -∗ WP c (k ⟨⟩) Q)
      -∗ WP c (Prog.lift (.waitDma2 sem (sW1 os hos) (dW1 od hod) hsrc hdst) >>= k) Q) := by
  subst esem
  have h := WP_wait c (sem := sem1 cc) (srcw := sW1 os hos) (dstw := dW1 od hod) (hsrc := hsrc) (hdst := hdst) (A := A1) (D := D1 c M e cc) (j := 4) (u := u) (k := k) (Q := Q)
    (u + aW1) rfl hu
  unfold Wt1
  iintro ⟨⟨HB, HR⟩, HO⟩ HK
  iapply h $$ [HB HO]
  · isplitl [HB]; · iexact HB
    iexact HO
  iintro ⟨HB, HO⟩
  iapply HK
  isplitl [HB HR]
  · isplitl [HB]; · iexact HB
    iexact HR
  iexact HO

/-- Waiting for one copy's units. -/
theorem waitS1 (c : Dev nD) (M : HB F) (e : BitVec 32) (cc u : ℕ) {od : Fin 4 → ℕ} {os : Fin 3 → ℕ} {hod} {hos} {sem : DmaSem sig} (esem : sem = sem1 cc)
    {hsrc : (sS1 os hos).view.WordExact} {hdst : (dS1 od hod).view.WordExact} (hu : u + aS1 ≤ Transfers.sumTo A1 4)
    {β : Type} {k : PUnit → Prog (TpuEff nD τ sig (Elt F) Λ₀ .tc) β} {Q : β → sProp 𝕄} :
    iprop(Wt1 c M e cc u ∗ Owe c) ⊢ iprop((iprop(Wt1 c M e cc (u + aS1) ∗ Owe c) -∗ WP c (k ⟨⟩) Q)
      -∗ WP c (Prog.lift (.waitDma2 sem (sS1 os hos) (dS1 od hod) hsrc hdst) >>= k) Q) := by
  subst esem
  have h := WP_wait c (sem := sem1 cc) (srcw := sS1 os hos) (dstw := dS1 od hod) (hsrc := hsrc) (hdst := hdst) (A := A1) (D := D1 c M e cc) (j := 4) (u := u) (k := k) (Q := Q)
    (u + aS1) rfl hu
  unfold Wt1
  iintro ⟨⟨HB, HR⟩, HO⟩ HK
  iapply h $$ [HB HO]
  · isplitl [HB]; · iexact HB
    iexact HO
  iintro ⟨HB, HO⟩
  iapply HK
  isplitl [HB HR]
  · isplitl [HB]; · iexact HB
    iexact HR
  iexact HO

/-- All of the chunk waited for: its data is here. -/
theorem collect1 (c : Dev nD) (M : HB F) (e : BitVec 32) (cc u : ℕ) (hu : u = Transfers.sumTo A1 4) :
    Wt1 c M e cc u ⊢ (|={Set.univ}=> Arr1 c M e cc : sProp 𝕄) := by
  unfold Wt1 Arr1
  iintro ⟨HB, H0, H1, H2, H3⟩
  imod (MB_collect c A1_pos u hu) $$ HB with ⟨HD, HV⟩
  imodintro
  icases (show bigSep Finset.univ (D1 c M e cc) ⊢ iprop(D1 c M e cc 0 ∗ D1 c M e cc 1 ∗ D1 c M e cc 2 ∗ D1 c M e cc 3) from
    Entails.of_eq (by rw [BI.bigSep_eq_bigSepL_of_eq [0, 1, 2, 3] (by decide) (by decide)]; rfl)) $$ HD with ⟨D0, D1, D2, D3⟩
  icases (show D1 c M e cc 0 ⊢ iprop(pt c bW1 (PW1 cc 0) fullShare (GW1 M.w1 e) ∗ pt c mW1 (UW1 e cc 0) (tk (2 * cc + 0)) M.w1) from .rfl) $$ D0 with ⟨P0, S0⟩
  icases (show D1 c M e cc 1 ⊢ iprop(pt c bS1 (PS1 cc 0) fullShare (GS1 M.s1 e) ∗ pt c mS1 (US1 e cc 0) (tk (2 * cc + 0)) M.s1) from .rfl) $$ D1 with ⟨P1, S1⟩
  icases (show D1 c M e cc 2 ⊢ iprop(pt c bW1 (PW1 cc 1) fullShare (GW1 M.w1 e) ∗ pt c mW1 (UW1 e cc 1) (tk (2 * cc + 1)) M.w1) from .rfl) $$ D2 with ⟨P2, S2⟩
  icases (show D1 c M e cc 3 ⊢ iprop(pt c bS1 (PS1 cc 1) fullShare (GS1 M.s1 e) ∗ pt c mS1 (US1 e cc 1) (tk (2 * cc + 1)) M.s1) from .rfl) $$ D3 with ⟨P3, S3⟩
  isplitl [HV]; · iexact HV
  isplitl [P0]; · iexact P0
  isplitl [P1]; · iexact P1
  isplitl [P2]; · iexact P2
  isplitl [P3]; · iexact P3
  isplitl [S0 H0]
  · iapply (pointsTo_split_subset (Finset.subset_univ (UW1 e cc 0))).2
    isplitl [S0]; · iexact S0
    iapply (show Sl1 c M e cc 0 true ⊢ pt c mW1 (Finset.univ \ UW1 e cc 0) (tk (2 * cc + 0)) M.w1 from .rfl) $$ H0
  isplitl [S1 H1]
  · iapply (pointsTo_split_subset (Finset.subset_univ (US1 e cc 0))).2
    isplitl [S1]; · iexact S1
    iapply (show Sl1 c M e cc 1 true ⊢ pt c mS1 (Finset.univ \ US1 e cc 0) (tk (2 * cc + 0)) M.s1 from .rfl) $$ H1
  isplitl [S2 H2]
  · iapply (pointsTo_split_subset (Finset.subset_univ (UW1 e cc 1))).2
    isplitl [S2]; · iexact S2
    iapply (show Sl1 c M e cc 2 true ⊢ pt c mW1 (Finset.univ \ UW1 e cc 1) (tk (2 * cc + 1)) M.w1 from .rfl) $$ H2
  iapply (pointsTo_split_subset (Finset.subset_univ (US1 e cc 1))).2
  isplitl [S3]; · iexact S3
  iapply (show Sl1 c M e cc 3 true ⊢ pt c mS1 (Finset.univ \ US1 e cc 1) (tk (2 * cc + 1)) M.s1 from .rfl) $$ H3

/-- What copy `t` of a chunk brings. -/
def D2 (c : Dev nD) (M : HB F) (e : BitVec 32) (cc : ℕ) : Fin 2 → sProp 𝕄
  | 0 => iprop(pt c bW2 (PW2 cc) fullShare (GW2 M.w2 e) ∗ pt c mW2 (UW2 e cc) (tk cc) M.w2)
  | 1 => iprop(pt c bS2 (PS2 cc) fullShare (GS2 M.s2 e) ∗ pt c mS2 (US2 e cc) (tk cc) M.s2)

instance D2_storable (c : Dev nD) (M : HB F) (e : BitVec 32) (cc : ℕ) (t) : BI.Storable (upEmb : UEmb _ 𝕄) (D2 c M e cc t) := by
  match t with
  | 0 => unfold D2 pt; infer_instance
  | 1 => unfold D2 pt; infer_instance

/-- Copy `t`'s resources before it starts (`false`) and what stays at home after (`true`). -/
def Sl2 (c : Dev nD) (M : HB F) (e : BitVec 32) (cc : ℕ) : Fin 2 → Bool → sProp 𝕄
  | 0, false => iprop(pt c mW2 Finset.univ (tk cc) M.w2 ∗ ∃ f, pt c bW2 (PW2 cc) fullShare f)
  | 0, true => pt c mW2 (Finset.univ \ UW2 e cc) (tk cc) M.w2
  | 1, false => iprop(pt c mS2 Finset.univ (tk cc) M.s2 ∗ ∃ f, pt c bS2 (PS2 cc) fullShare f)
  | 1, true => pt c mS2 (Finset.univ \ US2 e cc) (tk cc) M.s2

/-- `j` copies of the chunk started. -/
def Iss2 (c : Dev nD) (M : HB F) (e : BitVec 32) (cc j : ℕ) : sProp 𝕄 :=
  iprop(MB c (.dma (sem2 cc)) A2 (D2 c M e cc) j 0 ∗ Sl2 c M e cc 0 (decide (0 < j)) ∗ Sl2 c M e cc 1 (decide (1 < j)))

/-- All copies of the chunk started, `u` units waited for. -/
def Wt2 (c : Dev nD) (M : HB F) (e : BitVec 32) (cc u : ℕ) : sProp 𝕄 :=
  iprop(MB c (.dma (sem2 cc)) A2 (D2 c M e cc) 2 u ∗ Sl2 c M e cc 0 true ∗ Sl2 c M e cc 1 true)

/-- The chunk's buffers free, of any contents. -/
def Free2 (c : Dev nD) (M : HB F) (cc : ℕ) : sProp 𝕄 :=
  iprop(semVal ((c : Thread nD τ), .dma (sem2 cc)) 0 ∗ Sl2 c M 0#32 cc 0 false ∗ Sl2 c M 0#32 cc 1 false)

/-- The chunk's data for expert `e` in the scratch buffers. -/
def Arr2 (c : Dev nD) (M : HB F) (e : BitVec 32) (cc : ℕ) : sProp 𝕄 :=
  iprop(semVal ((c : Thread nD τ), .dma (sem2 cc)) 0 ∗ pt c bW2 (PW2 cc) fullShare (GW2 M.w2 e) ∗ pt c bS2 (PS2 cc) fullShare (GS2 M.s2 e)
    ∗ pt c mW2 Finset.univ (tk cc) M.w2 ∗ pt c mS2 Finset.univ (tk cc) M.s2)

theorem Arr2_free (c : Dev nD) (M : HB F) (e : BitVec 32) (cc : ℕ) : Arr2 c M e cc ⊢ Free2 c M cc := by
  unfold Arr2 Free2
  iintro ⟨HV, P0, P1, H0, H1⟩
  isplitl [HV]; · iexact HV
  isplitl [H0 P0]
  · unfold Sl2
    isplitl [H0]; · iexact H0
    iexists _; iexact P0
  unfold Sl2
  isplitl [H1]; · iexact H1
  iexists _; iexact P1

theorem Iss2_start (c : Dev nD) (M : HB F) (e : BitVec 32) (cc : ℕ) : Free2 c M cc ⊢ (|={Set.univ}=> Iss2 c M e cc 0 : sProp 𝕄) := by
  unfold Free2 Iss2
  iintro ⟨HV, H0, H1⟩
  imod (MB_alloc c A2 (D2 c M e cc)) $$ HV with HB
  imodintro
  isplitl [HB]; · iexact HB
  isplitl [H0]; · iexact H0
  iexact H1

theorem Iss2_all (c : Dev nD) (M : HB F) (e : BitVec 32) (cc : ℕ) : Iss2 c M e cc 2 ⊢ Wt2 c M e cc 0 := .rfl

/-- Starting copy 0 of a chunk. -/
theorem start2_0 (c : Dev nD) (M : HB F) (e : BitVec 32) (he : e.toNat < 13) (cc : ℕ) {od : Fin 3 → ℕ} {os : Fin 3 → ℕ} {hod} {hos} {sem : DmaSem sig}
    (eod : od = ![cc, 0, 0]) (eos : os = ![e.toNat, 0, cc * 3584]) (esem : sem = sem2 cc)
    {hsrc : (sW2 os hos).view.WordExact} {hdst : (dW2 od hod).view.WordExact} {hsem : DmaTarget.Typed (nD := nD) (τ := τ) (p := .tc) .hbm (.dma sem) (.here (dW2 od hod))}
    {β : Type} {k : PUnit → Prog (TpuEff nD τ sig (Elt F) Λ₀ .tc) β} {Q : β → sProp 𝕄} :
    Iss2 c M e cc 0 ⊢ iprop((Iss2 c M e cc 1 -∗ WP c (k ⟨⟩) Q)
      -∗ WP c (Prog.lift (.enqueueDma (sW2 os hos) (.here (dW2 od hod)) (.dma sem) hsrc hdst hsem) >>= k) Q) := by
  subst esem
  have h := fun fd => enqW2 c e he cc (hod := hod) (hos := hos) eod eos (sm := .dma (sem2 cc)) (hsrc := hsrc) (hdst := hdst) (hsem := hsem) (q := tk cc) (w := M.w2) (fd := fd)
    (A := A2) (D := D2 c M e cc) (j := 0) (u := 0) (k := k) (Q := Q) (by decide) rfl (Nat.zero_le _) rfl
  unfold Iss2
  iintro ⟨HB, H0, H1⟩ HK
  icases (show Sl2 c M e cc 0 (decide (0 < 0)) ⊢ iprop(pt c mW2 Finset.univ (tk cc) M.w2 ∗ ∃ f, pt c bW2 (PW2 cc) fullShare f) from .rfl) $$ H0 with ⟨HS, ⟨%fd, HD⟩⟩
  iapply (h fd) $$ [HS HD HB]
  · isplitl [HS]; · iexact HS
    isplitl [HD]; · iexact HD
    iexact HB
  iintro ⟨H0, HB⟩
  iapply HK
  isplitl [HB]; · iexact HB
  isplitl [H0]; · iapply (show pt c mW2 (Finset.univ \ UW2 e cc) (tk cc) M.w2 ⊢ Sl2 c M e cc 0 (decide (0 < 1)) from .rfl) $$ H0
  iexact H1

/-- Starting copy 1 of a chunk. -/
theorem start2_1 (c : Dev nD) (M : HB F) (e : BitVec 32) (he : e.toNat < 13) (cc : ℕ) {od : Fin 3 → ℕ} {os : Fin 3 → ℕ} {hod} {hos} {sem : DmaSem sig}
    (eod : od = ![cc, 0, 0]) (eos : os = ![e.toNat, 0, cc * 3584]) (esem : sem = sem2 cc)
    {hsrc : (sS2 os hos).view.WordExact} {hdst : (dS2 od hod).view.WordExact} {hsem : DmaTarget.Typed (nD := nD) (τ := τ) (p := .tc) .hbm (.dma sem) (.here (dS2 od hod))}
    {β : Type} {k : PUnit → Prog (TpuEff nD τ sig (Elt F) Λ₀ .tc) β} {Q : β → sProp 𝕄} :
    Iss2 c M e cc 1 ⊢ iprop((Iss2 c M e cc 2 -∗ WP c (k ⟨⟩) Q)
      -∗ WP c (Prog.lift (.enqueueDma (sS2 os hos) (.here (dS2 od hod)) (.dma sem) hsrc hdst hsem) >>= k) Q) := by
  subst esem
  have h := fun fd => enqS2 c e he cc (hod := hod) (hos := hos) eod eos (sm := .dma (sem2 cc)) (hsrc := hsrc) (hdst := hdst) (hsem := hsem) (q := tk cc) (w := M.s2) (fd := fd)
    (A := A2) (D := D2 c M e cc) (j := 1) (u := 0) (k := k) (Q := Q) (by decide) rfl (Nat.zero_le _) rfl
  unfold Iss2
  iintro ⟨HB, H0, H1⟩ HK
  icases (show Sl2 c M e cc 1 (decide (1 < 1)) ⊢ iprop(pt c mS2 Finset.univ (tk cc) M.s2 ∗ ∃ f, pt c bS2 (PS2 cc) fullShare f) from .rfl) $$ H1 with ⟨HS, ⟨%fd, HD⟩⟩
  iapply (h fd) $$ [HS HD HB]
  · isplitl [HS]; · iexact HS
    isplitl [HD]; · iexact HD
    iexact HB
  iintro ⟨H1, HB⟩
  iapply HK
  isplitl [HB]; · iexact HB
  isplitl [H0]; · iexact H0
  iapply (show pt c mS2 (Finset.univ \ US2 e cc) (tk cc) M.s2 ⊢ Sl2 c M e cc 1 (decide (1 < 2)) from .rfl) $$ H1

/-- Waiting for one copy's units. -/
theorem waitW2 (c : Dev nD) (M : HB F) (e : BitVec 32) (cc u : ℕ) {od : Fin 3 → ℕ} {os : Fin 3 → ℕ} {hod} {hos} {sem : DmaSem sig} (esem : sem = sem2 cc)
    {hsrc : (sW2 os hos).view.WordExact} {hdst : (dW2 od hod).view.WordExact} (hu : u + aW2 ≤ Transfers.sumTo A2 2)
    {β : Type} {k : PUnit → Prog (TpuEff nD τ sig (Elt F) Λ₀ .tc) β} {Q : β → sProp 𝕄} :
    iprop(Wt2 c M e cc u ∗ Owe c) ⊢ iprop((iprop(Wt2 c M e cc (u + aW2) ∗ Owe c) -∗ WP c (k ⟨⟩) Q)
      -∗ WP c (Prog.lift (.waitDma2 sem (sW2 os hos) (dW2 od hod) hsrc hdst) >>= k) Q) := by
  subst esem
  have h := WP_wait c (sem := sem2 cc) (srcw := sW2 os hos) (dstw := dW2 od hod) (hsrc := hsrc) (hdst := hdst) (A := A2) (D := D2 c M e cc) (j := 2) (u := u) (k := k) (Q := Q)
    (u + aW2) rfl hu
  unfold Wt2
  iintro ⟨⟨HB, HR⟩, HO⟩ HK
  iapply h $$ [HB HO]
  · isplitl [HB]; · iexact HB
    iexact HO
  iintro ⟨HB, HO⟩
  iapply HK
  isplitl [HB HR]
  · isplitl [HB]; · iexact HB
    iexact HR
  iexact HO

/-- Waiting for one copy's units. -/
theorem waitS2 (c : Dev nD) (M : HB F) (e : BitVec 32) (cc u : ℕ) {od : Fin 3 → ℕ} {os : Fin 3 → ℕ} {hod} {hos} {sem : DmaSem sig} (esem : sem = sem2 cc)
    {hsrc : (sS2 os hos).view.WordExact} {hdst : (dS2 od hod).view.WordExact} (hu : u + aS2 ≤ Transfers.sumTo A2 2)
    {β : Type} {k : PUnit → Prog (TpuEff nD τ sig (Elt F) Λ₀ .tc) β} {Q : β → sProp 𝕄} :
    iprop(Wt2 c M e cc u ∗ Owe c) ⊢ iprop((iprop(Wt2 c M e cc (u + aS2) ∗ Owe c) -∗ WP c (k ⟨⟩) Q)
      -∗ WP c (Prog.lift (.waitDma2 sem (sS2 os hos) (dS2 od hod) hsrc hdst) >>= k) Q) := by
  subst esem
  have h := WP_wait c (sem := sem2 cc) (srcw := sS2 os hos) (dstw := dS2 od hod) (hsrc := hsrc) (hdst := hdst) (A := A2) (D := D2 c M e cc) (j := 2) (u := u) (k := k) (Q := Q)
    (u + aS2) rfl hu
  unfold Wt2
  iintro ⟨⟨HB, HR⟩, HO⟩ HK
  iapply h $$ [HB HO]
  · isplitl [HB]; · iexact HB
    iexact HO
  iintro ⟨HB, HO⟩
  iapply HK
  isplitl [HB HR]
  · isplitl [HB]; · iexact HB
    iexact HR
  iexact HO

/-- All of the chunk waited for: its data is here. -/
theorem collect2 (c : Dev nD) (M : HB F) (e : BitVec 32) (cc u : ℕ) (hu : u = Transfers.sumTo A2 2) :
    Wt2 c M e cc u ⊢ (|={Set.univ}=> Arr2 c M e cc : sProp 𝕄) := by
  unfold Wt2 Arr2
  iintro ⟨HB, H0, H1⟩
  imod (MB_collect c A2_pos u hu) $$ HB with ⟨HD, HV⟩
  imodintro
  icases (show bigSep Finset.univ (D2 c M e cc) ⊢ iprop(D2 c M e cc 0 ∗ D2 c M e cc 1) from
    Entails.of_eq (by rw [BI.bigSep_eq_bigSepL_of_eq [0, 1] (by decide) (by decide)]; rfl)) $$ HD with ⟨D0, D1⟩
  icases (show D2 c M e cc 0 ⊢ iprop(pt c bW2 (PW2 cc) fullShare (GW2 M.w2 e) ∗ pt c mW2 (UW2 e cc) (tk cc) M.w2) from .rfl) $$ D0 with ⟨P0, S0⟩
  icases (show D2 c M e cc 1 ⊢ iprop(pt c bS2 (PS2 cc) fullShare (GS2 M.s2 e) ∗ pt c mS2 (US2 e cc) (tk cc) M.s2) from .rfl) $$ D1 with ⟨P1, S1⟩
  isplitl [HV]; · iexact HV
  isplitl [P0]; · iexact P0
  isplitl [P1]; · iexact P1
  isplitl [S0 H0]
  · iapply (pointsTo_split_subset (Finset.subset_univ (UW2 e cc))).2
    isplitl [S0]; · iexact S0
    iapply (show Sl2 c M e cc 0 true ⊢ pt c mW2 (Finset.univ \ UW2 e cc) (tk cc) M.w2 from .rfl) $$ H0
  iapply (pointsTo_split_subset (Finset.subset_univ (US2 e cc))).2
  isplitl [S1]; · iexact S1
  iapply (show Sl2 c M e cc 1 true ⊢ pt c mS2 (Finset.univ \ US2 e cc) (tk cc) M.s2 from .rfl) $$ H1

end Cert.KernelIdeal.Hand

end
-- ==== Proof.HandIdeal.Values.lean ====
/- What the kernel computes, as plain functions of what its buffers hold: the slabs its loops load, the running
   product of each layer, the hidden activations and the accumulated output of one expert. -/
module

public import proofs.«01_k».proof.Proof.HandIdeal.Flights

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix1 ix2 ix3 ix4)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A `w1` slab: 128 rows of packed codes and 256 columns of chunk `cc`, half `h`. -/
def LW1 (M : HB F) (e : BitVec 32) (cc h t n : ℕ) : Vec F S1x1x128x256 .i8 := fun j =>
  GW1 M.w1 e (ix4 (n0 := 4) (n1 := 2) (n2 := 3584) (n3 := 512) ⟨cc % 4, Nat.mod_lt _ (by decide)⟩ ⟨h % 2, Nat.mod_lt _ (by decide)⟩
    ⟨(128 * n + (j 2).val) % 3584, Nat.mod_lt _ (by decide)⟩ ⟨(256 * t + (j 3).val) % 512, Nat.mod_lt _ (by decide)⟩)
/-- The scales of that slab. -/
def LS1 (M : HB F) (e : BitVec 32) (cc h t n : ℕ) : Vec F S1x1x8x256 .i8 := fun j =>
  GS1 M.s1 e (ix4 (n0 := 4) (n1 := 2) (n2 := 224) (n3 := 512) ⟨cc % 4, Nat.mod_lt _ (by decide)⟩ ⟨h % 2, Nat.mod_lt _ (by decide)⟩
    ⟨(8 * n + (j 2).val) % 224, Nat.mod_lt _ (by decide)⟩ ⟨(256 * t + (j 3).val) % 512, Nat.mod_lt _ (by decide)⟩)
/-- Slab `n` of the activations. -/
def LX (X : S28x48x256.Idx → Elt F .bf16) (n : ℕ) : Vec F S1x48x256 .bf16 := fun j =>
  X (ix3 (n0 := 28) (n1 := 48) (n2 := 256) ⟨n % 28, Nat.mod_lt _ (by decide)⟩ ⟨(j 1).val, (j 1).isLt⟩ ⟨(j 2).val, (j 2).isLt⟩)
/-- A `w2` slab and its scales. -/
def LW2 (M : HB F) (e : BitVec 32) (h t n : ℕ) : Vec F S1x128x512 .i8 := fun j =>
  GW2 M.w2 e (ix3 (n0 := 2) (n1 := 1024) (n2 := 3584) ⟨h % 2, Nat.mod_lt _ (by decide)⟩
    ⟨(128 * n + (j 1).val) % 1024, Nat.mod_lt _ (by decide)⟩ ⟨(512 * t + (j 2).val) % 3584, Nat.mod_lt _ (by decide)⟩)
def LS2 (M : HB F) (e : BitVec 32) (h t n : ℕ) : Vec F S1x8x512 .i8 := fun j =>
  GS2 M.s2 e (ix3 (n0 := 2) (n1 := 64) (n2 := 3584) ⟨h % 2, Nat.mod_lt _ (by decide)⟩
    ⟨(8 * n + (j 1).val) % 64, Nat.mod_lt _ (by decide)⟩ ⟨(512 * t + (j 2).val) % 3584, Nat.mod_lt _ (by decide)⟩)
/-- Slab `n` of the hidden activations. -/
def LH (Hh : S8x48x256.Idx → Elt F .bf16) (n : ℕ) : Vec F S1x48x256 .bf16 := fun j =>
  Hh (ix3 (n0 := 8) (n1 := 48) (n2 := 256) ⟨n % 8, Nat.mod_lt _ (by decide)⟩ ⟨(j 1).val, (j 1).isLt⟩ ⟨(j 2).val, (j 2).isLt⟩)
/-- Columns `512·b …` of the output accumulator. -/
def LO (O : S6x8x7168.Idx → Elt F .f32) (b : ℕ) : Vec F S6x8x512 .f32 := fun j =>
  O (ix3 (n0 := 6) (n1 := 8) (n2 := 7168) ⟨(j 0).val, (j 0).isLt⟩ ⟨(j 1).val, (j 1).isLt⟩ ⟨(512 * b + (j 2).val) % 7168, Nat.mod_lt _ (by decide)⟩)
/-- The combination weights' first lane. -/
def LC (cw : S6x8x128.Idx → Elt F .f32) : Vec F S6x8x1 .f32 := fun j =>
  cw (ix3 (n0 := 6) (n1 := 8) (n2 := 128) ⟨(j 0).val, (j 0).isLt⟩ ⟨(j 1).val, (j 1).isLt⟩ ⟨(j 2).val % 128, Nat.mod_lt _ (by decide)⟩)

/-- The first layer's accumulator after `n` slabs. -/
def acc1 (M : HB F) (X : S28x48x256.Idx → Elt F .bf16) (e : BitVec 32) (cc t : ℕ) : ℕ → FVec F S6x8x512 .f32
  | 0 => k0_pay22
  | n + 1 => k0_pay23 (acc1 M X e cc t n) (k0_pay1 (LS1 M e cc 0 t n) (LS1 M e cc 1 t n)) (k0_pay2 (LX X n))
      (k0_pay3 (LW1 M e cc 0 t n) (LW1 M e cc 1 t n)) 7#32

/-- The hidden activations of expert `e`. -/
def HE (M : HB F) (X : S28x48x256.Idx → Elt F .bf16) (mk : IVec S6x8x256 1) (e : BitVec 32) : S8x48x256.Idx → Elt F .bf16 := fun i =>
  k0_pay24 mk (acc1 M X e ((i 0).val / 2) ((i 0).val % 2) 28)
    (ix3 (n0 := 1) (n1 := 48) (n2 := 256) ⟨0, Nat.one_pos⟩ ⟨(i 1).val, (i 1).isLt⟩ ⟨(i 2).val, (i 2).isLt⟩)

/-- The second layer's accumulator after `n` slabs. -/
def acc2 (M : HB F) (Hh : S8x48x256.Idx → Elt F .bf16) (e : BitVec 32) (h t : ℕ) : ℕ → FVec F S6x8x512 .f32
  | 0 => k0_pay34
  | n + 1 => k0_pay35 (acc2 M Hh e h t n) (k0_pay13 (LH Hh n)) (k0_pay14 (LS2 M e h t n)) (k0_pay15 (LW2 M e h t n)) k0_pay16

/-- The output accumulator after expert `e`. -/
def Onext (M : HB F) (Hh : S8x48x256.Idx → Elt F .bf16) (cw : S6x8x128.Idx → Elt F .f32) (e : BitVec 32) (O : S6x8x7168.Idx → Elt F .f32) :
    S6x8x7168.Idx → Elt F .f32 := fun i =>
  k0_pay36 (acc2 M Hh e ((i 2).val / 512 / 7) ((i 2).val / 512 % 7) 8) (LO O ((i 2).val / 512)) (LC cw)
    (ix3 (n0 := 6) (n1 := 8) (n2 := 512) ⟨(i 0).val, (i 0).isLt⟩ ⟨(i 1).val, (i 1).isLt⟩ ⟨(i 2).val % 512, Nat.mod_lt _ (by decide)⟩)

/-! ## The states the loops pass through -/

/-- The first `n` slabs of the hidden activations are written. -/
def HeS (c : Dev nD) (H' : S8x48x256.Idx → Elt F .bf16) (n : ℕ) : sProp 𝕄 :=
  iprop(∃ f, ⌜∀ i : S8x48x256.Idx, (i 0).val < n → f i = H' i⌝ ∗ pt c bH Finset.univ fullShare f)

/-- The first `n` column blocks of the output accumulator are written. -/
def OcS (c : Dev nD) (O O' : S6x8x7168.Idx → Elt F .f32) (n : ℕ) : sProp 𝕄 :=
  iprop(∃ f, ⌜∀ i : S6x8x7168.Idx, ((i 2).val / 512 < n → f i = O' i) ∧ (n ≤ (i 2).val / 512 → f i = O i)⌝ ∗ pt c bO Finset.univ fullShare f)

theorem HeS_start (c : Dev nD) (H' f) : pt (F := F) c bH Finset.univ fullShare f ⊢ HeS c H' 0 := by
  unfold HeS
  iintro H
  iexists f
  isplitr
  · ipureintro; exact fun i h => absurd h (Nat.not_lt_zero _)
  · iexact H

theorem HeS_all (c : Dev nD) (H') : HeS (F := F) c H' 8 ⊢ pt c bH Finset.univ fullShare H' := by
  unfold HeS
  iintro ⟨%f, %h, H⟩
  iapply (Entails.of_eq (pointsTo_congr fun i _ => h i (i 0).isLt)) $$ H

theorem OcS_start (c : Dev nD) (O O') : pt (F := F) c bO Finset.univ fullShare O ⊢ OcS c O O' 0 := by
  unfold OcS
  iintro H
  iexists O
  isplitr
  · ipureintro; exact fun i => ⟨fun h => absurd h (Nat.not_lt_zero _), fun _ => rfl⟩
  · iexact H

theorem OcS_all (c : Dev nD) (O O') : OcS (F := F) c O O' 14 ⊢ pt c bO Finset.univ fullShare O' := by
  unfold OcS
  iintro ⟨%f, %h, H⟩
  iapply (Entails.of_eq (pointsTo_congr fun i _ => (h i).1 (by have : (i 2).val < 7168 := (i 2).isLt; omega))) $$ H

/-! ## The loads -/

theorem subW1 {o : Fin 4 → ℕ} {hi : ∀ a, o a + S1x1x128x256.size a ≤ S4x2x3584x512.size a} {cc h t n : ℕ} (eo : o = ![cc, h, 128 * n, 256 * t]) :
    bW1.view.setOn (Rect.unit (s := S4x2x3584x512) o S1x1x128x256.size hi).toLoadRect.set ⊆ PW1 cc h := by
  subst eo
  have key : (bW1.access (Rect.unit (s := S4x2x3584x512) ![cc, h, 128 * n, 256 * t] S1x1x128x256.size hi)).set = (Rect.unit (s := S4x2x3584x512) ![cc, h, 128 * n, 256 * t] S1x1x128x256.size hi).set := View.set_slice_whole _ _
  rw [View.set_slice] at key
  refine (Eq.subset key).trans ?_
  intro i hm
  have H := Rect.mem_set_unit.mp hm
  have a0 := H 0; have a1 := H 1
  change cc ≤ (i 0).val ∧ (i 0).val < cc + 1 at a0
  change h ≤ (i 1).val ∧ (i 1).val < h + 1 at a1
  show i ∈ PW1 cc h
  simp only [PW1, Finset.mem_filter, Finset.mem_univ, _root_.true_and]
  omega

theorem loadW1 (M : HB F) (e : BitVec 32) {o : Fin 4 → ℕ} {hi : ∀ a, o a + S1x1x128x256.size a ≤ S4x2x3584x512.size a} {cc h t n : ℕ} (eo : o = ![cc, h, 128 * n, 256 * t])
    (hc : cc < 4) (hh : h < 2) (ht : t < 2) (hn : n < 28) :
    bW1.view.readAt (Elt F) (Rect.unit (s := S4x2x3584x512) o S1x1x128x256.size hi).toLoadRect (GW1 M.w1 e) = LW1 M e cc h t n := by
  subst eo
  funext j
  have h2 : (j 2).val < 128 := (j 2).isLt
  have h3 : (j 3).val < 256 := (j 3).isLt
  have h0 : (j 0).val < 1 := (j 0).isLt
  have h1 : (j 1).val < 1 := (j 1).isLt
  show GW1 M.w1 e ((Rect.unit (s := S4x2x3584x512) ![cc, h, 128 * n, 256 * t] S1x1x128x256.size hi).emb j) = _
  unfold LW1
  refine congrArg (GW1 M.w1 e) (funext fun a => Fin.ext ?_)
  fin_cases a
  · show cc + 1 * (j 0).val = cc % 4; omega
  · show h + 1 * (j 1).val = h % 2; omega
  · show 128 * n + 1 * (j 2).val = (128 * n + (j 2).val) % 3584; omega
  · show 256 * t + 1 * (j 3).val = (256 * t + (j 3).val) % 512; omega

theorem subS1 {o : Fin 4 → ℕ} {hi : ∀ a, o a + S1x1x8x256.size a ≤ S4x2x224x512.size a} {cc h t n : ℕ} (eo : o = ![cc, h, 8 * n, 256 * t]) :
    bS1.view.setOn (Rect.unit (s := S4x2x224x512) o S1x1x8x256.size hi).toLoadRect.set ⊆ PS1 cc h := by
  subst eo
  have key : (bS1.access (Rect.unit (s := S4x2x224x512) ![cc, h, 8 * n, 256 * t] S1x1x8x256.size hi)).set = (Rect.unit (s := S4x2x224x512) ![cc, h, 8 * n, 256 * t] S1x1x8x256.size hi).set := View.set_slice_whole _ _
  rw [View.set_slice] at key
  refine (Eq.subset key).trans ?_
  intro i hm
  have H := Rect.mem_set_unit.mp hm
  have a0 := H 0; have a1 := H 1
  change cc ≤ (i 0).val ∧ (i 0).val < cc + 1 at a0
  change h ≤ (i 1).val ∧ (i 1).val < h + 1 at a1
  show i ∈ PS1 cc h
  simp only [PS1, Finset.mem_filter, Finset.mem_univ, _root_.true_and]
  omega

theorem loadS1 (M : HB F) (e : BitVec 32) {o : Fin 4 → ℕ} {hi : ∀ a, o a + S1x1x8x256.size a ≤ S4x2x224x512.size a} {cc h t n : ℕ} (eo : o = ![cc, h, 8 * n, 256 * t])
    (hc : cc < 4) (hh : h < 2) (ht : t < 2) (hn : n < 28) :
    bS1.view.readAt (Elt F) (Rect.unit (s := S4x2x224x512) o S1x1x8x256.size hi).toLoadRect (GS1 M.s1 e) = LS1 M e cc h t n := by
  subst eo
  funext j
  have h2 : (j 2).val < 8 := (j 2).isLt
  have h3 : (j 3).val < 256 := (j 3).isLt
  have h0 : (j 0).val < 1 := (j 0).isLt
  have h1 : (j 1).val < 1 := (j 1).isLt
  show GS1 M.s1 e ((Rect.unit (s := S4x2x224x512) ![cc, h, 8 * n, 256 * t] S1x1x8x256.size hi).emb j) = _
  unfold LS1
  refine congrArg (GS1 M.s1 e) (funext fun a => Fin.ext ?_)
  fin_cases a
  · show cc + 1 * (j 0).val = cc % 4; omega
  · show h + 1 * (j 1).val = h % 2; omega
  · show 8 * n + 1 * (j 2).val = (8 * n + (j 2).val) % 224; omega
  · show 256 * t + 1 * (j 3).val = (256 * t + (j 3).val) % 512; omega

theorem subW2 {o : Fin 3 → ℕ} {hi : ∀ a, o a + S1x128x512.size a ≤ S2x1024x3584.size a} {cc t n : ℕ} (eo : o = ![cc, 128 * n, 512 * t]) :
    bW2.view.setOn (Rect.unit (s := S2x1024x3584) o S1x128x512.size hi).toLoadRect.set ⊆ PW2 cc := by
  subst eo
  have key : (bW2.access (Rect.unit (s := S2x1024x3584) ![cc, 128 * n, 512 * t] S1x128x512.size hi)).set = (Rect.unit (s := S2x1024x3584) ![cc, 128 * n, 512 * t] S1x128x512.size hi).set := View.set_slice_whole _ _
  rw [View.set_slice] at key
  refine (Eq.subset key).trans ?_
  intro i hm
  have H := Rect.mem_set_unit.mp hm
  have a0 := H 0
  change cc ≤ (i 0).val ∧ (i 0).val < cc + 1 at a0
  show i ∈ PW2 cc
  simp only [PW2, Finset.mem_filter, Finset.mem_univ, _root_.true_and]
  omega

theorem loadW2 (M : HB F) (e : BitVec 32) {o : Fin 3 → ℕ} {hi : ∀ a, o a + S1x128x512.size a ≤ S2x1024x3584.size a} {cc t n : ℕ} (eo : o = ![cc, 128 * n, 512 * t])
    (hc : cc < 2) (ht : t < 7) (hn : n < 8) :
    bW2.view.readAt (Elt F) (Rect.unit (s := S2x1024x3584) o S1x128x512.size hi).toLoadRect (GW2 M.w2 e) = LW2 M e cc t n := by
  subst eo
  funext j
  have h1 : (j 1).val < 128 := (j 1).isLt
  have h2 : (j 2).val < 512 := (j 2).isLt
  have h0 : (j 0).val < 1 := (j 0).isLt
  show GW2 M.w2 e ((Rect.unit (s := S2x1024x3584) ![cc, 128 * n, 512 * t] S1x128x512.size hi).emb j) = _
  unfold LW2
  refine congrArg (GW2 M.w2 e) (funext fun a => Fin.ext ?_)
  fin_cases a
  · show cc + 1 * (j 0).val = cc % 2; omega
  · show 128 * n + 1 * (j 1).val = (128 * n + (j 1).val) % 1024; omega
  · show 512 * t + 1 * (j 2).val = (512 * t + (j 2).val) % 3584; omega

theorem subS2 {o : Fin 3 → ℕ} {hi : ∀ a, o a + S1x8x512.size a ≤ S2x64x3584.size a} {cc t n : ℕ} (eo : o = ![cc, 8 * n, 512 * t]) :
    bS2.view.setOn (Rect.unit (s := S2x64x3584) o S1x8x512.size hi).toLoadRect.set ⊆ PS2 cc := by
  subst eo
  have key : (bS2.access (Rect.unit (s := S2x64x3584) ![cc, 8 * n, 512 * t] S1x8x512.size hi)).set = (Rect.unit (s := S2x64x3584) ![cc, 8 * n, 512 * t] S1x8x512.size hi).set := View.set_slice_whole _ _
  rw [View.set_slice] at key
  refine (Eq.subset key).trans ?_
  intro i hm
  have H := Rect.mem_set_unit.mp hm
  have a0 := H 0
  change cc ≤ (i 0).val ∧ (i 0).val < cc + 1 at a0
  show i ∈ PS2 cc
  simp only [PS2, Finset.mem_filter, Finset.mem_univ, _root_.true_and]
  omega

theorem loadS2 (M : HB F) (e : BitVec 32) {o : Fin 3 → ℕ} {hi : ∀ a, o a + S1x8x512.size a ≤ S2x64x3584.size a} {cc t n : ℕ} (eo : o = ![cc, 8 * n, 512 * t])
    (hc : cc < 2) (ht : t < 7) (hn : n < 8) :
    bS2.view.readAt (Elt F) (Rect.unit (s := S2x64x3584) o S1x8x512.size hi).toLoadRect (GS2 M.s2 e) = LS2 M e cc t n := by
  subst eo
  funext j
  have h1 : (j 1).val < 8 := (j 1).isLt
  have h2 : (j 2).val < 512 := (j 2).isLt
  have h0 : (j 0).val < 1 := (j 0).isLt
  show GS2 M.s2 e ((Rect.unit (s := S2x64x3584) ![cc, 8 * n, 512 * t] S1x8x512.size hi).emb j) = _
  unfold LS2
  refine congrArg (GS2 M.s2 e) (funext fun a => Fin.ext ?_)
  fin_cases a
  · show cc + 1 * (j 0).val = cc % 2; omega
  · show 8 * n + 1 * (j 1).val = (8 * n + (j 1).val) % 64; omega
  · show 512 * t + 1 * (j 2).val = (512 * t + (j 2).val) % 3584; omega

theorem loadX (f : S28x48x256.Idx → Elt F .bf16) {o : Fin 3 → ℕ} {hi : ∀ a, o a + S1x48x256.size a ≤ S28x48x256.size a} {n : ℕ} (eo : o = ![n, 0, 0])
    (hn : n < 28) : bX.view.readAt (Elt F) (Rect.unit (s := S28x48x256) o S1x48x256.size hi).toLoadRect f = LX f n := by
  subst eo
  funext j
  have h0 : (j 0).val < 1 := (j 0).isLt
  show f ((Rect.unit (s := S28x48x256) ![n, 0, 0] S1x48x256.size hi).emb j) = _
  unfold LX
  refine congrArg f (funext fun a => Fin.ext ?_)
  fin_cases a
  · show n + 1 * (j 0).val = n % 28; omega
  · show 0 + 1 * (j 1).val = (j 1).val; omega
  · show 0 + 1 * (j 2).val = (j 2).val; omega

theorem loadH (f : S8x48x256.Idx → Elt F .bf16) {o : Fin 3 → ℕ} {hi : ∀ a, o a + S1x48x256.size a ≤ S8x48x256.size a} {n : ℕ} (eo : o = ![n, 0, 0])
    (hn : n < 8) : bH.view.readAt (Elt F) (Rect.unit (s := S8x48x256) o S1x48x256.size hi).toLoadRect f = LH f n := by
  subst eo
  funext j
  have h0 : (j 0).val < 1 := (j 0).isLt
  show f ((Rect.unit (s := S8x48x256) ![n, 0, 0] S1x48x256.size hi).emb j) = _
  unfold LH
  refine congrArg f (funext fun a => Fin.ext ?_)
  fin_cases a
  · show n + 1 * (j 0).val = n % 8; omega
  · show 0 + 1 * (j 1).val = (j 1).val; omega
  · show 0 + 1 * (j 2).val = (j 2).val; omega

theorem loadO (f O : S6x8x7168.Idx → Elt F .f32) {o : Fin 3 → ℕ} {hi : ∀ a, o a + S6x8x512.size a ≤ S6x8x7168.size a} {b : ℕ} (eo : o = ![0, 0, 512 * b])
    (hb : b < 14) (hf : ∀ i, b ≤ (i 2).val / 512 → f i = O i) :
    bO.view.readAt (Elt F) (Rect.unit (s := S6x8x7168) o S6x8x512.size hi).toLoadRect f = LO O b := by
  subst eo
  funext j
  have h2 : (j 2).val < 512 := (j 2).isLt
  show f ((Rect.unit (s := S6x8x7168) ![0, 0, 512 * b] S6x8x512.size hi).emb j) = _
  rw [hf _ (by show b ≤ (512 * b + 1 * (j 2).val) / 512; omega)]
  unfold LO
  refine congrArg O (funext fun a => Fin.ext ?_)
  fin_cases a
  · show 0 + 1 * (j 0).val = (j 0).val; omega
  · show 0 + 1 * (j 1).val = (j 1).val; omega
  · show 512 * b + 1 * (j 2).val = (512 * b + (j 2).val) % 7168; omega

theorem loadC (f : S6x8x128.Idx → Elt F .f32) {hi : ∀ a, (![0, 0, 0] : Fin 3 → ℕ) a + S6x8x1.size a ≤ S6x8x128.size a} :
    bC.view.readAt (Elt F) (Rect.unit (s := S6x8x128) ![0, 0, 0] S6x8x1.size hi).toLoadRect f = LC f := by
  funext j
  have h2 : (j 2).val < 1 := (j 2).isLt
  show f ((Rect.unit (s := S6x8x128) ![0, 0, 0] S6x8x1.size hi).emb j) = _
  unfold LC
  refine congrArg f (funext fun a => Fin.ext ?_)
  fin_cases a
  · show 0 + 1 * (j 0).val = (j 0).val; omega
  · show 0 + 1 * (j 1).val = (j 1).val; omega
  · show 0 + 1 * (j 2).val = (j 2).val % 128; omega

/-! ## The stores -/

/-- Storing slab `n` of the hidden activations. -/
theorem storeH (f H' : S8x48x256.Idx → Elt F .bf16) {o : Fin 3 → ℕ} {hi : ∀ a, o a + S1x48x256.size a ≤ S8x48x256.size a} {n : ℕ} (eo : o = ![n, 0, 0])
    (w : Vec F S1x48x256 .bf16) (hf : ∀ i : S8x48x256.Idx, (i 0).val < n → f i = H' i)
    (hw : ∀ i : S8x48x256.Idx, (i 0).val = n → w (ix3 (n0 := 1) (n1 := 48) (n2 := 256) ⟨0, Nat.one_pos⟩ ⟨(i 1).val, (i 1).isLt⟩ ⟨(i 2).val, (i 2).isLt⟩) = H' i) :
    ∀ i : S8x48x256.Idx, (i 0).val < n + 1 → (bH.access (Rect.unit (s := S8x48x256) o S1x48x256.size hi)).write (Elt F) f w Finset.univ i = H' i := by
  subst eo
  intro i hn
  by_cases h : (i 0).val = n
  · have e : i = (bH.access (Rect.unit (s := S8x48x256) ![n, 0, 0] S1x48x256.size hi)).emb (ix3 (n0 := 1) (n1 := 48) (n2 := 256) ⟨0, Nat.one_pos⟩ ⟨(i 1).val, (i 1).isLt⟩ ⟨(i 2).val, (i 2).isLt⟩) := by
      funext a; refine Fin.ext ?_
      fin_cases a
      · show (i 0).val = n + 1 * 0; omega
      · show (i 1).val = 0 + 1 * (i 1).val; omega
      · show (i 2).val = 0 + 1 * (i 2).val; omega
    rw [← hw i h]
    conv_lhs => rw [e]
    exact View.write_emb_of_mem _ _ (Finset.mem_univ _)
  · rw [View.write_of_not_mem]
    · exact hf i (by omega)
    · intro hm
      obtain ⟨x, -, hx⟩ := Finset.mem_map.mp hm
      apply h
      rw [← hx]
      have h0 : (x 0).val < 1 := (x 0).isLt
      show n + 1 * (x 0).val = n
      omega

/-- Storing column block `b` of the output accumulator. -/
theorem storeO (f O O' : S6x8x7168.Idx → Elt F .f32) {o : Fin 3 → ℕ} {hi : ∀ a, o a + S6x8x512.size a ≤ S6x8x7168.size a} {b : ℕ} (eo : o = ![0, 0, 512 * b])
    (w : Vec F S6x8x512 .f32) (hf : ∀ i : S6x8x7168.Idx, ((i 2).val / 512 < b → f i = O' i) ∧ (b ≤ (i 2).val / 512 → f i = O i))
    (hw : ∀ i : S6x8x7168.Idx, (i 2).val / 512 = b → w (ix3 (n0 := 6) (n1 := 8) (n2 := 512) ⟨(i 0).val, (i 0).isLt⟩ ⟨(i 1).val, (i 1).isLt⟩ ⟨(i 2).val % 512, Nat.mod_lt _ (by decide)⟩) = O' i) :
    ∀ i : S6x8x7168.Idx, ((i 2).val / 512 < b + 1 → (bO.access (Rect.unit (s := S6x8x7168) o S6x8x512.size hi)).write (Elt F) f w Finset.univ i = O' i)
      ∧ (b + 1 ≤ (i 2).val / 512 → (bO.access (Rect.unit (s := S6x8x7168) o S6x8x512.size hi)).write (Elt F) f w Finset.univ i = O i) := by
  subst eo
  intro i
  by_cases h : (i 2).val / 512 = b
  · have e : i = (bO.access (Rect.unit (s := S6x8x7168) ![0, 0, 512 * b] S6x8x512.size hi)).emb (ix3 (n0 := 6) (n1 := 8) (n2 := 512) ⟨(i 0).val, (i 0).isLt⟩ ⟨(i 1).val, (i 1).isLt⟩ ⟨(i 2).val % 512, Nat.mod_lt _ (by decide)⟩) := by
      funext a; refine Fin.ext ?_
      fin_cases a
      · show (i 0).val = 0 + 1 * (i 0).val; omega
      · show (i 1).val = 0 + 1 * (i 1).val; omega
      · show (i 2).val = 512 * b + 1 * ((i 2).val % 512); omega
    refine ⟨fun _ => ?_, fun h' => by omega⟩
    rw [← hw i h]
    conv_lhs => rw [e]
    exact View.write_emb_of_mem _ _ (Finset.mem_univ _)
  · rw [View.write_of_not_mem]
    · exact ⟨fun h' => (hf i).1 (by omega), fun h' => (hf i).2 (by omega)⟩
    · intro hm
      obtain ⟨x, -, hx⟩ := Finset.mem_map.mp hm
      apply h
      rw [← hx]
      have h2 : (x 2).val < 512 := (x 2).isLt
      show (512 * b + 1 * (x 2).val) / 512 = b
      omega

/-! ## Where the loops' accesses lie -/

theorem off33_eq : ∀ (t : Fin k0_t5_loop.trips) (n : Fin k0_t6_loop.trips), k0_off33 t n = ![0, 0, 128 * n.val, 256 * t.val] := by decide +kernel
theorem off34_eq : ∀ (t : Fin k0_t5_loop.trips) (n : Fin k0_t6_loop.trips), k0_off34 t n = ![0, 1, 128 * n.val, 256 * t.val] := by decide +kernel
theorem off35_eq : ∀ (t : Fin k0_t5_loop.trips) (n : Fin k0_t6_loop.trips), k0_off35 t n = ![0, 0, 8 * n.val, 256 * t.val] := by decide +kernel
theorem off36_eq : ∀ (t : Fin k0_t5_loop.trips) (n : Fin k0_t6_loop.trips), k0_off36 t n = ![0, 1, 8 * n.val, 256 * t.val] := by decide +kernel
theorem off37_eq : ∀ (n : Fin k0_t6_loop.trips), k0_off37 n = ![n.val, 0, 0] := by decide +kernel
theorem off38_eq : ∀ (t : Fin k0_t5_loop.trips), k0_off38 t = ![0 + t.val, 0, 0] := by decide +kernel
theorem off47_eq : ∀ (t : Fin k0_t7_loop.trips) (n : Fin k0_t8_loop.trips), k0_off47 t n = ![1, 0, 128 * n.val, 256 * t.val] := by decide +kernel
theorem off48_eq : ∀ (t : Fin k0_t7_loop.trips) (n : Fin k0_t8_loop.trips), k0_off48 t n = ![1, 1, 128 * n.val, 256 * t.val] := by decide +kernel
theorem off49_eq : ∀ (t : Fin k0_t7_loop.trips) (n : Fin k0_t8_loop.trips), k0_off49 t n = ![1, 0, 8 * n.val, 256 * t.val] := by decide +kernel
theorem off50_eq : ∀ (t : Fin k0_t7_loop.trips) (n : Fin k0_t8_loop.trips), k0_off50 t n = ![1, 1, 8 * n.val, 256 * t.val] := by decide +kernel
theorem off51_eq : ∀ (n : Fin k0_t8_loop.trips), k0_off51 n = ![n.val, 0, 0] := by decide +kernel
theorem off52_eq : ∀ (t : Fin k0_t7_loop.trips), k0_off52 t = ![2 + t.val, 0, 0] := by decide +kernel
theorem off61_eq : ∀ (t : Fin k0_t9_loop.trips) (n : Fin k0_t10_loop.trips), k0_off61 t n = ![2, 0, 128 * n.val, 256 * t.val] := by decide +kernel
theorem off62_eq : ∀ (t : Fin k0_t9_loop.trips) (n : Fin k0_t10_loop.trips), k0_off62 t n = ![2, 1, 128 * n.val, 256 * t.val] := by decide +kernel
theorem off63_eq : ∀ (t : Fin k0_t9_loop.trips) (n : Fin k0_t10_loop.trips), k0_off63 t n = ![2, 0, 8 * n.val, 256 * t.val] := by decide +kernel
theorem off64_eq : ∀ (t : Fin k0_t9_loop.trips) (n : Fin k0_t10_loop.trips), k0_off64 t n = ![2, 1, 8 * n.val, 256 * t.val] := by decide +kernel
theorem off65_eq : ∀ (n : Fin k0_t10_loop.trips), k0_off65 n = ![n.val, 0, 0] := by decide +kernel
theorem off66_eq : ∀ (t : Fin k0_t9_loop.trips), k0_off66 t = ![4 + t.val, 0, 0] := by decide +kernel
theorem off75_eq : ∀ (t : Fin k0_t11_loop.trips) (n : Fin k0_t12_loop.trips), k0_off75 t n = ![3, 0, 128 * n.val, 256 * t.val] := by decide +kernel
theorem off76_eq : ∀ (t : Fin k0_t11_loop.trips) (n : Fin k0_t12_loop.trips), k0_off76 t n = ![3, 1, 128 * n.val, 256 * t.val] := by decide +kernel
theorem off77_eq : ∀ (t : Fin k0_t11_loop.trips) (n : Fin k0_t12_loop.trips), k0_off77 t n = ![3, 0, 8 * n.val, 256 * t.val] := by decide +kernel
theorem off78_eq : ∀ (t : Fin k0_t11_loop.trips) (n : Fin k0_t12_loop.trips), k0_off78 t n = ![3, 1, 8 * n.val, 256 * t.val] := by decide +kernel
theorem off79_eq : ∀ (n : Fin k0_t12_loop.trips), k0_off79 n = ![n.val, 0, 0] := by decide +kernel
theorem off80_eq : ∀ (t : Fin k0_t11_loop.trips), k0_off80 t = ![6 + t.val, 0, 0] := by decide +kernel
theorem off87_eq : ∀ (n : Fin k0_t14_loop.trips), k0_off87 n = ![n.val, 0, 0] := by decide +kernel
theorem off88_eq : ∀ (t : Fin k0_t13_loop.trips) (n : Fin k0_t14_loop.trips), k0_off88 t n = ![0, 128 * n.val, 512 * t.val] := by decide +kernel
theorem off89_eq : ∀ (t : Fin k0_t13_loop.trips) (n : Fin k0_t14_loop.trips), k0_off89 t n = ![0, 8 * n.val, 512 * t.val] := by decide +kernel
theorem off90_eq : ∀ (t : Fin k0_t13_loop.trips), k0_off90 t = ![0, 0, 512 * (0 + t.val)] := by decide +kernel
theorem off95_eq : ∀ (n : Fin k0_t16_loop.trips), k0_off95 n = ![n.val, 0, 0] := by decide +kernel
theorem off96_eq : ∀ (t : Fin k0_t15_loop.trips) (n : Fin k0_t16_loop.trips), k0_off96 t n = ![1, 128 * n.val, 512 * t.val] := by decide +kernel
theorem off97_eq : ∀ (t : Fin k0_t15_loop.trips) (n : Fin k0_t16_loop.trips), k0_off97 t n = ![1, 8 * n.val, 512 * t.val] := by decide +kernel
theorem off98_eq : ∀ (t : Fin k0_t15_loop.trips), k0_off98 t = ![0, 0, 512 * (7 + t.val)] := by decide +kernel

end Cert.KernelIdeal.Hand

end
-- ==== Proof.HandIdeal.Loops.lean ====
/- The compute loops of one expert: each chunk of the first layer writes two slabs of the hidden activations, each half of
   the second layer seven column blocks of the output accumulator. -/
module

public import proofs.«01_k».proof.Proof.HandIdeal.Values

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix1 ix2 ix3 ix4)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (arg0 : Memref sig .tc .smem S48 .i32) (harg0 : arg0.IsWhole) (arg1 : Memref sig .tc .vmem S6x1x8 .i32) (harg1 : arg1.IsWhole)
  (arg2 : Memref sig .tc .vmem S6x1x8 .f32) (harg2 : arg2.IsWhole) (arg3 : Memref sig .tc .vmem S6x1x7168 .bf16) (harg3 : arg3.IsWhole)
  (arg8 : Memref sig .tc .vmem S6x1x7168 .bf16) (harg8 : arg8.IsWhole)

/-- One slab of chunk 0's product. -/
theorem step6 (c : Dev nD) (M : HB F) (X : S28x48x256.Idx → Elt F .bf16) (e : BitVec 32)
    (v15 : BitVec 32) (v163 : IVec S6x8x256 1) (k0_t4 : Fin (k0_t4_loop v15).trips) (v180 : Elt F .i32) (k0_hw5 : k0_chk5 v180) (v184 : Elt F .i32) (k0_hw6 : k0_chk6 v15 k0_t4 v184) (v186 : BitVec 1) (t : Fin k0_t5_loop.trips) (v341 : BitVec 32) (n : Fin k0_t6_loop.trips) (acc : FVec F S6x8x512 .f32) :
    iprop(⌜acc = acc1 M X e 0 t.val n.val⌝ ∗ Arr1 c M e 0 ∗ pt c bX Finset.univ fullShare X)
      ⊢ WP c (k0_t6_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 v163 k0_t4 v180 k0_hw5 v184 k0_hw6 v186 t v341 n acc)
        (fun acc' => iprop(⌜acc' = acc1 M X e 0 t.val (n.val + 1)⌝ ∗ Arr1 c M e 0 ∗ pt c bX Finset.univ fullShare X)) := by
  have ht : t.val < 2 := t.isLt
  have hn : n.val < 28 := n.isLt
  unfold k0_t6_body
  rw [k0_part1_eq_skeleton]
  unfold k0_part1_skel
  dsimp only
  unfold Arr1
  iintro ⟨%hacc, ⟨HV, P0, P1, P2, P3, HR⟩, HX⟩
  subst hacc
  simp only [bind_assoc]
  iapply (WP_load c _ (subW1 (off33_eq t n)) (loadW1 M e (off33_eq t n) (by decide) (by decide) ht hn)) $$ P0
  iintro P0
  iapply (WP_load c _ (subW1 (off34_eq t n)) (loadW1 M e (off34_eq t n) (by decide) (by decide) ht hn)) $$ P2
  iintro P2
  iapply (WP_load c _ (subS1 (off35_eq t n)) (loadS1 M e (off35_eq t n) (by decide) (by decide) ht hn)) $$ P1
  iintro P1
  iapply (WP_load c _ (subS1 (off36_eq t n)) (loadS1 M e (off36_eq t n) (by decide) (by decide) ht hn)) $$ P3
  iintro P3
  iapply (WP_load c _ (Finset.subset_univ _) (loadX X (off37_eq n) hn)) $$ HX
  iintro HX
  iapply WP_pure
  isplitr
  · ipureintro; rfl
  isplitl [HV P0 P1 P2 P3 HR]
  · isplitl [HV]; · iexact HV
    isplitl [P0]; · iexact P0
    isplitl [P1]; · iexact P1
    isplitl [P2]; · iexact P2
    isplitl [P3]; · iexact P3
    iexact HR
  · iexact HX

/-- Chunk 0 of the first layer. -/
theorem loop5 (c : Dev nD) (M : HB F) (X : S28x48x256.Idx → Elt F .bf16) (e : BitVec 32)
    (v15 : BitVec 32) (v163 : IVec S6x8x256 1) (k0_t4 : Fin (k0_t4_loop v15).trips) (v180 : Elt F .i32) (k0_hw5 : k0_chk5 v180) (v184 : Elt F .i32) (k0_hw6 : k0_chk6 v15 k0_t4 v184) (v186 : BitVec 1) {β : Type} {k : Unit → Prog (TpuEff nD τ sig (Elt F) Λ₀ .tc) β} {Q : β → sProp 𝕄} :
    iprop(Arr1 c M e 0 ∗ pt c bX Finset.univ fullShare X ∗ HeS c (HE M X v163 e) 0)
      ⊢ iprop((iprop(Arr1 c M e 0 ∗ pt c bX Finset.univ fullShare X ∗ HeS c (HE M X v163 e) 2) -∗ WP c (k ⟨⟩) Q)
        -∗ WP c (Scf.Loop.for k0_t5_loop k0_t5_ok ⟨⟩ (k0_t5_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 v163 k0_t4 v180 k0_hw5 v184 k0_hw6 v186) >>= k) Q) := by
  have hb : ∀ (t : Fin k0_t5_loop.trips) (acc : Unit), iprop(Arr1 c M e 0 ∗ pt c bX Finset.univ fullShare X ∗ HeS c (HE M X v163 e) (0 + t.val))
      ⊢ WP c (k0_t5_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 v163 k0_t4 v180 k0_hw5 v184 k0_hw6 v186 t acc) (fun _ => iprop(Arr1 c M e 0 ∗ pt c bX Finset.univ fullShare X ∗ HeS c (HE M X v163 e) (0 + (t.val + 1)))) := by
    intro t acc
    have ht : t.val < 2 := t.isLt
    unfold k0_t5_body
    dsimp only
    iintro ⟨HA, HX, HH⟩
    iapply (WP_for c (fun n acc => iprop(⌜acc = acc1 M X e 0 t.val n⌝ ∗ Arr1 c M e 0 ∗ pt c bX Finset.univ fullShare X))
      (fun n acc => step6 arg0 harg0 arg1 harg1 arg2 harg2 arg3 harg3 arg8 harg8 c M X e v15 v163 k0_t4 v180 k0_hw5 v184 k0_hw6 v186 t _ n acc)) $$ [HA HX]
    · isplitr; · ipureintro; rfl
      isplitl [HA]; · iexact HA
      iexact HX
    iintro %acc ⟨%hacc, HA, HX⟩
    subst hacc
    unfold HeS
    icases HH with ⟨%f, %hf, HH⟩
    iapply (WP_load c _ (Finset.subset_univ _) rfl) $$ HH
    iintro HH
    iapply (WP_storeW c (m := bH) (r := Rect.unit (s := S8x48x256) (k0_off38 t) S1x48x256.size (k0_off38_inb t)) (S := Finset.univ) (f := f)
      (w := k0_pay24 v163 (acc1 M X e 0 t.val 28)) (Finset.subset_univ _)) $$ HH
    iintro HH
    iapply WP_pure
    isplitl [HA]; · iexact HA
    isplitl [HX]; · iexact HX
    iexists ((bH.access (Rect.unit (s := S8x48x256) (k0_off38 t) S1x48x256.size (k0_off38_inb t))).write (Elt F) f (k0_pay24 v163 (acc1 M X e 0 t.val 28)) Finset.univ)
    isplitr
    · ipureintro
      refine storeH f (HE M X v163 e) (off38_eq t) _ hf fun i hi => ?_
      unfold HE
      rw [hi, show (0 + t.val) / 2 = 0 by omega, show (0 + t.val) % 2 = t.val by omega]
      all_goals rfl
    · iexact HH
  iintro H HK
  iapply (WP_for c (fun n _ => iprop(Arr1 c M e 0 ∗ pt c bX Finset.univ fullShare X ∗ HeS c (HE M X v163 e) (0 + n))) hb) $$ H
  iintro %acc H
  iapply HK
  iapply (show _ ⊢ _ from .rfl) $$ H

/-- One slab of chunk 1's product. -/
theorem step8 (c : Dev nD) (M : HB F) (X : S28x48x256.Idx → Elt F .bf16) (e : BitVec 32)
    (v15 : BitVec 32) (v163 : IVec S6x8x256 1) (k0_t4 : Fin (k0_t4_loop v15).trips) (v180 : Elt F .i32) (k0_hw5 : k0_chk5 v180) (v184 : Elt F .i32) (k0_hw6 : k0_chk6 v15 k0_t4 v184) (v186 : BitVec 1) (t : Fin k0_t7_loop.trips) (v341 : BitVec 32) (n : Fin k0_t8_loop.trips) (acc : FVec F S6x8x512 .f32) :
    iprop(⌜acc = acc1 M X e 1 t.val n.val⌝ ∗ Arr1 c M e 1 ∗ pt c bX Finset.univ fullShare X)
      ⊢ WP c (k0_t8_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 v163 k0_t4 v180 k0_hw5 v184 k0_hw6 v186 t v341 n acc)
        (fun acc' => iprop(⌜acc' = acc1 M X e 1 t.val (n.val + 1)⌝ ∗ Arr1 c M e 1 ∗ pt c bX Finset.univ fullShare X)) := by
  have ht : t.val < 2 := t.isLt
  have hn : n.val < 28 := n.isLt
  unfold k0_t8_body
  rw [k0_part2_eq_skeleton]
  unfold k0_part2_skel
  dsimp only
  unfold Arr1
  iintro ⟨%hacc, ⟨HV, P0, P1, P2, P3, HR⟩, HX⟩
  subst hacc
  simp only [bind_assoc]
  iapply (WP_load c _ (subW1 (off47_eq t n)) (loadW1 M e (off47_eq t n) (by decide) (by decide) ht hn)) $$ P0
  iintro P0
  iapply (WP_load c _ (subW1 (off48_eq t n)) (loadW1 M e (off48_eq t n) (by decide) (by decide) ht hn)) $$ P2
  iintro P2
  iapply (WP_load c _ (subS1 (off49_eq t n)) (loadS1 M e (off49_eq t n) (by decide) (by decide) ht hn)) $$ P1
  iintro P1
  iapply (WP_load c _ (subS1 (off50_eq t n)) (loadS1 M e (off50_eq t n) (by decide) (by decide) ht hn)) $$ P3
  iintro P3
  iapply (WP_load c _ (Finset.subset_univ _) (loadX X (off51_eq n) hn)) $$ HX
  iintro HX
  iapply WP_pure
  isplitr
  · ipureintro; rfl
  isplitl [HV P0 P1 P2 P3 HR]
  · isplitl [HV]; · iexact HV
    isplitl [P0]; · iexact P0
    isplitl [P1]; · iexact P1
    isplitl [P2]; · iexact P2
    isplitl [P3]; · iexact P3
    iexact HR
  · iexact HX

/-- Chunk 1 of the first layer. -/
theorem loop7 (c : Dev nD) (M : HB F) (X : S28x48x256.Idx → Elt F .bf16) (e : BitVec 32)
    (v15 : BitVec 32) (v163 : IVec S6x8x256 1) (k0_t4 : Fin (k0_t4_loop v15).trips) (v180 : Elt F .i32) (k0_hw5 : k0_chk5 v180) (v184 : Elt F .i32) (k0_hw6 : k0_chk6 v15 k0_t4 v184) (v186 : BitVec 1) {β : Type} {k : Unit → Prog (TpuEff nD τ sig (Elt F) Λ₀ .tc) β} {Q : β → sProp 𝕄} :
    iprop(Arr1 c M e 1 ∗ pt c bX Finset.univ fullShare X ∗ HeS c (HE M X v163 e) 2)
      ⊢ iprop((iprop(Arr1 c M e 1 ∗ pt c bX Finset.univ fullShare X ∗ HeS c (HE M X v163 e) 4) -∗ WP c (k ⟨⟩) Q)
        -∗ WP c (Scf.Loop.for k0_t7_loop k0_t7_ok ⟨⟩ (k0_t7_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 v163 k0_t4 v180 k0_hw5 v184 k0_hw6 v186) >>= k) Q) := by
  have hb : ∀ (t : Fin k0_t7_loop.trips) (acc : Unit), iprop(Arr1 c M e 1 ∗ pt c bX Finset.univ fullShare X ∗ HeS c (HE M X v163 e) (2 + t.val))
      ⊢ WP c (k0_t7_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 v163 k0_t4 v180 k0_hw5 v184 k0_hw6 v186 t acc) (fun _ => iprop(Arr1 c M e 1 ∗ pt c bX Finset.univ fullShare X ∗ HeS c (HE M X v163 e) (2 + (t.val + 1)))) := by
    intro t acc
    have ht : t.val < 2 := t.isLt
    unfold k0_t7_body
    dsimp only
    iintro ⟨HA, HX, HH⟩
    iapply (WP_for c (fun n acc => iprop(⌜acc = acc1 M X e 1 t.val n⌝ ∗ Arr1 c M e 1 ∗ pt c bX Finset.univ fullShare X))
      (fun n acc => step8 arg0 harg0 arg1 harg1 arg2 harg2 arg3 harg3 arg8 harg8 c M X e v15 v163 k0_t4 v180 k0_hw5 v184 k0_hw6 v186 t _ n acc)) $$ [HA HX]
    · isplitr; · ipureintro; rfl
      isplitl [HA]; · iexact HA
      iexact HX
    iintro %acc ⟨%hacc, HA, HX⟩
    subst hacc
    unfold HeS
    icases HH with ⟨%f, %hf, HH⟩
    iapply (WP_load c _ (Finset.subset_univ _) rfl) $$ HH
    iintro HH
    iapply (WP_storeW c (m := bH) (r := Rect.unit (s := S8x48x256) (k0_off52 t) S1x48x256.size (k0_off52_inb t)) (S := Finset.univ) (f := f)
      (w := k0_pay27 v163 (acc1 M X e 1 t.val 28)) (Finset.subset_univ _)) $$ HH
    iintro HH
    iapply WP_pure
    isplitl [HA]; · iexact HA
    isplitl [HX]; · iexact HX
    iexists ((bH.access (Rect.unit (s := S8x48x256) (k0_off52 t) S1x48x256.size (k0_off52_inb t))).write (Elt F) f (k0_pay27 v163 (acc1 M X e 1 t.val 28)) Finset.univ)
    isplitr
    · ipureintro
      refine storeH f (HE M X v163 e) (off52_eq t) _ hf fun i hi => ?_
      unfold HE
      rw [hi, show (2 + t.val) / 2 = 1 by omega, show (2 + t.val) % 2 = t.val by omega]
      all_goals rfl
    · iexact HH
  iintro H HK
  iapply (WP_for c (fun n _ => iprop(Arr1 c M e 1 ∗ pt c bX Finset.univ fullShare X ∗ HeS c (HE M X v163 e) (2 + n))) hb) $$ H
  iintro %acc H
  iapply HK
  iapply (show _ ⊢ _ from .rfl) $$ H

/-- One slab of chunk 2's product. -/
theorem step10 (c : Dev nD) (M : HB F) (X : S28x48x256.Idx → Elt F .bf16) (e : BitVec 32)
    (v15 : BitVec 32) (v163 : IVec S6x8x256 1) (k0_t4 : Fin (k0_t4_loop v15).trips) (v180 : Elt F .i32) (k0_hw5 : k0_chk5 v180) (v184 : Elt F .i32) (k0_hw6 : k0_chk6 v15 k0_t4 v184) (v186 : BitVec 1) (t : Fin k0_t9_loop.trips) (v341 : BitVec 32) (n : Fin k0_t10_loop.trips) (acc : FVec F S6x8x512 .f32) :
    iprop(⌜acc = acc1 M X e 2 t.val n.val⌝ ∗ Arr1 c M e 2 ∗ pt c bX Finset.univ fullShare X)
      ⊢ WP c (k0_t10_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 v163 k0_t4 v180 k0_hw5 v184 k0_hw6 v186 t v341 n acc)
        (fun acc' => iprop(⌜acc' = acc1 M X e 2 t.val (n.val + 1)⌝ ∗ Arr1 c M e 2 ∗ pt c bX Finset.univ fullShare X)) := by
  have ht : t.val < 2 := t.isLt
  have hn : n.val < 28 := n.isLt
  unfold k0_t10_body
  rw [k0_part3_eq_skeleton]
  unfold k0_part3_skel
  dsimp only
  unfold Arr1
  iintro ⟨%hacc, ⟨HV, P0, P1, P2, P3, HR⟩, HX⟩
  subst hacc
  simp only [bind_assoc]
  iapply (WP_load c _ (subW1 (off61_eq t n)) (loadW1 M e (off61_eq t n) (by decide) (by decide) ht hn)) $$ P0
  iintro P0
  iapply (WP_load c _ (subW1 (off62_eq t n)) (loadW1 M e (off62_eq t n) (by decide) (by decide) ht hn)) $$ P2
  iintro P2
  iapply (WP_load c _ (subS1 (off63_eq t n)) (loadS1 M e (off63_eq t n) (by decide) (by decide) ht hn)) $$ P1
  iintro P1
  iapply (WP_load c _ (subS1 (off64_eq t n)) (loadS1 M e (off64_eq t n) (by decide) (by decide) ht hn)) $$ P3
  iintro P3
  iapply (WP_load c _ (Finset.subset_univ _) (loadX X (off65_eq n) hn)) $$ HX
  iintro HX
  iapply WP_pure
  isplitr
  · ipureintro; rfl
  isplitl [HV P0 P1 P2 P3 HR]
  · isplitl [HV]; · iexact HV
    isplitl [P0]; · iexact P0
    isplitl [P1]; · iexact P1
    isplitl [P2]; · iexact P2
    isplitl [P3]; · iexact P3
    iexact HR
  · iexact HX

/-- Chunk 2 of the first layer. -/
theorem loop9 (c : Dev nD) (M : HB F) (X : S28x48x256.Idx → Elt F .bf16) (e : BitVec 32)
    (v15 : BitVec 32) (v163 : IVec S6x8x256 1) (k0_t4 : Fin (k0_t4_loop v15).trips) (v180 : Elt F .i32) (k0_hw5 : k0_chk5 v180) (v184 : Elt F .i32) (k0_hw6 : k0_chk6 v15 k0_t4 v184) (v186 : BitVec 1) {β : Type} {k : Unit → Prog (TpuEff nD τ sig (Elt F) Λ₀ .tc) β} {Q : β → sProp 𝕄} :
    iprop(Arr1 c M e 2 ∗ pt c bX Finset.univ fullShare X ∗ HeS c (HE M X v163 e) 4)
      ⊢ iprop((iprop(Arr1 c M e 2 ∗ pt c bX Finset.univ fullShare X ∗ HeS c (HE M X v163 e) 6) -∗ WP c (k ⟨⟩) Q)
        -∗ WP c (Scf.Loop.for k0_t9_loop k0_t9_ok ⟨⟩ (k0_t9_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 v163 k0_t4 v180 k0_hw5 v184 k0_hw6 v186) >>= k) Q) := by
  have hb : ∀ (t : Fin k0_t9_loop.trips) (acc : Unit), iprop(Arr1 c M e 2 ∗ pt c bX Finset.univ fullShare X ∗ HeS c (HE M X v163 e) (4 + t.val))
      ⊢ WP c (k0_t9_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 v163 k0_t4 v180 k0_hw5 v184 k0_hw6 v186 t acc) (fun _ => iprop(Arr1 c M e 2 ∗ pt c bX Finset.univ fullShare X ∗ HeS c (HE M X v163 e) (4 + (t.val + 1)))) := by
    intro t acc
    have ht : t.val < 2 := t.isLt
    unfold k0_t9_body
    dsimp only
    iintro ⟨HA, HX, HH⟩
    iapply (WP_for c (fun n acc => iprop(⌜acc = acc1 M X e 2 t.val n⌝ ∗ Arr1 c M e 2 ∗ pt c bX Finset.univ fullShare X))
      (fun n acc => step10 arg0 harg0 arg1 harg1 arg2 harg2 arg3 harg3 arg8 harg8 c M X e v15 v163 k0_t4 v180 k0_hw5 v184 k0_hw6 v186 t _ n acc)) $$ [HA HX]
    · isplitr; · ipureintro; rfl
      isplitl [HA]; · iexact HA
      iexact HX
    iintro %acc ⟨%hacc, HA, HX⟩
    subst hacc
    unfold HeS
    icases HH with ⟨%f, %hf, HH⟩
    iapply (WP_load c _ (Finset.subset_univ _) rfl) $$ HH
    iintro HH
    iapply (WP_storeW c (m := bH) (r := Rect.unit (s := S8x48x256) (k0_off66 t) S1x48x256.size (k0_off66_inb t)) (S := Finset.univ) (f := f)
      (w := k0_pay30 v163 (acc1 M X e 2 t.val 28)) (Finset.subset_univ _)) $$ HH
    iintro HH
    iapply WP_pure
    isplitl [HA]; · iexact HA
    isplitl [HX]; · iexact HX
    iexists ((bH.access (Rect.unit (s := S8x48x256) (k0_off66 t) S1x48x256.size (k0_off66_inb t))).write (Elt F) f (k0_pay30 v163 (acc1 M X e 2 t.val 28)) Finset.univ)
    isplitr
    · ipureintro
      refine storeH f (HE M X v163 e) (off66_eq t) _ hf fun i hi => ?_
      unfold HE
      rw [hi, show (4 + t.val) / 2 = 2 by omega, show (4 + t.val) % 2 = t.val by omega]
      all_goals rfl
    · iexact HH
  iintro H HK
  iapply (WP_for c (fun n _ => iprop(Arr1 c M e 2 ∗ pt c bX Finset.univ fullShare X ∗ HeS c (HE M X v163 e) (4 + n))) hb) $$ H
  iintro %acc H
  iapply HK
  iapply (show _ ⊢ _ from .rfl) $$ H

/-- One slab of chunk 3's product. -/
theorem step12 (c : Dev nD) (M : HB F) (X : S28x48x256.Idx → Elt F .bf16) (e : BitVec 32)
    (v163 : IVec S6x8x256 1) (v180 : Elt F .i32) (k0_hw5 : k0_chk5 v180) (v186 : BitVec 1) (t : Fin k0_t11_loop.trips) (v341 : BitVec 32) (n : Fin k0_t12_loop.trips) (acc : FVec F S6x8x512 .f32) :
    iprop(⌜acc = acc1 M X e 3 t.val n.val⌝ ∗ Arr1 c M e 3 ∗ pt c bX Finset.univ fullShare X)
      ⊢ WP c (k0_t12_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v163 v180 k0_hw5 v186 t v341 n acc)
        (fun acc' => iprop(⌜acc' = acc1 M X e 3 t.val (n.val + 1)⌝ ∗ Arr1 c M e 3 ∗ pt c bX Finset.univ fullShare X)) := by
  have ht : t.val < 2 := t.isLt
  have hn : n.val < 28 := n.isLt
  unfold k0_t12_body
  rw [k0_part4_eq_skeleton]
  unfold k0_part4_skel
  dsimp only
  unfold Arr1
  iintro ⟨%hacc, ⟨HV, P0, P1, P2, P3, HR⟩, HX⟩
  subst hacc
  simp only [bind_assoc]
  iapply (WP_load c _ (subW1 (off75_eq t n)) (loadW1 M e (off75_eq t n) (by decide) (by decide) ht hn)) $$ P0
  iintro P0
  iapply (WP_load c _ (subW1 (off76_eq t n)) (loadW1 M e (off76_eq t n) (by decide) (by decide) ht hn)) $$ P2
  iintro P2
  iapply (WP_load c _ (subS1 (off77_eq t n)) (loadS1 M e (off77_eq t n) (by decide) (by decide) ht hn)) $$ P1
  iintro P1
  iapply (WP_load c _ (subS1 (off78_eq t n)) (loadS1 M e (off78_eq t n) (by decide) (by decide) ht hn)) $$ P3
  iintro P3
  iapply (WP_load c _ (Finset.subset_univ _) (loadX X (off79_eq n) hn)) $$ HX
  iintro HX
  iapply WP_pure
  isplitr
  · ipureintro; rfl
  isplitl [HV P0 P1 P2 P3 HR]
  · isplitl [HV]; · iexact HV
    isplitl [P0]; · iexact P0
    isplitl [P1]; · iexact P1
    isplitl [P2]; · iexact P2
    isplitl [P3]; · iexact P3
    iexact HR
  · iexact HX

/-- Chunk 3 of the first layer. -/
theorem loop11 (c : Dev nD) (M : HB F) (X : S28x48x256.Idx → Elt F .bf16) (e : BitVec 32)
    (v163 : IVec S6x8x256 1) (v180 : Elt F .i32) (k0_hw5 : k0_chk5 v180) (v186 : BitVec 1) {β : Type} {k : Unit → Prog (TpuEff nD τ sig (Elt F) Λ₀ .tc) β} {Q : β → sProp 𝕄} :
    iprop(Arr1 c M e 3 ∗ pt c bX Finset.univ fullShare X ∗ HeS c (HE M X v163 e) 6)
      ⊢ iprop((iprop(Arr1 c M e 3 ∗ pt c bX Finset.univ fullShare X ∗ HeS c (HE M X v163 e) 8) -∗ WP c (k ⟨⟩) Q)
        -∗ WP c (Scf.Loop.for k0_t11_loop k0_t11_ok ⟨⟩ (k0_t11_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v163 v180 k0_hw5 v186) >>= k) Q) := by
  have hb : ∀ (t : Fin k0_t11_loop.trips) (acc : Unit), iprop(Arr1 c M e 3 ∗ pt c bX Finset.univ fullShare X ∗ HeS c (HE M X v163 e) (6 + t.val))
      ⊢ WP c (k0_t11_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v163 v180 k0_hw5 v186 t acc) (fun _ => iprop(Arr1 c M e 3 ∗ pt c bX Finset.univ fullShare X ∗ HeS c (HE M X v163 e) (6 + (t.val + 1)))) := by
    intro t acc
    have ht : t.val < 2 := t.isLt
    unfold k0_t11_body
    dsimp only
    iintro ⟨HA, HX, HH⟩
    iapply (WP_for c (fun n acc => iprop(⌜acc = acc1 M X e 3 t.val n⌝ ∗ Arr1 c M e 3 ∗ pt c bX Finset.univ fullShare X))
      (fun n acc => step12 arg0 harg0 arg1 harg1 arg2 harg2 arg3 harg3 arg8 harg8 c M X e v163 v180 k0_hw5 v186 t _ n acc)) $$ [HA HX]
    · isplitr; · ipureintro; rfl
      isplitl [HA]; · iexact HA
      iexact HX
    iintro %acc ⟨%hacc, HA, HX⟩
    subst hacc
    unfold HeS
    icases HH with ⟨%f, %hf, HH⟩
    iapply (WP_load c _ (Finset.subset_univ _) rfl) $$ HH
    iintro HH
    iapply (WP_storeW c (m := bH) (r := Rect.unit (s := S8x48x256) (k0_off80 t) S1x48x256.size (k0_off80_inb t)) (S := Finset.univ) (f := f)
      (w := k0_pay33 v163 (acc1 M X e 3 t.val 28)) (Finset.subset_univ _)) $$ HH
    iintro HH
    iapply WP_pure
    isplitl [HA]; · iexact HA
    isplitl [HX]; · iexact HX
    iexists ((bH.access (Rect.unit (s := S8x48x256) (k0_off80 t) S1x48x256.size (k0_off80_inb t))).write (Elt F) f (k0_pay33 v163 (acc1 M X e 3 t.val 28)) Finset.univ)
    isplitr
    · ipureintro
      refine storeH f (HE M X v163 e) (off80_eq t) _ hf fun i hi => ?_
      unfold HE
      rw [hi, show (6 + t.val) / 2 = 3 by omega, show (6 + t.val) % 2 = t.val by omega]
      all_goals rfl
    · iexact HH
  iintro H HK
  iapply (WP_for c (fun n _ => iprop(Arr1 c M e 3 ∗ pt c bX Finset.univ fullShare X ∗ HeS c (HE M X v163 e) (6 + n))) hb) $$ H
  iintro %acc H
  iapply HK
  iapply (show _ ⊢ _ from .rfl) $$ H

/-- One slab of half 0's product. -/
theorem step14 (c : Dev nD) (M : HB F) (Hh : S8x48x256.Idx → Elt F .bf16) (e : BitVec 32)
    (v15 : BitVec 32) (k0_t4 : Fin (k0_t4_loop v15).trips) (v180 : Elt F .i32) (k0_hw5 : k0_chk5 v180) (v184 : Elt F .i32) (k0_hw6 : k0_chk6 v15 k0_t4 v184) (v186 : BitVec 1) (v306 : BitVec 32) (t : Fin k0_t13_loop.trips) (v341 : BitVec 32) (n : Fin k0_t14_loop.trips) (acc : FVec F S6x8x512 .f32) :
    iprop(⌜acc = acc2 M Hh e 0 t.val n.val⌝ ∗ Arr2 c M e 0 ∗ pt c bH Finset.univ fullShare Hh)
      ⊢ WP c (k0_t14_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 k0_t4 v180 k0_hw5 v184 k0_hw6 v186 v306 t v341 n acc)
        (fun acc' => iprop(⌜acc' = acc2 M Hh e 0 t.val (n.val + 1)⌝ ∗ Arr2 c M e 0 ∗ pt c bH Finset.univ fullShare Hh)) := by
  have ht : t.val < 7 := t.isLt
  have hn : n.val < 8 := n.isLt
  unfold k0_t14_body
  rw [k0_part5_eq_skeleton]
  unfold k0_part5_skel
  dsimp only
  unfold Arr2
  iintro ⟨%hacc, ⟨HV, P0, P1, HR⟩, HX⟩
  subst hacc
  simp only [bind_assoc]
  iapply (WP_load c _ (Finset.subset_univ _) (loadH Hh (off87_eq n) hn)) $$ HX
  iintro HX
  iapply (WP_load c _ (subW2 (off88_eq t n)) (loadW2 M e (off88_eq t n) (by decide) ht hn)) $$ P0
  iintro P0
  iapply (WP_load c _ (subS2 (off89_eq t n)) (loadS2 M e (off89_eq t n) (by decide) ht hn)) $$ P1
  iintro P1
  iapply WP_pure
  isplitr
  · ipureintro; rfl
  isplitl [HV P0 P1 HR]
  · isplitl [HV]; · iexact HV
    isplitl [P0]; · iexact P0
    isplitl [P1]; · iexact P1
    iexact HR
  · iexact HX

/-- Half 0 of the second layer. -/
theorem loop13 (c : Dev nD) (M : HB F) (Hh : S8x48x256.Idx → Elt F .bf16) (cw : S6x8x128.Idx → Elt F .f32) (O : S6x8x7168.Idx → Elt F .f32) (e : BitVec 32)
    (v15 : BitVec 32) (k0_t4 : Fin (k0_t4_loop v15).trips) (v180 : Elt F .i32) (k0_hw5 : k0_chk5 v180) (v184 : Elt F .i32) (k0_hw6 : k0_chk6 v15 k0_t4 v184) (v186 : BitVec 1) (v306 : BitVec 32) {β : Type} {k : Unit → Prog (TpuEff nD τ sig (Elt F) Λ₀ .tc) β} {Q : β → sProp 𝕄} :
    iprop(Arr2 c M e 0 ∗ pt c bH Finset.univ fullShare Hh ∗ pt c bC Finset.univ fullShare cw ∗ OcS c O (Onext M Hh cw e O) 0)
      ⊢ iprop((iprop(Arr2 c M e 0 ∗ pt c bH Finset.univ fullShare Hh ∗ pt c bC Finset.univ fullShare cw ∗ OcS c O (Onext M Hh cw e O) 7) -∗ WP c (k ⟨⟩) Q)
        -∗ WP c (Scf.Loop.for k0_t13_loop k0_t13_ok ⟨⟩ (k0_t13_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 k0_t4 v180 k0_hw5 v184 k0_hw6 v186 v306) >>= k) Q) := by
  have hb : ∀ (t : Fin k0_t13_loop.trips) (acc : Unit), iprop(Arr2 c M e 0 ∗ pt c bH Finset.univ fullShare Hh ∗ pt c bC Finset.univ fullShare cw ∗ OcS c O (Onext M Hh cw e O) (0 + t.val))
      ⊢ WP c (k0_t13_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 k0_t4 v180 k0_hw5 v184 k0_hw6 v186 v306 t acc) (fun _ => iprop(Arr2 c M e 0 ∗ pt c bH Finset.univ fullShare Hh ∗ pt c bC Finset.univ fullShare cw ∗ OcS c O (Onext M Hh cw e O) (0 + (t.val + 1)))) := by
    intro t acc
    have ht : t.val < 7 := t.isLt
    unfold k0_t13_body
    dsimp only
    iintro ⟨HA, HX, HC, HO⟩
    iapply (WP_for c (fun n acc => iprop(⌜acc = acc2 M Hh e 0 t.val n⌝ ∗ Arr2 c M e 0 ∗ pt c bH Finset.univ fullShare Hh))
      (fun n acc => step14 arg0 harg0 arg1 harg1 arg2 harg2 arg3 harg3 arg8 harg8 c M Hh e v15 k0_t4 v180 k0_hw5 v184 k0_hw6 v186 v306 t _ n acc)) $$ [HA HX]
    · isplitr; · ipureintro; rfl
      isplitl [HA]; · iexact HA
      iexact HX
    iintro %acc ⟨%hacc, HA, HX⟩
    subst hacc
    unfold OcS
    icases HO with ⟨%f, %hf, HO⟩
    iapply (WP_load c _ (Finset.subset_univ _) (loadO f O (off90_eq t) (by omega) (fun i => (hf i).2))) $$ HO
    iintro HO
    iapply (WP_load c _ (Finset.subset_univ _) (loadC cw)) $$ HC
    iintro HC
    iapply (WP_load c _ (Finset.subset_univ _) rfl) $$ HO
    iintro HO
    iapply (WP_storeW c (m := bO) (r := Rect.unit (s := S6x8x7168) (k0_off90 t) S6x8x512.size (k0_off90_inb t)) (S := Finset.univ) (f := f)
      (w := k0_pay36 (acc2 M Hh e 0 t.val 8) (LO O (0 + t.val)) (LC cw)) (Finset.subset_univ _)) $$ HO
    iintro HO
    iapply WP_pure
    isplitl [HA]; · iexact HA
    isplitl [HX]; · iexact HX
    isplitl [HC]; · iexact HC
    iexists ((bO.access (Rect.unit (s := S6x8x7168) (k0_off90 t) S6x8x512.size (k0_off90_inb t))).write (Elt F) f (k0_pay36 (acc2 M Hh e 0 t.val 8) (LO O (0 + t.val)) (LC cw)) Finset.univ)
    isplitr
    · ipureintro
      refine storeO f O (Onext M Hh cw e O) (off90_eq t) _ hf fun i hi => ?_
      unfold Onext
      rw [hi, show (0 + t.val) / 7 = 0 by omega, show (0 + t.val) % 7 = t.val by omega]
      all_goals rfl
    · iexact HO
  iintro H HK
  iapply (WP_for c (fun n _ => iprop(Arr2 c M e 0 ∗ pt c bH Finset.univ fullShare Hh ∗ pt c bC Finset.univ fullShare cw ∗ OcS c O (Onext M Hh cw e O) (0 + n))) hb) $$ H
  iintro %acc H
  iapply HK
  iapply (show _ ⊢ _ from .rfl) $$ H

/-- One slab of half 1's product. -/
theorem step16 (c : Dev nD) (M : HB F) (Hh : S8x48x256.Idx → Elt F .bf16) (e : BitVec 32)
     (t : Fin k0_t15_loop.trips) (v341 : BitVec 32) (n : Fin k0_t16_loop.trips) (acc : FVec F S6x8x512 .f32) :
    iprop(⌜acc = acc2 M Hh e 1 t.val n.val⌝ ∗ Arr2 c M e 1 ∗ pt c bH Finset.univ fullShare Hh)
      ⊢ WP c (k0_t16_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10  t v341 n acc)
        (fun acc' => iprop(⌜acc' = acc2 M Hh e 1 t.val (n.val + 1)⌝ ∗ Arr2 c M e 1 ∗ pt c bH Finset.univ fullShare Hh)) := by
  have ht : t.val < 7 := t.isLt
  have hn : n.val < 8 := n.isLt
  unfold k0_t16_body
  rw [k0_part6_eq_skeleton]
  unfold k0_part6_skel
  dsimp only
  unfold Arr2
  iintro ⟨%hacc, ⟨HV, P0, P1, HR⟩, HX⟩
  subst hacc
  simp only [bind_assoc]
  iapply (WP_load c _ (Finset.subset_univ _) (loadH Hh (off95_eq n) hn)) $$ HX
  iintro HX
  iapply (WP_load c _ (subW2 (off96_eq t n)) (loadW2 M e (off96_eq t n) (by decide) ht hn)) $$ P0
  iintro P0
  iapply (WP_load c _ (subS2 (off97_eq t n)) (loadS2 M e (off97_eq t n) (by decide) ht hn)) $$ P1
  iintro P1
  iapply WP_pure
  isplitr
  · ipureintro; rfl
  isplitl [HV P0 P1 HR]
  · isplitl [HV]; · iexact HV
    isplitl [P0]; · iexact P0
    isplitl [P1]; · iexact P1
    iexact HR
  · iexact HX

/-- Half 1 of the second layer. -/
theorem loop15 (c : Dev nD) (M : HB F) (Hh : S8x48x256.Idx → Elt F .bf16) (cw : S6x8x128.Idx → Elt F .f32) (O : S6x8x7168.Idx → Elt F .f32) (e : BitVec 32)
     {β : Type} {k : Unit → Prog (TpuEff nD τ sig (Elt F) Λ₀ .tc) β} {Q : β → sProp 𝕄} :
    iprop(Arr2 c M e 1 ∗ pt c bH Finset.univ fullShare Hh ∗ pt c bC Finset.univ fullShare cw ∗ OcS c O (Onext M Hh cw e O) 7)
      ⊢ iprop((iprop(Arr2 c M e 1 ∗ pt c bH Finset.univ fullShare Hh ∗ pt c bC Finset.univ fullShare cw ∗ OcS c O (Onext M Hh cw e O) 14) -∗ WP c (k ⟨⟩) Q)
        -∗ WP c (Scf.Loop.for k0_t15_loop k0_t15_ok ⟨⟩ (k0_t15_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 ) >>= k) Q) := by
  have hb : ∀ (t : Fin k0_t15_loop.trips) (acc : Unit), iprop(Arr2 c M e 1 ∗ pt c bH Finset.univ fullShare Hh ∗ pt c bC Finset.univ fullShare cw ∗ OcS c O (Onext M Hh cw e O) (7 + t.val))
      ⊢ WP c (k0_t15_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10  t acc) (fun _ => iprop(Arr2 c M e 1 ∗ pt c bH Finset.univ fullShare Hh ∗ pt c bC Finset.univ fullShare cw ∗ OcS c O (Onext M Hh cw e O) (7 + (t.val + 1)))) := by
    intro t acc
    have ht : t.val < 7 := t.isLt
    unfold k0_t15_body
    dsimp only
    iintro ⟨HA, HX, HC, HO⟩
    iapply (WP_for c (fun n acc => iprop(⌜acc = acc2 M Hh e 1 t.val n⌝ ∗ Arr2 c M e 1 ∗ pt c bH Finset.univ fullShare Hh))
      (fun n acc => step16 arg0 harg0 arg1 harg1 arg2 harg2 arg3 harg3 arg8 harg8 c M Hh e  t _ n acc)) $$ [HA HX]
    · isplitr; · ipureintro; rfl
      isplitl [HA]; · iexact HA
      iexact HX
    iintro %acc ⟨%hacc, HA, HX⟩
    subst hacc
    unfold OcS
    icases HO with ⟨%f, %hf, HO⟩
    iapply (WP_load c _ (Finset.subset_univ _) (loadO f O (off98_eq t) (by omega) (fun i => (hf i).2))) $$ HO
    iintro HO
    iapply (WP_load c _ (Finset.subset_univ _) (loadC cw)) $$ HC
    iintro HC
    iapply (WP_load c _ (Finset.subset_univ _) rfl) $$ HO
    iintro HO
    iapply (WP_storeW c (m := bO) (r := Rect.unit (s := S6x8x7168) (k0_off98 t) S6x8x512.size (k0_off98_inb t)) (S := Finset.univ) (f := f)
      (w := k0_pay80 (acc2 M Hh e 1 t.val 8) (LO O (7 + t.val)) (LC cw)) (Finset.subset_univ _)) $$ HO
    iintro HO
    iapply WP_pure
    isplitl [HA]; · iexact HA
    isplitl [HX]; · iexact HX
    isplitl [HC]; · iexact HC
    iexists ((bO.access (Rect.unit (s := S6x8x7168) (k0_off98 t) S6x8x512.size (k0_off98_inb t))).write (Elt F) f (k0_pay80 (acc2 M Hh e 1 t.val 8) (LO O (7 + t.val)) (LC cw)) Finset.univ)
    isplitr
    · ipureintro
      refine storeO f O (Onext M Hh cw e O) (off98_eq t) _ hf fun i hi => ?_
      unfold Onext
      rw [hi, show (7 + t.val) / 7 = 1 by omega, show (7 + t.val) % 7 = t.val by omega]
      all_goals rfl
    · iexact HO
  iintro H HK
  iapply (WP_for c (fun n _ => iprop(Arr2 c M e 1 ∗ pt c bH Finset.univ fullShare Hh ∗ pt c bC Finset.univ fullShare cw ∗ OcS c O (Onext M Hh cw e O) (7 + n))) hb) $$ H
  iintro %acc H
  iapply HK
  iapply (show _ ⊢ _ from .rfl) $$ H

end Cert.KernelIdeal.Hand

end
-- ==== Proof.HandIdeal.Parts.lean ====
/- One expert: each chunk is waited for, used, and refilled for the next expert. -/
module

public import proofs.«01_k».proof.Proof.HandIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix1 ix2 ix3 ix4)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A first-layer chunk after this expert has used it: filling for the next one, or free after the last. -/
def Nx1 (c : Dev nD) (M : HB F) (e : BitVec 32) (cc : ℕ) : Bool → sProp 𝕄
  | true => Wt1 c M e cc 0
  | false => Free1 c M cc
/-- A second-layer half after this expert has used it. -/
def Nx2 (c : Dev nD) (M : HB F) (e : BitVec 32) (cc : ℕ) : Bool → sProp 𝕄
  | true => Wt2 c M e cc 0
  | false => Free2 c M cc

/-- Every check on the current expert holds once the expert is one of the thirteen. -/
theorem chk5_fin : ∀ e : Fin 13, k0_chk5 (BitVec.ofNat 32 e.val) := by decide +kernel
theorem chk5_of (e : BitVec 32) (he : e.toNat < 13) : k0_chk5 e := by
  have h := chk5_fin ⟨e.toNat, he⟩
  rwa [BitVec.ofNat_toNat, BitVec.setWidth_eq] at h
theorem chk3_fin : ∀ e : Fin 13, k0_chk3 (BitVec.ofNat 32 e.val) := by decide +kernel
theorem chk3_of (e : BitVec 32) (he : e.toNat < 13) : k0_chk3 e := by
  have h := chk3_fin ⟨e.toNat, he⟩
  rwa [BitVec.ofNat_toNat, BitVec.setWidth_eq] at h
/-- Every check on the next expert likewise. -/
theorem chk6_of (v15 : BitVec 32) (t : Fin (k0_t4_loop v15).trips) (e : BitVec 32) (he : e.toNat < 13) : k0_chk6 v15 t e := by
  have h := chk3_of e he
  obtain ⟨⟨a0, a1, a2, a3, a4, a5, a6, a7, a8, a9, a10, a11, a12, a13, a14, a15, a16, a17, a18, a19, a20, a21, a22, a23, a24, a25, a26, a27, a28, a29, a30, a31⟩, b⟩ := h
  refine ⟨?_, ?_⟩
  · exact ⟨fun _ => a0, fun _ => a1, fun _ => a2, fun _ => a3, fun _ => a4, fun _ => a5, fun _ => a6, fun _ => a7, fun _ => a8, fun _ => a9, fun _ => a10, fun _ => a11, fun _ => a12, fun _ => a13, fun _ => a14, fun _ => a15, fun _ => a16, fun _ => a17, fun _ => a18, fun _ => a19, fun _ => a20, fun _ => a21, fun _ => a22, fun _ => a23, fun _ => a24, fun _ => a25, fun _ => a26, fun _ => a27, fun _ => a28, fun _ => a29, fun _ => a30, fun _ => a31⟩
  · obtain ⟨b0, b1, b2, b3, b4, b5, b6, b7⟩ := b
    exact ⟨fun _ => b0, fun _ => b1, fun _ => b2, fun _ => b3, fun _ => b4, fun _ => b5, fun _ => b6, fun _ => b7⟩

theorem readAt_all {sp : Space} {s : Shape} {e : EltTy} (m : Memref sig .tc sp s e) {o : Fin s.rank → ℕ} {hi : ∀ a, o a + s.size a ≤ s.size a} (ho : ∀ a, o a = 0)
    (f : m.view.ty.Contents (Elt F)) : m.view.readAt (Elt F) (Rect.unit (s := s) o s.size hi).toLoadRect f = m.view.read (Elt F) f := by
  funext j
  show m.view.read (Elt F) f ((Rect.unit (s := s) o s.size hi).emb j) = m.view.read (Elt F) f j
  refine congrArg (m.view.read (Elt F) f) (funext fun a => Fin.ext ?_)
  show o a + 1 * (j a).val = (j a).val
  rw [ho a]; omega

variable (arg0 : Memref sig .tc .smem S48 .i32) (harg0 : arg0.IsWhole) (arg1 : Memref sig .tc .vmem S6x1x8 .i32) (harg1 : arg1.IsWhole)
  (arg2 : Memref sig .tc .vmem S6x1x8 .f32) (harg2 : arg2.IsWhole) (arg3 : Memref sig .tc .vmem S6x1x7168 .bf16) (harg3 : arg3.IsWhole)
  (arg8 : Memref sig .tc .vmem S6x1x7168 .bf16) (harg8 : arg8.IsWhole)

set_option maxHeartbeats 1000000 in
/-- The first chunk. -/
theorem part8 (c : Dev nD) (M : HB F) (X : S28x48x256.Idx → Elt F .bf16) (v15 : BitVec 32) (v163 : IVec S6x8x256 1) (k0_t4 : Fin (k0_t4_loop v15).trips) (v180 : Elt F .i32) (k0_hw5 : k0_chk5 v180) (v184 : Elt F .i32) (k0_hw6 : k0_chk6 v15 k0_t4 v184) (v186 : BitVec 1)(he : v184.toNat < 13) (b : Bool) (hb : (k0_cond1 v15 k0_t4 = 1#1) ↔ b = true) :
    iprop(Wt1 c M v180 0 (0 + aW1) ∗ Wt1 c M v180 1 0 ∗ pt c bX Finset.univ fullShare X ∗ HeS c (HE M X v163 v180) 0 ∗ Owe c)
      ⊢ WP c (k0_part8 arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 v163 k0_t4 v180 k0_hw5 v184 k0_hw6 v186) (fun _ => iprop(Nx1 c M v184 0 b ∗ Wt1 c M v180 1 (0 + aW1) ∗ pt c bX Finset.univ fullShare X ∗ HeS c (HE M X v163 v180) 2 ∗ Owe c)) := by
  rw [k0_part8_eq_skeleton]
  unfold k0_part8_skel
  dsimp only
  iintro ⟨HW, HV, HX, HH, HO⟩
  iapply (waitS1 c M v180 0 (0 + aW1) rfl (by rw [sumA1]; omega)) $$ [HW HO]
  · isplitl [HW]; · iexact HW
    iexact HO
  iintro ⟨HW, HO⟩
  iapply (waitW1 c M v180 0 (0 + aW1 + aS1) rfl (by rw [sumA1]; omega)) $$ [HW HO]
  · isplitl [HW]; · iexact HW
    iexact HO
  iintro ⟨HW, HO⟩
  iapply (waitS1 c M v180 0 (0 + aW1 + aS1 + aW1) rfl (by rw [sumA1]; omega)) $$ [HW HO]
  · isplitl [HW]; · iexact HW
    iexact HO
  iintro ⟨HW, HO⟩
  iapply (WP_fupd c)
  ihave HF := (collect1 c M v180 0 (0 + aW1 + aS1 + aW1 + aS1) (by rw [sumA1]; omega)) $$ HW
  imod HF
  imodintro
  iapply (loop5 arg0 harg0 arg1 harg1 arg2 harg2 arg3 harg3 arg8 harg8 c M X v180 v15 v163 k0_t4 v180 k0_hw5 v184 k0_hw6 v186) $$ [HF HX HH]
  · isplitl [HF]; · iexact HF
    isplitl [HX]; · iexact HX
    iexact HH
  iintro ⟨HF, HX, HH⟩
  cases b with
  | true =>
    rw [dif_pos (hb.2 rfl)]
    iapply (WP_fupd c)
    ihave HF := (Arr1_free c M v180 0) $$ HF
    ihave HF := (Iss1_start c M v184 0) $$ HF
    imod HF
    imodintro
    iapply (start1_0 c M v184 he 0 rfl rfl rfl) $$ HF
    iintro HF
    iapply (start1_1 c M v184 he 0 rfl rfl rfl) $$ HF
    iintro HF
    iapply (start1_2 c M v184 he 0 rfl rfl rfl) $$ HF
    iintro HF
    iapply (start1_3 c M v184 he 0 rfl rfl rfl) $$ HF
    iintro HF
    ihave HF := (Iss1_all c M v184 0) $$ HF
    ihave HF := (show Wt1 c M v184 0 0 ⊢ Nx1 c M v184 0 true from .rfl) $$ HF
    iapply (waitW1 c M v180 1 0 rfl (by rw [sumA1]; omega)) $$ [HV HO]
    · isplitl [HV]; · iexact HV
      iexact HO
    iintro ⟨HV, HO⟩
    iapply WP_pure
    isplitl [HF]; · iexact HF
    isplitl [HV]; · iexact HV
    isplitl [HX]; · iexact HX
    isplitl [HH]; · iexact HH
    iexact HO
  | false =>
    rw [dif_neg (fun h => Bool.false_ne_true (hb.1 h))]
    ihave HF := (Arr1_free c M v180 0) $$ HF
    ihave HF := (show Free1 c M 0 ⊢ Nx1 c M v184 0 false from .rfl) $$ HF
    iapply (waitW1 c M v180 1 0 rfl (by rw [sumA1]; omega)) $$ [HV HO]
    · isplitl [HV]; · iexact HV
      iexact HO
    iintro ⟨HV, HO⟩
    iapply WP_pure
    isplitl [HF]; · iexact HF
    isplitl [HV]; · iexact HV
    isplitl [HX]; · iexact HX
    isplitl [HH]; · iexact HH
    iexact HO

set_option maxHeartbeats 1000000 in
/-- Chunk 1. -/
theorem part9 (c : Dev nD) (M : HB F) (X : S28x48x256.Idx → Elt F .bf16) (v15 : BitVec 32) (v163 : IVec S6x8x256 1) (k0_t4 : Fin (k0_t4_loop v15).trips) (v180 : Elt F .i32) (k0_hw5 : k0_chk5 v180) (v184 : Elt F .i32) (k0_hw6 : k0_chk6 v15 k0_t4 v184) (v186 : BitVec 1)(he : v184.toNat < 13) (b : Bool) (hb : (k0_cond2 v15 k0_t4 = 1#1) ↔ b = true) :
    iprop(Wt1 c M v180 1 (0 + aW1) ∗ pt c bX Finset.univ fullShare X ∗ HeS c (HE M X v163 v180) 2 ∗ Owe c)
      ⊢ WP c (k0_part9 arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 v163 k0_t4 v180 k0_hw5 v184 k0_hw6 v186) (fun _ => iprop(Nx1 c M v184 1 b ∗ pt c bX Finset.univ fullShare X ∗ HeS c (HE M X v163 v180) 4 ∗ Owe c)) := by
  rw [k0_part9_eq_skeleton]
  unfold k0_part9_skel
  dsimp only
  iintro ⟨HW, HX, HH, HO⟩
  iapply (waitS1 c M v180 1 (0 + aW1) rfl (by rw [sumA1]; omega)) $$ [HW HO]
  · isplitl [HW]; · iexact HW
    iexact HO
  iintro ⟨HW, HO⟩
  iapply (waitW1 c M v180 1 (0 + aW1 + aS1) rfl (by rw [sumA1]; omega)) $$ [HW HO]
  · isplitl [HW]; · iexact HW
    iexact HO
  iintro ⟨HW, HO⟩
  iapply (waitS1 c M v180 1 (0 + aW1 + aS1 + aW1) rfl (by rw [sumA1]; omega)) $$ [HW HO]
  · isplitl [HW]; · iexact HW
    iexact HO
  iintro ⟨HW, HO⟩
  iapply (WP_fupd c)
  ihave HF := (collect1 c M v180 1 (0 + aW1 + aS1 + aW1 + aS1) (by rw [sumA1]; omega)) $$ HW
  imod HF
  imodintro
  iapply (loop7 arg0 harg0 arg1 harg1 arg2 harg2 arg3 harg3 arg8 harg8 c M X v180 v15 v163 k0_t4 v180 k0_hw5 v184 k0_hw6 v186) $$ [HF HX HH]
  · isplitl [HF]; · iexact HF
    isplitl [HX]; · iexact HX
    iexact HH
  iintro ⟨HF, HX, HH⟩
  cases b with
  | true =>
    rw [dif_pos (hb.2 rfl)]
    iapply (WP_fupd c)
    ihave HF := (Arr1_free c M v180 1) $$ HF
    ihave HF := (Iss1_start c M v184 1) $$ HF
    imod HF
    imodintro
    iapply (start1_0 c M v184 he 1 rfl rfl rfl) $$ HF
    iintro HF
    iapply (start1_1 c M v184 he 1 rfl rfl rfl) $$ HF
    iintro HF
    iapply (start1_2 c M v184 he 1 rfl rfl rfl) $$ HF
    iintro HF
    iapply (start1_3 c M v184 he 1 rfl rfl rfl) $$ HF
    iintro HF
    ihave HF := (Iss1_all c M v184 1) $$ HF
    ihave HF := (show Wt1 c M v184 1 0 ⊢ Nx1 c M v184 1 true from .rfl) $$ HF
    iapply WP_pure
    isplitl [HF]; · iexact HF
    isplitl [HX]; · iexact HX
    isplitl [HH]; · iexact HH
    iexact HO
  | false =>
    rw [dif_neg (fun h => Bool.false_ne_true (hb.1 h))]
    ihave HF := (Arr1_free c M v180 1) $$ HF
    ihave HF := (show Free1 c M 1 ⊢ Nx1 c M v184 1 false from .rfl) $$ HF
    iapply WP_pure
    isplitl [HF]; · iexact HF
    isplitl [HX]; · iexact HX
    isplitl [HH]; · iexact HH
    iexact HO

set_option maxHeartbeats 1000000 in
/-- Chunk 2. -/
theorem part10 (c : Dev nD) (M : HB F) (X : S28x48x256.Idx → Elt F .bf16) (v15 : BitVec 32) (v163 : IVec S6x8x256 1) (k0_t4 : Fin (k0_t4_loop v15).trips) (v180 : Elt F .i32) (k0_hw5 : k0_chk5 v180) (v184 : Elt F .i32) (k0_hw6 : k0_chk6 v15 k0_t4 v184) (v186 : BitVec 1)(he : v184.toNat < 13) (b : Bool) (hb : (k0_cond3 v15 k0_t4 = 1#1) ↔ b = true) :
    iprop(Wt1 c M v180 2 0 ∗ pt c bX Finset.univ fullShare X ∗ HeS c (HE M X v163 v180) 4 ∗ Owe c)
      ⊢ WP c (k0_part10 arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 v163 k0_t4 v180 k0_hw5 v184 k0_hw6 v186) (fun _ => iprop(Nx1 c M v184 2 b ∗ pt c bX Finset.univ fullShare X ∗ HeS c (HE M X v163 v180) 6 ∗ Owe c)) := by
  rw [k0_part10_eq_skeleton]
  unfold k0_part10_skel
  dsimp only
  iintro ⟨HW, HX, HH, HO⟩
  iapply (waitW1 c M v180 2 0 rfl (by rw [sumA1]; omega)) $$ [HW HO]
  · isplitl [HW]; · iexact HW
    iexact HO
  iintro ⟨HW, HO⟩
  iapply (waitS1 c M v180 2 (0 + aW1) rfl (by rw [sumA1]; omega)) $$ [HW HO]
  · isplitl [HW]; · iexact HW
    iexact HO
  iintro ⟨HW, HO⟩
  iapply (waitW1 c M v180 2 (0 + aW1 + aS1) rfl (by rw [sumA1]; omega)) $$ [HW HO]
  · isplitl [HW]; · iexact HW
    iexact HO
  iintro ⟨HW, HO⟩
  iapply (waitS1 c M v180 2 (0 + aW1 + aS1 + aW1) rfl (by rw [sumA1]; omega)) $$ [HW HO]
  · isplitl [HW]; · iexact HW
    iexact HO
  iintro ⟨HW, HO⟩
  iapply (WP_fupd c)
  ihave HF := (collect1 c M v180 2 (0 + aW1 + aS1 + aW1 + aS1) (by rw [sumA1]; omega)) $$ HW
  imod HF
  imodintro
  iapply (loop9 arg0 harg0 arg1 harg1 arg2 harg2 arg3 harg3 arg8 harg8 c M X v180 v15 v163 k0_t4 v180 k0_hw5 v184 k0_hw6 v186) $$ [HF HX HH]
  · isplitl [HF]; · iexact HF
    isplitl [HX]; · iexact HX
    iexact HH
  iintro ⟨HF, HX, HH⟩
  cases b with
  | true =>
    rw [dif_pos (hb.2 rfl)]
    iapply (WP_fupd c)
    ihave HF := (Arr1_free c M v180 2) $$ HF
    ihave HF := (Iss1_start c M v184 2) $$ HF
    imod HF
    imodintro
    iapply (start1_0 c M v184 he 2 rfl rfl rfl) $$ HF
    iintro HF
    iapply (start1_1 c M v184 he 2 rfl rfl rfl) $$ HF
    iintro HF
    iapply (start1_2 c M v184 he 2 rfl rfl rfl) $$ HF
    iintro HF
    iapply (start1_3 c M v184 he 2 rfl rfl rfl) $$ HF
    iintro HF
    ihave HF := (Iss1_all c M v184 2) $$ HF
    ihave HF := (show Wt1 c M v184 2 0 ⊢ Nx1 c M v184 2 true from .rfl) $$ HF
    iapply WP_pure
    isplitl [HF]; · iexact HF
    isplitl [HX]; · iexact HX
    isplitl [HH]; · iexact HH
    iexact HO
  | false =>
    rw [dif_neg (fun h => Bool.false_ne_true (hb.1 h))]
    ihave HF := (Arr1_free c M v180 2) $$ HF
    ihave HF := (show Free1 c M 2 ⊢ Nx1 c M v184 2 false from .rfl) $$ HF
    iapply WP_pure
    isplitl [HF]; · iexact HF
    isplitl [HX]; · iexact HX
    isplitl [HH]; · iexact HH
    iexact HO

set_option maxHeartbeats 1000000 in
/-- The last chunk. -/
theorem part11 (c : Dev nD) (M : HB F) (X : S28x48x256.Idx → Elt F .bf16) (v163 : IVec S6x8x256 1) (v180 : Elt F .i32) (k0_hw5 : k0_chk5 v180) (v186 : BitVec 1) :
    iprop(Wt1 c M v180 3 0 ∗ pt c bX Finset.univ fullShare X ∗ HeS c (HE M X v163 v180) 6 ∗ Owe c)
      ⊢ WP c (k0_part11 arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v163 v180 k0_hw5 v186) (fun _ => iprop(Arr1 c M v180 3 ∗ pt c bX Finset.univ fullShare X ∗ HeS c (HE M X v163 v180) 8 ∗ Owe c)) := by
  rw [k0_part11_eq_skeleton]
  unfold k0_part11_skel
  dsimp only
  iintro ⟨HW, HX, HH, HO⟩
  iapply (waitW1 c M v180 3 0 rfl (by rw [sumA1]; omega)) $$ [HW HO]
  · isplitl [HW]; · iexact HW
    iexact HO
  iintro ⟨HW, HO⟩
  iapply (waitS1 c M v180 3 (0 + aW1) rfl (by rw [sumA1]; omega)) $$ [HW HO]
  · isplitl [HW]; · iexact HW
    iexact HO
  iintro ⟨HW, HO⟩
  iapply (waitW1 c M v180 3 (0 + aW1 + aS1) rfl (by rw [sumA1]; omega)) $$ [HW HO]
  · isplitl [HW]; · iexact HW
    iexact HO
  iintro ⟨HW, HO⟩
  iapply (waitS1 c M v180 3 (0 + aW1 + aS1 + aW1) rfl (by rw [sumA1]; omega)) $$ [HW HO]
  · isplitl [HW]; · iexact HW
    iexact HO
  iintro ⟨HW, HO⟩
  iapply (WP_fupd c)
  ihave HF := (collect1 c M v180 3 (0 + aW1 + aS1 + aW1 + aS1) (by rw [sumA1]; omega)) $$ HW
  imod HF
  imodintro
  iapply (loop11 arg0 harg0 arg1 harg1 arg2 harg2 arg3 harg3 arg8 harg8 c M X v180 v163 v180 k0_hw5 v186) $$ [HF HX HH]
  · isplitl [HF]; · iexact HF
    isplitl [HX]; · iexact HX
    iexact HH
  iintro ⟨HF, HX, HH⟩
  iapply WP_pure
  isplitl [HF]; · iexact HF
  isplitl [HX]; · iexact HX
  isplitl [HH]; · iexact HH
  iexact HO

set_option maxHeartbeats 1000000 in
/-- The first half of the second layer. -/
theorem part12 (c : Dev nD) (M : HB F) (Hh : S8x48x256.Idx → Elt F .bf16) (cw : S6x8x128.Idx → Elt F .f32) (O : S6x8x7168.Idx → Elt F .f32) (v15 : BitVec 32) (k0_t4 : Fin (k0_t4_loop v15).trips) (v180 : Elt F .i32) (k0_hw5 : k0_chk5 v180) (v184 : Elt F .i32) (k0_hw6 : k0_chk6 v15 k0_t4 v184) (v186 : BitVec 1) (v306 : BitVec 32)(he : v184.toNat < 13) (b : Bool) (hb : (k0_cond4 v15 k0_t4 = 1#1) ↔ b = true) (hb' : (k0_cond5 v15 k0_t4 = 1#1) ↔ b = true) :
    iprop(Arr1 c M v180 3 ∗ Wt2 c M v180 0 0 ∗ Wt2 c M v180 1 0 ∗ pt c bH Finset.univ fullShare Hh ∗ pt c bC Finset.univ fullShare cw ∗ OcS c O (Onext M Hh cw v180 O) 0 ∗ Owe c)
      ⊢ WP c (k0_part12 arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 k0_t4 v180 k0_hw5 v184 k0_hw6 v186 v306) (fun _ => iprop(Nx1 c M v184 3 b ∗ Nx2 c M v184 0 b ∗ Wt2 c M v180 1 (0 + aW2) ∗ pt c bH Finset.univ fullShare Hh ∗ pt c bC Finset.univ fullShare cw ∗ OcS c O (Onext M Hh cw v180 O) 7 ∗ Owe c)) := by
  rw [k0_part12_eq_skeleton]
  unfold k0_part12_skel
  dsimp only
  iintro ⟨HF, HG, HV, HH, HC, HOc, HO⟩
  cases b with
  | true =>
    rw [dif_pos (hb.2 rfl)]
    iapply (WP_fupd c)
    ihave HF := (Arr1_free c M v180 3) $$ HF
    ihave HF := (Iss1_start c M v184 3) $$ HF
    imod HF
    imodintro
    iapply (start1_0 c M v184 he 3 rfl rfl rfl) $$ HF
    iintro HF
    iapply (start1_1 c M v184 he 3 rfl rfl rfl) $$ HF
    iintro HF
    iapply (start1_2 c M v184 he 3 rfl rfl rfl) $$ HF
    iintro HF
    iapply (start1_3 c M v184 he 3 rfl rfl rfl) $$ HF
    iintro HF
    ihave HF := (Iss1_all c M v184 3) $$ HF
    ihave HF := (show Wt1 c M v184 3 0 ⊢ Nx1 c M v184 3 true from .rfl) $$ HF
    iapply (waitW2 c M v180 0 0 rfl (by rw [sumA2]; omega)) $$ [HG HO]
    · isplitl [HG]; · iexact HG
      iexact HO
    iintro ⟨HG, HO⟩
    iapply (waitS2 c M v180 0 (0 + aW2) rfl (by rw [sumA2]; omega)) $$ [HG HO]
    · isplitl [HG]; · iexact HG
      iexact HO
    iintro ⟨HG, HO⟩
    iapply (WP_fupd c)
    ihave HG := (collect2 c M v180 0 (0 + aW2 + aS2) (by rw [sumA2]; omega)) $$ HG
    imod HG
    imodintro
    iapply (loop13 arg0 harg0 arg1 harg1 arg2 harg2 arg3 harg3 arg8 harg8 c M Hh cw O v180 v15 k0_t4 v180 k0_hw5 v184 k0_hw6 v186 v306) $$ [HG HH HC HOc]
    · isplitl [HG]; · iexact HG
      isplitl [HH]; · iexact HH
      isplitl [HC]; · iexact HC
      iexact HOc
    iintro ⟨HG, HH, HC, HOc⟩
    rw [dif_pos (hb'.2 rfl)]
    iapply (WP_fupd c)
    ihave HG := (Arr2_free c M v180 0) $$ HG
    ihave HG := (Iss2_start c M v184 0) $$ HG
    imod HG
    imodintro
    iapply (start2_0 c M v184 he 0 rfl rfl rfl) $$ HG
    iintro HG
    iapply (start2_1 c M v184 he 0 rfl rfl rfl) $$ HG
    iintro HG
    ihave HG := (Iss2_all c M v184 0) $$ HG
    ihave HG := (show Wt2 c M v184 0 0 ⊢ Nx2 c M v184 0 true from .rfl) $$ HG
    iapply (waitW2 c M v180 1 0 rfl (by rw [sumA2]; omega)) $$ [HV HO]
    · isplitl [HV]; · iexact HV
      iexact HO
    iintro ⟨HV, HO⟩
    iapply WP_pure
    isplitl [HF]; · iexact HF
    isplitl [HG]; · iexact HG
    isplitl [HV]; · iexact HV
    isplitl [HH]; · iexact HH
    isplitl [HC]; · iexact HC
    isplitl [HOc]; · iexact HOc
    iexact HO
  | false =>
    rw [dif_neg (fun h => Bool.false_ne_true (hb.1 h))]
    ihave HF := (Arr1_free c M v180 3) $$ HF
    ihave HF := (show Free1 c M 3 ⊢ Nx1 c M v184 3 false from .rfl) $$ HF
    iapply (waitW2 c M v180 0 0 rfl (by rw [sumA2]; omega)) $$ [HG HO]
    · isplitl [HG]; · iexact HG
      iexact HO
    iintro ⟨HG, HO⟩
    iapply (waitS2 c M v180 0 (0 + aW2) rfl (by rw [sumA2]; omega)) $$ [HG HO]
    · isplitl [HG]; · iexact HG
      iexact HO
    iintro ⟨HG, HO⟩
    iapply (WP_fupd c)
    ihave HG := (collect2 c M v180 0 (0 + aW2 + aS2) (by rw [sumA2]; omega)) $$ HG
    imod HG
    imodintro
    iapply (loop13 arg0 harg0 arg1 harg1 arg2 harg2 arg3 harg3 arg8 harg8 c M Hh cw O v180 v15 k0_t4 v180 k0_hw5 v184 k0_hw6 v186 v306) $$ [HG HH HC HOc]
    · isplitl [HG]; · iexact HG
      isplitl [HH]; · iexact HH
      isplitl [HC]; · iexact HC
      iexact HOc
    iintro ⟨HG, HH, HC, HOc⟩
    rw [dif_neg (fun h => Bool.false_ne_true (hb'.1 h))]
    ihave HG := (Arr2_free c M v180 0) $$ HG
    ihave HG := (show Free2 c M 0 ⊢ Nx2 c M v184 0 false from .rfl) $$ HG
    iapply (waitW2 c M v180 1 0 rfl (by rw [sumA2]; omega)) $$ [HV HO]
    · isplitl [HV]; · iexact HV
      iexact HO
    iintro ⟨HV, HO⟩
    iapply WP_pure
    isplitl [HF]; · iexact HF
    isplitl [HG]; · iexact HG
    isplitl [HV]; · iexact HV
    isplitl [HH]; · iexact HH
    isplitl [HC]; · iexact HC
    isplitl [HOc]; · iexact HOc
    iexact HO

end Cert.KernelIdeal.Hand

end
-- ==== Proof.HandIdeal.Part7.lean ====
/- The head of an expert trip. -/
module

public import proofs.«01_k».proof.Proof.HandIdeal.Parts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix1 ix2 ix3 ix4)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (arg0 : Memref sig .tc .smem S48 .i32) (harg0 : arg0.IsWhole) (arg1 : Memref sig .tc .vmem S6x1x8 .i32) (harg1 : arg1.IsWhole)
  (arg2 : Memref sig .tc .vmem S6x1x8 .f32) (harg2 : arg2.IsWhole) (arg3 : Memref sig .tc .vmem S6x1x7168 .bf16) (harg3 : arg3.IsWhole)
  (arg8 : Memref sig .tc .vmem S6x1x7168 .bf16) (harg8 : arg8.IsWhole)

/-- A window's contents. -/
abbrev own (c : Dev nD) {sp : Space} {s : Shape} {e : EltTy} (m : Memref sig .tc sp s e) (f : m.view.ty.Contents (Elt F)) : sProp 𝕄 :=
  pt c m Finset.univ fullShare f

/-- Overwriting all of the combination weights. -/
theorem writeC (f w : S6x8x128.Idx → Elt F .f32) {hi : ∀ a, (![0, 0, 0] : Fin 3 → ℕ) a + S6x8x128.size a ≤ S6x8x128.size a} (i) :
    (bC.access (Rect.unit (s := S6x8x128) ![0, 0, 0] S6x8x128.size hi)).write (Elt F) f w Finset.univ i = w i := by
  have e : i = (bC.access (Rect.unit (s := S6x8x128) ![0, 0, 0] S6x8x128.size hi)).emb i := by
    funext a; refine Fin.ext ?_
    fin_cases a
    · show (i 0).val = 0 + 1 * (i 0).val; omega
    · show (i 1).val = 0 + 1 * (i 1).val; omega
    · show (i 2).val = 0 + 1 * (i 2).val; omega
  conv_lhs => rw [e]
  exact View.write_emb_of_mem _ _ (Finset.mem_univ _)

/-- Where the expert list is read. -/
theorem readA {o : Fin 1 → ℕ} {hi : ∀ a, o a + S1.size a ≤ S13.size a} (f : S13.Idx → Elt F .i32) (n : Fin 13) (ho : o 0 = n.val) (h1) :
    (bA.access (Rect.unit (s := S13) o S1.size hi)).read (Elt F) f (Shape.Idx.first h1) = f (ix1 n) := by
  show f ((Rect.unit (s := S13) o S1.size hi).emb (Shape.Idx.first h1)) = _
  refine congrArg f (funext fun a => Fin.ext ?_)
  have ha : a = 0 := Subsingleton.elim (α := Fin 1) a 0
  subst ha
  have h0 : ((Shape.Idx.first h1 : S1.Idx) 0).val < 1 := ((Shape.Idx.first h1 : S1.Idx) 0).isLt
  show o 0 + 1 * ((Shape.Idx.first h1 : S1.Idx) 0).val = n.val
  omega

set_option maxHeartbeats 1000000 in
/-- The head of an expert's trip: who it is, who is next, its combination weights. -/
theorem part7 (c : Dev nD) (M : HB F) (Af : S13.Idx → Elt F .i32) (hA : ∀ i, (Af i).toNat < 13) (ids : arg1.view.ty.Contents (Elt F)) (wts : arg2.view.ty.Contents (Elt F))
    (v15 : BitVec 32) (k0_hw4 : k0_chk4 v15) (t : Fin (k0_t4_loop v15).trips) (n n' : Fin 13) (hn : k0_off27 v15 t 0 = n.val) (hn' : k0_off28 v15 t 0 = n'.val) :
    iprop(pt c bA Finset.univ fullShare Af ∗ own c arg1 ids ∗ own c arg2 wts ∗ (∃ f, pt c bC Finset.univ fullShare f) ∗ Wt1 c M (Af (ix1 n)) 0 0 ∗ Owe c)
      ⊢ WP c (k0_part7 arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 k0_hw4 0#32 1#32 t) (fun r => iprop(⌜r.1 = Af (ix1 n) ∧ r.2.2.1 = Af (ix1 n')⌝
        ∗ pt c bA Finset.univ fullShare Af ∗ own c arg1 ids ∗ own c arg2 wts
        ∗ pt c bC Finset.univ fullShare (k0_pay21 (Af (ix1 n)) (arg1.view.read (Elt F) ids) (arg2.view.read (Elt F) wts)) ∗ Wt1 c M (Af (ix1 n)) 0 (0 + aW1) ∗ Owe c)) := by
  rw [k0_part7_eq_skeleton]
  unfold k0_part7_skel
  dsimp only
  iintro ⟨HA, H1, H2, ⟨%f, HC⟩, HW, HO⟩
  iapply (WP_smemLoad c (m := bA) (r := Rect.unit (s := S13) (k0_off27 v15 t) S1.size (k0_off27_inb v15 k0_hw4 t)) (h1 := numel1_S1) (hp := rfl) (S := Finset.univ) (f := Af) (Af (ix1 n)) (Finset.subset_univ _) (readA Af n hn _)) $$ HA
  iintro HA
  iapply (WP_assume c (chk5_of (Af (ix1 n)) (hA _)))
  iapply (WP_smemLoad c (m := bA) (r := Rect.unit (s := S13) (k0_off28 v15 t) S1.size (k0_off28_inb v15 k0_hw4 t)) (h1 := numel1_S1) (hp := rfl) (S := Finset.univ) (f := Af) (Af (ix1 n')) (Finset.subset_univ _) (readA Af n' hn' _)) $$ HA
  iintro HA
  iapply (WP_assume c (chk6_of v15 t (Af (ix1 n')) (hA _)))
  iapply (WP_load c (m := arg1) (arg1.view.read (Elt F) ids) (Finset.subset_univ _) (readAt_all arg1 (by decide) ids)) $$ H1
  iintro H1
  iapply (WP_load c (m := arg2) (arg2.view.read (Elt F) wts) (Finset.subset_univ _) (readAt_all arg2 (by decide) wts)) $$ H2
  iintro H2
  iapply (WP_load c (m := bC) (r := (Rect.unit (s := S6x8x128) ![0, 0, 0] S6x8x128.size inb_S6x8x128_S6x8x128_0_0_0).toLoadRect) (S := Finset.univ) (f := f)
    (bC.view.readAt (Elt F) (Rect.unit (s := S6x8x128) ![0, 0, 0] S6x8x128.size inb_S6x8x128_S6x8x128_0_0_0).toLoadRect f) (Finset.subset_univ _) rfl) $$ HC
  iintro HC
  iapply (WP_storeW c (m := bC) (r := Rect.unit (s := S6x8x128) ![0, 0, 0] S6x8x128.size inb_S6x8x128_S6x8x128_0_0_0) (S := Finset.univ) (f := f)
    (w := k0_pay21 (Af (ix1 n)) (arg1.view.read (Elt F) ids) (arg2.view.read (Elt F) wts)) (Finset.subset_univ _)) $$ HC
  iintro HC
  rw [show (bC.access (Rect.unit (s := S6x8x128) ![0, 0, 0] S6x8x128.size inb_S6x8x128_S6x8x128_0_0_0)).write (Elt F) f (k0_pay21 (Af (ix1 n)) (arg1.view.read (Elt F) ids) (arg2.view.read (Elt F) wts)) Finset.univ
    = k0_pay21 (Af (ix1 n)) (arg1.view.read (Elt F) ids) (arg2.view.read (Elt F) wts) from funext (writeC f _)]
  iapply (waitW1 c M (Af (ix1 n)) 0 0 rfl (by rw [sumA1]; omega)) $$ [HW HO]
  · isplitl [HW]; · iexact HW
    iexact HO
  iintro ⟨HW, HO⟩
  iapply WP_pure
  isplitr; · ipureintro; exact ⟨rfl, rfl⟩
  isplitl [HA]; · iexact HA
  isplitl [H1]; · iexact H1
  isplitl [H2]; · iexact H2
  isplitl [HC]; · iexact HC
  isplitl [HW]; · iexact HW
  iexact HO

end Cert.KernelIdeal.Hand

end
-- ==== Proof.HandIdeal.Trip.lean ====
/- The loop over the active experts. -/
module

public import proofs.«01_k».proof.Proof.HandIdeal.Part7

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix1 ix2 ix3 ix4)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The numbers the expert loop computes from the count of active experts. -/
theorem nums_fin : ∀ n : Fin 14, (k0_t4_loop (BitVec.ofNat 32 n.val)).trips = (BitVec.ofNat 32 n.val).toNat ∧ (k0_t17_loop (BitVec.ofNat 32 n.val)).trips = 0 ∧ k0_chk4 (BitVec.ofNat 32 n.val)
    ∧ ∀ t : Fin (k0_t4_loop (BitVec.ofNat 32 n.val)).trips, k0_off27 (BitVec.ofNat 32 n.val) t 0 = min t.val 12 ∧ k0_off28 (BitVec.ofNat 32 n.val) t 0 = min (t.val + 1) 12
      ∧ (k0_cond1 (BitVec.ofNat 32 n.val) t = 1#1 ↔ decide (t.val + 1 < (BitVec.ofNat 32 n.val).toNat) = true) := by decide +kernel

theorem nums (v15 : BitVec 32) (h : v15.toNat < 14) : (k0_t4_loop v15).trips = v15.toNat ∧ (k0_t17_loop v15).trips = 0 ∧ k0_chk4 v15
    ∧ ∀ t : Fin (k0_t4_loop v15).trips, k0_off27 v15 t 0 = min t.val 12 ∧ k0_off28 v15 t 0 = min (t.val + 1) 12
      ∧ (k0_cond1 v15 t = 1#1 ↔ decide (t.val + 1 < v15.toNat) = true) := by
  obtain ⟨n, rfl⟩ : ∃ n : Fin 14, v15 = BitVec.ofNat 32 n.val := ⟨⟨v15.toNat, h⟩, by simp⟩
  exact nums_fin n

/-- Place `i` of the list of active experts, the last place beyond its end. -/
def cl (i : ℕ) : Fin 13 := ⟨min i 12, by omega⟩

/-- The output accumulator after `i` experts. -/
def Oacc (M : HB F) (X : S28x48x256.Idx → Elt F .bf16) (mk : IVec S6x8x256 1) (Af : S13.Idx → Elt F .i32) (iv : Vec F S6x1x8 .i32) (wv : Vec F S6x1x8 .f32) : ℕ → S6x8x7168.Idx → Elt F .f32
  | 0 => k0_pay77
  | i + 1 => Onext M (HE M X mk (Af (ix1 (cl i)))) (k0_pay21 (Af (ix1 (cl i))) iv wv) (Af (ix1 (cl i))) (Oacc M X mk Af iv wv i)

/-- All chunks before trip `i`. -/
def Chs (c : Dev nD) (M : HB F) (e : BitVec 32) (b : Bool) : sProp 𝕄 :=
  iprop(Nx1 c M e 0 b ∗ Nx1 c M e 1 b ∗ Nx1 c M e 2 b ∗ Nx1 c M e 3 b ∗ Nx2 c M e 0 b ∗ Nx2 c M e 1 b)

variable (arg0 : Memref sig .tc .smem S48 .i32) (harg0 : arg0.IsWhole) (arg1 : Memref sig .tc .vmem S6x1x8 .i32) (harg1 : arg1.IsWhole)
  (arg2 : Memref sig .tc .vmem S6x1x8 .f32) (harg2 : arg2.IsWhole) (arg3 : Memref sig .tc .vmem S6x1x7168 .bf16) (harg3 : arg3.IsWhole)
  (arg8 : Memref sig .tc .vmem S6x1x7168 .bf16) (harg8 : arg8.IsWhole)

/-- The buffers the expert loop carries besides the chunks. -/
def Car (c : Dev nD) (X : S28x48x256.Idx → Elt F .bf16) (Af : S13.Idx → Elt F .i32) (ids : arg1.view.ty.Contents (Elt F)) (wts : arg2.view.ty.Contents (Elt F)) (O : S6x8x7168.Idx → Elt F .f32) : sProp 𝕄 :=
  iprop(pt c bX Finset.univ fullShare X ∗ (∃ f, pt c bH Finset.univ fullShare f) ∗ (∃ f, pt c bC Finset.univ fullShare f) ∗ pt c bO Finset.univ fullShare O
    ∗ pt c bA Finset.univ fullShare Af ∗ own c arg1 ids ∗ own c arg2 wts ∗ Owe c)

set_option maxHeartbeats 1000000 in
/-- One expert. -/
theorem trip (c : Dev nD) (M : HB F) (X : S28x48x256.Idx → Elt F .bf16) (Af : S13.Idx → Elt F .i32) (hA : ∀ i, (Af i).toNat < 13) (ids : arg1.view.ty.Contents (Elt F)) (wts : arg2.view.ty.Contents (Elt F))
    (O : S6x8x7168.Idx → Elt F .f32) (v15 : BitVec 32) (k0_hw4 : k0_chk4 v15) (v137 : IVec S6x8x256 32) (c32 : BitVec 32) (v139 v146 : IVec S6x8x256 32) (v147 : BitVec 1)
    (t : Fin (k0_t4_loop v15).trips) (n n' : Fin 13) (hn : k0_off27 v15 t 0 = n.val) (hn' : k0_off28 v15 t 0 = n'.val) (b : Bool) (hb : k0_cond1 v15 t = 1#1 ↔ b = true) (u : Unit) :
    iprop(Chs c M (Af (ix1 n)) true ∗ Car arg1 arg2 c X Af ids wts O)
      ⊢ WP c (k0_t4_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 k0_hw4 v137 c32 v139 v146 v147 t u)
        (fun _ => iprop(Chs c M (Af (ix1 n')) b ∗ Car arg1 arg2 c X Af ids wts
          (Onext M (HE M X (k0_pay75 v137 c32 v139 v146 v147) (Af (ix1 n))) (k0_pay21 (Af (ix1 n)) (arg1.view.read (Elt F) ids) (arg2.view.read (Elt F) wts)) (Af (ix1 n)) O))) := by
  unfold k0_t4_body
  dsimp only
  unfold Chs Car
  iintro ⟨⟨K0, K1, K2, K3, G0, G1⟩, HX, ⟨%fH, HH⟩, HC, HOc, HA, H1, H2, HO⟩
  iapply (WP_step c (part7 arg0 harg0 arg1 harg1 arg2 harg2 arg3 harg3 arg8 harg8 c M Af hA ids wts v15 k0_hw4 t n n' hn hn')) $$ [HA H1 H2 HC K0 HO]
  · isplitl [HA]; · iexact HA
    isplitl [H1]; · iexact H1
    isplitl [H2]; · iexact H2
    isplitl [HC]; · iexact HC
    isplitl [K0]; · iapply (show Nx1 c M (Af (ix1 n)) 0 true ⊢ Wt1 c M (Af (ix1 n)) 0 0 from .rfl) $$ K0
    iexact HO
  iintro %r ⟨%hr, HA, H1, H2, HC, K0, HO⟩
  obtain ⟨v180, k0_hw5, v184, k0_hw6, v186⟩ := r
  dsimp only at hr ⊢
  obtain ⟨h1, h2⟩ := hr
  subst h1
  subst h2
  ihave HH := (HeS_start c (HE M X (k0_pay75 v137 c32 v139 v146 v147) (Af (ix1 n))) fH) $$ HH
  iapply (WP_step c (part8 arg0 harg0 arg1 harg1 arg2 harg2 arg3 harg3 arg8 harg8 c M X v15 _ t (Af (ix1 n)) k0_hw5 (Af (ix1 n')) k0_hw6 v186 (hA _) b hb)) $$ [K0 K1 HX HH HO]
  · isplitl [K0]; · iexact K0
    isplitl [K1]; · iapply (show Nx1 c M (Af (ix1 n)) 1 true ⊢ Wt1 c M (Af (ix1 n)) 1 0 from .rfl) $$ K1
    isplitl [HX]; · iexact HX
    isplitl [HH]; · iexact HH
    iexact HO
  iintro %_u ⟨K0, K1, HX, HH, HO⟩
  iapply (WP_step c (part9 arg0 harg0 arg1 harg1 arg2 harg2 arg3 harg3 arg8 harg8 c M X v15 _ t (Af (ix1 n)) k0_hw5 (Af (ix1 n')) k0_hw6 v186 (hA _) b hb)) $$ [K1 HX HH HO]
  · isplitl [K1]; · iexact K1
    isplitl [HX]; · iexact HX
    isplitl [HH]; · iexact HH
    iexact HO
  iintro %_u ⟨K1, HX, HH, HO⟩
  iapply (WP_step c (part10 arg0 harg0 arg1 harg1 arg2 harg2 arg3 harg3 arg8 harg8 c M X v15 _ t (Af (ix1 n)) k0_hw5 (Af (ix1 n')) k0_hw6 v186 (hA _) b hb)) $$ [K2 HX HH HO]
  · isplitl [K2]; · iapply (show Nx1 c M (Af (ix1 n)) 2 true ⊢ Wt1 c M (Af (ix1 n)) 2 0 from .rfl) $$ K2
    isplitl [HX]; · iexact HX
    isplitl [HH]; · iexact HH
    iexact HO
  iintro %_u ⟨K2, HX, HH, HO⟩
  iapply (WP_step c (part11 arg0 harg0 arg1 harg1 arg2 harg2 arg3 harg3 arg8 harg8 c M X _ (Af (ix1 n)) k0_hw5 v186)) $$ [K3 HX HH HO]
  · isplitl [K3]; · iapply (show Nx1 c M (Af (ix1 n)) 3 true ⊢ Wt1 c M (Af (ix1 n)) 3 0 from .rfl) $$ K3
    isplitl [HX]; · iexact HX
    isplitl [HH]; · iexact HH
    iexact HO
  iintro %v306 ⟨K3, HX, HH, HO⟩
  ihave HH := (HeS_all c (HE M X (k0_pay75 v137 c32 v139 v146 v147) (Af (ix1 n)))) $$ HH
  ihave HOc := (OcS_start c O (Onext M (HE M X (k0_pay75 v137 c32 v139 v146 v147) (Af (ix1 n))) (k0_pay21 (Af (ix1 n)) (arg1.view.read (Elt F) ids) (arg2.view.read (Elt F) wts)) (Af (ix1 n)) O)) $$ HOc
  iapply (WP_step c (part12 arg0 harg0 arg1 harg1 arg2 harg2 arg3 harg3 arg8 harg8 c M (HE M X (k0_pay75 v137 c32 v139 v146 v147) (Af (ix1 n))) (k0_pay21 (Af (ix1 n)) (arg1.view.read (Elt F) ids) (arg2.view.read (Elt F) wts)) O
    v15 t (Af (ix1 n)) k0_hw5 (Af (ix1 n')) k0_hw6 v186 v306 (hA _) b hb hb)) $$ [K3 G0 G1 HH HC HOc HO]
  · isplitl [K3]; · iexact K3
    isplitl [G0]; · iapply (show Nx2 c M (Af (ix1 n)) 0 true ⊢ Wt2 c M (Af (ix1 n)) 0 0 from .rfl) $$ G0
    isplitl [G1]; · iapply (show Nx2 c M (Af (ix1 n)) 1 true ⊢ Wt2 c M (Af (ix1 n)) 1 0 from .rfl) $$ G1
    isplitl [HH]; · iexact HH
    isplitl [HC]; · iexact HC
    isplitl [HOc]; · iexact HOc
    iexact HO
  iintro %_u ⟨K3, G0, G1, HH, HC, HOc, HO⟩
  iapply (waitS2 c M (Af (ix1 n)) 1 (0 + aW2) rfl (by rw [sumA2]; omega)) $$ [G1 HO]
  · isplitl [G1]; · iexact G1
    iexact HO
  iintro ⟨G1, HO⟩
  iapply (WP_fupd c)
  ihave G1 := (collect2 c M (Af (ix1 n)) 1 (0 + aW2 + aS2) (by rw [sumA2]; omega)) $$ G1
  imod G1
  imodintro
  iapply (loop15 arg0 harg0 arg1 harg1 arg2 harg2 arg3 harg3 arg8 harg8 c M (HE M X (k0_pay75 v137 c32 v139 v146 v147) (Af (ix1 n))) (k0_pay21 (Af (ix1 n)) (arg1.view.read (Elt F) ids) (arg2.view.read (Elt F) wts)) O (Af (ix1 n))) $$ [G1 HH HC HOc]
  · isplitl [G1]; · iexact G1
    isplitl [HH]; · iexact HH
    isplitl [HC]; · iexact HC
    iexact HOc
  iintro ⟨G1, HH, HC, HOc⟩
  ihave HOc := (OcS_all c O _) $$ HOc
  ihave G1 := (Arr2_free c M (Af (ix1 n)) 1) $$ G1
  cases b with
  | true =>
    rw [dif_pos (show k0_cond6 v15 t = 1#1 from hb.2 rfl)]
    iapply (WP_fupd c)
    ihave G1 := (Iss2_start c M (Af (ix1 n')) 1) $$ G1
    imod G1
    imodintro
    iapply (start2_0 c M (Af (ix1 n')) (hA _) 1 rfl rfl rfl) $$ G1
    iintro G1
    iapply (start2_1 c M (Af (ix1 n')) (hA _) 1 rfl rfl rfl) $$ G1
    iintro G1
    ihave G1 := (Iss2_all c M (Af (ix1 n')) 1) $$ G1
    ihave G1 := (show Wt2 c M (Af (ix1 n')) 1 0 ⊢ Nx2 c M (Af (ix1 n')) 1 true from .rfl) $$ G1
    iapply WP_pure
    isplitl [K0 K1 K2 K3 G0 G1]
    · isplitl [K0]; · iexact K0
      isplitl [K1]; · iexact K1
      isplitl [K2]; · iexact K2
      isplitl [K3]; · iexact K3
      isplitl [G0]; · iexact G0
      iexact G1
    isplitl [HX]; · iexact HX
    isplitl [HH]; · iexists _; iexact HH
    isplitl [HC]; · iexists _; iexact HC
    isplitl [HOc]; · iexact HOc
    isplitl [HA]; · iexact HA
    isplitl [H1]; · iexact H1
    isplitl [H2]; · iexact H2
    iexact HO
  | false =>
    rw [dif_neg (show ¬ k0_cond6 v15 t = 1#1 from fun h => Bool.false_ne_true (hb.1 h))]
    ihave G1 := (show Free2 c M 1 ⊢ Nx2 c M (Af (ix1 n')) 1 false from .rfl) $$ G1
    iapply WP_pure
    isplitl [K0 K1 K2 K3 G0 G1]
    · isplitl [K0]; · iexact K0
      isplitl [K1]; · iexact K1
      isplitl [K2]; · iexact K2
      isplitl [K3]; · iexact K3
      isplitl [G0]; · iexact G0
      iexact G1
    isplitl [HX]; · iexact HX
    isplitl [HH]; · iexists _; iexact HH
    isplitl [HC]; · iexists _; iexact HC
    isplitl [HOc]; · iexact HOc
    isplitl [HA]; · iexact HA
    isplitl [H1]; · iexact H1
    isplitl [H2]; · iexact H2
    iexact HO

/-- The loop over the active experts. -/
theorem loop4 (c : Dev nD) (M : HB F) (X : S28x48x256.Idx → Elt F .bf16) (Af : S13.Idx → Elt F .i32) (hA : ∀ i, (Af i).toNat < 13) (ids : arg1.view.ty.Contents (Elt F)) (wts : arg2.view.ty.Contents (Elt F))
    (v15 : BitVec 32) (hv : v15.toNat < 14) (hv0 : 0 < v15.toNat) (k0_hw4 : k0_chk4 v15) (v137 : IVec S6x8x256 32) (c32 : BitVec 32) (v139 v146 : IVec S6x8x256 32) (v147 : BitVec 1)
    {β : Type} {k : Unit → Prog (TpuEff nD τ sig (Elt F) Λ₀ .tc) β} {Q : β → sProp 𝕄} :
    iprop(Chs c M (Af (ix1 0)) true ∗ Car arg1 arg2 c X Af ids wts k0_pay77)
      ⊢ iprop((iprop(Chs c M (Af (ix1 (cl v15.toNat))) false ∗ Car arg1 arg2 c X Af ids wts
            (Oacc M X (k0_pay75 v137 c32 v139 v146 v147) Af (arg1.view.read (Elt F) ids) (arg2.view.read (Elt F) wts) v15.toNat)) -∗ WP c (k ⟨⟩) Q)
        -∗ WP c (Scf.Loop.for (k0_t4_loop v15) (k0_t4_ok v15 k0_hw4) ⟨⟩ (k0_t4_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 k0_hw4 v137 c32 v139 v146 v147) >>= k) Q) := by
  obtain ⟨htr, -, -, hN⟩ := nums v15 hv
  let I : ℕ → Unit → sProp 𝕄 := fun i _ => iprop(Chs c M (Af (ix1 (cl i))) (decide (i < v15.toNat)) ∗ Car arg1 arg2 c X Af ids wts
            (Oacc M X (k0_pay75 v137 c32 v139 v146 v147) Af (arg1.view.read (Elt F) ids) (arg2.view.read (Elt F) wts) i))
  have hbody : ∀ (t : Fin (k0_t4_loop v15).trips) (u : Unit), I t.val u ⊢ WP c (k0_t4_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 v15 k0_hw4 v137 c32 v139 v146 v147 t u) (I (t.val + 1)) := by
    intro t u
    have ht : t.val < v15.toNat := htr ▸ t.isLt
    have e : decide (t.val < v15.toNat) = true := decide_eq_true ht
    show iprop(Chs c M (Af (ix1 (cl t.val))) (decide (t.val < v15.toNat)) ∗ _) ⊢ _
    rw [e]
    obtain ⟨h27, h28, hc⟩ := hN t
    exact trip arg0 harg0 arg1 harg1 arg2 harg2 arg3 harg3 arg8 harg8 c M X Af hA ids wts _ v15 k0_hw4 v137 c32 v139 v146 v147 t (cl t.val) (cl (t.val + 1)) h27 h28 (decide (t.val + 1 < v15.toNat)) hc u
  iintro H HK
  iapply (WP_for c I hbody) $$ [H]
  · iapply (show iprop(Chs c M (Af (ix1 0)) true ∗ Car arg1 arg2 c X Af ids wts k0_pay77) ⊢ I 0 ⟨⟩ from by
      show _ ⊢ iprop(Chs c M (Af (ix1 (cl 0))) (decide (0 < v15.toNat)) ∗ _)
      rw [show decide (0 < v15.toNat) = true from decide_eq_true hv0]
      exact .rfl) $$ H
  iintro %acc H
  iapply HK
  iapply (show I (k0_t4_loop v15).trips acc ⊢ _ from by
      rw [htr]
      show iprop(Chs c M (Af (ix1 (cl v15.toNat))) (decide (v15.toNat < v15.toNat)) ∗ _) ⊢ _
      rw [show decide (v15.toNat < v15.toNat) = false from decide_eq_false (lt_irrefl _)]) $$ H

end Cert.KernelIdeal.Hand

end
-- ==== Proof.HandIdeal.Small.lean ====
/- The scalar part of the kernel: which experts are active, and their list. -/
module

public import proofs.«01_k».proof.Proof.HandIdeal.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix1 ix2 ix3 ix4)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The list buffer's contents from a function on places. -/
def toA (f : Fin 13 → BitVec 32) : S13.Idx → Elt F .i32 := fun i => f (i 0)

/-- Setting place `n`. -/
def upd (f : Fin 13 → BitVec 32) (n : ℕ) (w : BitVec 32) : Fin 13 → BitVec 32 := fun i => if i.val = n then w else f i

theorem upd_self (f : Fin 13 → BitVec 32) (n : ℕ) (w : BitVec 32) (i : Fin 13) (h : i.val = n) : upd f n w i = w := if_pos h
theorem upd_ne (f : Fin 13 → BitVec 32) (n : ℕ) (w : BitVec 32) (i : Fin 13) (h : i.val ≠ n) : upd f n w i = f i := if_neg h

theorem storeA (f : Fin 13 → BitVec 32) (w : BitVec 32) {o : Fin 1 → ℕ} {hi : ∀ a, o a + S1.size a ≤ S13.size a} {n : ℕ} (ho : o 0 = n) :
    (bA.access (Rect.unit (s := S13) o S1.size hi)).write (Elt F) (toA (F := F) f) (fun _ => w) Finset.univ = toA (upd f n w) := by
  funext i
  by_cases h : (i 0).val = n
  · have e : i = (bA.access (Rect.unit (s := S13) o S1.size hi)).emb (ix1 (n := 1) 0) := by
      funext a; refine Fin.ext ?_
      have ha : a = 0 := Subsingleton.elim (α := Fin 1) a 0
      subst ha
      show (i 0).val = o 0 + 1 * 0; omega
    have h2 : toA (F := F) (upd f n w) i = w := upd_self f n w (i 0) h
    rw [h2]
    conv_lhs => rw [e]
    exact View.write_emb_of_mem _ _ (Finset.mem_univ _)
  · have h2 : toA (F := F) (upd f n w) i = toA (F := F) f i := upd_ne f n w (i 0) h
    rw [h2]
    rw [View.write_of_not_mem]
    intro hm
    obtain ⟨x, -, hx⟩ := Finset.mem_map.mp hm
    apply h
    rw [← hx]
    have h0 : (x 0).val < 1 := (x 0).isLt
    show o 0 + 1 * (x 0).val = n
    omega

/-- The flags after `n` token slots. -/
def flg (idv : ℕ → BitVec 32) : ℕ → Fin 13 → BitVec 32
  | 0 => fun _ => 0#32
  | n + 1 => upd (flg idv n) (idv n).toNat 1#32

/-- The count and the list after `n` experts, the list kept in the flags' own buffer. -/
def cmpt (f : Fin 13 → BitVec 32) : ℕ → BitVec 32 × (Fin 13 → BitVec 32)
  | 0 => (0#32, f)
  | n + 1 => (Scalar.addi (cmpt f n).1 ((cmpt f n).2 ⟨n % 13, Nat.mod_lt _ (by decide)⟩), upd (cmpt f n).2 (cmpt f n).1.toNat (BitVec.ofNat 32 n))

theorem chk1_fin : ∀ e : Fin 13, k0_chk1 (BitVec.ofNat 32 e.val) ∧ k0_off2 (BitVec.ofNat 32 e.val) 0 = e.val ∧ k0_chk2 (BitVec.ofNat 32 e.val) ∧ k0_off4 (BitVec.ofNat 32 e.val) 0 = e.val := by decide +kernel
theorem chk1_of (e : BitVec 32) (he : e.toNat < 13) : k0_chk1 e ∧ k0_off2 e 0 = e.toNat ∧ k0_chk2 e ∧ k0_off4 e 0 = e.toNat := by
  have h := chk1_fin ⟨e.toNat, he⟩
  rwa [BitVec.ofNat_toNat, BitVec.setWidth_eq] at h
theorem off1_0 : ∀ t : Fin k0_t1_loop.trips, k0_off1 t 0 = t.val := by decide +kernel
theorem off3_0 : ∀ t : Fin k0_t2_loop.trips, k0_off3 t 0 = t.val := by decide +kernel
theorem iv2 : ∀ t : Fin k0_t2_loop.trips, Scf.iv 0#32 1#32 t = BitVec.ofNat 32 t.val := by decide +kernel

variable (arg0 : Memref sig .tc .smem S48 .i32) (harg0 : arg0.IsWhole) (arg1 : Memref sig .tc .vmem S6x1x8 .i32) (harg1 : arg1.IsWhole)
  (arg2 : Memref sig .tc .vmem S6x1x8 .f32) (harg2 : arg2.IsWhole) (arg3 : Memref sig .tc .vmem S6x1x7168 .bf16) (harg3 : arg3.IsWhole)
  (arg8 : Memref sig .tc .vmem S6x1x7168 .bf16) (harg8 : arg8.IsWhole)

theorem read48 {o : Fin 1 → ℕ} {hi : ∀ a, o a + S1.size a ≤ S48.size a} (f : arg0.view.ty.Contents (Elt F)) (n : ℕ) (hn : n < 48) (ho : o 0 = n) (h1) :
    (arg0.access (Rect.unit (s := S48) o S1.size hi)).read (Elt F) f (Shape.Idx.first h1) = arg0.view.read (Elt F) f (ix1 (n := 48) ⟨n % 48, Nat.mod_lt _ (by decide)⟩) := by
  show arg0.view.read (Elt F) f ((Rect.unit (s := S48) o S1.size hi).emb (Shape.Idx.first h1)) = _
  refine congrArg (arg0.view.read (Elt F) f) (funext fun a => Fin.ext ?_)
  have ha : a = 0 := Subsingleton.elim (α := Fin 1) a 0
  subst ha
  have h0 : ((Shape.Idx.first h1 : S1.Idx) 0).val < 1 := ((Shape.Idx.first h1 : S1.Idx) 0).isLt
  show o 0 + 1 * ((Shape.Idx.first h1 : S1.Idx) 0).val = n % 48
  omega

/-- The expert of slot `n`, read from the flat list. -/
def idv (f : arg0.view.ty.Contents (Elt F)) (n : ℕ) : BitVec 32 := arg0.view.read (Elt F) f (ix1 (n := 48) ⟨n % 48, Nat.mod_lt _ (by decide)⟩)

/-- Marking one slot's expert. -/
theorem trip1 (c : Dev nD) (ids0 : arg0.view.ty.Contents (Elt F)) (hid : ∀ n, (idv arg0 ids0 n).toNat < 13) (t : Fin k0_t1_loop.trips) (u : Unit) :
    iprop(own c arg0 ids0 ∗ pt c bA Finset.univ fullShare (toA (F := F) (flg (idv arg0 ids0) t.val)))
      ⊢ WP c (k0_t1_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 t u) (fun _ => iprop(own c arg0 ids0 ∗ pt c bA Finset.univ fullShare (toA (F := F) (flg (idv arg0 ids0) (t.val + 1))))) := by
  have ht : t.val < 48 := t.isLt
  obtain ⟨hc, ho, -, -⟩ := chk1_of (idv arg0 ids0 t.val) (hid _)
  unfold k0_t1_body
  dsimp only
  iintro ⟨H0, HA⟩
  iapply (WP_smemLoad c (m := arg0) (r := Rect.unit (s := S48) (k0_off1 t) S1.size (k0_off1_inb t)) (h1 := numel1_S1) (hp := rfl) (S := Finset.univ) (f := ids0) (idv arg0 ids0 t.val) (Finset.subset_univ _)
    (read48 arg0 ids0 t.val ht (off1_0 t) _)) $$ H0
  iintro H0
  iapply (WP_assume c hc)
  iapply (WP_smemLoad c (m := bA) (r := Rect.unit (s := S13) (k0_off2 (idv arg0 ids0 t.val)) S1.size (k0_off2_inb _ hc)) (h1 := numel1_S1) (hp := rfl) (S := Finset.univ) (f := toA (F := F) (flg (idv arg0 ids0) t.val)) _ (Finset.subset_univ _) rfl) $$ HA
  iintro HA
  iapply (WP_storeW c (m := bA) (r := Rect.unit (s := S13) (k0_off2 (idv arg0 ids0 t.val)) S1.size (k0_off2_inb _ hc)) (S := Finset.univ) (f := toA (F := F) (flg (idv arg0 ids0) t.val)) (w := fun _ => 1#32) (Finset.subset_univ _)) $$ HA
  iintro HA
  rw [storeA _ _ ho]
  iapply WP_pure
  isplitl [H0]; · iexact H0
  iexact HA

/-- Clearing the flags and marking every slot's expert. -/
theorem part25 (c : Dev nD) (ids0 : arg0.view.ty.Contents (Elt F)) (hid : ∀ n, (idv arg0 ids0 n).toNat < 13) :
    iprop(own c arg0 ids0 ∗ (∃ f, pt c bA Finset.univ fullShare f))
      ⊢ WP c (k0_part25 arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10) (fun r => iprop(⌜r.1 = 0#32 ∧ r.2 = 0#32⌝ ∗ own c arg0 ids0 ∗ pt c bA Finset.univ fullShare (toA (F := F) (flg (idv arg0 ids0) 48)))) := by
  rw [k0_part25_eq_skeleton]
  unfold k0_part25_skel
  dsimp only
  iintro ⟨H0, ⟨%f, HA⟩⟩
  rw [show f = toA (F := F) (fun i => f (ix1 i)) from funext fun i => congrArg f (funext fun a => by
    have ha : a = 0 := Subsingleton.elim (α := Fin 1) a 0
    subst ha; rfl)]
  generalize (fun i => f (ix1 i)) = g
  iapply (WP_smemLoad c (m := bA) (r := Rect.unit (s := S13) ![0] S1.size inb_S13_S1_0) (h1 := numel1_S1) (hp := rfl) (S := Finset.univ) (f := toA (F := F) g) _ (Finset.subset_univ _) rfl) $$ HA
  iintro HA
  iapply (WP_storeW c (m := bA) (r := Rect.unit (s := S13) ![0] S1.size inb_S13_S1_0) (S := Finset.univ) (f := toA (F := F) g) (w := fun _ => 0#32) (Finset.subset_univ _)) $$ HA
  iintro HA
  rw [storeA g _ (n := 0) rfl]
  iapply (WP_smemLoad c (m := bA) (r := Rect.unit (s := S13) ![1] S1.size inb_S13_S1_1) (h1 := numel1_S1) (hp := rfl) (S := Finset.univ) (f := toA (F := F) (upd g 0 0#32)) _ (Finset.subset_univ _) rfl) $$ HA
  iintro HA
  iapply (WP_storeW c (m := bA) (r := Rect.unit (s := S13) ![1] S1.size inb_S13_S1_1) (S := Finset.univ) (f := toA (F := F) (upd g 0 0#32)) (w := fun _ => 0#32) (Finset.subset_univ _)) $$ HA
  iintro HA
  rw [storeA (upd g 0 0#32) _ (n := 1) rfl]
  iapply (WP_smemLoad c (m := bA) (r := Rect.unit (s := S13) ![2] S1.size inb_S13_S1_2) (h1 := numel1_S1) (hp := rfl) (S := Finset.univ) (f := toA (F := F) (upd (upd g 0 0#32) 1 0#32)) _ (Finset.subset_univ _) rfl) $$ HA
  iintro HA
  iapply (WP_storeW c (m := bA) (r := Rect.unit (s := S13) ![2] S1.size inb_S13_S1_2) (S := Finset.univ) (f := toA (F := F) (upd (upd g 0 0#32) 1 0#32)) (w := fun _ => 0#32) (Finset.subset_univ _)) $$ HA
  iintro HA
  rw [storeA (upd (upd g 0 0#32) 1 0#32) _ (n := 2) rfl]
  iapply (WP_smemLoad c (m := bA) (r := Rect.unit (s := S13) ![3] S1.size inb_S13_S1_3) (h1 := numel1_S1) (hp := rfl) (S := Finset.univ) (f := toA (F := F) (upd (upd (upd g 0 0#32) 1 0#32) 2 0#32)) _ (Finset.subset_univ _) rfl) $$ HA
  iintro HA
  iapply (WP_storeW c (m := bA) (r := Rect.unit (s := S13) ![3] S1.size inb_S13_S1_3) (S := Finset.univ) (f := toA (F := F) (upd (upd (upd g 0 0#32) 1 0#32) 2 0#32)) (w := fun _ => 0#32) (Finset.subset_univ _)) $$ HA
  iintro HA
  rw [storeA (upd (upd (upd g 0 0#32) 1 0#32) 2 0#32) _ (n := 3) rfl]
  iapply (WP_smemLoad c (m := bA) (r := Rect.unit (s := S13) ![4] S1.size inb_S13_S1_4) (h1 := numel1_S1) (hp := rfl) (S := Finset.univ) (f := toA (F := F) (upd (upd (upd (upd g 0 0#32) 1 0#32) 2 0#32) 3 0#32)) _ (Finset.subset_univ _) rfl) $$ HA
  iintro HA
  iapply (WP_storeW c (m := bA) (r := Rect.unit (s := S13) ![4] S1.size inb_S13_S1_4) (S := Finset.univ) (f := toA (F := F) (upd (upd (upd (upd g 0 0#32) 1 0#32) 2 0#32) 3 0#32)) (w := fun _ => 0#32) (Finset.subset_univ _)) $$ HA
  iintro HA
  rw [storeA (upd (upd (upd (upd g 0 0#32) 1 0#32) 2 0#32) 3 0#32) _ (n := 4) rfl]
  iapply (WP_smemLoad c (m := bA) (r := Rect.unit (s := S13) ![5] S1.size inb_S13_S1_5) (h1 := numel1_S1) (hp := rfl) (S := Finset.univ) (f := toA (F := F) (upd (upd (upd (upd (upd g 0 0#32) 1 0#32) 2 0#32) 3 0#32) 4 0#32)) _ (Finset.subset_univ _) rfl) $$ HA
  iintro HA
  iapply (WP_storeW c (m := bA) (r := Rect.unit (s := S13) ![5] S1.size inb_S13_S1_5) (S := Finset.univ) (f := toA (F := F) (upd (upd (upd (upd (upd g 0 0#32) 1 0#32) 2 0#32) 3 0#32) 4 0#32)) (w := fun _ => 0#32) (Finset.subset_univ _)) $$ HA
  iintro HA
  rw [storeA (upd (upd (upd (upd (upd g 0 0#32) 1 0#32) 2 0#32) 3 0#32) 4 0#32) _ (n := 5) rfl]
  iapply (WP_smemLoad c (m := bA) (r := Rect.unit (s := S13) ![6] S1.size inb_S13_S1_6) (h1 := numel1_S1) (hp := rfl) (S := Finset.univ) (f := toA (F := F) (upd (upd (upd (upd (upd (upd g 0 0#32) 1 0#32) 2 0#32) 3 0#32) 4 0#32) 5 0#32)) _ (Finset.subset_univ _) rfl) $$ HA
  iintro HA
  iapply (WP_storeW c (m := bA) (r := Rect.unit (s := S13) ![6] S1.size inb_S13_S1_6) (S := Finset.univ) (f := toA (F := F) (upd (upd (upd (upd (upd (upd g 0 0#32) 1 0#32) 2 0#32) 3 0#32) 4 0#32) 5 0#32)) (w := fun _ => 0#32) (Finset.subset_univ _)) $$ HA
  iintro HA
  rw [storeA (upd (upd (upd (upd (upd (upd g 0 0#32) 1 0#32) 2 0#32) 3 0#32) 4 0#32) 5 0#32) _ (n := 6) rfl]
  iapply (WP_smemLoad c (m := bA) (r := Rect.unit (s := S13) ![7] S1.size inb_S13_S1_7) (h1 := numel1_S1) (hp := rfl) (S := Finset.univ) (f := toA (F := F) (upd (upd (upd (upd (upd (upd (upd g 0 0#32) 1 0#32) 2 0#32) 3 0#32) 4 0#32) 5 0#32) 6 0#32)) _ (Finset.subset_univ _) rfl) $$ HA
  iintro HA
  iapply (WP_storeW c (m := bA) (r := Rect.unit (s := S13) ![7] S1.size inb_S13_S1_7) (S := Finset.univ) (f := toA (F := F) (upd (upd (upd (upd (upd (upd (upd g 0 0#32) 1 0#32) 2 0#32) 3 0#32) 4 0#32) 5 0#32) 6 0#32)) (w := fun _ => 0#32) (Finset.subset_univ _)) $$ HA
  iintro HA
  rw [storeA (upd (upd (upd (upd (upd (upd (upd g 0 0#32) 1 0#32) 2 0#32) 3 0#32) 4 0#32) 5 0#32) 6 0#32) _ (n := 7) rfl]
  iapply (WP_smemLoad c (m := bA) (r := Rect.unit (s := S13) ![8] S1.size inb_S13_S1_8) (h1 := numel1_S1) (hp := rfl) (S := Finset.univ) (f := toA (F := F) (upd (upd (upd (upd (upd (upd (upd (upd g 0 0#32) 1 0#32) 2 0#32) 3 0#32) 4 0#32) 5 0#32) 6 0#32) 7 0#32)) _ (Finset.subset_univ _) rfl) $$ HA
  iintro HA
  iapply (WP_storeW c (m := bA) (r := Rect.unit (s := S13) ![8] S1.size inb_S13_S1_8) (S := Finset.univ) (f := toA (F := F) (upd (upd (upd (upd (upd (upd (upd (upd g 0 0#32) 1 0#32) 2 0#32) 3 0#32) 4 0#32) 5 0#32) 6 0#32) 7 0#32)) (w := fun _ => 0#32) (Finset.subset_univ _)) $$ HA
  iintro HA
  rw [storeA (upd (upd (upd (upd (upd (upd (upd (upd g 0 0#32) 1 0#32) 2 0#32) 3 0#32) 4 0#32) 5 0#32) 6 0#32) 7 0#32) _ (n := 8) rfl]
  iapply (WP_smemLoad c (m := bA) (r := Rect.unit (s := S13) ![9] S1.size inb_S13_S1_9) (h1 := numel1_S1) (hp := rfl) (S := Finset.univ) (f := toA (F := F) (upd (upd (upd (upd (upd (upd (upd (upd (upd g 0 0#32) 1 0#32) 2 0#32) 3 0#32) 4 0#32) 5 0#32) 6 0#32) 7 0#32) 8 0#32)) _ (Finset.subset_univ _) rfl) $$ HA
  iintro HA
  iapply (WP_storeW c (m := bA) (r := Rect.unit (s := S13) ![9] S1.size inb_S13_S1_9) (S := Finset.univ) (f := toA (F := F) (upd (upd (upd (upd (upd (upd (upd (upd (upd g 0 0#32) 1 0#32) 2 0#32) 3 0#32) 4 0#32) 5 0#32) 6 0#32) 7 0#32) 8 0#32)) (w := fun _ => 0#32) (Finset.subset_univ _)) $$ HA
  iintro HA
  rw [storeA (upd (upd (upd (upd (upd (upd (upd (upd (upd g 0 0#32) 1 0#32) 2 0#32) 3 0#32) 4 0#32) 5 0#32) 6 0#32) 7 0#32) 8 0#32) _ (n := 9) rfl]
  iapply (WP_smemLoad c (m := bA) (r := Rect.unit (s := S13) ![10] S1.size inb_S13_S1_10) (h1 := numel1_S1) (hp := rfl) (S := Finset.univ) (f := toA (F := F) (upd (upd (upd (upd (upd (upd (upd (upd (upd (upd g 0 0#32) 1 0#32) 2 0#32) 3 0#32) 4 0#32) 5 0#32) 6 0#32) 7 0#32) 8 0#32) 9 0#32)) _ (Finset.subset_univ _) rfl) $$ HA
  iintro HA
  iapply (WP_storeW c (m := bA) (r := Rect.unit (s := S13) ![10] S1.size inb_S13_S1_10) (S := Finset.univ) (f := toA (F := F) (upd (upd (upd (upd (upd (upd (upd (upd (upd (upd g 0 0#32) 1 0#32) 2 0#32) 3 0#32) 4 0#32) 5 0#32) 6 0#32) 7 0#32) 8 0#32) 9 0#32)) (w := fun _ => 0#32) (Finset.subset_univ _)) $$ HA
  iintro HA
  rw [storeA (upd (upd (upd (upd (upd (upd (upd (upd (upd (upd g 0 0#32) 1 0#32) 2 0#32) 3 0#32) 4 0#32) 5 0#32) 6 0#32) 7 0#32) 8 0#32) 9 0#32) _ (n := 10) rfl]
  iapply (WP_smemLoad c (m := bA) (r := Rect.unit (s := S13) ![11] S1.size inb_S13_S1_11) (h1 := numel1_S1) (hp := rfl) (S := Finset.univ) (f := toA (F := F) (upd (upd (upd (upd (upd (upd (upd (upd (upd (upd (upd g 0 0#32) 1 0#32) 2 0#32) 3 0#32) 4 0#32) 5 0#32) 6 0#32) 7 0#32) 8 0#32) 9 0#32) 10 0#32)) _ (Finset.subset_univ _) rfl) $$ HA
  iintro HA
  iapply (WP_storeW c (m := bA) (r := Rect.unit (s := S13) ![11] S1.size inb_S13_S1_11) (S := Finset.univ) (f := toA (F := F) (upd (upd (upd (upd (upd (upd (upd (upd (upd (upd (upd g 0 0#32) 1 0#32) 2 0#32) 3 0#32) 4 0#32) 5 0#32) 6 0#32) 7 0#32) 8 0#32) 9 0#32) 10 0#32)) (w := fun _ => 0#32) (Finset.subset_univ _)) $$ HA
  iintro HA
  rw [storeA (upd (upd (upd (upd (upd (upd (upd (upd (upd (upd (upd g 0 0#32) 1 0#32) 2 0#32) 3 0#32) 4 0#32) 5 0#32) 6 0#32) 7 0#32) 8 0#32) 9 0#32) 10 0#32) _ (n := 11) rfl]
  iapply (WP_smemLoad c (m := bA) (r := Rect.unit (s := S13) ![12] S1.size inb_S13_S1_12) (h1 := numel1_S1) (hp := rfl) (S := Finset.univ) (f := toA (F := F) (upd (upd (upd (upd (upd (upd (upd (upd (upd (upd (upd (upd g 0 0#32) 1 0#32) 2 0#32) 3 0#32) 4 0#32) 5 0#32) 6 0#32) 7 0#32) 8 0#32) 9 0#32) 10 0#32) 11 0#32)) _ (Finset.subset_univ _) rfl) $$ HA
  iintro HA
  iapply (WP_storeW c (m := bA) (r := Rect.unit (s := S13) ![12] S1.size inb_S13_S1_12) (S := Finset.univ) (f := toA (F := F) (upd (upd (upd (upd (upd (upd (upd (upd (upd (upd (upd (upd g 0 0#32) 1 0#32) 2 0#32) 3 0#32) 4 0#32) 5 0#32) 6 0#32) 7 0#32) 8 0#32) 9 0#32) 10 0#32) 11 0#32)) (w := fun _ => 0#32) (Finset.subset_univ _)) $$ HA
  iintro HA
  rw [storeA (upd (upd (upd (upd (upd (upd (upd (upd (upd (upd (upd (upd g 0 0#32) 1 0#32) 2 0#32) 3 0#32) 4 0#32) 5 0#32) 6 0#32) 7 0#32) 8 0#32) 9 0#32) 10 0#32) 11 0#32) _ (n := 12) rfl]
  rw [show (upd (upd (upd (upd (upd (upd (upd (upd (upd (upd (upd (upd (upd g 0 0#32) 1 0#32) 2 0#32) 3 0#32) 4 0#32) 5 0#32) 6 0#32) 7 0#32) 8 0#32) 9 0#32) 10 0#32) 11 0#32) 12 0#32) = flg (idv arg0 ids0) 0 from funext fun i => by
    show _ = 0#32
    fin_cases i <;> rfl]
  iapply (WP_for c (fun n _ => iprop(own c arg0 ids0 ∗ pt c bA Finset.univ fullShare (toA (F := F) (flg (idv arg0 ids0) n)))) (trip1 arg0 harg0 arg1 harg1 arg2 harg2 arg3 harg3 arg8 harg8 c ids0 hid)) $$ [H0 HA]
  · isplitl [H0]; · iexact H0
    iexact HA
  iintro %acc ⟨H0, HA⟩
  iapply WP_pure
  isplitr; · ipureintro; exact ⟨rfl, rfl⟩
  isplitl [H0]; · iexact H0
  iapply (show _ ⊢ _ from .rfl) $$ HA

/-- The count stays below the experts seen, and what is still to be read is the flags. -/
theorem cmpt_inv (f : Fin 13 → BitVec 32) (hf : ∀ i, (f i).toNat ≤ 1) : ∀ n, n ≤ 13 →
    (cmpt f n).1.toNat ≤ n ∧ (∀ i : Fin 13, n ≤ i.val → (cmpt f n).2 i = f i) ∧ (∀ i, ((cmpt f n).2 i).toNat < 13)
  | 0, _ => ⟨le_rfl, fun _ _ => rfl, fun i => lt_of_le_of_lt (hf i) (by decide)⟩
  | n + 1, hn => by
    obtain ⟨h1, h2, h3⟩ := cmpt_inv f hf n (by omega)
    have e : (cmpt f n).2 ⟨n % 13, Nat.mod_lt _ (by decide)⟩ = f ⟨n, by omega⟩ := by
      rw [h2 _ (by show n ≤ n % 13; omega)]
      exact congrArg f (Fin.ext (by show n % 13 = n; omega))
    have hp : (cmpt f (n + 1)).1 = (cmpt f n).1 + f ⟨n, by omega⟩ := by
      show Scalar.addi (cmpt f n).1 _ = _
      rw [e]; rfl
    have hl := hf ⟨n, by omega⟩
    refine ⟨?_, fun i hi => ?_, fun i => ?_⟩
    · rw [hp, BitVec.toNat_add]; omega
    · show upd (cmpt f n).2 _ _ i = _
      rw [upd_ne _ _ _ _ (by omega), h2 i (by omega)]
    · show (upd (cmpt f n).2 _ _ i).toNat < 13
      unfold upd
      split
      · rw [BitVec.toNat_ofNat]; omega
      · exact h3 i

theorem flg_le (idv : ℕ → BitVec 32) : ∀ n i, (flg idv n i).toNat ≤ 1
  | 0, i => by show (0#32).toNat ≤ 1; decide
  | n + 1, i => by
    show (upd (flg idv n) _ _ i).toNat ≤ 1
    unfold upd
    split
    · decide
    · exact flg_le idv n i

set_option maxHeartbeats 1000000 in
/-- Listing one expert. -/
theorem trip2 (c : Dev nD) (f : Fin 13 → BitVec 32) (hf : ∀ i, (f i).toNat ≤ 1) (t : Fin k0_t2_loop.trips) (acc : BitVec 32) :
    iprop(⌜acc = (cmpt f t.val).1⌝ ∗ pt c bA Finset.univ fullShare (toA (F := F) (cmpt f t.val).2))
      ⊢ WP c (k0_t2_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 0#32 0#32 t acc) (fun r => iprop(⌜r = (cmpt f (t.val + 1)).1⌝ ∗ pt c bA Finset.univ fullShare (toA (F := F) (cmpt f (t.val + 1)).2))) := by
  have ht : t.val < 13 := t.isLt
  obtain ⟨h1, -, -⟩ := cmpt_inv f hf t.val (by omega)
  iintro ⟨%ha, HA⟩
  subst ha
  obtain ⟨-, -, hc, ho⟩ := chk1_of (cmpt f t.val).1 (by omega)
  unfold k0_t2_body
  dsimp only
  iapply (WP_assume c hc)
  iapply (WP_smemLoad c (m := bA) (r := Rect.unit (s := S13) (k0_off3 t) S1.size (k0_off3_inb t)) (h1 := numel1_S1) (hp := rfl) (S := Finset.univ) (f := toA (F := F) (cmpt f t.val).2) ((cmpt f t.val).2 ⟨t.val % 13, Nat.mod_lt _ (by decide)⟩) (Finset.subset_univ _)
    (readA (toA (F := F) (cmpt f t.val).2) ⟨t.val % 13, Nat.mod_lt _ (by decide)⟩ ((off3_0 t).trans (by show t.val = t.val % 13; omega)) _)) $$ HA
  iintro HA
  iapply (WP_smemLoad c (m := bA) (r := Rect.unit (s := S13) (k0_off4 (cmpt f t.val).1) S1.size (k0_off4_inb _ hc)) (h1 := numel1_S1) (hp := rfl) (S := Finset.univ) (f := toA (F := F) (cmpt f t.val).2) _ (Finset.subset_univ _) rfl) $$ HA
  iintro HA
  iapply (WP_storeW c (m := bA) (r := Rect.unit (s := S13) (k0_off4 (cmpt f t.val).1) S1.size (k0_off4_inb _ hc)) (S := Finset.univ) (f := toA (F := F) (cmpt f t.val).2) (w := fun _ => Scf.iv 0#32 1#32 t) (Finset.subset_univ _)) $$ HA
  iintro HA
  rw [storeA _ _ ho, iv2]
  iapply WP_pure
  isplitr
  · ipureintro; rfl
  iexact HA

theorem trips2 : k0_t2_loop.trips = 13 := by decide +kernel

/-- Listing the active experts. -/
theorem loop2 (c : Dev nD) (f : Fin 13 → BitVec 32) (hf : ∀ i, (f i).toNat ≤ 1) {β : Type} {k : BitVec 32 → Prog (TpuEff nD τ sig (Elt F) Λ₀ .tc) β} {Q : β → sProp 𝕄} :
    pt c bA Finset.univ fullShare (toA (F := F) f)
      ⊢ iprop((pt c bA Finset.univ fullShare (toA (F := F) (cmpt f 13).2) -∗ WP c (k (cmpt f 13).1) Q)
        -∗ WP c (Scf.Loop.for k0_t2_loop k0_t2_ok 0#32 (k0_t2_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 0#32 0#32) >>= k) Q) := by
  suffices key : ∀ T, T = k0_t2_loop.trips → pt c bA Finset.univ fullShare (toA (F := F) f)
      ⊢ iprop((pt c bA Finset.univ fullShare (toA (F := F) (cmpt f T).2) -∗ WP c (k (cmpt f T).1) Q)
        -∗ WP c (Scf.Loop.for k0_t2_loop k0_t2_ok 0#32 (k0_t2_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 0#32 0#32) >>= k) Q) by
    exact key 13 trips2.symm
  intro T hT
  subst hT
  iintro HA HK
  iapply (WP_for c (fun n acc => iprop(⌜acc = (cmpt f n).1⌝ ∗ pt c bA Finset.univ fullShare (toA (F := F) (cmpt f n).2))) (trip2 arg0 harg0 arg1 harg1 arg2 harg2 arg3 harg3 arg8 harg8 c f hf)) $$ [HA]
  · isplitr; · ipureintro; rfl
    iexact HA
  iintro %acc ⟨%ha, HA⟩
  subst ha
  iapply HK $$ HA

attribute [local irreducible] cmpt flg

set_option maxHeartbeats 400000 in
/-- The list of active experts, and the first copies. -/
theorem part26 (c : Dev nD) (M : HB F) (f : Fin 13 → BitVec 32) (hf : ∀ i, (f i).toNat ≤ 1) :
    iprop(pt c bA Finset.univ fullShare (toA (F := F) f) ∗ Free1 c M 0)
      ⊢ WP c (k0_part26 arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 0#32 0#32) (fun r => iprop(⌜r.1 = (cmpt f 13).1 ∧ r.2.2.1 = (cmpt f 13).2 0⌝ ∗ pt c bA Finset.univ fullShare (toA (F := F) (cmpt f 13).2) ∗ Iss1 c M ((cmpt f 13).2 0) 0 3)) := by
  obtain ⟨h1, -, h3⟩ := cmpt_inv f hf 13 le_rfl
  have hA : ∀ i, (toA (F := F) (cmpt f 13).2 i).toNat < 13 := fun i => h3 (i 0)
  rw [k0_part26_eq_skeleton]
  unfold k0_part26_skel
  dsimp only
  iintro ⟨HA, K0⟩
  iapply (loop2 arg0 harg0 arg1 harg1 arg2 harg2 arg3 harg3 arg8 harg8 c f hf) $$ HA
  iintro HA
  iapply (WP_assume c (nums (cmpt f 13).1 (by omega)).2.2.1)
  iapply (WP_smemLoad c (m := bA) (r := Rect.unit (s := S13) ![0] S1.size inb_S13_S1_0) (h1 := numel1_S1) (hp := rfl) (S := Finset.univ) (f := toA (F := F) (cmpt f 13).2) ((cmpt f 13).2 0) (Finset.subset_univ _)
    (readA (toA (F := F) (cmpt f 13).2) 0 rfl _)) $$ HA
  iintro HA
  iapply (WP_assume c (chk3_of ((cmpt f 13).2 0) (h3 0)))
  have he := h3 0
  iapply (WP_fupd c)
  ihave HK := (Iss1_start c M ((cmpt f 13).2 0) 0) $$ K0
  imod HK
  imodintro
  iapply (start1_0 c M ((cmpt f 13).2 0) he 0 rfl rfl rfl) $$ HK
  iintro HK
  iapply (start1_1 c M ((cmpt f 13).2 0) he 0 rfl rfl rfl) $$ HK
  iintro HK
  iapply (start1_2 c M ((cmpt f 13).2 0) he 0 rfl rfl rfl) $$ HK
  iintro HK
  iapply WP_pure
  isplitr; · ipureintro; exact ⟨rfl, rfl⟩
  isplitl [HA]; · iexact HA
  iexact HK

set_option maxHeartbeats 1000000 in
/-- More of the first copies. -/
theorem part27 (c : Dev nD) (M : HB F) (e : BitVec 32) (he : e.toNat < 13) (k0_hw3 : k0_chk3 e) :
    iprop(Iss1 c M e 0 3 ∗ Free1 c M 1)
      ⊢ WP c (k0_part27 arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 e k0_hw3) (fun r => iprop(Wt1 c M e 0 0 ∗ Iss1 c M e 1 3)) := by
  rw [k0_part27_eq_skeleton]
  unfold k0_part27_skel
  dsimp only
  iintro ⟨HK, K1⟩
  iapply (start1_3 c M e he 0 rfl rfl rfl) $$ HK
  iintro HK
  ihave HJ := (Iss1_all c M e 0) $$ HK
  iapply (WP_fupd c)
  ihave HK := (Iss1_start c M e 1) $$ K1
  imod HK
  imodintro
  iapply (start1_0 c M e he 1 rfl rfl rfl) $$ HK
  iintro HK
  iapply (start1_1 c M e he 1 rfl rfl rfl) $$ HK
  iintro HK
  iapply (start1_2 c M e he 1 rfl rfl rfl) $$ HK
  iintro HK
  iapply WP_pure
  isplitl [HJ]; · iexact HJ
  iexact HK

set_option maxHeartbeats 1000000 in
/-- More of the first copies. -/
theorem part28 (c : Dev nD) (M : HB F) (e : BitVec 32) (he : e.toNat < 13) (k0_hw3 : k0_chk3 e) :
    iprop(Iss1 c M e 1 3 ∗ Free1 c M 2)
      ⊢ WP c (k0_part28 arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 e k0_hw3) (fun r => iprop(Wt1 c M e 1 0 ∗ Wt1 c M e 2 0)) := by
  rw [k0_part28_eq_skeleton]
  unfold k0_part28_skel
  dsimp only
  iintro ⟨HK, K2⟩
  iapply (start1_3 c M e he 1 rfl rfl rfl) $$ HK
  iintro HK
  ihave HJ := (Iss1_all c M e 1) $$ HK
  iapply (WP_fupd c)
  ihave HK := (Iss1_start c M e 2) $$ K2
  imod HK
  imodintro
  iapply (start1_0 c M e he 2 rfl rfl rfl) $$ HK
  iintro HK
  iapply (start1_1 c M e he 2 rfl rfl rfl) $$ HK
  iintro HK
  iapply (start1_2 c M e he 2 rfl rfl rfl) $$ HK
  iintro HK
  iapply (start1_3 c M e he 2 rfl rfl rfl) $$ HK
  iintro HK
  iapply WP_pure
  isplitl [HJ]; · iexact HJ
  iapply (Iss1_all c M e 2) $$ HK

set_option maxHeartbeats 1000000 in
/-- More of the first copies. -/
theorem part29 (c : Dev nD) (M : HB F) (e : BitVec 32) (he : e.toNat < 13) (k0_hw3 : k0_chk3 e) :
    iprop(Free1 c M 3)
      ⊢ WP c (k0_part29 arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 e k0_hw3) (fun r => iprop(Wt1 c M e 3 0)) := by
  rw [k0_part29_eq_skeleton]
  unfold k0_part29_skel
  dsimp only
  iintro K3
  iapply (WP_fupd c)
  ihave HK := (Iss1_start c M e 3) $$ K3
  imod HK
  imodintro
  iapply (start1_0 c M e he 3 rfl rfl rfl) $$ HK
  iintro HK
  iapply (start1_1 c M e he 3 rfl rfl rfl) $$ HK
  iintro HK
  iapply (start1_2 c M e he 3 rfl rfl rfl) $$ HK
  iintro HK
  iapply (start1_3 c M e he 3 rfl rfl rfl) $$ HK
  iintro HK
  iapply WP_pure
  iapply (Iss1_all c M e 3) $$ HK

/-- What the lane mask is built from. -/
abbrev V137 : IVec S6x8x256 32 := iota .tc S6x8x256 32 [2] iota_S6x8x256_d2_w32
/-- The lane mask: row `s` of the eight keeps lanes `32 s` to `32 s + 31`. -/
abbrev mask : IVec S6x8x256 1 := k0_pay75 V137 32#32 k0_pay73 k0_pay74 (Scalar.cmpi .sgt 32#32 0#32)

set_option maxHeartbeats 1000000 in
/-- More of the first copies. -/
theorem part30 (c : Dev nD) (M : HB F) (e : BitVec 32) (he : e.toNat < 13) (k0_hw3 : k0_chk3 e) :
    iprop(Free2 c M 0 ∗ Free2 c M 1)
      ⊢ WP c (k0_part30 arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 e k0_hw3) (fun r => iprop(⌜r.1 = V137 ∧ r.2.1 = 32#32 ∧ r.2.2.1 = k0_pay73 ∧ r.2.2.2.1 = k0_pay74 ∧ r.2.2.2.2 = Scalar.cmpi .sgt 32#32 0#32⌝ ∗ Wt2 c M e 0 0 ∗ Wt2 c M e 1 0)) := by
  rw [k0_part30_eq_skeleton]
  unfold k0_part30_skel
  dsimp only
  iintro ⟨K0, K1⟩
  iapply (WP_fupd c)
  ihave HK := (Iss2_start c M e 0) $$ K0
  imod HK
  imodintro
  iapply (start2_0 c M e he 0 rfl rfl rfl) $$ HK
  iintro HK
  iapply (start2_1 c M e he 0 rfl rfl rfl) $$ HK
  iintro HK
  ihave HJ := (Iss2_all c M e 0) $$ HK
  iapply (WP_fupd c)
  ihave HK := (Iss2_start c M e 1) $$ K1
  imod HK
  imodintro
  iapply (start2_0 c M e he 1 rfl rfl rfl) $$ HK
  iintro HK
  iapply (start2_1 c M e he 1 rfl rfl rfl) $$ HK
  iintro HK
  iapply WP_pure
  isplitr; · ipureintro; exact ⟨rfl, rfl, rfl, rfl, rfl⟩
  isplitl [HJ]; · iexact HJ
  iapply (Iss2_all c M e 1) $$ HK

end Cert.KernelIdeal.Hand

end
-- ==== Proof.HandIdeal.Run.lean ====
/- The whole kernel body. -/
module

public import proofs.«01_k».proof.Proof.HandIdeal.Small

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix1 ix2 ix3 ix4)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The list of active experts summed over: each active expert once. -/
theorem cmpt_sum {α : Type} [AddCommMonoid α] (g : BitVec 32 → α) (f : Fin 13 → BitVec 32) (hf : ∀ i, (f i).toNat ≤ 1) : ∀ n, n ≤ 13 →
    (∑ i ∈ Finset.range (cmpt f n).1.toNat, g ((cmpt f n).2 (cl i))) = ∑ j ∈ Finset.range n, if f (cl j) = 1#32 then g (BitVec.ofNat 32 j) else 0
  | 0, _ => rfl
  | n + 1, hn => by
    have ih := cmpt_sum g f hf n (by omega)
    obtain ⟨h1, h2, h3⟩ := cmpt_inv f hf n (by omega)
    have e : (cmpt f n).2 ⟨n % 13, Nat.mod_lt _ (by decide)⟩ = f (cl n) := by
      rw [h2 _ (by show n ≤ n % 13; omega)]
      exact congrArg f (Fin.ext (by show n % 13 = min n 12; omega))
    have hp : (cmpt f (n + 1)).1 = (cmpt f n).1 + f (cl n) := by
      show Scalar.addi (cmpt f n).1 _ = _
      rw [e]; rfl
    have hl := hf (cl n)
    have hs : ∀ i ∈ Finset.range (cmpt f n).1.toNat, g ((cmpt f (n + 1)).2 (cl i)) = g ((cmpt f n).2 (cl i)) := by
      intro i hi
      have hi := Finset.mem_range.mp hi
      refine congrArg g ?_
      show upd (cmpt f n).2 _ _ (cl i) = _
      exact upd_ne _ _ _ _ (by show min i 12 ≠ _; omega)
    rw [Finset.sum_range_succ _ n, ← ih]
    by_cases hc : f (cl n) = 1#32
    · rw [if_pos hc]
      have hq : (cmpt f (n + 1)).1.toNat = (cmpt f n).1.toNat + 1 := by
        rw [hp, hc, BitVec.toNat_add, show (1#32).toNat = 1 from rfl]; omega
      rw [hq, Finset.sum_range_succ, Finset.sum_congr rfl hs]
      congr 2
      show upd (cmpt f n).2 _ _ (cl _) = _
      exact upd_self _ _ _ _ (by show min _ 12 = _; omega)
    · rw [if_neg hc]
      have h0 : f (cl n) = 0#32 := by
        apply BitVec.eq_of_toNat_eq
        have : (f (cl n)).toNat ≠ 1 := fun h => hc (BitVec.eq_of_toNat_eq h)
        show (f (cl n)).toNat = 0
        omega
      have hq : (cmpt f (n + 1)).1.toNat = (cmpt f n).1.toNat := by
        rw [hp, h0, BitVec.add_zero]
      rw [hq, Finset.sum_congr rfl hs, add_zero]

/-- A flag is set exactly when some slot names the expert. -/
theorem flg_iff (idf : ℕ → BitVec 32) (i : Fin 13) : ∀ n, flg idf n i = 1#32 ↔ ∃ j < n, (idf j).toNat = i.val
  | 0 => by
    constructor
    · intro h
      have h : (0#32 : BitVec 32) = 1#32 := h
      exact absurd h (by decide)
    · rintro ⟨j, hj, -⟩; omega
  | n + 1 => by
    show upd (flg idf n) _ _ i = _ ↔ _
    unfold upd
    by_cases h : i.val = (idf n).toNat
    · rw [if_pos h]
      exact ⟨fun _ => ⟨n, by omega, h.symm⟩, fun _ => rfl⟩
    · rw [if_neg h, flg_iff idf i n]
      constructor
      · rintro ⟨j, hj, e⟩; exact ⟨j, by omega, e⟩
      · rintro ⟨j, hj, e⟩
        rcases Nat.lt_succ_iff_lt_or_eq.mp hj with h' | h'
        · exact ⟨j, h', e⟩
        · subst h'; exact absurd e.symm h

/-- Some expert is active. -/
theorem cnt_pos (idf : ℕ → BitVec 32) (hid : ∀ n, (idf n).toNat < 13) : 0 < (cmpt (flg idf 48) 13).1.toNat := by
  have h := cmpt_sum (fun _ => 1) (flg idf 48) (flg_le idf 48) 13 le_rfl
  have h2 : (∑ j ∈ Finset.range 13, if flg idf 48 (cl j) = 1#32 then 1 else 0) = (cmpt (flg idf 48) 13).1.toNat := by
    rw [← h]; simp
  rw [← h2]
  refine lt_of_lt_of_le Nat.one_pos ((le_of_eq ?_).trans (Finset.single_le_sum (f := fun j => if flg idf 48 (cl j) = 1#32 then 1 else 0) (fun _ _ => Nat.zero_le _) (Finset.mem_range.mpr (hid 0))))
  rw [if_pos]
  rw [flg_iff]
  exact ⟨0, by decide, by show _ = min _ 12; have := hid 0; omega⟩

/-- Block `n` of the activations' lanes. -/
def LA (xv : S6x1x7168.Idx → Elt F .bf16) (n : ℕ) : Vec F S6x1x256 .bf16 := fun j =>
  xv (ix3 (n0 := 6) (n1 := 1) (n2 := 7168) ⟨(j 0).val, (j 0).isLt⟩ 0 ⟨(256 * n + (j 2).val) % 7168, Nat.mod_lt _ (by decide)⟩)
/-- The activations spread for the grouped products. -/
def Xe (xv : S6x1x7168.Idx → Elt F .bf16) : S28x48x256.Idx → Elt F .bf16 := fun i =>
  k0_pay76 V137 32#32 k0_pay73 k0_pay74 (Scalar.cmpi .sgt 32#32 0#32) (LA xv (i 0).val) (ix3 (n0 := 1) (n1 := 48) (n2 := 256) 0 ⟨(i 1).val, (i 1).isLt⟩ ⟨(i 2).val, (i 2).isLt⟩)
/-- The first `n` slabs of the spread activations are written. -/
def XeS (c : Dev nD) (X' : S28x48x256.Idx → Elt F .bf16) (n : ℕ) : sProp 𝕄 :=
  iprop(∃ f, ⌜∀ i : S28x48x256.Idx, (i 0).val < n → f i = X' i⌝ ∗ pt c bX Finset.univ fullShare f)

theorem storeX (f H' : S28x48x256.Idx → Elt F .bf16) {o : Fin 3 → ℕ} {hi : ∀ a, o a + S1x48x256.size a ≤ S28x48x256.size a} {n : ℕ} (eo : o = ![n, 0, 0])
    (w : Vec F S1x48x256 .bf16) (hf : ∀ i : S28x48x256.Idx, (i 0).val < n → f i = H' i)
    (hw : ∀ i : S28x48x256.Idx, (i 0).val = n → w (ix3 (n0 := 1) (n1 := 48) (n2 := 256) ⟨0, Nat.one_pos⟩ ⟨(i 1).val, (i 1).isLt⟩ ⟨(i 2).val, (i 2).isLt⟩) = H' i) :
    ∀ i : S28x48x256.Idx, (i 0).val < n + 1 → (bX.access (Rect.unit (s := S28x48x256) o S1x48x256.size hi)).write (Elt F) f w Finset.univ i = H' i := by
  subst eo
  intro i hn
  by_cases h : (i 0).val = n
  · have e : i = (bX.access (Rect.unit (s := S28x48x256) ![n, 0, 0] S1x48x256.size hi)).emb (ix3 (n0 := 1) (n1 := 48) (n2 := 256) ⟨0, Nat.one_pos⟩ ⟨(i 1).val, (i 1).isLt⟩ ⟨(i 2).val, (i 2).isLt⟩) := by
      funext a; refine Fin.ext ?_
      fin_cases a
      · show (i 0).val = n + 1 * 0; omega
      · show (i 1).val = 0 + 1 * (i 1).val; omega
      · show (i 2).val = 0 + 1 * (i 2).val; omega
    rw [← hw i h]
    conv_lhs => rw [e]
    exact View.write_emb_of_mem _ _ (Finset.mem_univ _)
  · rw [View.write_of_not_mem]
    · exact hf i (by omega)
    · intro hm
      obtain ⟨x, -, hx⟩ := Finset.mem_map.mp hm
      apply h
      rw [← hx]
      have h0 : (x 0).val < 1 := (x 0).isLt
      show n + 1 * (x 0).val = n
      omega

theorem off25_eq : ∀ t : Fin k0_t3_loop.trips, k0_off25 t = ![0, 0, 256 * t.val] := by decide +kernel
theorem off26_eq : ∀ t : Fin k0_t3_loop.trips, k0_off26 t = ![t.val, 0, 0] := by decide +kernel

/-- The kernel's result. -/
def Kout (M : HB F) (idf : ℕ → BitVec 32) (iv : Vec F S6x1x8 .i32) (wv : Vec F S6x1x8 .f32) (xv : S6x1x7168.Idx → Elt F .bf16) : FVec F S6x1x7168 .bf16 :=
  k0_pay84 (Oacc M (Xe xv) mask (toA (cmpt (flg idf 48) 13).2) iv wv (cmpt (flg idf 48) 13).1.toNat)

/-- All first- and second-layer buffers free. -/
def Frees (c : Dev nD) (M : HB F) : sProp 𝕄 :=
  iprop(Free1 c M 0 ∗ Free1 c M 1 ∗ Free1 c M 2 ∗ Free1 c M 3 ∗ Free2 c M 0 ∗ Free2 c M 1)
/-- The other scratch buffers, of any contents. -/
def Scr (c : Dev nD) : sProp 𝕄 :=
  iprop((∃ f, pt (F := F) c bX Finset.univ fullShare f) ∗ (∃ f, pt (F := F) c bH Finset.univ fullShare f) ∗ (∃ f, pt (F := F) c bC Finset.univ fullShare f) ∗ (∃ f, pt (F := F) c bO Finset.univ fullShare f)
    ∗ (∃ f, pt (F := F) c bA Finset.univ fullShare f))

variable (arg0 : Memref sig .tc .smem S48 .i32) (harg0 : arg0.IsWhole) (arg1 : Memref sig .tc .vmem S6x1x8 .i32) (harg1 : arg1.IsWhole)
  (arg2 : Memref sig .tc .vmem S6x1x8 .f32) (harg2 : arg2.IsWhole) (arg3 : Memref sig .tc .vmem S6x1x7168 .bf16) (harg3 : arg3.IsWhole)
  (arg8 : Memref sig .tc .vmem S6x1x7168 .bf16) (harg8 : arg8.IsWhole)

theorem loadX3 (f : arg3.view.ty.Contents (Elt F)) {o : Fin 3 → ℕ} {hi : ∀ a, o a + S6x1x256.size a ≤ S6x1x7168.size a} {n : ℕ} (eo : o = ![0, 0, 256 * n]) (hn : n < 28) :
    arg3.view.readAt (Elt F) (Rect.unit (s := S6x1x7168) o S6x1x256.size hi).toLoadRect f = LA (arg3.view.read (Elt F) f) n := by
  subst eo
  funext j
  have h2 : (j 2).val < 256 := (j 2).isLt
  have h1 : (j 1).val < 1 := (j 1).isLt
  show arg3.view.read (Elt F) f ((Rect.unit (s := S6x1x7168) ![0, 0, 256 * n] S6x1x256.size hi).emb j) = _
  unfold LA
  refine congrArg (arg3.view.read (Elt F) f) (funext fun a => Fin.ext ?_)
  fin_cases a
  · show 0 + 1 * (j 0).val = (j 0).val; omega
  · show 0 + 1 * (j 1).val = 0; omega
  · show 256 * n + 1 * (j 2).val = (256 * n + (j 2).val) % 7168; omega

/-- Spreading one slab of activations. -/
theorem trip3 (c : Dev nD) (x3 : arg3.view.ty.Contents (Elt F)) (t : Fin k0_t3_loop.trips) (u : Unit) :
    iprop(own c arg3 x3 ∗ XeS c (Xe (arg3.view.read (Elt F) x3)) t.val)
      ⊢ WP c (k0_t3_body arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10 V137 32#32 k0_pay73 k0_pay74 (Scalar.cmpi .sgt 32#32 0#32) t u) (fun _ => iprop(own c arg3 x3 ∗ XeS c (Xe (arg3.view.read (Elt F) x3)) (t.val + 1))) := by
  have ht : t.val < 28 := t.isLt
  unfold k0_t3_body
  dsimp only
  unfold XeS
  iintro ⟨H3, ⟨%f, %hf, HX⟩⟩
  iapply (WP_load c (m := arg3) (r := (Rect.unit (s := S6x1x7168) (k0_off25 t) S6x1x256.size (k0_off25_inb t)).toLoadRect) (S := Finset.univ) (f := x3) (LA (arg3.view.read (Elt F) x3) t.val) (Finset.subset_univ _)
    (loadX3 arg3 x3 (off25_eq t) ht)) $$ H3
  iintro H3
  iapply (WP_load c (m := bX) (r := (Rect.unit (s := S28x48x256) (k0_off26 t) S1x48x256.size (k0_off26_inb t)).toLoadRect) (S := Finset.univ) (f := f) _ (Finset.subset_univ _) rfl) $$ HX
  iintro HX
  iapply (WP_storeW c (m := bX) (r := Rect.unit (s := S28x48x256) (k0_off26 t) S1x48x256.size (k0_off26_inb t)) (S := Finset.univ) (f := f)
    (w := k0_pay76 V137 32#32 k0_pay73 k0_pay74 (Scalar.cmpi .sgt 32#32 0#32) (LA (arg3.view.read (Elt F) x3) t.val)) (Finset.subset_univ _)) $$ HX
  iintro HX
  iapply WP_pure
  isplitl [H3]; · iexact H3
  iexists ((bX.access (Rect.unit (s := S28x48x256) (k0_off26 t) S1x48x256.size (k0_off26_inb t))).write (Elt F) f (k0_pay76 V137 32#32 k0_pay73 k0_pay74 (Scalar.cmpi .sgt 32#32 0#32) (LA (arg3.view.read (Elt F) x3) t.val)) Finset.univ)
  isplitr
  · ipureintro
    refine storeX f (Xe (arg3.view.read (Elt F) x3)) (off26_eq t) _ hf fun i hi => ?_
    unfold Xe
    rw [hi]
    all_goals rfl
  iexact HX

/-- Overwriting all of the output accumulator. -/
theorem writeO (f w : S6x8x7168.Idx → Elt F .f32) {hi : ∀ a, (![0, 0, 0] : Fin 3 → ℕ) a + S6x8x7168.size a ≤ S6x8x7168.size a} (i) :
    (bO.access (Rect.unit (s := S6x8x7168) ![0, 0, 0] S6x8x7168.size hi)).write (Elt F) f w Finset.univ i = w i := by
  have e : i = (bO.access (Rect.unit (s := S6x8x7168) ![0, 0, 0] S6x8x7168.size hi)).emb i := by
    funext a; refine Fin.ext ?_
    fin_cases a
    · show (i 0).val = 0 + 1 * (i 0).val; omega
    · show (i 1).val = 0 + 1 * (i 1).val; omega
    · show (i 2).val = 0 + 1 * (i 2).val; omega
  conv_lhs => rw [e]
  exact View.write_emb_of_mem _ _ (Finset.mem_univ _)

theorem Chs_of (c : Dev nD) (M : HB F) (e e' : BitVec 32) (h : e = e') :
    iprop(Wt1 c M e 0 0 ∗ Wt1 c M e 1 0 ∗ Wt1 c M e 2 0 ∗ Wt1 c M e 3 0 ∗ Wt2 c M e 0 0 ∗ Wt2 c M e 1 0) ⊢ Chs c M e' true := by subst h; exact .rfl
theorem Frees_of (c : Dev nD) (M : HB F) (e : BitVec 32) : Chs c M e false ⊢ Frees c M := .rfl

attribute [local irreducible] cmpt flg

set_option maxHeartbeats 400000 in
/-- The body up to the result. -/
theorem part31 (c : Dev nD) (M : HB F) (ids0 : arg0.view.ty.Contents (Elt F)) (hid : ∀ n, (idv arg0 ids0 n).toNat < 13) (ids : arg1.view.ty.Contents (Elt F)) (wts : arg2.view.ty.Contents (Elt F)) (x3 : arg3.view.ty.Contents (Elt F)) :
    iprop(own c arg0 ids0 ∗ own c arg1 ids ∗ own c arg2 wts ∗ own c arg3 x3 ∗ Frees c M ∗ Scr c ∗ Owe c)
      ⊢ WP c (k0_part31 arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10) (fun r => iprop(⌜r = Kout M (idv arg0 ids0) (arg1.view.read (Elt F) ids) (arg2.view.read (Elt F) wts) (arg3.view.read (Elt F) x3)⌝
        ∗ own c arg0 ids0 ∗ own c arg1 ids ∗ own c arg2 wts ∗ own c arg3 x3 ∗ Frees c M ∗ Scr c ∗ Owe c)) := by
  have hpos := cnt_pos (idv arg0 ids0) hid
  have hf := flg_le (idv arg0 ids0) 48
  obtain ⟨hle, -, h13⟩ := cmpt_inv (flg (idv arg0 ids0) 48) hf 13 le_rfl
  rw [k0_part31_eq_skeleton]
  unfold k0_part31_skel
  dsimp only
  unfold Frees Scr
  iintro ⟨H0, H1, H2, H3, ⟨K0, K1, K2, K3, G0, G1⟩, ⟨⟨%fX, HX⟩, HH, HC, ⟨%fO, HO⟩, HA⟩, HW⟩
  iapply (WP_step c (part25 arg0 harg0 arg1 harg1 arg2 harg2 arg3 harg3 arg8 harg8 c ids0 hid)) $$ [H0 HA]
  · isplitl [H0]; · iexact H0
    iexact HA
  iintro %r ⟨%hr, H0, HA⟩
  obtain ⟨a, b⟩ := r
  dsimp only at hr ⊢
  obtain ⟨hr1, hr2⟩ := hr
  subst hr1
  subst hr2
  iapply (WP_step c (part26 arg0 harg0 arg1 harg1 arg2 harg2 arg3 harg3 arg8 harg8 c M (flg (idv arg0 ids0) 48) hf)) $$ [HA K0]
  · isplitl [HA]; · iexact HA
    iexact K0
  iintro %r ⟨%hr, HA, K0⟩
  obtain ⟨v15, k0_hw4, v16, k0_hw3⟩ := r
  dsimp only at hr ⊢
  obtain ⟨hr1, hr2⟩ := hr
  have h16 : v16.toNat < 13 := hr2 ▸ h13 0
  have hv15 : v15.toNat < 14 := by rw [hr1]; omega
  have hv0 : 0 < v15.toNat := by rw [hr1]; exact hpos
  rw [← hr2]
  iapply (WP_step c (part27 arg0 harg0 arg1 harg1 arg2 harg2 arg3 harg3 arg8 harg8 c M v16 h16 k0_hw3)) $$ [K0 K1]
  · isplitl [K0]; · iexact K0
    iexact K1
  iintro %_u ⟨K0, K1⟩
  iapply (WP_step c (part28 arg0 harg0 arg1 harg1 arg2 harg2 arg3 harg3 arg8 harg8 c M v16 h16 k0_hw3)) $$ [K1 K2]
  · isplitl [K1]; · iexact K1
    iexact K2
  iintro %_u ⟨K1, K2⟩
  iapply (WP_step c (part29 arg0 harg0 arg1 harg1 arg2 harg2 arg3 harg3 arg8 harg8 c M v16 h16 k0_hw3)) $$ K3
  iintro %_u K3
  iapply (WP_step c (part30 arg0 harg0 arg1 harg1 arg2 harg2 arg3 harg3 arg8 harg8 c M v16 h16 k0_hw3)) $$ [G0 G1]
  · isplitl [G0]; · iexact G0
    iexact G1
  iintro %r ⟨%hr, G0, G1⟩
  obtain ⟨v137, c32, v139, v146, v147⟩ := r
  dsimp only at hr ⊢
  obtain ⟨e1, e2, e3, e4, e5⟩ := hr
  subst e1 e2 e3 e4 e5
  iapply (WP_for c (fun n _ => iprop(own c arg3 x3 ∗ XeS c (Xe (arg3.view.read (Elt F) x3)) n)) (trip3 arg0 harg0 arg1 harg1 arg2 harg2 arg3 harg3 arg8 harg8 c x3)) $$ [H3 HX]
  · isplitl [H3]; · iexact H3
    unfold XeS
    iexists fX
    isplitr
    · ipureintro; exact fun i h => absurd h (Nat.not_lt_zero _)
    iexact HX
  iintro %acc ⟨H3, HX⟩
  ihave HX := (show XeS c (Xe (arg3.view.read (Elt F) x3)) k0_t3_loop.trips ⊢ pt c bX Finset.univ fullShare (Xe (arg3.view.read (Elt F) x3)) from by
    unfold XeS
    iintro ⟨%f, %h, H⟩
    iapply (Entails.of_eq (pointsTo_congr fun i _ => h i (i 0).isLt)) $$ H) $$ HX
  iapply (WP_load c (m := bO) (r := (Rect.unit (s := S6x8x7168) ![0, 0, 0] S6x8x7168.size inb_S6x8x7168_S6x8x7168_0_0_0).toLoadRect) (S := Finset.univ) (f := fO) _ (Finset.subset_univ _) rfl) $$ HO
  iintro HO
  iapply (WP_storeW c (m := bO) (r := Rect.unit (s := S6x8x7168) ![0, 0, 0] S6x8x7168.size inb_S6x8x7168_S6x8x7168_0_0_0) (S := Finset.univ) (f := fO) (w := k0_pay77 (F := F)) (Finset.subset_univ _)) $$ HO
  iintro HO
  rw [show (bO.access (Rect.unit (s := S6x8x7168) ![0, 0, 0] S6x8x7168.size inb_S6x8x7168_S6x8x7168_0_0_0)).write (Elt F) fO (k0_pay77 (F := F)) Finset.univ = k0_pay77 (F := F) from funext (writeO fO _)]
  iapply (loop4 arg0 harg0 arg1 harg1 arg2 harg2 arg3 harg3 arg8 harg8 c M (Xe (arg3.view.read (Elt F) x3)) (toA (F := F) (cmpt (flg (idv arg0 ids0) 48) 13).2) (fun i => h13 (i 0)) ids wts v15 hv15 hv0 k0_hw4 V137 32#32 k0_pay73 k0_pay74 (Scalar.cmpi .sgt 32#32 0#32)) $$ [K0 K1 K2 K3 G0 G1 H1 H2 HX HH HC HO HA HW]
  · isplitl [K0 K1 K2 K3 G0 G1]
    · iapply (Chs_of c M v16 (toA (F := F) (cmpt (flg (idv arg0 ids0) 48) 13).2 (ix1 0)) hr2)
      isplitl [K0]; · iexact K0
      isplitl [K1]; · iexact K1
      isplitl [K2]; · iexact K2
      isplitl [K3]; · iexact K3
      isplitl [G0]; · iexact G0
      iexact G1
    unfold Car
    isplitl [HX]; · iexact HX
    isplitl [HH]; · iexact HH
    isplitl [HC]; · iexact HC
    isplitl [HO]; · iexact HO
    isplitl [HA]; · iexact HA
    isplitl [H1]; · iexact H1
    isplitl [H2]; · iexact H2
    iexact HW
  unfold Car
  iintro ⟨HK, HX, HH, HC, HO, HA, H1, H2, HW⟩
  ihave HK := (Frees_of c M (toA (F := F) (cmpt (flg (idv arg0 ids0) 48) 13).2 (ix1 (cl v15.toNat)))) $$ HK
  have h17 : (k0_t17_loop v15).trips = 0 := (nums v15 hv15).2.1
  iapply (WP_for c (fun n _ => iprop(⌜True⌝)) (fun t _ => absurd t.isLt (by omega))) $$ []
  · ipureintro; trivial
  iintro %acc -
  iapply (WP_load c (m := bO) (r := (Rect.unit (s := S6x8x7168) ![0, 0, 0] S6x8x7168.size inb_S6x8x7168_S6x8x7168_0_0_0).toLoadRect) (S := Finset.univ)
    (f := Oacc M (Xe (arg3.view.read (Elt F) x3)) mask (toA (F := F) (cmpt (flg (idv arg0 ids0) 48) 13).2) (arg1.view.read (Elt F) ids) (arg2.view.read (Elt F) wts) v15.toNat)
    (Oacc M (Xe (arg3.view.read (Elt F) x3)) mask (toA (F := F) (cmpt (flg (idv arg0 ids0) 48) 13).2) (arg1.view.read (Elt F) ids) (arg2.view.read (Elt F) wts) v15.toNat) (Finset.subset_univ _)
    (readAt_all bO (by decide) _)) $$ HO
  iintro HO
  iapply WP_pure
  isplitr
  · ipureintro
    unfold Kout
    rw [← hr1]
  isplitl [H0]; · iexact H0
  isplitl [H1]; · iexact H1
  isplitl [H2]; · iexact H2
  isplitl [H3]; · iexact H3
  isplitl [HK]; · iapply (show Frees c M ⊢ iprop(Free1 c M 0 ∗ Free1 c M 1 ∗ Free1 c M 2 ∗ Free1 c M 3 ∗ Free2 c M 0 ∗ Free2 c M 1) from .rfl) $$ HK
  isplitl [HX HH HC HO HA]
  · isplitl [HX]; · iexists _; iexact HX
    isplitl [HH]; · iexact HH
    isplitl [HC]; · iexact HC
    isplitl [HO]; · iexists _; iexact HO
    iexists _; iexact HA
  iexact HW

end Cert.KernelIdeal.Hand

end
-- ==== Proof.HandIdeal.Body.lean ====
/- The kernel body with its result stored. -/
module

public import proofs.«01_k».proof.Proof.HandIdeal.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix1 ix2 ix3 ix4)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A whole buffer read back after a store over all of it. -/
theorem read_storeY (arg8 : Memref sig .tc .vmem S6x1x7168 .bf16) (harg8 : arg8.IsWhole) (f : arg8.view.ty.Contents (Elt F)) (w : S6x1x7168.Idx → Elt F .bf16)
    {hi : ∀ a, (![0, 0, 0] : Fin 3 → ℕ) a + S6x1x7168.size a ≤ S6x1x7168.size a} :
    arg8.view.read (Elt F) ((arg8.access (Rect.unit (s := S6x1x7168) ![0, 0, 0] S6x1x7168.size hi)).write (Elt F) f w Finset.univ) = w := by
  funext j
  have e : arg8.view.emb j = (arg8.access (Rect.unit (s := S6x1x7168) ![0, 0, 0] S6x1x7168.size hi)).emb j := by
    refine congrArg arg8.view.emb ?_
    funext a; refine Fin.ext ?_
    fin_cases a
    · show (j 0).val = 0 + 1 * (j 0).val; omega
    · show (j 1).val = 0 + 1 * (j 1).val; omega
    · show (j 2).val = 0 + 1 * (j 2).val; omega
  have h := View.write_emb_of_mem (Val := Elt F) (v := arg8.access (Rect.unit (s := S6x1x7168) ![0, 0, 0] S6x1x7168.size hi)) (f := f) (w := w) (M := Finset.univ) (x := j) (Finset.mem_univ _)
  rw [← e] at h
  unfold View.read
  rw [h]
  simp

variable (arg0 : Memref sig .tc .smem S48 .i32) (harg0 : arg0.IsWhole) (arg1 : Memref sig .tc .vmem S6x1x8 .i32) (harg1 : arg1.IsWhole)
  (arg2 : Memref sig .tc .vmem S6x1x8 .f32) (harg2 : arg2.IsWhole) (arg3 : Memref sig .tc .vmem S6x1x7168 .bf16) (harg3 : arg3.IsWhole)
  (arg8 : Memref sig .tc .vmem S6x1x7168 .bf16) (harg8 : arg8.IsWhole)

/-- The body: everything comes back, and the result's buffer reads as computed. -/
theorem body (c : Dev nD) (M : HB F) (ids0 : arg0.view.ty.Contents (Elt F)) (hid : ∀ n, (idv arg0 ids0 n).toNat < 13) (ids : arg1.view.ty.Contents (Elt F)) (wts : arg2.view.ty.Contents (Elt F)) (x3 : arg3.view.ty.Contents (Elt F))
    (y : arg8.view.ty.Contents (Elt F)) :
    iprop(own c arg0 ids0 ∗ own c arg1 ids ∗ own c arg2 wts ∗ own c arg3 x3 ∗ own c arg8 y ∗ Frees c M ∗ Scr c ∗ Owe c)
      ⊢ WP c (cc0_moe_mxfp4_decode arg0 harg0 arg1 harg1 arg2 harg2 arg3 harg3 mW1 (Memref.isWhole_whole _) mS1 (Memref.isWhole_whole _) mW2 (Memref.isWhole_whole _) mS2 (Memref.isWhole_whole _) arg8 harg8 bW1 (Memref.isWhole_whole _) bS1 (Memref.isWhole_whole _) bW2 (Memref.isWhole_whole _) bS2 (Memref.isWhole_whole _) bX (Memref.isWhole_whole _) bH (Memref.isWhole_whole _) bC (Memref.isWhole_whole _) bO (Memref.isWhole_whole _) bA (Memref.isWhole_whole _) cc0_scratch9 cc0_scratch10) (fun _ => iprop(own c arg0 ids0 ∗ own c arg1 ids ∗ own c arg2 wts ∗ own c arg3 x3
        ∗ (∃ g, ⌜arg8.view.read (Elt F) g = Kout M (idv arg0 ids0) (arg1.view.read (Elt F) ids) (arg2.view.read (Elt F) wts) (arg3.view.read (Elt F) x3)⌝ ∗ own c arg8 g)
        ∗ Frees c M ∗ Scr c ∗ Owe c)) := by
  rw [cc0_moe_mxfp4_decode_eq_skeleton]
  unfold cc0_moe_mxfp4_decode_skel
  iintro ⟨H0, H1, H2, H3, H8, HF, HS, HW⟩
  iapply (WP_step c (part31 arg0 harg0 arg1 harg1 arg2 harg2 arg3 harg3 arg8 harg8 c M ids0 hid ids wts x3)) $$ [H0 H1 H2 H3 HF HS HW]
  · isplitl [H0]; · iexact H0
    isplitl [H1]; · iexact H1
    isplitl [H2]; · iexact H2
    isplitl [H3]; · iexact H3
    isplitl [HF]; · iexact HF
    isplitl [HS]; · iexact HS
    iexact HW
  iintro %r ⟨%hr, H0, H1, H2, H3, HF, HS, HW⟩
  iapply (WP_load c (m := arg8) (r := (Rect.unit (s := S6x1x7168) ![0, 0, 0] S6x1x7168.size inb_S6x1x7168_S6x1x7168_0_0_0).toLoadRect) (S := Finset.univ) (f := y) _ (Finset.subset_univ _) rfl) $$ H8
  iintro H8
  iapply (WP_storeW c (m := arg8) (r := Rect.unit (s := S6x1x7168) ![0, 0, 0] S6x1x7168.size inb_S6x1x7168_S6x1x7168_0_0_0) (S := Finset.univ) (f := y) (w := r) (Finset.subset_univ _)) $$ H8
  iintro H8
  iapply (WP_pure c)
  isplitl [H0]; · iexact H0
  isplitl [H1]; · iexact H1
  isplitl [H2]; · iexact H2
  isplitl [H3]; · iexact H3
  isplitl [H8]
  · iexists _; isplitr
    swap; · iexact H8
    ipureintro; exact (read_storeY arg8 harg8 y r).trans hr
  isplitl [HF]; · iexact HF
  isplitl [HS]; · iexact HS
  iexact HW

end Cert.KernelIdeal.Hand

end
-- ==== Proof.HandIdeal.Deal.lean ====
/- Dealing the kernel's buffers into the pieces its copies use, and joining them again. -/
module

public import proofs.«01_k».proof.Proof.HandIdeal.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix1 ix2 ix3 ix4)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A whole buffer is its 8 pieces. -/
theorem cut8 (ℓ : Loc nD τ sig) (K : Fin 8 → Finset (Idx ℓ)) (hd : ∀ t t', t ≠ t' → Disjoint (K t) (K t')) (hu : ∀ i, ∃ t, i ∈ K t) (f : Buf (Elt F) ℓ) :
    (ℓ ↦[Finset.univ]{fullShare} f : sProp 𝕄) ⊢ iprop((ℓ ↦[K 0]{fullShare} f) ∗ (ℓ ↦[K 1]{fullShare} f) ∗ (ℓ ↦[K 2]{fullShare} f) ∗ (ℓ ↦[K 3]{fullShare} f) ∗ (ℓ ↦[K 4]{fullShare} f) ∗ (ℓ ↦[K 5]{fullShare} f) ∗ (ℓ ↦[K 6]{fullShare} f) ∗ (ℓ ↦[K 7]{fullShare} f)) := by
  classical
  have e : (Finset.univ : Finset (Idx ℓ)) = Finset.univ.biUnion K := by
    ext i; simp only [Finset.mem_univ, Finset.mem_biUnion, true_and, true_iff]; exact hu i
  rw [e, pointsTo_biUnion Finset.univ K fun t _ t' _ h => hd t t' h]
  rw [BI.bigSep_eq_bigSepL_of_eq [0, 1, 2, 3, 4, 5, 6, 7] (by decide) (by decide)]
  exact .rfl

/-- Pieces of any contents join to a whole buffer of some contents. -/
theorem join8 (ℓ : Loc nD τ sig) (K : Fin 8 → Finset (Idx ℓ)) (hd : ∀ t t', t ≠ t' → Disjoint (K t) (K t')) (hu : ∀ i, ∃ t, i ∈ K t) (f0 f1 f2 f3 f4 f5 f6 f7 : Buf (Elt F) ℓ) :
    iprop((ℓ ↦[K 0]{fullShare} f0) ∗ (ℓ ↦[K 1]{fullShare} f1) ∗ (ℓ ↦[K 2]{fullShare} f2) ∗ (ℓ ↦[K 3]{fullShare} f3) ∗ (ℓ ↦[K 4]{fullShare} f4) ∗ (ℓ ↦[K 5]{fullShare} f5) ∗ (ℓ ↦[K 6]{fullShare} f6) ∗ (ℓ ↦[K 7]{fullShare} f7)) ⊢ (iprop(∃ f, ℓ ↦[Finset.univ]{fullShare} f) : sProp 𝕄) := by
  classical
  have e : (Finset.univ : Finset (Idx ℓ)) = Finset.univ.biUnion K := by
    ext i; simp only [Finset.mem_univ, Finset.mem_biUnion, true_and, true_iff]; exact hu i
  have h := pointsTo_biUnion_join (q := fullShare) (Ix := Unit) (Name := ℕ) (U := Pipeline.UD sig nD τ) (Lvl := ℕ) Finset.univ K (fun t : Fin 8 => (![f0, f1, f2, f3, f4, f5, f6, f7] : Fin 8 → Buf (Elt F) ℓ) t) f0 fun t _ t' _ h => hd t t' h
  rw [BI.bigSep_eq_bigSepL_of_eq [0, 1, 2, 3, 4, 5, 6, 7] (by decide) (by decide)] at h
  rw [e]
  refine (show _ ⊢ _ from h).trans ?_
  iintro ⟨%g, -, H⟩
  iexists g; iexact H

/-- A whole buffer as 8 shares and a rest. -/
theorem toks8 (ℓ : Loc nD τ sig) (f : Buf (Elt F) ℓ) :
    (ℓ ↦[Finset.univ]{fullShare} f : sProp 𝕄) ⊣⊢ iprop((ℓ ↦[Finset.univ]{Transfers.shareDrop fullShare 8} f) ∗ (ℓ ↦[Finset.univ]{tk 0} f) ∗ (ℓ ↦[Finset.univ]{tk 1} f) ∗ (ℓ ↦[Finset.univ]{tk 2} f) ∗ (ℓ ↦[Finset.univ]{tk 3} f) ∗ (ℓ ↦[Finset.univ]{tk 4} f) ∗ (ℓ ↦[Finset.univ]{tk 5} f) ∗ (ℓ ↦[Finset.univ]{tk 6} f) ∗ (ℓ ↦[Finset.univ]{tk 7} f)) := by
  have h := Transfers.pointsTo_toks_range (Ix := Unit) (Name := ℕ) (U := Pipeline.UD sig nD τ) (Lvl := ℕ) (ℓ := ℓ) (S := Finset.univ) (f := f) fullShare 8
  rw [BI.bigSep_eq_bigSepL_of_eq [0, 1, 2, 3, 4, 5, 6, 7] (by decide) (by decide)] at h
  exact h

/-- A whole buffer is its 2 pieces. -/
theorem cut2 (ℓ : Loc nD τ sig) (K : Fin 2 → Finset (Idx ℓ)) (hd : ∀ t t', t ≠ t' → Disjoint (K t) (K t')) (hu : ∀ i, ∃ t, i ∈ K t) (f : Buf (Elt F) ℓ) :
    (ℓ ↦[Finset.univ]{fullShare} f : sProp 𝕄) ⊢ iprop((ℓ ↦[K 0]{fullShare} f) ∗ (ℓ ↦[K 1]{fullShare} f)) := by
  classical
  have e : (Finset.univ : Finset (Idx ℓ)) = Finset.univ.biUnion K := by
    ext i; simp only [Finset.mem_univ, Finset.mem_biUnion, true_and, true_iff]; exact hu i
  rw [e, pointsTo_biUnion Finset.univ K fun t _ t' _ h => hd t t' h]
  rw [BI.bigSep_eq_bigSepL_of_eq [0, 1] (by decide) (by decide)]
  exact .rfl

/-- Pieces of any contents join to a whole buffer of some contents. -/
theorem join2 (ℓ : Loc nD τ sig) (K : Fin 2 → Finset (Idx ℓ)) (hd : ∀ t t', t ≠ t' → Disjoint (K t) (K t')) (hu : ∀ i, ∃ t, i ∈ K t) (f0 f1 : Buf (Elt F) ℓ) :
    iprop((ℓ ↦[K 0]{fullShare} f0) ∗ (ℓ ↦[K 1]{fullShare} f1)) ⊢ (iprop(∃ f, ℓ ↦[Finset.univ]{fullShare} f) : sProp 𝕄) := by
  classical
  have e : (Finset.univ : Finset (Idx ℓ)) = Finset.univ.biUnion K := by
    ext i; simp only [Finset.mem_univ, Finset.mem_biUnion, true_and, true_iff]; exact hu i
  have h := pointsTo_biUnion_join (q := fullShare) (Ix := Unit) (Name := ℕ) (U := Pipeline.UD sig nD τ) (Lvl := ℕ) Finset.univ K (fun t : Fin 2 => (![f0, f1] : Fin 2 → Buf (Elt F) ℓ) t) f0 fun t _ t' _ h => hd t t' h
  rw [BI.bigSep_eq_bigSepL_of_eq [0, 1] (by decide) (by decide)] at h
  rw [e]
  refine (show _ ⊢ _ from h).trans ?_
  iintro ⟨%g, -, H⟩
  iexists g; iexact H

/-- A whole buffer as 2 shares and a rest. -/
theorem toks2 (ℓ : Loc nD τ sig) (f : Buf (Elt F) ℓ) :
    (ℓ ↦[Finset.univ]{fullShare} f : sProp 𝕄) ⊣⊢ iprop((ℓ ↦[Finset.univ]{Transfers.shareDrop fullShare 2} f) ∗ (ℓ ↦[Finset.univ]{tk 0} f) ∗ (ℓ ↦[Finset.univ]{tk 1} f)) := by
  have h := Transfers.pointsTo_toks_range (Ix := Unit) (Name := ℕ) (U := Pipeline.UD sig nD τ) (Lvl := ℕ) (ℓ := ℓ) (S := Finset.univ) (f := f) fullShare 2
  rw [BI.bigSep_eq_bigSepL_of_eq [0, 1] (by decide) (by decide)] at h
  exact h

theorem PW1_disj (t t' : Fin 8) (h : t ≠ t') : Disjoint ((fun t : Fin 8 => PW1 (t.val / 2) (t.val % 2)) t) ((fun t : Fin 8 => PW1 (t.val / 2) (t.val % 2)) t') := by
  refine Finset.disjoint_left.mpr fun i h1 h2 => h (Fin.ext ?_)
  simp only [PW1, Finset.mem_filter, Finset.mem_univ, true_and] at h1 h2
  omega

theorem PW1_cover (i : S4x2x3584x512.Idx) : ∃ t, i ∈ (fun t : Fin 8 => PW1 (t.val / 2) (t.val % 2)) t := by
  have h0 : (i 0).val < 4 := (i 0).isLt
  have h1 : (i 1).val < 2 := (i 1).isLt
  refine ⟨⟨2 * (i 0).val + (i 1).val, by omega⟩, ?_⟩
  simp only [PW1, Finset.mem_filter, Finset.mem_univ, true_and]
  constructor <;> omega

/-- The scratch buffer's pieces. -/
theorem bW1_cut (c : Dev nD) : iprop(∃ f, own (F := F) c bW1 f) ⊢ iprop((∃ f, pt (F := F) c bW1 (PW1 0 0) fullShare f) ∗ (∃ f, pt (F := F) c bW1 (PW1 0 1) fullShare f) ∗ (∃ f, pt (F := F) c bW1 (PW1 1 0) fullShare f) ∗ (∃ f, pt (F := F) c bW1 (PW1 1 1) fullShare f) ∗ (∃ f, pt (F := F) c bW1 (PW1 2 0) fullShare f) ∗ (∃ f, pt (F := F) c bW1 (PW1 2 1) fullShare f) ∗ (∃ f, pt (F := F) c bW1 (PW1 3 0) fullShare f) ∗ (∃ f, pt (F := F) c bW1 (PW1 3 1) fullShare f)) := by
  iintro ⟨%f, H⟩
  icases (show own (F := F) c bW1 f ⊢ iprop(pt (F := F) c bW1 (PW1 0 0) fullShare f ∗ pt (F := F) c bW1 (PW1 0 1) fullShare f ∗ pt (F := F) c bW1 (PW1 1 0) fullShare f ∗ pt (F := F) c bW1 (PW1 1 1) fullShare f ∗ pt (F := F) c bW1 (PW1 2 0) fullShare f ∗ pt (F := F) c bW1 (PW1 2 1) fullShare f ∗ pt (F := F) c bW1 (PW1 3 0) fullShare f ∗ pt (F := F) c bW1 (PW1 3 1) fullShare f) from
    cut8 (bW1.view.loc (c : Thread nD τ)) (fun t : Fin 8 => PW1 (t.val / 2) (t.val % 2)) PW1_disj PW1_cover f) $$ H with ⟨H0, H1, H2, H3, H4, H5, H6, H7⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7

theorem bW1_join (c : Dev nD) : iprop((∃ f, pt (F := F) c bW1 (PW1 0 0) fullShare f) ∗ (∃ f, pt (F := F) c bW1 (PW1 0 1) fullShare f) ∗ (∃ f, pt (F := F) c bW1 (PW1 1 0) fullShare f) ∗ (∃ f, pt (F := F) c bW1 (PW1 1 1) fullShare f) ∗ (∃ f, pt (F := F) c bW1 (PW1 2 0) fullShare f) ∗ (∃ f, pt (F := F) c bW1 (PW1 2 1) fullShare f) ∗ (∃ f, pt (F := F) c bW1 (PW1 3 0) fullShare f) ∗ (∃ f, pt (F := F) c bW1 (PW1 3 1) fullShare f)) ⊢ iprop(∃ f, own (F := F) c bW1 f) := by
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iapply (show iprop(pt (F := F) c bW1 (PW1 0 0) fullShare f0 ∗ pt (F := F) c bW1 (PW1 0 1) fullShare f1 ∗ pt (F := F) c bW1 (PW1 1 0) fullShare f2 ∗ pt (F := F) c bW1 (PW1 1 1) fullShare f3 ∗ pt (F := F) c bW1 (PW1 2 0) fullShare f4 ∗ pt (F := F) c bW1 (PW1 2 1) fullShare f5 ∗ pt (F := F) c bW1 (PW1 3 0) fullShare f6 ∗ pt (F := F) c bW1 (PW1 3 1) fullShare f7) ⊢ iprop(∃ f, own (F := F) c bW1 f) from
    join8 (bW1.view.loc (c : Thread nD τ)) (fun t : Fin 8 => PW1 (t.val / 2) (t.val % 2)) PW1_disj PW1_cover f0 f1 f2 f3 f4 f5 f6 f7)
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem PS1_disj (t t' : Fin 8) (h : t ≠ t') : Disjoint ((fun t : Fin 8 => PS1 (t.val / 2) (t.val % 2)) t) ((fun t : Fin 8 => PS1 (t.val / 2) (t.val % 2)) t') := by
  refine Finset.disjoint_left.mpr fun i h1 h2 => h (Fin.ext ?_)
  simp only [PS1, Finset.mem_filter, Finset.mem_univ, true_and] at h1 h2
  omega

theorem PS1_cover (i : S4x2x224x512.Idx) : ∃ t, i ∈ (fun t : Fin 8 => PS1 (t.val / 2) (t.val % 2)) t := by
  have h0 : (i 0).val < 4 := (i 0).isLt
  have h1 : (i 1).val < 2 := (i 1).isLt
  refine ⟨⟨2 * (i 0).val + (i 1).val, by omega⟩, ?_⟩
  simp only [PS1, Finset.mem_filter, Finset.mem_univ, true_and]
  constructor <;> omega

/-- The scratch buffer's pieces. -/
theorem bS1_cut (c : Dev nD) : iprop(∃ f, own (F := F) c bS1 f) ⊢ iprop((∃ f, pt (F := F) c bS1 (PS1 0 0) fullShare f) ∗ (∃ f, pt (F := F) c bS1 (PS1 0 1) fullShare f) ∗ (∃ f, pt (F := F) c bS1 (PS1 1 0) fullShare f) ∗ (∃ f, pt (F := F) c bS1 (PS1 1 1) fullShare f) ∗ (∃ f, pt (F := F) c bS1 (PS1 2 0) fullShare f) ∗ (∃ f, pt (F := F) c bS1 (PS1 2 1) fullShare f) ∗ (∃ f, pt (F := F) c bS1 (PS1 3 0) fullShare f) ∗ (∃ f, pt (F := F) c bS1 (PS1 3 1) fullShare f)) := by
  iintro ⟨%f, H⟩
  icases (show own (F := F) c bS1 f ⊢ iprop(pt (F := F) c bS1 (PS1 0 0) fullShare f ∗ pt (F := F) c bS1 (PS1 0 1) fullShare f ∗ pt (F := F) c bS1 (PS1 1 0) fullShare f ∗ pt (F := F) c bS1 (PS1 1 1) fullShare f ∗ pt (F := F) c bS1 (PS1 2 0) fullShare f ∗ pt (F := F) c bS1 (PS1 2 1) fullShare f ∗ pt (F := F) c bS1 (PS1 3 0) fullShare f ∗ pt (F := F) c bS1 (PS1 3 1) fullShare f) from
    cut8 (bS1.view.loc (c : Thread nD τ)) (fun t : Fin 8 => PS1 (t.val / 2) (t.val % 2)) PS1_disj PS1_cover f) $$ H with ⟨H0, H1, H2, H3, H4, H5, H6, H7⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7

theorem bS1_join (c : Dev nD) : iprop((∃ f, pt (F := F) c bS1 (PS1 0 0) fullShare f) ∗ (∃ f, pt (F := F) c bS1 (PS1 0 1) fullShare f) ∗ (∃ f, pt (F := F) c bS1 (PS1 1 0) fullShare f) ∗ (∃ f, pt (F := F) c bS1 (PS1 1 1) fullShare f) ∗ (∃ f, pt (F := F) c bS1 (PS1 2 0) fullShare f) ∗ (∃ f, pt (F := F) c bS1 (PS1 2 1) fullShare f) ∗ (∃ f, pt (F := F) c bS1 (PS1 3 0) fullShare f) ∗ (∃ f, pt (F := F) c bS1 (PS1 3 1) fullShare f)) ⊢ iprop(∃ f, own (F := F) c bS1 f) := by
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iapply (show iprop(pt (F := F) c bS1 (PS1 0 0) fullShare f0 ∗ pt (F := F) c bS1 (PS1 0 1) fullShare f1 ∗ pt (F := F) c bS1 (PS1 1 0) fullShare f2 ∗ pt (F := F) c bS1 (PS1 1 1) fullShare f3 ∗ pt (F := F) c bS1 (PS1 2 0) fullShare f4 ∗ pt (F := F) c bS1 (PS1 2 1) fullShare f5 ∗ pt (F := F) c bS1 (PS1 3 0) fullShare f6 ∗ pt (F := F) c bS1 (PS1 3 1) fullShare f7) ⊢ iprop(∃ f, own (F := F) c bS1 f) from
    join8 (bS1.view.loc (c : Thread nD τ)) (fun t : Fin 8 => PS1 (t.val / 2) (t.val % 2)) PS1_disj PS1_cover f0 f1 f2 f3 f4 f5 f6 f7)
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem PW2_disj (t t' : Fin 2) (h : t ≠ t') : Disjoint ((fun t : Fin 2 => PW2 t.val) t) ((fun t : Fin 2 => PW2 t.val) t') := by
  refine Finset.disjoint_left.mpr fun i h1 h2 => h (Fin.ext ?_)
  simp only [PW2, Finset.mem_filter, Finset.mem_univ, true_and] at h1 h2
  omega

theorem PW2_cover (i : S2x1024x3584.Idx) : ∃ t, i ∈ (fun t : Fin 2 => PW2 t.val) t := by
  have h0 : (i 0).val < 2 := (i 0).isLt
  refine ⟨⟨(i 0).val, h0⟩, ?_⟩
  simp only [PW2, Finset.mem_filter, Finset.mem_univ, true_and]

/-- The scratch buffer's pieces. -/
theorem bW2_cut (c : Dev nD) : iprop(∃ f, own (F := F) c bW2 f) ⊢ iprop((∃ f, pt (F := F) c bW2 (PW2 0) fullShare f) ∗ (∃ f, pt (F := F) c bW2 (PW2 1) fullShare f)) := by
  iintro ⟨%f, H⟩
  icases (show own (F := F) c bW2 f ⊢ iprop(pt (F := F) c bW2 (PW2 0) fullShare f ∗ pt (F := F) c bW2 (PW2 1) fullShare f) from
    cut2 (bW2.view.loc (c : Thread nD τ)) (fun t : Fin 2 => PW2 t.val) PW2_disj PW2_cover f) $$ H with ⟨H0, H1⟩
  isplitl [H0]; · iexists f; iexact H0
  iexists f; iexact H1

theorem bW2_join (c : Dev nD) : iprop((∃ f, pt (F := F) c bW2 (PW2 0) fullShare f) ∗ (∃ f, pt (F := F) c bW2 (PW2 1) fullShare f)) ⊢ iprop(∃ f, own (F := F) c bW2 f) := by
  iintro ⟨⟨%f0, H0⟩, ⟨%f1, H1⟩⟩
  iapply (show iprop(pt (F := F) c bW2 (PW2 0) fullShare f0 ∗ pt (F := F) c bW2 (PW2 1) fullShare f1) ⊢ iprop(∃ f, own (F := F) c bW2 f) from
    join2 (bW2.view.loc (c : Thread nD τ)) (fun t : Fin 2 => PW2 t.val) PW2_disj PW2_cover f0 f1)
  isplitl [H0]; · iexact H0
  iexact H1

theorem PS2_disj (t t' : Fin 2) (h : t ≠ t') : Disjoint ((fun t : Fin 2 => PS2 t.val) t) ((fun t : Fin 2 => PS2 t.val) t') := by
  refine Finset.disjoint_left.mpr fun i h1 h2 => h (Fin.ext ?_)
  simp only [PS2, Finset.mem_filter, Finset.mem_univ, true_and] at h1 h2
  omega

theorem PS2_cover (i : S2x64x3584.Idx) : ∃ t, i ∈ (fun t : Fin 2 => PS2 t.val) t := by
  have h0 : (i 0).val < 2 := (i 0).isLt
  refine ⟨⟨(i 0).val, h0⟩, ?_⟩
  simp only [PS2, Finset.mem_filter, Finset.mem_univ, true_and]

/-- The scratch buffer's pieces. -/
theorem bS2_cut (c : Dev nD) : iprop(∃ f, own (F := F) c bS2 f) ⊢ iprop((∃ f, pt (F := F) c bS2 (PS2 0) fullShare f) ∗ (∃ f, pt (F := F) c bS2 (PS2 1) fullShare f)) := by
  iintro ⟨%f, H⟩
  icases (show own (F := F) c bS2 f ⊢ iprop(pt (F := F) c bS2 (PS2 0) fullShare f ∗ pt (F := F) c bS2 (PS2 1) fullShare f) from
    cut2 (bS2.view.loc (c : Thread nD τ)) (fun t : Fin 2 => PS2 t.val) PS2_disj PS2_cover f) $$ H with ⟨H0, H1⟩
  isplitl [H0]; · iexists f; iexact H0
  iexists f; iexact H1

theorem bS2_join (c : Dev nD) : iprop((∃ f, pt (F := F) c bS2 (PS2 0) fullShare f) ∗ (∃ f, pt (F := F) c bS2 (PS2 1) fullShare f)) ⊢ iprop(∃ f, own (F := F) c bS2 f) := by
  iintro ⟨⟨%f0, H0⟩, ⟨%f1, H1⟩⟩
  iapply (show iprop(pt (F := F) c bS2 (PS2 0) fullShare f0 ∗ pt (F := F) c bS2 (PS2 1) fullShare f1) ⊢ iprop(∃ f, own (F := F) c bS2 f) from
    join2 (bS2.view.loc (c : Thread nD τ)) (fun t : Fin 2 => PS2 t.val) PS2_disj PS2_cover f0 f1)
  isplitl [H0]; · iexact H0
  iexact H1

theorem Free1_eq0 (c : Dev nD) (M : HB F) : Free1 c M 0 = iprop(semVal ((c : Thread nD τ), SemLoc.dma 5) 0 ∗ (pt c mW1 Finset.univ (tk (2 * 0 + 0)) M.w1 ∗ ∃ f, pt c bW1 (PW1 0 0) fullShare f) ∗ (pt c mS1 Finset.univ (tk (2 * 0 + 0)) M.s1 ∗ ∃ f, pt c bS1 (PS1 0 0) fullShare f) ∗ (pt c mW1 Finset.univ (tk (2 * 0 + 1)) M.w1 ∗ ∃ f, pt c bW1 (PW1 0 1) fullShare f) ∗ (pt c mS1 Finset.univ (tk (2 * 0 + 1)) M.s1 ∗ ∃ f, pt c bS1 (PS1 0 1) fullShare f)) := rfl
theorem Free1_eq1 (c : Dev nD) (M : HB F) : Free1 c M 1 = iprop(semVal ((c : Thread nD τ), SemLoc.dma 6) 0 ∗ (pt c mW1 Finset.univ (tk (2 * 1 + 0)) M.w1 ∗ ∃ f, pt c bW1 (PW1 1 0) fullShare f) ∗ (pt c mS1 Finset.univ (tk (2 * 1 + 0)) M.s1 ∗ ∃ f, pt c bS1 (PS1 1 0) fullShare f) ∗ (pt c mW1 Finset.univ (tk (2 * 1 + 1)) M.w1 ∗ ∃ f, pt c bW1 (PW1 1 1) fullShare f) ∗ (pt c mS1 Finset.univ (tk (2 * 1 + 1)) M.s1 ∗ ∃ f, pt c bS1 (PS1 1 1) fullShare f)) := rfl
theorem Free1_eq2 (c : Dev nD) (M : HB F) : Free1 c M 2 = iprop(semVal ((c : Thread nD τ), SemLoc.dma 7) 0 ∗ (pt c mW1 Finset.univ (tk (2 * 2 + 0)) M.w1 ∗ ∃ f, pt c bW1 (PW1 2 0) fullShare f) ∗ (pt c mS1 Finset.univ (tk (2 * 2 + 0)) M.s1 ∗ ∃ f, pt c bS1 (PS1 2 0) fullShare f) ∗ (pt c mW1 Finset.univ (tk (2 * 2 + 1)) M.w1 ∗ ∃ f, pt c bW1 (PW1 2 1) fullShare f) ∗ (pt c mS1 Finset.univ (tk (2 * 2 + 1)) M.s1 ∗ ∃ f, pt c bS1 (PS1 2 1) fullShare f)) := rfl
theorem Free1_eq3 (c : Dev nD) (M : HB F) : Free1 c M 3 = iprop(semVal ((c : Thread nD τ), SemLoc.dma 8) 0 ∗ (pt c mW1 Finset.univ (tk (2 * 3 + 0)) M.w1 ∗ ∃ f, pt c bW1 (PW1 3 0) fullShare f) ∗ (pt c mS1 Finset.univ (tk (2 * 3 + 0)) M.s1 ∗ ∃ f, pt c bS1 (PS1 3 0) fullShare f) ∗ (pt c mW1 Finset.univ (tk (2 * 3 + 1)) M.w1 ∗ ∃ f, pt c bW1 (PW1 3 1) fullShare f) ∗ (pt c mS1 Finset.univ (tk (2 * 3 + 1)) M.s1 ∗ ∃ f, pt c bS1 (PS1 3 1) fullShare f)) := rfl
theorem Free2_eq0 (c : Dev nD) (M : HB F) : Free2 c M 0 = iprop(semVal ((c : Thread nD τ), SemLoc.dma 9) 0 ∗ (pt c mW2 Finset.univ (tk 0) M.w2 ∗ ∃ f, pt c bW2 (PW2 0) fullShare f) ∗ (pt c mS2 Finset.univ (tk 0) M.s2 ∗ ∃ f, pt c bS2 (PS2 0) fullShare f)) := rfl
theorem Free2_eq1 (c : Dev nD) (M : HB F) : Free2 c M 1 = iprop(semVal ((c : Thread nD τ), SemLoc.dma 10) 0 ∗ (pt c mW2 Finset.univ (tk 1) M.w2 ∗ ∃ f, pt c bW2 (PW2 1) fullShare f) ∗ (pt c mS2 Finset.univ (tk 1) M.s2 ∗ ∃ f, pt c bS2 (PS2 1) fullShare f)) := rfl

/-- What is kept of the weights in HBM while copies run. -/
def Kept (c : Dev nD) (M : HB F) : sProp 𝕄 :=
  iprop(pt c mW1 Finset.univ (Transfers.shareDrop fullShare 8) M.w1 ∗ pt c mS1 Finset.univ (Transfers.shareDrop fullShare 8) M.s1 ∗ pt c mW2 Finset.univ (Transfers.shareDrop fullShare 2) M.w2 ∗ pt c mS2 Finset.univ (Transfers.shareDrop fullShare 2) M.s2)

/-- The cells at zero, the weights, the landing buffers. -/
def Whole (c : Dev nD) (M : HB F) : sProp 𝕄 :=
  iprop((semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ (own c mW1 M.w1 ∗ own c mS1 M.s1 ∗ own c mW2 M.w2 ∗ own c mS2 M.s2) ∗ ((∃ f, own (F := F) c bW1 f) ∗ (∃ f, own (F := F) c bS1 f) ∗ (∃ f, own (F := F) c bW2 f) ∗ (∃ f, own (F := F) c bS2 f)))

theorem mW1_toks (c : Dev nD) (M : HB F) : own c mW1 M.w1 ⊣⊢ iprop(pt c mW1 Finset.univ (Transfers.shareDrop fullShare 8) M.w1 ∗ pt c mW1 Finset.univ (tk (2 * 0 + 0)) M.w1 ∗ pt c mW1 Finset.univ (tk (2 * 0 + 1)) M.w1 ∗ pt c mW1 Finset.univ (tk (2 * 1 + 0)) M.w1 ∗ pt c mW1 Finset.univ (tk (2 * 1 + 1)) M.w1 ∗ pt c mW1 Finset.univ (tk (2 * 2 + 0)) M.w1 ∗ pt c mW1 Finset.univ (tk (2 * 2 + 1)) M.w1 ∗ pt c mW1 Finset.univ (tk (2 * 3 + 0)) M.w1 ∗ pt c mW1 Finset.univ (tk (2 * 3 + 1)) M.w1) :=
  toks8 (mW1.view.loc (c : Thread nD τ)) M.w1

theorem mS1_toks (c : Dev nD) (M : HB F) : own c mS1 M.s1 ⊣⊢ iprop(pt c mS1 Finset.univ (Transfers.shareDrop fullShare 8) M.s1 ∗ pt c mS1 Finset.univ (tk (2 * 0 + 0)) M.s1 ∗ pt c mS1 Finset.univ (tk (2 * 0 + 1)) M.s1 ∗ pt c mS1 Finset.univ (tk (2 * 1 + 0)) M.s1 ∗ pt c mS1 Finset.univ (tk (2 * 1 + 1)) M.s1 ∗ pt c mS1 Finset.univ (tk (2 * 2 + 0)) M.s1 ∗ pt c mS1 Finset.univ (tk (2 * 2 + 1)) M.s1 ∗ pt c mS1 Finset.univ (tk (2 * 3 + 0)) M.s1 ∗ pt c mS1 Finset.univ (tk (2 * 3 + 1)) M.s1) :=
  toks8 (mS1.view.loc (c : Thread nD τ)) M.s1

theorem mW2_toks (c : Dev nD) (M : HB F) : own c mW2 M.w2 ⊣⊢ iprop(pt c mW2 Finset.univ (Transfers.shareDrop fullShare 2) M.w2 ∗ pt c mW2 Finset.univ (tk 0) M.w2 ∗ pt c mW2 Finset.univ (tk 1) M.w2) :=
  toks2 (mW2.view.loc (c : Thread nD τ)) M.w2

theorem mS2_toks (c : Dev nD) (M : HB F) : own c mS2 M.s2 ⊣⊢ iprop(pt c mS2 Finset.univ (Transfers.shareDrop fullShare 2) M.s2 ∗ pt c mS2 Finset.univ (tk 0) M.s2 ∗ pt c mS2 Finset.univ (tk 1) M.s2) :=
  toks2 (mS2.view.loc (c : Thread nD τ)) M.s2

theorem deal (c : Dev nD) (M : HB F) : Whole c M ⊢ iprop(Frees c M ∗ Kept c M) := by
  unfold Whole Frees Kept
  rw [Free1_eq0, Free1_eq1, Free1_eq2, Free1_eq3, Free2_eq0, Free2_eq1]
  iintro ⟨⟨V5, V6, V7, V8, V9, V10⟩, ⟨mW1, mS1, mW2, mS2⟩, bW1, bS1, bW2, bS2⟩
  icases (mW1_toks c M).1 $$ mW1 with ⟨mW1_D, mW1_0, mW1_1, mW1_2, mW1_3, mW1_4, mW1_5, mW1_6, mW1_7⟩
  icases (mS1_toks c M).1 $$ mS1 with ⟨mS1_D, mS1_0, mS1_1, mS1_2, mS1_3, mS1_4, mS1_5, mS1_6, mS1_7⟩
  icases (mW2_toks c M).1 $$ mW2 with ⟨mW2_D, mW2_0, mW2_1⟩
  icases (mS2_toks c M).1 $$ mS2 with ⟨mS2_D, mS2_0, mS2_1⟩
  icases (bW1_cut (F := F) c) $$ bW1 with ⟨bW1_0, bW1_1, bW1_2, bW1_3, bW1_4, bW1_5, bW1_6, bW1_7⟩
  icases (bS1_cut (F := F) c) $$ bS1 with ⟨bS1_0, bS1_1, bS1_2, bS1_3, bS1_4, bS1_5, bS1_6, bS1_7⟩
  icases (bW2_cut (F := F) c) $$ bW2 with ⟨bW2_0, bW2_1⟩
  icases (bS2_cut (F := F) c) $$ bS2 with ⟨bS2_0, bS2_1⟩
  isplitl [V5 mW1_0 bW1_0 mS1_0 bS1_0 mW1_1 bW1_1 mS1_1 bS1_1 V6 mW1_2 bW1_2 mS1_2 bS1_2 mW1_3 bW1_3 mS1_3 bS1_3 V7 mW1_4 bW1_4 mS1_4 bS1_4 mW1_5 bW1_5 mS1_5 bS1_5 V8 mW1_6 bW1_6 mS1_6 bS1_6 mW1_7 bW1_7 mS1_7 bS1_7 V9 mW2_0 bW2_0 mS2_0 bS2_0 V10 mW2_1 bW2_1 mS2_1 bS2_1]
  · isplitl [V5 mW1_0 bW1_0 mS1_0 bS1_0 mW1_1 bW1_1 mS1_1 bS1_1]
    · isplitl [V5]; · iexact V5
      isplitl [mW1_0 bW1_0]
      · isplitl [mW1_0]; · iexact mW1_0
        iexact bW1_0
      isplitl [mS1_0 bS1_0]
      · isplitl [mS1_0]; · iexact mS1_0
        iexact bS1_0
      isplitl [mW1_1 bW1_1]
      · isplitl [mW1_1]; · iexact mW1_1
        iexact bW1_1
      isplitl [mS1_1]; · iexact mS1_1
      iexact bS1_1
    isplitl [V6 mW1_2 bW1_2 mS1_2 bS1_2 mW1_3 bW1_3 mS1_3 bS1_3]
    · isplitl [V6]; · iexact V6
      isplitl [mW1_2 bW1_2]
      · isplitl [mW1_2]; · iexact mW1_2
        iexact bW1_2
      isplitl [mS1_2 bS1_2]
      · isplitl [mS1_2]; · iexact mS1_2
        iexact bS1_2
      isplitl [mW1_3 bW1_3]
      · isplitl [mW1_3]; · iexact mW1_3
        iexact bW1_3
      isplitl [mS1_3]; · iexact mS1_3
      iexact bS1_3
    isplitl [V7 mW1_4 bW1_4 mS1_4 bS1_4 mW1_5 bW1_5 mS1_5 bS1_5]
    · isplitl [V7]; · iexact V7
      isplitl [mW1_4 bW1_4]
      · isplitl [mW1_4]; · iexact mW1_4
        iexact bW1_4
      isplitl [mS1_4 bS1_4]
      · isplitl [mS1_4]; · iexact mS1_4
        iexact bS1_4
      isplitl [mW1_5 bW1_5]
      · isplitl [mW1_5]; · iexact mW1_5
        iexact bW1_5
      isplitl [mS1_5]; · iexact mS1_5
      iexact bS1_5
    isplitl [V8 mW1_6 bW1_6 mS1_6 bS1_6 mW1_7 bW1_7 mS1_7 bS1_7]
    · isplitl [V8]; · iexact V8
      isplitl [mW1_6 bW1_6]
      · isplitl [mW1_6]; · iexact mW1_6
        iexact bW1_6
      isplitl [mS1_6 bS1_6]
      · isplitl [mS1_6]; · iexact mS1_6
        iexact bS1_6
      isplitl [mW1_7 bW1_7]
      · isplitl [mW1_7]; · iexact mW1_7
        iexact bW1_7
      isplitl [mS1_7]; · iexact mS1_7
      iexact bS1_7
    isplitl [V9 mW2_0 bW2_0 mS2_0 bS2_0]
    · isplitl [V9]; · iexact V9
      isplitl [mW2_0 bW2_0]
      · isplitl [mW2_0]; · iexact mW2_0
        iexact bW2_0
      isplitl [mS2_0]; · iexact mS2_0
      iexact bS2_0
    isplitl [V10]; · iexact V10
    isplitl [mW2_1 bW2_1]
    · isplitl [mW2_1]; · iexact mW2_1
      iexact bW2_1
    isplitl [mS2_1]; · iexact mS2_1
    iexact bS2_1
  isplitl [mW1_D]; · iexact mW1_D
  isplitl [mS1_D]; · iexact mS1_D
  isplitl [mW2_D]; · iexact mW2_D
  iexact mS2_D

theorem undeal (c : Dev nD) (M : HB F) : iprop(Frees c M ∗ Kept c M) ⊢ Whole c M := by
  unfold Whole Frees Kept
  rw [Free1_eq0, Free1_eq1, Free1_eq2, Free1_eq3, Free2_eq0, Free2_eq1]
  iintro ⟨⟨⟨V5, ⟨mW1_0, bW1_0⟩, ⟨mS1_0, bS1_0⟩, ⟨mW1_1, bW1_1⟩, ⟨mS1_1, bS1_1⟩⟩, ⟨V6, ⟨mW1_2, bW1_2⟩, ⟨mS1_2, bS1_2⟩, ⟨mW1_3, bW1_3⟩, ⟨mS1_3, bS1_3⟩⟩, ⟨V7, ⟨mW1_4, bW1_4⟩, ⟨mS1_4, bS1_4⟩, ⟨mW1_5, bW1_5⟩, ⟨mS1_5, bS1_5⟩⟩, ⟨V8, ⟨mW1_6, bW1_6⟩, ⟨mS1_6, bS1_6⟩, ⟨mW1_7, bW1_7⟩, ⟨mS1_7, bS1_7⟩⟩, ⟨V9, ⟨mW2_0, bW2_0⟩, ⟨mS2_0, bS2_0⟩⟩, ⟨V10, ⟨mW2_1, bW2_1⟩, ⟨mS2_1, bS2_1⟩⟩⟩, ⟨mW1_D, mS1_D, mW2_D, mS2_D⟩⟩
  isplitl [V5 V6 V7 V8 V9 V10]
  · isplitl [V5]; · iexact V5
    isplitl [V6]; · iexact V6
    isplitl [V7]; · iexact V7
    isplitl [V8]; · iexact V8
    isplitl [V9]; · iexact V9
    iexact V10
  isplitl [mW1_D mW1_0 mW1_1 mW1_2 mW1_3 mW1_4 mW1_5 mW1_6 mW1_7 mS1_D mS1_0 mS1_1 mS1_2 mS1_3 mS1_4 mS1_5 mS1_6 mS1_7 mW2_D mW2_0 mW2_1 mS2_D mS2_0 mS2_1]
  · isplitl [mW1_D mW1_0 mW1_1 mW1_2 mW1_3 mW1_4 mW1_5 mW1_6 mW1_7]
    · iapply (mW1_toks c M).2
      isplitl [mW1_D]; · iexact mW1_D
      isplitl [mW1_0]; · iexact mW1_0
      isplitl [mW1_1]; · iexact mW1_1
      isplitl [mW1_2]; · iexact mW1_2
      isplitl [mW1_3]; · iexact mW1_3
      isplitl [mW1_4]; · iexact mW1_4
      isplitl [mW1_5]; · iexact mW1_5
      isplitl [mW1_6]; · iexact mW1_6
      iexact mW1_7
    isplitl [mS1_D mS1_0 mS1_1 mS1_2 mS1_3 mS1_4 mS1_5 mS1_6 mS1_7]
    · iapply (mS1_toks c M).2
      isplitl [mS1_D]; · iexact mS1_D
      isplitl [mS1_0]; · iexact mS1_0
      isplitl [mS1_1]; · iexact mS1_1
      isplitl [mS1_2]; · iexact mS1_2
      isplitl [mS1_3]; · iexact mS1_3
      isplitl [mS1_4]; · iexact mS1_4
      isplitl [mS1_5]; · iexact mS1_5
      isplitl [mS1_6]; · iexact mS1_6
      iexact mS1_7
    isplitl [mW2_D mW2_0 mW2_1]
    · iapply (mW2_toks c M).2
      isplitl [mW2_D]; · iexact mW2_D
      isplitl [mW2_0]; · iexact mW2_0
      iexact mW2_1
    iapply (mS2_toks c M).2
    isplitl [mS2_D]; · iexact mS2_D
    isplitl [mS2_0]; · iexact mS2_0
    iexact mS2_1
  isplitl [bW1_0 bW1_1 bW1_2 bW1_3 bW1_4 bW1_5 bW1_6 bW1_7]
  · iapply (bW1_join (F := F) c)
    isplitl [bW1_0]; · iexact bW1_0
    isplitl [bW1_1]; · iexact bW1_1
    isplitl [bW1_2]; · iexact bW1_2
    isplitl [bW1_3]; · iexact bW1_3
    isplitl [bW1_4]; · iexact bW1_4
    isplitl [bW1_5]; · iexact bW1_5
    isplitl [bW1_6]; · iexact bW1_6
    iexact bW1_7
  isplitl [bS1_0 bS1_1 bS1_2 bS1_3 bS1_4 bS1_5 bS1_6 bS1_7]
  · iapply (bS1_join (F := F) c)
    isplitl [bS1_0]; · iexact bS1_0
    isplitl [bS1_1]; · iexact bS1_1
    isplitl [bS1_2]; · iexact bS1_2
    isplitl [bS1_3]; · iexact bS1_3
    isplitl [bS1_4]; · iexact bS1_4
    isplitl [bS1_5]; · iexact bS1_5
    isplitl [bS1_6]; · iexact bS1_6
    iexact bS1_7
  isplitl [bW2_0 bW2_1]
  · iapply (bW2_join (F := F) c)
    isplitl [bW2_0]; · iexact bW2_0
    iexact bW2_1
  iapply (bS2_join (F := F) c)
  isplitl [bS2_0]; · iexact bS2_0
  iexact bS2_1

end Cert.KernelIdeal.Hand

end
-- ==== Proof.HandIdeal.Frame.lean ====
/- The launch around the body: what runs, what ends unchanged, what the result array holds. -/
module

public import proofs.«01_k».proof.Proof.Gen.KernelIdeal.Frame
public import proofs.«01_k».proof.Proof.HandIdeal.Body
public import proofs.«01_k».proof.Proof.HandIdeal.Deal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix1 ix2 ix3 ix4)
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
theorem hmain' (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The weights as the region finds them. -/
def MM (c : Dev nD) : HB F := ⟨V m c main_arg1, V m c main_arg2, V m c main_arg3, V m c main_arg4⟩

def ib0 (c : Dev nD) (t : Fin cfg0.N) : S48.Idx → Elt F .i32 := iblk m c 0 t
def ib1 (c : Dev nD) (t : Fin cfg0.N) : S6x1x8.Idx → Elt F .i32 := iblk m c 1 t
def ib2 (c : Dev nD) (t : Fin cfg0.N) : S6x1x8.Idx → Elt F .f32 := iblk m c 2 t
def ib3 (c : Dev nD) (t : Fin cfg0.N) : S6x1x7168.Idx → Elt F .bf16 := iblk m c 3 t

/-- The flat list of expert numbers, by position. -/
def idsAt (c : Dev nD) (t : Fin cfg0.N) (n : ℕ) : BitVec 32 := ib0 m c t (ix1 (n := 48) ⟨n % 48, Nat.mod_lt _ (by decide)⟩)

/-- What the body leaves in the result's staging buffer. -/
def outAt (c : Dev nD) (t : Fin cfg0.N) : S6x1x7168.Idx → Elt F .bf16 := Kout (MM m c) (idsAt m c t) (ib1 m c t) (ib2 m c t) (ib3 m c t)

def osem0 : Fin 6 → SemLoc sig := fun j => (![SemLoc.dma 5, SemLoc.dma 6, SemLoc.dma 7, SemLoc.dma 8, SemLoc.dma 9, SemLoc.dma 10] : Fin 6 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
  rw [Pipeline.ownSems0_eq_of_list c osem0 [0, 1, 2, 3, 4, 5] (by decide) (by decide)]; rfl

def H0 : Finset (Ref sig .tc) := {main_arg1, main_arg2, main_arg3, main_arg4}
theorem H0_sub : H0 ⊆ Pipeline.restRefs sig spec0 := by decide

theorem hbmPts0_eq (c : Dev nD) :
    (bigSep H0 fun b => ((c.tc : Thread nD τ).loc b) ↦{fullShare} V m c b : sProp 𝕄)
      = iprop(own c mW1 (MM m c).w1 ∗ own c mS1 (MM m c).s1 ∗ own c mW2 (MM m c).w2 ∗ own c mS2 (MM m c).s2) := by
  rw [BI.bigSep_eq_bigSepL_of_eq [main_arg1, main_arg2, main_arg3, main_arg4] (by decide) (by decide)]; rfl

/-- The invariant of the region. -/
def Phi (c : Dev nD) : sProp 𝕄 := Pipeline.ΦD osem0 spec0 H0 (V m) c

theorem Phi_eq (c : Dev nD) : Phi m c = iprop(((∃ f, own (F := F) c bW1 f) ∗ (∃ f, own (F := F) c bS1 f) ∗ (∃ f, own (F := F) c bW2 f) ∗ (∃ f, own (F := F) c bS2 f) ∗ (∃ f, own (F := F) c bX f) ∗ (∃ f, own (F := F) c bH f) ∗ (∃ f, own (F := F) c bC f) ∗ (∃ f, own (F := F) c bO f) ∗ (∃ f, own (F := F) c bA f))
    ∗ (∃ r, prngReg c r)
    ∗ (semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0)
    ∗ (own c mW1 (MM m c).w1 ∗ own c mS1 (MM m c).s1 ∗ own c mW2 (MM m c).w2 ∗ own c mS2 (MM m c).s2)) := by
  unfold Phi
  rw [Pipeline.ΦD_eq, scopedRest0_eq, ownSems00_eq, hbmPts0_eq]

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Phi m c
  q _ := fullShare
  owed _ := 0

theorem A_eq (c : Dev nD) (w : Fin cfg0.W) : (dats m 0 c).A w = V m c (Pipeline.arrRef spec0 w) := by
  dsimp only [dats]

/-- Every expert number is an expert's. -/
def Hyp : Prop := ∀ c t n, (idsAt m c t n).toNat < 13

theorem owns_own (c : Dev nD) {sp : Space} {s : Shape} {e : EltTy} (a : Memref sig .tc sp s e) (ha : a.IsWhole) (X : s.Idx → Elt F e) :
    (owns (c : Thread nD τ) a fullShare X : sProp 𝕄) ⊢ iprop(∃ f, ⌜a.view.read (Elt F) f = X⌝ ∗ own c a f) := by
  unfold owns
  rw [ha.set_eq_univ]

theorem own_owns (c : Dev nD) {sp : Space} {s : Shape} {e : EltTy} (a : Memref sig .tc sp s e) (ha : a.IsWhole) (f : a.view.ty.Contents (Elt F)) (X : s.Idx → Elt F e) (h : a.view.read (Elt F) f = X) :
    own c a f ⊢ (owns (c : Thread nD τ) a fullShare X : sProp 𝕄) := by
  unfold owns
  rw [ha.set_eq_univ]
  iintro H
  iexists f; isplitr
  · ipureintro; exact h
  iexact H

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t))

theorem Kout_congr (M : HB F) {i0 i0' : ℕ → BitVec 32} {i1 i1' : Vec F S6x1x8 .i32} {i2 i2' : Vec F S6x1x8 .f32} {i3 i3' : S6x1x7168.Idx → Elt F .bf16} (h0 : i0 = i0') (h1 : i1 = i1') (h2 : i2 = i2') (h3 : i3 = i3') :
    Kout M i0 i1 i2 i3 = Kout M i0' i1' i2' i3' := by subst h0 h1 h2 h3; rfl

set_option maxHeartbeats 1000000 in
theorem sound_body_WP (hH : Hyp m) (c : Dev nD) (t : Fin cfg0.N) :
    bodyPre m c t ⊢ WP c (bodyAt0 t) (fun _ => bodyPost m c t) := by
  unfold bodyPre bodyPost
  rw [show (dats m 0 c).Φ t.castSucc = Phi m c from rfl, show (dats m 0 c).Φ t.succ = Phi m c from rfl, Phi_eq]
  rw [show (dats m 0 c).after 0 t = iblk m c 0 t by dsimp only [dats], show (dats m 0 c).after 1 t = iblk m c 1 t by dsimp only [dats], show (dats m 0 c).after 2 t = iblk m c 2 t by dsimp only [dats],
    show (dats m 0 c).after 3 t = iblk m c 3 t by dsimp only [dats], show (dats m 0 c).after 4 t = outAt m c t by dsimp only [dats]]
  unfold Dat.owesAt Pipeline.owesWithin
  rw [show (dats m 0 c).owed t.castSucc = 0 from rfl, show (dats m 0 c).owed t.succ = 0 from rfl]
  iintro ⟨⟨⟨B0, B1, B2, B3, B4, B5, B6, B7, B8⟩, HG, HV, HM⟩, ⟨%W, -, HW⟩, ⟨%d0, H0⟩, ⟨%d1, H1⟩, ⟨%d2, H2⟩, ⟨%d3, H3⟩, ⟨%d4, H4⟩⟩
  rw [before_0 m (dats m 0 c) (A_eq m c 0) (fun _ => by dsimp only [dats]), before_1 m (dats m 0 c) (A_eq m c 1) (fun _ => by dsimp only [dats]),
    before_2 m (dats m 0 c) (A_eq m c 2) (fun _ => by dsimp only [dats]), before_3 m (dats m 0 c) (A_eq m c 3) (fun _ => by dsimp only [dats])]
  ihave H0 := (owns_own c (st0_0 t) (hstage0_0 0) (iblk m c 0 t)) $$ H0
  ihave H1 := (owns_own c (st0_1 t) (hstage0_1 0) (iblk m c 1 t)) $$ H1
  ihave H2 := (owns_own c (st0_2 t) (hstage0_2 0) (iblk m c 2 t)) $$ H2
  ihave H3 := (owns_own c (st0_3 t) (hstage0_3 0) (iblk m c 3 t)) $$ H3
  ihave H4 := (owns_own c (st0_4 t) (hstage0_4 0) ((dats m 0 c).before 4 t d4)) $$ H4
  icases H0 with ⟨%f0, %e0, H0⟩
  icases H1 with ⟨%f1, %e1, H1⟩
  icases H2 with ⟨%f2, %e2, H2⟩
  icases H3 with ⟨%f3, %e3, H3⟩
  icases H4 with ⟨%f4, -, H4⟩
  have i0 : idv (st0_0 t) f0 = idsAt m c t := by
    funext n; unfold idv idsAt ib0; rw [e0]
  have hid : ∀ n, (idv (st0_0 t) f0 n).toNat < 13 := by rw [i0]; exact hH c t
  ihave HD := (deal c (MM m c)) $$ [HV HM B0 B1 B2 B3]
  · unfold Whole
    isplitl [HV]; · iexact HV
    isplitl [HM]; · iexact HM
    isplitl [B0]; · iexact B0
    isplitl [B1]; · iexact B1
    isplitl [B2]; · iexact B2
    iexact B3
  icases HD with ⟨HF, HK⟩
  ihave HB := (body (st0_0 t) (hstage0_0 0) (st0_1 t) (hstage0_1 0) (st0_2 t) (hstage0_2 0) (st0_3 t) (hstage0_3 0) (st0_4 t) (hstage0_4 0) c (MM m c) f0 hid f1 f2 f3 f4) $$ [H0 H1 H2 H3 H4 HF B4 B5 B6 B7 B8 HW]
  · isplitl [H0]; · iexact H0
    isplitl [H1]; · iexact H1
    isplitl [H2]; · iexact H2
    isplitl [H3]; · iexact H3
    isplitl [H4]; · iexact H4
    isplitl [HF]; · iexact HF
    isplitl [B4 B5 B6 B7 B8]
    · unfold Scr
      isplitl [B4]; · iexact B4
      isplitl [B5]; · iexact B5
      isplitl [B6]; · iexact B6
      isplitl [B7]; · iexact B7
      iexact B8
    unfold Owe; iexists W; iexact HW
  iapply (WP_wand c (bodyAt0 t))
  isplitl [HB]; · iexact HB
  iintro %_a ⟨H0, H1, H2, H3, ⟨%g, %eg, H4⟩, HF, HS, HW⟩
  unfold Scr Owe
  icases HS with ⟨B4, B5, B6, B7, B8⟩
  icases HW with ⟨%W', HW⟩
  ihave HD := (undeal c (MM m c)) $$ [HF HK]
  · isplitl [HF]; · iexact HF
    iexact HK
  unfold Whole
  icases HD with ⟨HV, HM, B0, B1, B2, B3⟩
  isplitl [B0 B1 B2 B3 B4 B5 B6 B7 B8 HG HV HM]
  · isplitl [B0 B1 B2 B3 B4 B5 B6 B7 B8]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      iexact B8
    isplitl [HG]; · iexact HG
    isplitl [HV]; · iexact HV
    iexact HM
  isplitl [HW]
  · iexists W'; isplitr; · ipureintro; exact fun _ _ => Or.inl trivial
    iexact HW
  isplitl [H0]; · iapply (own_owns c (st0_0 t) (hstage0_0 0) f0 (iblk m c 0 t) e0) $$ H0
  isplitl [H1]; · iapply (own_owns c (st0_1 t) (hstage0_1 0) f1 (iblk m c 1 t) e1) $$ H1
  isplitl [H2]; · iapply (own_owns c (st0_2 t) (hstage0_2 0) f2 (iblk m c 2 t) e2) $$ H2
  isplitl [H3]; · iapply (own_owns c (st0_3 t) (hstage0_3 0) f3 (iblk m c 3 t) e3) $$ H3
  iapply (own_owns c (st0_4 t) (hstage0_4 0) g (outAt m c t) (eg.trans (Kout_congr (MM m c) i0 e1 e2 e3))) $$ H4

theorem sound_body (hH : Hyp m) (c : Dev nD) (t : Fin cfg0.N) :
    bodyPre m c t ⊢ wp frame (wpE (defs₀ (F := F)) Variants.none c none) Set.univ (bodyAt0 t) (fun _ => bodyPost m c t) := sound_body_WP m hH c t

theorem defs₀_row (t : Fin cfg0.N) :
    defs₀ (F := F) .tc cfg0.body (cfg0.bodyArgs t (cfg0.slots t)) = bodyAt0 t := by
  unfold defs₀; rw [Defs.onTc_tc]

theorem body_obligation (hH : Hyp m) (c : Dev nD) : BodyObligation (dats (F := F) m 0 c) (defs₀ (F := F)) Variants.none () Set.univ := fun t => by
  rw [bigSep_W0, bigSep_W0, defs₀_row]
  exact triple_restated (sound_body m hH c t) rfl .rfl fun _ => .rfl

set_option backward.isDefEq.respectTransparency.types false in
theorem run_main (hH : Hyp m) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hH c).loose) (hshare := fun c => (dats m 0 c).share_full fun _ => rfl)
    (howed := fun _ _ => rfl) (V := V m) (hmain := hmain' m Variants.none) (hA := A_eq m)
    (hin := fun _ => .rfl) (hout := fun _ => .rfl)

/-- The run: the argument arrays end unchanged, every counter ends at zero, and the result array ends as the write-back leaves it. -/
theorem run_all (hH : Hyp m) : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) ∧ ∀ c : Dev nD, r.2.mem ((c.tc : Thread nD τ).loc main_v1) = (dats m 0 c).arrAt 4 cfg0.N) :=
  (θ_run defs _ _).mono (fun _ h => ⟨⟨fun c => ⟨((h.1 c).1 3).trans (((dats m 0 c).arrAt_in 3 rfl _).trans ((A_eq m c 3).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 1).trans (((dats m 0 c).arrAt_in 1 rfl _).trans ((A_eq m c 1).trans (V_main_arg5 m c))),
      ((h.1 c).1 2).trans (((dats m 0 c).arrAt_in 2 rfl _).trans ((A_eq m c 2).trans (V_main_arg6 m c)))⟩, h.2⟩, fun c => (h.1 c).1 4⟩) (run_main m ρ hH)

end Cert.KernelIdeal.Hand

end
-- ==== Proof.HandIdeal.Pre.lean ====
/- What the precondition says of the expert ids, and what the kernel's windows hold. -/
module

public import proofs.«01_k».proof.Pre_ids_in_range
public import proofs.«01_k».proof.Proof.Gen.Pre_ids_in_range
public import proofs.«01_k».proof.Proof.HandIdeal.Frame
public import Idealize.ShloMosaic.Lib.ReduceAll
public import Idealize.ShloMosaic.Lib.WordArith

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3 ix4)
open Idealize.SL.Sem
open Idealize.ShloMosaic.Pipeline (Dat Cfg Window cellOf)

variable {F : FTy → Type} [FloatOps F]
variable (m : (ℓ : Loc nD τ sig) → Buf (Elt F) ℓ) (ρ : Dev nD → PrngReg)

instance : Subsingleton (⟨0, ![]⟩ : Shape).Idx := ⟨fun a b => funext fun i => i.elim0⟩

/-- The one grid point. -/
def t₀ : Fin cfg0.N := ⟨0, by decide⟩

theorem t_eq (t : Fin cfg0.N) : t = t₀ := by
  have h : cfg0.N = 1 := by decide
  have h0 : t₀.val = 0 := rfl
  have := t.isLt
  exact Fin.ext (by omega)

/-- The flat ids are the ids reshaped. -/
theorem V_v0 (c : Dev nD) : V m c main_v0 = shapeCast S48 (m ((c : Thread nD τ).loc main_arg5)) shapeCasts_S6x1x8_S48 := by
  unfold V
  after_results_simp <;> rfl

theorem ib0_eq (c : Dev nD) (t : Fin cfg0.N) : ib0 m c t = shapeCast S48 (m ((c : Thread nD τ).loc main_arg5)) shapeCasts_S6x1x8_S48 := by
  have hz : (fun a => (win0_0.index t) a * main_v0.ty.shape.size a) = fun _ => 0 := funext fun a => by
    rw [t_eq t]; fin_cases a <;> decide
  have hr := fun f => Memref.read_access_unit_zero (Elt F) main_v0 hz (fun a => by rw [t_eq t]; fin_cases a <;> decide) f
  unfold ib0 iblk
  exact (hr _).trans (V_v0 m c)

theorem ib1_eq (c : Dev nD) (t : Fin cfg0.N) : ib1 m c t = m ((c : Thread nD τ).loc main_arg5) := by
  have hz : (fun a => (win0_1.index t) a * main_arg5.ty.shape.size a) = fun _ => 0 := funext fun a => by
    rw [t_eq t]; fin_cases a <;> decide
  have hr := fun f => Memref.read_access_unit_zero (Elt F) main_arg5 hz (fun a => by rw [t_eq t]; fin_cases a <;> decide) f
  unfold ib1 iblk
  exact (hr _).trans (V_main_arg5 m c)

theorem ib2_eq (c : Dev nD) (t : Fin cfg0.N) : ib2 m c t = m ((c : Thread nD τ).loc main_arg6) := by
  have hz : (fun a => (win0_2.index t) a * main_arg6.ty.shape.size a) = fun _ => 0 := funext fun a => by
    rw [t_eq t]; fin_cases a <;> decide
  have hr := fun f => Memref.read_access_unit_zero (Elt F) main_arg6 hz (fun a => by rw [t_eq t]; fin_cases a <;> decide) f
  unfold ib2 iblk
  exact (hr _).trans (V_main_arg6 m c)

theorem ib3_eq (c : Dev nD) (t : Fin cfg0.N) : ib3 m c t = m ((c : Thread nD τ).loc main_arg0) := by
  have hz : (fun a => (win0_3.index t) a * main_arg0.ty.shape.size a) = fun _ => 0 := funext fun a => by
    rw [t_eq t]; fin_cases a <;> decide
  have hr := fun f => Memref.read_access_unit_zero (Elt F) main_arg0 hz (fun a => by rw [t_eq t]; fin_cases a <;> decide) f
  unfold ib3 iblk
  exact (hr _).trans (V_main_arg0 m c)

/-- Ids below 13 are all the run needs. -/
theorem hyp_of_lt (h : ∀ (c : Dev nD) (y : S6x1x8.Idx), ((m ((c : Thread nD τ).loc main_arg5) : S6x1x8.Idx → BitVec 32) y).toNat < 13) : Hyp m := by
  intro c t n
  unfold idsAt
  rw [ib0_eq]
  exact h c _

/-- The precondition's range test, read off at one id. -/
theorem lt_of_pre (a0 : FVec F Cert.Pre_ids_in_range.S6x1x7168 .bf16) (a1 : IVec Cert.Pre_ids_in_range.S13x3584x4096 8)
    (a2 : IVec Cert.Pre_ids_in_range.S13x224x4096 8) (a3 : IVec Cert.Pre_ids_in_range.S13x1024x7168 8)
    (a4 : IVec Cert.Pre_ids_in_range.S13x64x7168 8) (a5 : IVec Cert.Pre_ids_in_range.S6x1x8 32)
    (a6 : FVec F Cert.Pre_ids_in_range.S6x1x8 .f32)
    (h : Cert.Pre_ids_in_range.fn (F := F) a0 a1 a2 a3 a4 a5 a6 = fun _ => 1#1) (y : Cert.Pre_ids_in_range.S6x1x8.Idx) :
    (a5 y).toNat < 13 := by
  have e := congrFun h (fun i => i.elim0)
  have e1 := Host.reduce_andi_all _ _ _ _ _ e y
  obtain ⟨hge, hlt⟩ := IntOp.andi_eq_one.1 e1
  have hge' := IntOp.cmpi_sge.1 hge
  have hlt' := IntOp.cmpi_slt.1 hlt
  simp only [broadcastInDim, constantI] at hge' hlt'
  have h0 : (0#32 : BitVec 32).toInt = 0 := by decide
  have h13 : (13#32 : BitVec 32).toInt = 13 := by decide
  rw [h0] at hge'
  rw [h13] at hlt'
  have := BitVec.toInt_eq_toNat_cond (a5 y)
  have hb := (a5 y).isLt
  split at this <;> omega

end Cert.KernelIdeal.Hand

end
-- ==== Proof.Same.lean ====
/- The printed kernel and its ideal reading are one program (no rewrite was applied): at the machine's own floats the one runs as the
   other, and the frame of the kernel is that of `HandIdeal`, which holds for any float values. -/
module

public import proofs.«01_k».proof.Defs
public import proofs.«01_k».proof.Proof.HandIdeal.Pre
public import proofs.«01_k».proof.Proof.Gen.Kernel

@[expose] public section

set_option maxRecDepth 65536

noncomputable section

namespace Cert.Proof

open Idealize.ShloMosaic Idealize.ShloMosaic.TcCoe Idealize.SL.Sem

set_option maxHeartbeats 2000000 in
/-- The body table, body by body. -/
theorem defs₀_eq : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) (funext fun l => funext fun a => ?_)
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) defs₀_eq

/-- What holds of every run of the ideal reading's program holds of the kernel's. -/
theorem run_eq (s) (Q) (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q :=
  (congrArg (fun d => θ_run d (onTc (τ := Cert.KernelIdeal.τ) (Cert.KernelIdeal.main (F := Bits))) s Q) defs_eq).mpr h

theorem frame_kernel : Cert.quiescent_Kernel := fun m ρ h =>
  run_eq _ _ ((θ_run (Cert.KernelIdeal.defs (F := Bits)) _ _).mono (fun _ h => h.1)
    (Cert.KernelIdeal.Hand.run_all (F := Bits) m ρ (Cert.KernelIdeal.Hand.hyp_of_lt (F := Bits) m fun c y => Cert.KernelIdeal.Hand.lt_of_pre (F := Bits) _ _ _ _ _ _ _ (h c) y)))

end Cert.Proof

end
-- ==== Proof.Frames.lean ====
/- The frames of the ideal kernel, from the run of `HandIdeal/Frame.lean`, and of the reference, from its operations. -/
module

public import proofs.«01_k».proof.Defs
public import proofs.«01_k».proof.Proof.HandIdeal.Pre
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

theorem frame_kernelIdeal : Cert.quiescent_KernelIdeal := fun m ρ h =>
  (θ_run Cert.KernelIdeal.defs _ _).mono (fun _ h => h.1)
    (Cert.KernelIdeal.Hand.run_all m ρ (Cert.KernelIdeal.Hand.hyp_of_lt m fun c y => Cert.KernelIdeal.Hand.lt_of_pre _ _ _ _ _ _ _ (h c) y))

theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

end Cert.Proof

end
-- ==== Proof.Alg.Base.lean ====
/- Plain facts the value claim rests on: what a 4-bit code and a scale denote, and how sums over blocks join. -/
module

public import Idealize.ShloMosaic.PureOps
public import Idealize.ShloMosaic.Lib.Pointwise
public import Idealize.ShloMosaic.Lib.IdealHost

@[expose] public section

set_option maxRecDepth 16384

noncomputable section

namespace Cert.Alg

open Idealize.ShloMosaic
open scoped BigOperators

/-- A finite sum of reals, read in the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The 4-bit code at row `r` of a packed byte: the low half on even rows, the high half on odd rows. -/
def nib (p : BitVec 8) (r : ℕ) : BitVec 32 :=
  if r % 2 < 1 then IntOp.andi (BitVec.setWidth 32 p) 15#32 else IntOp.shrsi .vector (BitVec.setWidth 32 p) 4#32

/-- Twice the code's value, as a signed word. -/
def twice (n : BitVec 32) : BitVec 32 :=
  Scalar.select (IntOp.cmpi .slt n 8#32)
    (IntOp.andi (IntOp.shrsi .vector 3362009616#32 (IntOp.muli (IntOp.andi n 7#32) 4#32)) 15#32)
    (IntOp.subi 0#32 (IntOp.andi (IntOp.shrsi .vector 3362009616#32 (IntOp.muli (IntOp.andi n 7#32) 4#32)) 15#32))

/-- The value of a code. -/
def dec (n : BitVec 32) : ℝ := ((twice n).toInt : ℝ) * (1 / 2)
/-- The value of the code at row `r` of a packed byte. -/
def code (p : BitVec 8) (r : ℕ) : ℝ := dec (nib p r)
/-- The value of a scale. -/
def scale (s : BitVec 8) : ℝ := (2 : ℝ) ^ ((s.toNat : ℤ) - 127)

theorem half : Ideal.ofBits .f32 1056964608#32 = (((1 : ℝ) / 2 : ℝ) : EReal) := by
  simp [Ideal.ofBits, Ideal.ieee, -EReal.coe_mul]; norm_num

theorem nib_all : ∀ (p : BitVec 8), (nib p 0).toNat < 16 ∧ (nib p 1).toNat < 16 := by decide +kernel

theorem nib_lt (p : BitVec 8) (r : ℕ) : (nib p r).toNat < 16 := by
  have h := nib_all p
  rcases Nat.mod_two_eq_zero_or_one r with e | e
  · have : nib p r = nib p 0 := by unfold nib; rw [e]
    rw [this]; exact h.1
  · have : nib p r = nib p 1 := by unfold nib; rw [e]
    rw [this]; exact h.2

/-- The code's value as the kernel computes it. -/
theorem dec_kernel (n : BitVec 32) : FloatOps.sitofp (F := Ideal) .f32 (twice n) * Ideal.ofBits .f32 1056964608#32 = ((dec n : ℝ) : EReal) := by
  rw [half]
  show (((twice n).toInt : ℝ) : EReal) * _ = _
  rw [← EReal.coe_mul]; rfl

/-- A word with no sign, no fraction and exponent `x` denotes `2 ^ (x - 127)`. -/
theorem ofBits_exponent (w : BitVec 32) (x : ℕ) (k1 : w.extractLsb' (8 + 23) 1 = 0#1) (k2 : (w.extractLsb' 23 8).toNat = x)
    (k3 : (w.extractLsb' 0 23).toNat = 0) (h1 : 1 ≤ x) (h2 : x ≤ 254) :
    Ideal.ofBits .f32 w = (((2 : ℝ) ^ ((x : ℤ) - 127) : ℝ) : EReal) := by
  have hx : ¬ x = 2 ^ 8 - 1 := by omega
  have hx0 : ¬ x = 0 := by omega
  have e0 : Ideal.ofBits .f32 w = Ideal.ieee 8 23 w := rfl
  have e : ((x : ℤ) - (2 ^ (8 - 1) - 1) - (23 : ℕ)) = ((x : ℤ) - 127) + (-23) := by norm_num; ring
  rw [e0, Ideal.ieee, k1, k2, k3]
  simp only [if_neg hx, if_neg hx0]
  rw [e, zpow_add₀ (by norm_num)]
  congr 1
  rw [if_neg (by decide)]
  have h23 : (2 : ℝ) ^ (-23 : ℤ) = 1 / 8388608 := by norm_num
  rw [h23]
  push_cast
  ring

theorem shifted : ∀ s : BitVec 8, (IntOp.shli .vector (BitVec.setWidth 32 s) 23#32).extractLsb' (8 + 23) 1 = 0#1
      ∧ ((IntOp.shli .vector (BitVec.setWidth 32 s) 23#32).extractLsb' 23 8).toNat = s.toNat
      ∧ ((IntOp.shli .vector (BitVec.setWidth 32 s) 23#32).extractLsb' 0 23).toNat = 0 := by decide +kernel

/-- The scale's value as the kernel computes it: the byte put in the exponent's place. -/
theorem scale_kernel (s : BitVec 8) (h1 : 1 ≤ s.toNat) (h2 : s.toNat ≤ 254) :
    Ideal.ofBits .f32 (IntOp.shli .vector (BitVec.setWidth 32 s) 23#32) = ((scale s : ℝ) : EReal) :=
  ofBits_exponent _ s.toNat (shifted s).1 (shifted s).2.1 (shifted s).2.2 h1 h2

/-- The scale's value as the reference computes it. -/
theorem scale_ref (s : BitVec 8) :
    Ideal.pow (Ideal.ofBits .f32 1073741824#32) (FloatOps.sitofp (F := Ideal) .f32 (IntOp.subi (BitVec.setWidth 32 s) 127#32)) = ((scale s : ℝ) : EReal) := by
  have h2 : Ideal.ofBits .f32 1073741824#32 = ((2 : ℝ) : EReal) := by
    simp [Ideal.ofBits, Ideal.ieee, -EReal.coe_mul]; norm_num
  have key : ∀ s : BitVec 8, (IntOp.subi (BitVec.setWidth 32 s) 127#32).toInt = (s.toNat : ℤ) - 127 := by decide +kernel
  rw [h2]
  show Ideal.pow _ ((((IntOp.subi (BitVec.setWidth 32 s) 127#32).toInt : ℝ)) : EReal) = _
  rw [Ideal.pow_coe_coe, key s]
  congr 1
  unfold scale
  exact Real.rpow_intCast 2 _

/-- The magnitude of a code as the reference selects it. -/
def magRef (n : BitVec 32) : EReal :=
  Scalar.select (IntOp.cmpi .ne (IntOp.andi n 4#32) 0#32)
    (Scalar.select (IntOp.cmpi .ne (IntOp.andi n 2#32) 0#32)
      (Scalar.select (IntOp.cmpi .ne (IntOp.andi n 1#32) 0#32) (Ideal.ofBits .bf16 16576#16) (Ideal.ofBits .bf16 16512#16))
      (Scalar.select (IntOp.cmpi .ne (IntOp.andi n 1#32) 0#32) (Ideal.ofBits .bf16 16448#16) (Ideal.ofBits .bf16 16384#16)))
    (Scalar.select (IntOp.cmpi .ne (IntOp.andi n 2#32) 0#32)
      (Scalar.select (IntOp.cmpi .ne (IntOp.andi n 1#32) 0#32) (Ideal.ofBits .bf16 16320#16) 1)
      (Scalar.select (IntOp.cmpi .ne (IntOp.andi n 1#32) 0#32) (Ideal.ofBits .bf16 16128#16) 0))

theorem c6 : Ideal.ofBits .bf16 16576#16 = ((6 : ℝ) : EReal) := by simp [Ideal.ofBits, Ideal.ieee, -EReal.coe_mul]; norm_num
theorem c4 : Ideal.ofBits .bf16 16512#16 = ((4 : ℝ) : EReal) := by simp [Ideal.ofBits, Ideal.ieee, -EReal.coe_mul]; norm_num
theorem c3 : Ideal.ofBits .bf16 16448#16 = ((3 : ℝ) : EReal) := by simp [Ideal.ofBits, Ideal.ieee, -EReal.coe_mul]; norm_num
theorem c2 : Ideal.ofBits .bf16 16384#16 = ((2 : ℝ) : EReal) := by simp [Ideal.ofBits, Ideal.ieee, -EReal.coe_mul]; norm_num
theorem c32 : Ideal.ofBits .bf16 16320#16 = ((3 / 2 : ℝ) : EReal) := by simp [Ideal.ofBits, Ideal.ieee, -EReal.coe_mul]; norm_num
theorem c12 : Ideal.ofBits .bf16 16128#16 = ((1 / 2 : ℝ) : EReal) := by simp [Ideal.ofBits, Ideal.ieee, -EReal.coe_mul]; norm_num

/-- What the magnitude is, by the code's low bits. -/
def mag (n : BitVec 32) : ℝ :=
  if (n &&& 4#32) != 0#32 then if (n &&& 2#32) != 0#32 then if (n &&& 1#32) != 0#32 then 6 else 4 else if (n &&& 1#32) != 0#32 then 3 else 2
  else if (n &&& 2#32) != 0#32 then if (n &&& 1#32) != 0#32 then 3 / 2 else 1 else if (n &&& 1#32) != 0#32 then 1 / 2 else 0

theorem sel_ne (a b : BitVec 32) (x y : EReal) : Scalar.select (IntOp.cmpi .ne a b) x y = if (a != b) = true then x else y := by
  show (if (BitVec.ofBool (a != b)) = 1#1 then x else y) = _
  cases (a != b) <;> rfl

theorem magRef_eq (n : BitVec 32) : magRef n = ((mag n : ℝ) : EReal) := by
  unfold magRef mag
  simp only [sel_ne, c6, c4, c3, c2, c32, c12, IntOp.andi]
  split_ifs <;> norm_cast

theorem dec_mag : ∀ k : Fin 16, dec (BitVec.ofNat 32 k.val) = if (BitVec.ofNat 32 k.val &&& 8#32) != 0#32 then -mag (BitVec.ofNat 32 k.val) else mag (BitVec.ofNat 32 k.val) := by
  have tw : ∀ k : Fin 16, (twice (BitVec.ofNat 32 k.val)).toInt = (![0, 1, 2, 3, 4, 6, 8, 12, 0, -1, -2, -3, -4, -6, -8, -12] : Fin 16 → ℤ) k := by decide +kernel
  intro k
  unfold dec
  rw [tw k]
  fin_cases k <;> simp [mag] <;> norm_num

/-- The code's value as the reference computes it. -/
theorem dec_ref (n : BitVec 32) (h : n.toNat < 16) :
    Scalar.select (IntOp.cmpi .ne (IntOp.andi n 8#32) 0#32) (-magRef n) (magRef n) = ((dec n : ℝ) : EReal) := by
  have e := dec_mag ⟨n.toNat, h⟩
  simp only [BitVec.ofNat_toNat, BitVec.setWidth_eq] at e
  rw [sel_ne, magRef_eq, e]
  simp only [IntOp.andi]
  by_cases h8 : (n &&& 8#32 != 0#32) = true
  · simp only [h8, if_true, EReal.coe_neg]
  · rw [if_neg h8]
    exact if_neg h8

/-- A sum over `n` blocks of `k` is one sum. -/
theorem sum_blocks (F : ℕ → ℝ) (k : ℕ) : ∀ n, (∑ m ∈ Finset.range n, ∑ j ∈ Finset.range k, F (k * m + j)) = ∑ r ∈ Finset.range (k * n), F r
  | 0 => by simp
  | n + 1 => by
    rw [Finset.sum_range_succ, sum_blocks F k n, Nat.mul_succ, Finset.sum_range_add]

/-- The even rows and the odd rows together are all rows. -/
theorem sum_even_odd (F : ℕ → ℝ) : ∀ n, (∑ p ∈ Finset.range n, F (2 * p)) + (∑ p ∈ Finset.range n, F (2 * p + 1)) = ∑ r ∈ Finset.range (2 * n), F r
  | 0 => by simp
  | n + 1 => by
    rw [Finset.sum_range_succ, Finset.sum_range_succ, Nat.mul_succ, Finset.sum_range_succ, Finset.sum_range_succ, ← sum_even_odd F n]
    ring

/-- The grouped product: each of 8 groups holds its own 32 rows of every slab and takes its own scale. -/
theorem sum_groups (u v s : ℕ → ℝ) (n : ℕ) :
    (∑ b ∈ Finset.range 8, ∑ m ∈ Finset.range n, (∑ k ∈ Finset.range 256, (if k / 32 = b then u (256 * m + k) else 0) * v (256 * m + k)) * s (8 * m + b))
      = ∑ r ∈ Finset.range (256 * n), u r * v r * s (r / 32) := by
  rw [Finset.sum_comm, ← sum_blocks (fun r => u r * v r * s (r / 32)) 256 n]
  refine Finset.sum_congr rfl fun m _ => ?_
  simp only [Finset.sum_mul]
  rw [Finset.sum_comm]
  refine Finset.sum_congr rfl fun k hk => ?_
  have hk' := Finset.mem_range.mp hk
  rw [Finset.sum_eq_single (k / 32)]
  · rw [if_pos rfl, show 8 * m + k / 32 = (256 * m + k) / 32 by omega]
  · intro b _ hb
    rw [if_neg (Ne.symm hb)]; ring
  · intro h
    exact absurd (Finset.mem_range.mpr (by omega)) h

end Cert.Alg

end
-- ==== Proof.Alg.Spec.lean ====
/- The layers as real functions of the argument arrays, indexed by natural numbers. -/
module

public import proofs.«01_k».proof.Proof.Alg.Base
public import Idealize.ShloMosaic.Lib.IdealHost

@[expose] public section

noncomputable section

namespace Cert.Alg

open Idealize.ShloMosaic
open scoped BigOperators

/-- The arguments the layers read: the packed codes and scales of both layers, and the activations. -/
structure Args where
  w1 : (⟨3, ![13, 3584, 4096]⟩ : Shape).Idx → BitVec 8
  s1 : (⟨3, ![13, 224, 4096]⟩ : Shape).Idx → BitVec 8
  w2 : (⟨3, ![13, 1024, 7168]⟩ : Shape).Idx → BitVec 8
  s2 : (⟨3, ![13, 64, 7168]⟩ : Shape).Idx → BitVec 8
  x : (⟨3, ![6, 1, 7168]⟩ : Shape).Idx → EReal

/-- A number below `n`, by reduction. -/
def md (n : ℕ) (h : 0 < n) (a : ℕ) : Fin n := ⟨a % n, Nat.mod_lt _ h⟩

theorem md_eq {n : ℕ} (h : 0 < n) (a : Fin n) : md n h a.val = a := Fin.ext (Nat.mod_eq_of_lt a.isLt)
theorem md_of {n : ℕ} (h : 0 < n) (a : ℕ) (k : Fin n) (e : a = k.val) : md n h a = k := by subst e; exact md_eq h k

variable (P : Args)

def Args.W1 (e r c : ℕ) : BitVec 8 := P.w1 (ix3 (md 13 (by decide) e) (md 3584 (by decide) r) (md 4096 (by decide) c))
def Args.S1 (e r c : ℕ) : BitVec 8 := P.s1 (ix3 (md 13 (by decide) e) (md 224 (by decide) r) (md 4096 (by decide) c))
def Args.W2 (e r c : ℕ) : BitVec 8 := P.w2 (ix3 (md 13 (by decide) e) (md 1024 (by decide) r) (md 7168 (by decide) c))
def Args.S2 (e r c : ℕ) : BitVec 8 := P.s2 (ix3 (md 13 (by decide) e) (md 64 (by decide) r) (md 7168 (by decide) c))
def Args.X (t r : ℕ) : ℝ := (P.x (ix3 (md 6 (by decide) t) 0 (md 7168 (by decide) r))).toReal

/-- The first layer's product. -/
def Args.gu (e t c : ℕ) : ℝ := ∑ r ∈ Finset.range 7168, P.X t r * code (P.W1 e (r / 2) c) r * scale (P.S1 e (r / 32) c)
/-- The hidden activations. -/
def Args.hid (e t f : ℕ) : ℝ := P.gu e t f * (1 + Real.exp (-(P.gu e t f)))⁻¹ * P.gu e t (2048 + f)
/-- The second layer's product. -/
def Args.y (e t d : ℕ) : ℝ := ∑ r ∈ Finset.range 2048, P.hid e t r * code (P.W2 e (r / 2) d) r * scale (P.S2 e (r / 32) d)

/-- The scales are exponents of normal numbers, and the activations are finite. -/
structure Args.Good : Prop where
  s1 : ∀ i, 1 ≤ (P.s1 i).toNat ∧ (P.s1 i).toNat ≤ 254
  s2 : ∀ i, 1 ≤ (P.s2 i).toNat ∧ (P.s2 i).toNat ≤ 254
  x : ∀ i, P.x i = ((P.x i).toReal : EReal)

theorem fin_sum {n : ℕ} (f : ℕ → ℝ) : (∑ i : Fin n, ((f i.val : ℝ) : EReal)) = ((∑ i ∈ Finset.range n, f i : ℝ) : EReal) := by
  rw [coe_sum, Finset.sum_range]

theorem add_mul_at {A S C : EReal} {a s k : ℝ} (hA : A = ((a : ℝ) : EReal)) (hS : S = ((s : ℝ) : EReal)) (hC : C = ((k : ℝ) : EReal)) :
    A + S * C = ((a + s * k : ℝ) : EReal) := by
  rw [hA, hS, hC, EReal.coe_add, EReal.coe_mul]

theorem mul_at {A C : EReal} {a k : ℝ} (hA : A = ((a : ℝ) : EReal)) (hC : C = ((k : ℝ) : EReal)) : A * C = ((a * k : ℝ) : EReal) := by
  rw [hA, hC, EReal.coe_mul]

theorem code_at {S H : EReal} {p : BitVec 8} {r : ℕ} (D : BitVec 32) (hD : D = nib p r) (hS : S = ((((twice D).toInt : ℤ) : ℝ) : EReal))
    (hH : H = (((1 : ℝ) / 2 : ℝ) : EReal)) : S * H = ((code p r : ℝ) : EReal) := by
  rw [hS, hH, ← EReal.coe_mul, hD]; rfl

theorem sitofp_at (n : BitVec 32) : FloatOps.sitofp (F := Ideal) .f32 n = (((n.toInt : ℤ) : ℝ) : EReal) := rfl

theorem add_at {A C : EReal} {a k : ℝ} (hA : A = ((a : ℝ) : EReal)) (hC : C = ((k : ℝ) : EReal)) : A + C = ((a + k : ℝ) : EReal) := by
  rw [hA, hC, EReal.coe_add]

theorem sum_at {n : ℕ} {G : Fin n → EReal} {f : ℕ → ℝ} (h : ∀ x : Fin n, G x = ((f x.val : ℝ) : EReal)) : (∑ x : Fin n, G x) = ((∑ x ∈ Finset.range n, f x : ℝ) : EReal) := by
  rw [← fin_sum]; exact Finset.sum_congr rfl fun x _ => h x

end Cert.Alg

end
-- ==== Proof.Alg.Pay.lean ====
/- The kernel's blocks of arithmetic, read one element at a time over the reals. -/
module

public import proofs.«01_k».proof.Proof.HandIdeal.Run
public import proofs.«01_k».proof.Proof.Alg.Spec
public import Idealize.ShloMosaic.Lib.Pointwise

@[expose] public section

set_option maxRecDepth 16384
set_option maxHeartbeats 400000

noncomputable section

namespace Cert.KernelIdeal.Alg

open Cert.KernelIdeal Cert.KernelIdeal.Gen Cert.Alg
open Idealize.ShloMosaic
open Idealize.ShloMosaic.Tactic

/-- One slab of the first layer. -/
theorem pay23_at (A : FVec Ideal S6x8x512 .f32) (sl sr : Vec Ideal S1x1x8x256 .i8) (xs : Vec Ideal S1x48x256 .bf16) (wl wr : Vec Ideal S1x1x128x256 .i8)
    (t : Fin 6) (b : Fin 8) (c : Fin 512) (a : ℝ) (u : ℕ → ℝ) (w : ℕ → BitVec 8) (s : BitVec 8)
    (hA : A (ix3 t b c) = ((a : ℝ) : EReal)) (hu : ∀ x : Fin 256, xs (ix3 0 ⟨t.val * 8 + b.val, by omega⟩ x) = ((u x.val : ℝ) : EReal))
    (hw : ∀ p : Fin 128, (if h : c.val < 256 then wl (ix4 0 0 p ⟨c.val, h⟩) else wr (ix4 0 0 p ⟨c.val - 256, by omega⟩)) = w p.val)
    (hs : (if h : c.val < 256 then sl (ix4 0 0 b ⟨c.val, h⟩) else sr (ix4 0 0 b ⟨c.val - 256, by omega⟩)) = s)
    (h1 : 1 ≤ s.toNat) (h2 : s.toNat ≤ 254) :
    k0_pay23 (F := Ideal) A (k0_pay1 sl sr) (k0_pay2 xs) (k0_pay3 wl wr) 7#32 (ix3 t b c)
      = ((a + (∑ x ∈ Finset.range 256, u x * code (w (x / 2)) x) * scale s : ℝ) : EReal) := by
  pointwise [k0_pay23, k0_pay1, k0_pay2, k0_pay3]
  refine add_mul_at ?_ (sum_at (f := fun x => u x * code (w (x / 2)) x) fun x => ?_) ?_
  · exact hA
  · beta_reduce
    refine mul_at ?_ ?_
    · exact hu x
    · generalize hD : (if h : x.val % 2 < 1 then _ else _) = D
      refine code_at D ?_ ?_ ?_
      · rw [← hw ⟨x.val / 2, by omega⟩, ← hD]
        unfold nib
        by_cases h : x.val % 2 < 1
        · rw [dif_pos h, if_pos h]
        · rw [dif_neg h, if_neg h]
      · unfold twice
        exact sitofp_at _
      · exact half
  · rw [← scale_kernel s h1 h2, ← hs]
    by_cases hc : c.val < 256
    · rw [dif_pos hc, dif_pos hc]
    · rw [dif_neg hc, dif_neg hc]

/-- One slab of the second layer. -/
theorem pay35_at (A : FVec Ideal S6x8x512 .f32) (sl : Vec Ideal S1x8x512 .i8) (xs : Vec Ideal S1x48x256 .bf16) (wl : Vec Ideal S1x128x512 .i8)
    (t : Fin 6) (b : Fin 8) (c : Fin 512) (a : ℝ) (u : ℕ → ℝ) (w : ℕ → BitVec 8) (s : BitVec 8)
    (hA : A (ix3 t b c) = ((a : ℝ) : EReal)) (hu : ∀ x : Fin 256, xs (ix3 0 ⟨t.val * 8 + b.val, by omega⟩ x) = ((u x.val : ℝ) : EReal))
    (hw : ∀ p : Fin 128, wl (ix3 0 p c) = w p.val) (hs : sl (ix3 0 b c) = s)
    (h1 : 1 ≤ s.toNat) (h2 : s.toNat ≤ 254) :
    k0_pay35 (F := Ideal) A (k0_pay13 xs) (k0_pay14 sl) (k0_pay15 wl) k0_pay16 (ix3 t b c)
      = ((a + (∑ x ∈ Finset.range 256, u x * code (w (x / 2)) x) * scale s : ℝ) : EReal) := by
  pointwise [k0_pay35, k0_pay13, k0_pay14, k0_pay15, k0_pay16]
  refine add_mul_at ?_ (sum_at (f := fun x => u x * code (w (x / 2)) x) fun x => ?_) ?_
  · exact hA
  · beta_reduce
    refine mul_at ?_ ?_
    · exact hu x
    · generalize hD : (if h : x.val % 2 < 1 then _ else _) = D
      refine code_at D ?_ ?_ ?_
      · rw [← hw ⟨x.val / 2, by omega⟩, ← hD]
        unfold nib
        by_cases h : x.val % 2 < 1
        · rw [dif_pos h, if_pos h]
        · rw [dif_neg h, if_neg h]
      · unfold twice
        exact sitofp_at _
      · exact half
  · rw [← scale_kernel s h1 h2, ← hs]

/-- The gate times its sigmoid times the up-projection, kept where the mask is set. -/
theorem pay24_at (mk : IVec S6x8x256 1) (A : FVec Ideal S6x8x512 .f32) (r : Fin 48) (c : Fin 256) (g u : ℝ)
    (hg : (∑ x : Fin 8, A (ix3 ⟨r.val / 8, by omega⟩ x ⟨c.val, by omega⟩)) = ((g : ℝ) : EReal))
    (hu : (∑ x : Fin 8, A (ix3 ⟨r.val / 8, by omega⟩ x ⟨256 + c.val, by omega⟩)) = ((u : ℝ) : EReal)) :
    k0_pay24 (F := Ideal) mk A (ix3 0 r c)
      = Scalar.select (mk (ix3 ⟨r.val / 8, by omega⟩ ⟨r.val % 8, by omega⟩ c)) (((g * (1 + Real.exp (-g))⁻¹ * u : ℝ) : EReal)) 0 := by
  pointwise [k0_pay24]
  rw [hg, hu, Ideal.logistic_coe, ← EReal.coe_mul, ← EReal.coe_mul]

theorem pay21_at (e : BitVec 32) (iv : Vec Ideal S6x1x8 .i32) (wv : Vec Ideal S6x1x8 .f32) (t : Fin 6) (b : Fin 8) (c : Fin 128) :
    k0_pay21 (F := Ideal) e iv wv (ix3 t b c) = ((∑ x : Fin 8, if iv (ix3 t 0 x) = e then wv (ix3 t 0 x) else 0 : EReal)) := by
  pointwise [k0_pay21]
  refine Finset.sum_congr rfl fun x _ => ?_
  show (if BitVec.ofBool (iv (ix3 t 0 x) == e) = 1#1 then wv (ix3 t 0 x) else 0) = _
  by_cases h : iv (ix3 t 0 x) = e
  · rw [if_pos h, h]; simp
  · rw [if_neg h, show (iv (ix3 t 0 x) == e) = false from beq_eq_false_iff_ne.mpr h]; rfl

theorem pay36_at (A O : FVec Ideal S6x8x512 .f32) (cw : Vec Ideal S6x8x1 .f32) (t : Fin 6) (b : Fin 8) (c : Fin 512) (z : EReal) (h : (O (ix3 t b c) : EReal) + (cw (ix3 t b 0) : EReal) * (A (ix3 t b c) : EReal) = z) :
    k0_pay36 (F := Ideal) A O cw (ix3 t b c) = z := by
  pointwise [k0_pay36]
  exact h

theorem pay84_at (O : Vec Ideal S6x8x7168 .f32) (t : Fin 6) (c : Fin 7168) (z : EReal) (h : (∑ x : Fin 8, (O (ix3 t x c) : EReal)) = z) :
    k0_pay84 (F := Ideal) O (ix3 t 0 c) = z := by
  pointwise [k0_pay84]
  exact h

theorem pay77_at (t : Fin 6) (b : Fin 8) (c : Fin 7168) (z : EReal) (h : z = 0) : k0_pay77 (F := Ideal) (ix3 t b c) = z := by
  pointwise [k0_pay77]
  exact h.symm
theorem pay22_at (t : Fin 6) (b : Fin 8) (c : Fin 512) (z : EReal) (h : z = 0) : k0_pay22 (F := Ideal) (ix3 t b c) = z := by
  pointwise [k0_pay22]
  exact h.symm
theorem pay34_at (t : Fin 6) (b : Fin 8) (c : Fin 512) (z : EReal) (h : z = 0) : k0_pay34 (F := Ideal) (ix3 t b c) = z := by
  pointwise [k0_pay34]
  exact h.symm

theorem pay76_at (v : Vec Ideal S6x1x256 .bf16) (i2 i3 i4 : IVec S6x8x256 32) (r : Fin 48) (c : Fin 256) (a : BitVec 32) (b : BitVec 1) :
    k0_pay76 (F := Ideal) i2 a i3 i4 b v (ix3 0 r c)
      = Scalar.select (k0_pay75 i2 a i3 i4 b (ix3 ⟨r.val / 8, by omega⟩ ⟨r.val % 8, by omega⟩ c)) (v (ix3 ⟨r.val / 8, by omega⟩ 0 c)) (0 : EReal) := by
  pointwise [k0_pay76]

end Cert.KernelIdeal.Alg

end
-- ==== Proof.Alg.Layer.lean ====
/- The kernel's result over the reals: the running products of both layers, the hidden activations and the weighted sum over
   the active experts, as the real functions of `Spec`. -/
module

public import proofs.«01_k».proof.Proof.Alg.Pay

@[expose] public section

set_option maxRecDepth 16384

noncomputable section

namespace Cert.KernelIdeal.Alg

open Cert.KernelIdeal Cert.KernelIdeal.Gen Cert.KernelIdeal.Hand Cert.Alg
open Idealize.ShloMosaic
open Idealize.ShloMosaic.Tactic
open scoped BigOperators

variable (M : HB Ideal) (xv : S6x1x7168.Idx → Elt Ideal .bf16)

/-- The arguments as the kernel holds them. -/
def args : Args := ⟨M.w1, M.s1, M.w2, M.s2, xv⟩

theorem vix3 {n0 n1 n2 : ℕ} (a : Fin n0) (b : Fin n1) (c : Fin n2) : ValueIdx.ix3 a b c = ix3 a b c := funext fun i => by fin_cases i <;> rfl

/-- The lane mask. -/
theorem mask_at (t : Fin 6) (b : Fin 8) (k : Fin 256) : mask (ix3 t b k) = if k.val / 32 = b.val then 1#1 else 0#1 := by
  unfold mask V137
  pointwise [k0_pay75, k0_pay73, k0_pay74]
  revert b k
  decide +kernel

theorem nib_add (p : BitVec 8) (m x : ℕ) : nib p (256 * m + x) = nib p x := by
  unfold nib
  rw [show (256 * m + x) % 2 = x % 2 by omega]

theorem code_add (p : BitVec 8) (m x : ℕ) : code p (256 * m + x) = code p x := by
  unfold code; rw [nib_add]

theorem LW1_at (e : BitVec 32) (cc h t n : ℕ) (p : Fin 128) (c : Fin 256) (col : ℕ)
    (hcol : h % 2 * 2048 + cc % 4 * 512 + (256 * t + c.val) % 512 = col) (hc : col < 4096) :
    LW1 M e cc h t n (ix4 0 0 p c) = (args M xv).W1 e.toNat (128 * n + p.val) col := by
  unfold LW1 GW1 Args.W1
  refine congrArg M.w1 (funext fun a => Fin.ext ?_)
  fin_cases a
  · rfl
  · rfl
  · show h % 2 * 2048 + cc % 4 * 512 + (256 * t + c.val) % 512 = col % 4096
    omega

theorem LS1_at (e : BitVec 32) (cc h t n : ℕ) (p : Fin 8) (c : Fin 256) (col : ℕ)
    (hcol : h % 2 * 2048 + cc % 4 * 512 + (256 * t + c.val) % 512 = col) (hc : col < 4096) :
    LS1 M e cc h t n (ix4 0 0 p c) = (args M xv).S1 e.toNat (8 * n + p.val) col := by
  unfold LS1 GS1 Args.S1
  refine congrArg M.s1 (funext fun a => Fin.ext ?_)
  fin_cases a
  · rfl
  · rfl
  · show h % 2 * 2048 + cc % 4 * 512 + (256 * t + c.val) % 512 = col % 4096
    omega

theorem LW2_at (e : BitVec 32) (h t n : ℕ) (p : Fin 128) (c : Fin 512) (col : ℕ)
    (hcol : h % 2 * 3584 + (512 * t + c.val) % 3584 = col) (hc : col < 7168) :
    LW2 M e h t n (ix3 0 p c) = (args M xv).W2 e.toNat (128 * n + p.val) col := by
  unfold LW2 GW2 Args.W2
  refine congrArg M.w2 (funext fun a => Fin.ext ?_)
  fin_cases a
  · rfl
  · rfl
  · show h % 2 * 3584 + (512 * t + c.val) % 3584 = col % 7168
    omega

theorem LS2_at (e : BitVec 32) (h t n : ℕ) (p : Fin 8) (c : Fin 512) (col : ℕ)
    (hcol : h % 2 * 3584 + (512 * t + c.val) % 3584 = col) (hc : col < 7168) :
    LS2 M e h t n (ix3 0 p c) = (args M xv).S2 e.toNat (8 * n + p.val) col := by
  unfold LS2 GS2 Args.S2
  refine congrArg M.s2 (funext fun a => Fin.ext ?_)
  fin_cases a
  · rfl
  · rfl
  · show h % 2 * 3584 + (512 * t + c.val) % 3584 = col % 7168
    omega

theorem LX_at (X : S28x48x256.Idx → Elt Ideal .bf16) (n : ℕ) (r : Fin 48) (x : Fin 256) : LX X n (ix3 0 r x) = X (ix3 (md 28 (by decide) n) r x) := by
  unfold LX
  rw [vix3]
  rfl

theorem LH_at (H : S8x48x256.Idx → Elt Ideal .bf16) (n : ℕ) (r : Fin 48) (x : Fin 256) : LH H n (ix3 0 r x) = H (ix3 (md 8 (by decide) n) r x) := by
  unfold LH
  rw [vix3]
  rfl

/-- The spread activations. -/
theorem Xe_at (hP : (args M xv).Good) (m : ℕ) (hm : m < 28) (t : Fin 6) (b : Fin 8) (x : Fin 256) :
    Xe xv (ix3 (md 28 (by decide) m) ⟨t.val * 8 + b.val, by omega⟩ x)
      = (((if x.val / 32 = b.val then (args M xv).X t.val (256 * m + x.val) else 0 : ℝ)) : EReal) := by
  unfold Xe
  rw [vix3]
  refine (pay76_at _ _ _ _ _ _ _ _).trans ?_
  have e1 : (⟨(t.val * 8 + b.val) / 8, by omega⟩ : Fin 6) = t := Fin.ext (by show (t.val * 8 + b.val) / 8 = t.val; omega)
  have e2 : (⟨(t.val * 8 + b.val) % 8, by omega⟩ : Fin 8) = b := Fin.ext (by show (t.val * 8 + b.val) % 8 = b.val; omega)
  have em := mask_at t b x
  rw [← e1, ← e2] at em
  refine (congrArg (fun q => Scalar.select q _ _) em).trans ?_
  have ev : LA xv m (ix3 t 0 x) = (((args M xv).X t.val (256 * m + x.val) : ℝ) : EReal) := by
    unfold LA Args.X
    refine Eq.trans ?_ (hP.x _)
    refine congrArg xv (funext fun a => Fin.ext ?_)
    fin_cases a
    · show t.val = t.val % 6; omega
    · rfl
    · rfl
  have hmm : m % 28 = m := Nat.mod_eq_of_lt hm
  have ev' : LA xv (m % 28) (ix3 ⟨(t.val * 8 + b.val) / 8, by omega⟩ 0 x) = (((args M xv).X t.val (256 * m + x.val) : ℝ) : EReal) := by
    rw [hmm, e1]; exact ev
  refine (congrArg (fun q => Scalar.select _ q _) ev').trans ?_
  have e3 : (t.val * 8 + b.val) % 8 = b.val := by omega
  show (if (if x.val / 32 = (t.val * 8 + b.val) % 8 then 1#1 else 0#1) = 1#1 then _ else _) = _
  rw [e3]
  by_cases h : x.val / 32 = b.val
  · rw [if_pos h, if_pos h, if_pos rfl]
  · rw [if_neg h, if_neg h, if_neg (by decide)]; rfl

/-- One group's running product. -/
def A1 (P : Args) (e t col n b : ℕ) : ℝ :=
  ∑ m ∈ Finset.range n, (∑ x ∈ Finset.range 256, (if x / 32 = b then P.X t (256 * m + x) else 0) * code (P.W1 e ((256 * m + x) / 2) col) (256 * m + x)) * scale (P.S1 e (8 * m + b) col)
def A2 (P : Args) (e t col n b : ℕ) : ℝ :=
  ∑ m ∈ Finset.range n, (∑ x ∈ Finset.range 256, (if x / 32 = b then P.hid e t (256 * m + x) else 0) * code (P.W2 e ((256 * m + x) / 2) col) (256 * m + x)) * scale (P.S2 e (8 * m + b) col)

theorem A1_sum (P : Args) (e t col : ℕ) : (∑ b ∈ Finset.range 8, A1 P e t col 28 b) = P.gu e t col :=
  sum_groups (fun r => P.X t r) (fun r => code (P.W1 e (r / 2) col) r) (fun r => scale (P.S1 e r col)) 28
theorem A2_sum (P : Args) (e t col : ℕ) : (∑ b ∈ Finset.range 8, A2 P e t col 8 b) = P.y e t col :=
  sum_groups (fun r => P.hid e t r) (fun r => code (P.W2 e (r / 2) col) r) (fun r => scale (P.S2 e r col)) 8

/-- The column of the first layer that lane `c` of a tile holds. -/
def col1 (cc tt c : ℕ) : ℕ := if c < 256 then cc * 512 + 256 * tt + c else 2048 + (cc * 512 + 256 * tt + (c - 256))

theorem acc1_at (hP : (args M xv).Good) (e : BitVec 32) (cc tt : ℕ) (hcc : cc < 4) (htt : tt < 2) (t : Fin 6) (b : Fin 8) (c : Fin 512) : ∀ n, n ≤ 28 →
    acc1 M (Xe xv) e cc tt n (ix3 t b c) = ((A1 (args M xv) e.toNat t.val (col1 cc tt c.val) n b.val : ℝ) : EReal)
  | 0, _ => by
    unfold acc1
    refine pay22_at t b c _ ?_
    unfold A1; simp
  | n + 1, hn => by
    have ih := acc1_at hP e cc tt hcc htt t b c n (by omega)
    unfold acc1
    refine (pay23_at _ _ _ _ _ _ t b c _ (fun x => if x / 32 = b.val then (args M xv).X t.val (256 * n + x) else 0)
      (fun p => (args M xv).W1 e.toNat (128 * n + p) (col1 cc tt c.val)) ((args M xv).S1 e.toNat (8 * n + b.val) (col1 cc tt c.val)) ih ?_ ?_ ?_ ?_ ?_).trans ?_
    · intro x
      rw [LX_at]
      exact Xe_at M xv hP n (by omega) t b x
    · intro p
      unfold col1
      have := c.isLt
      by_cases hc : c.val < 256
      · rw [dif_pos hc, if_pos hc]
        exact LW1_at M xv e cc 0 tt n p ⟨c.val, hc⟩ _ (by show 0 % 2 * 2048 + cc % 4 * 512 + (256 * tt + c.val) % 512 = _; omega) (by omega)
      · rw [dif_neg hc, if_neg hc]
        exact LW1_at M xv e cc 1 tt n p ⟨c.val - 256, by omega⟩ _ (by show 1 % 2 * 2048 + cc % 4 * 512 + (256 * tt + (c.val - 256)) % 512 = _; omega) (by omega)
    · unfold col1
      have := c.isLt
      by_cases hc : c.val < 256
      · rw [dif_pos hc, if_pos hc]
        exact LS1_at M xv e cc 0 tt n b ⟨c.val, hc⟩ _ (by show 0 % 2 * 2048 + cc % 4 * 512 + (256 * tt + c.val) % 512 = _; omega) (by omega)
      · rw [dif_neg hc, if_neg hc]
        exact LS1_at M xv e cc 1 tt n b ⟨c.val - 256, by omega⟩ _ (by show 1 % 2 * 2048 + cc % 4 * 512 + (256 * tt + (c.val - 256)) % 512 = _; omega) (by omega)
    · exact (hP.s1 _).1
    · exact (hP.s1 _).2
    · refine congrArg _ ?_
      unfold A1
      rw [Finset.sum_range_succ _ n]
      refine congrArg₂ (fun p q : ℝ => p + q) rfl ?_
      refine congrArg₂ (fun p q : ℝ => p * q) (Finset.sum_congr rfl fun x _ => ?_) rfl
      rw [code_add, show 128 * n + x / 2 = (256 * n + x) / 2 by omega]

/-- The hidden activations, spread. -/
theorem HE_at (hP : (args M xv).Good) (e : BitVec 32) (m : ℕ) (hm : m < 8) (t : Fin 6) (b : Fin 8) (x : Fin 256) :
    HE M (Xe xv) mask e (ix3 (md 8 (by decide) m) ⟨t.val * 8 + b.val, by omega⟩ x)
      = (((if x.val / 32 = b.val then (args M xv).hid e.toNat t.val (256 * m + x.val) else 0 : ℝ)) : EReal) := by
  unfold HE
  rw [vix3]
  have e1 : (⟨(t.val * 8 + b.val) / 8, by omega⟩ : Fin 6) = t := Fin.ext (by show (t.val * 8 + b.val) / 8 = t.val; omega)
  have e2 : (⟨(t.val * 8 + b.val) % 8, by omega⟩ : Fin 8) = b := Fin.ext (by show (t.val * 8 + b.val) % 8 = b.val; omega)
  have hmm : m % 8 = m := Nat.mod_eq_of_lt hm
  have hx := x.isLt
  have part : ∀ (c : Fin 512) (col : ℕ), col1 (m / 2) (m % 2) c.val = col →
      (∑ y : Fin 8, (acc1 M (Xe xv) e (m % 8 / 2) (m % 8 % 2) 28 (ix3 ⟨(t.val * 8 + b.val) / 8, by omega⟩ y c) : EReal)) = (((args M xv).gu e.toNat t.val col : ℝ) : EReal) := by
    intro c col hcol
    rw [← A1_sum, ← hcol, hmm, e1]
    exact sum_at (f := fun y => A1 (args M xv) e.toNat t.val (col1 (m / 2) (m % 2) c.val) 28 y)
      fun y => acc1_at M xv hP e (m / 2) (m % 2) (by omega) (by omega) t y c 28 le_rfl
  refine (pay24_at mask _ ⟨t.val * 8 + b.val, by omega⟩ x ((args M xv).gu e.toNat t.val (256 * m + x.val)) ((args M xv).gu e.toNat t.val (2048 + (256 * m + x.val)))
    (part ⟨x.val, by omega⟩ _ ?_) (part ⟨256 + x.val, by omega⟩ _ ?_)).trans ?_
  · unfold col1
    rw [if_pos hx]
    show m / 2 * 512 + 256 * (m % 2) + x.val = _
    omega
  · unfold col1
    rw [if_neg (by show ¬ 256 + x.val < 256; omega)]
    show 2048 + (m / 2 * 512 + 256 * (m % 2) + (256 + x.val - 256)) = _
    omega
  · have em := mask_at t b x
    rw [← e1, ← e2] at em
    refine (congrArg (fun q => Scalar.select q _ _) em).trans ?_
    have e3 : (t.val * 8 + b.val) % 8 = b.val := by omega
    show (if (if x.val / 32 = (t.val * 8 + b.val) % 8 then 1#1 else 0#1) = 1#1 then _ else _) = _
    rw [e3]
    by_cases h : x.val / 32 = b.val
    · rw [if_pos h, if_pos h, if_pos rfl]; rfl
    · rw [if_neg h, if_neg h, if_neg (by decide)]; rfl

theorem acc2_at (hP : (args M xv).Good) (e : BitVec 32) (h tt : ℕ) (hh : h < 2) (htt : tt < 7) (t : Fin 6) (b : Fin 8) (c : Fin 512) : ∀ n, n ≤ 8 →
    acc2 M (HE M (Xe xv) mask e) e h tt n (ix3 t b c) = ((A2 (args M xv) e.toNat t.val (h * 3584 + 512 * tt + c.val) n b.val : ℝ) : EReal)
  | 0, _ => by
    unfold acc2
    refine pay34_at t b c _ ?_
    unfold A2; simp
  | n + 1, hn => by
    have ih := acc2_at hP e h tt hh htt t b c n (by omega)
    have := c.isLt
    unfold acc2
    refine (pay35_at _ _ _ _ t b c _ (fun x => if x / 32 = b.val then (args M xv).hid e.toNat t.val (256 * n + x) else 0)
      (fun p => (args M xv).W2 e.toNat (128 * n + p) (h * 3584 + 512 * tt + c.val)) ((args M xv).S2 e.toNat (8 * n + b.val) (h * 3584 + 512 * tt + c.val)) ih ?_ ?_ ?_ ?_ ?_).trans ?_
    · intro x
      rw [LH_at]
      exact HE_at M xv hP e n (by omega) t b x
    · intro p
      exact LW2_at M xv e h tt n p c _ (by omega) (by omega)
    · exact LS2_at M xv e h tt n b c _ (by omega) (by omega)
    · exact (hP.s2 _).1
    · exact (hP.s2 _).2
    · refine congrArg _ ?_
      unfold A2
      rw [Finset.sum_range_succ _ n]
      refine congrArg₂ (fun p q : ℝ => p + q) rfl ?_
      refine congrArg₂ (fun p q : ℝ => p * q) (Finset.sum_congr rfl fun x _ => ?_) rfl
      rw [code_add, show 128 * n + x / 2 = (256 * n + x) / 2 by omega]

/-- The weight of expert `e` for row `t`. -/
def cw (iv : S6x1x8.Idx → BitVec 32) (wr : ℕ → ℕ → ℝ) (e : BitVec 32) (t : Fin 6) : ℝ := ∑ x : Fin 8, if iv (ix3 t 0 x) = e then wr t.val x.val else 0

theorem cw_at (iv : Vec Ideal S6x1x8 .i32) (wv : Vec Ideal S6x1x8 .f32) (wr : ℕ → ℕ → ℝ) (hw : ∀ (t : Fin 6) (x : Fin 8), wv (ix3 t 0 x) = ((wr t.val x.val : ℝ) : EReal))
    (e : BitVec 32) (t : Fin 6) (b : Fin 8) (c : Fin 128) : k0_pay21 (F := Ideal) e iv wv (ix3 t b c) = ((cw iv wr e t : ℝ) : EReal) := by
  rw [pay21_at]
  unfold cw
  rw [← coe_sum]
  refine Finset.sum_congr rfl fun x _ => ?_
  by_cases h : iv (ix3 t 0 x) = e
  · rw [if_pos h, if_pos h]; exact hw t x
  · rw [if_neg h, if_neg h]; rfl

theorem LO_at (O : S6x8x7168.Idx → Elt Ideal .f32) (t : Fin 6) (b : Fin 8) (d : Fin 7168) :
    LO O (d.val / 512) (ix3 t b ⟨d.val % 512, by omega⟩) = O (ix3 t b d) := by
  unfold LO
  refine congrArg O (funext fun a => Fin.ext ?_)
  have := d.isLt
  fin_cases a
  · rfl
  · rfl
  · show (512 * (d.val / 512) + d.val % 512) % 7168 = d.val
    omega

theorem LC_at (C : S6x8x128.Idx → Elt Ideal .f32) (t : Fin 6) (b : Fin 8) : LC C (ix3 t b 0) = C (ix3 t b 0) := by
  unfold LC
  refine congrArg C (funext fun a => Fin.ext ?_)
  fin_cases a <;> rfl

/-- The accumulated output after `n` experts. -/
theorem Oacc_at (hP : (args M xv).Good) (Af : S13.Idx → Elt Ideal .i32) (iv : Vec Ideal S6x1x8 .i32) (wv : Vec Ideal S6x1x8 .f32) (wr : ℕ → ℕ → ℝ)
    (hw : ∀ (t : Fin 6) (x : Fin 8), wv (ix3 t 0 x) = ((wr t.val x.val : ℝ) : EReal)) (t : Fin 6) (b : Fin 8) (d : Fin 7168) : ∀ n,
    Oacc M (Xe xv) mask Af iv wv n (ix3 t b d)
      = ((∑ i ∈ Finset.range n, cw iv wr (Af (ValueIdx.ix1 (cl i))) t * A2 (args M xv) (Af (ValueIdx.ix1 (cl i))).toNat t.val d.val 8 b.val : ℝ) : EReal)
  | 0 => by
    unfold Oacc
    refine pay77_at t b d _ ?_
    simp
  | n + 1 => by
    have ih := Oacc_at hP Af iv wv wr hw t b d n
    unfold Oacc
    generalize hO : Oacc M (Xe xv) mask Af iv wv n = O at ih
    generalize he : Af (ValueIdx.ix1 (cl n)) = e
    have hd := d.isLt
    unfold Onext
    rw [vix3]
    refine pay36_at _ _ _ t b ⟨d.val % 512, by omega⟩ _ ?_
    have h1 : LO O (d.val / 512) (ix3 t b ⟨d.val % 512, by omega⟩) = _ := (LO_at O t b d).trans ih
    have h2 := (LC_at (k0_pay21 (F := Ideal) e iv wv) t b).trans (cw_at iv wv wr hw e t b 0)
    have h3 := acc2_at M xv hP e (d.val / 512 / 7) (d.val / 512 % 7) (by omega) (by omega) t b ⟨d.val % 512, by omega⟩ 8 le_rfl
    have hcol : d.val / 512 / 7 * 3584 + 512 * (d.val / 512 % 7) + d.val % 512 = d.val := by omega
    refine (add_mul_at h1 h2 h3).trans ?_
    rw [Finset.sum_range_succ, he]
    show (((_ : ℝ) + cw iv wr e t * A2 (args M xv) e.toNat t.val (d.val / 512 / 7 * 3584 + 512 * (d.val / 512 % 7) + d.val % 512) 8 b.val : ℝ) : EReal) = _
    rw [hcol]

/-- The kernel's result, as a sum over all experts. -/
theorem Kout_at (hP : (args M xv).Good) (idf : ℕ → BitVec 32) (iv : Vec Ideal S6x1x8 .i32) (wv : Vec Ideal S6x1x8 .f32) (wr : ℕ → ℕ → ℝ)
    (hw : ∀ (t : Fin 6) (x : Fin 8), wv (ix3 t 0 x) = ((wr t.val x.val : ℝ) : EReal))
    (hid : ∀ (t : Fin 6) (x : Fin 8), idf (8 * t.val + x.val) = iv (ix3 t 0 x)) (t : Fin 6) (d : Fin 7168) :
    Kout M idf iv wv xv (ix3 t 0 d)
      = ((∑ j ∈ Finset.range 13, cw iv wr (BitVec.ofNat 32 j) t * (args M xv).y j t.val d.val : ℝ) : EReal) := by
  unfold Kout
  refine pay84_at _ t d _ ?_
  refine (sum_at (f := fun b => ∑ i ∈ Finset.range (cmpt (flg idf 48) 13).1.toNat, cw iv wr ((toA (F := Ideal) (cmpt (flg idf 48) 13).2) (ValueIdx.ix1 (cl i))) t
      * A2 (args M xv) ((toA (F := Ideal) (cmpt (flg idf 48) 13).2) (ValueIdx.ix1 (cl i))).toNat t.val d.val 8 b)
    fun b => Oacc_at M xv hP _ iv wv wr hw t b d _).trans ?_
  refine congrArg _ ?_
  rw [Finset.sum_comm]
  simp only [← Finset.mul_sum, A2_sum]
  refine (cmpt_sum (fun e => cw iv wr e t * (args M xv).y e.toNat t.val d.val) (flg idf 48) (fun i => flg_le idf 48 i) 13 le_rfl).trans ?_
  refine Finset.sum_congr rfl fun j hj => ?_
  have hj' := Finset.mem_range.mp hj
  have hjn : (BitVec.ofNat 32 j).toNat = j := by
    rw [BitVec.toNat_ofNat]; omega
  by_cases h : flg idf 48 (cl j) = 1#32
  · rw [if_pos h]; beta_reduce; rw [hjn]
  · rw [if_neg h]
    have h0 : cw iv wr (BitVec.ofNat 32 j) t = 0 := by
      unfold cw
      refine Finset.sum_eq_zero fun x _ => if_neg fun hx => h ((flg_iff idf (cl j) 48).mpr ⟨8 * t.val + x.val, by omega, ?_⟩)
      rw [hid, hx, hjn]
      show j = min j 12
      omega
    rw [h0, zero_mul]

end Cert.KernelIdeal.Alg

end
-- ==== Proof.Alg.Ref.lean ====
/- The reference's result over the reals, as the real functions of `Spec`. -/
module

public import proofs.«01_k».proof.Proof.Gen.ReferenceIdeal.Run
public import proofs.«01_k».proof.Proof.Alg.Spec
public import Idealize.ShloMosaic.Lib.Pointwise
public import Idealize.ShloMosaic.Lib.Tactic.CleanTypes

@[expose] public section

set_option maxRecDepth 16384
set_option maxHeartbeats 400000

noncomputable section

namespace Cert.ReferenceIdeal.Value

open Cert.ReferenceIdeal Cert.ReferenceIdeal.Gen Cert.Alg
open Idealize.ShloMosaic
open Idealize.ShloMosaic.Tactic
open scoped BigOperators

variable (V0 : Valuation τ sig (Elt Ideal))

/-- The arguments as the reference holds them. -/
def args : Args := ⟨V0 (Proc.devRef .tc main_arg1), V0 (Proc.devRef .tc main_arg2), V0 (Proc.devRef .tc main_arg3), V0 (Proc.devRef .tc main_arg4), V0 (Proc.devRef .tc main_arg0)⟩

theorem shr_host (x : BitVec 32) : IntOp.shrsi .host x 4#32 = IntOp.shrsi .vector x 4#32 := by
  rfl

theorem code_even (p : BitVec 8) (r : ℕ) : code p (2 * r) = code p 0 := by
  unfold code nib
  rw [show 2 * r % 2 = 0 % 2 by omega]
theorem code_odd (p : BitVec 8) (r : ℕ) : code p (2 * r + 1) = code p 1 := by
  unfold code nib
  rw [show (2 * r + 1) % 2 = 1 % 2 by omega]

/-- A decoded code from its parts. -/
theorem code_of {n : BitVec 32} {v : EReal} {p : BitVec 8} {k : ℕ} (hn : n = nib p k) (hv : v = magRef n) :
    Scalar.select (IntOp.cmpi .ne (IntOp.andi n 8#32) 0#32) (-v) v = ((code p k : ℝ) : EReal) := by
  rw [hv, hn]; exact dec_ref _ (nib_lt p k)

theorem W1_at (e : Fin 13) (r : Fin 3584) (f : Fin 4096) : V0 (Proc.devRef .tc main_arg1) (ix3 e r f) = (args V0).W1 e.val r.val f.val := by
  unfold Args.W1; rw [md_eq, md_eq, md_eq]; rfl
theorem S1_at (e : Fin 13) (r : Fin 224) (f : Fin 4096) : V0 (Proc.devRef .tc main_arg2) (ix3 e r f) = (args V0).S1 e.val r.val f.val := by
  unfold Args.S1; rw [md_eq, md_eq, md_eq]; rfl
theorem W2_at (e : Fin 13) (r : Fin 1024) (f : Fin 7168) : V0 (Proc.devRef .tc main_arg3) (ix3 e r f) = (args V0).W2 e.val r.val f.val := by
  unfold Args.W2; rw [md_eq, md_eq, md_eq]; rfl
theorem S2_at (e : Fin 13) (r : Fin 64) (f : Fin 7168) : V0 (Proc.devRef .tc main_arg4) (ix3 e r f) = (args V0).S2 e.val r.val f.val := by
  unfold Args.S2; rw [md_eq, md_eq, md_eq]; rfl

/-! The first layer's weights. -/

theorem v12_at (e : Fin 13) (r : Fin 3584) (f : Fin 4096) : (res_main_v12 V0 (ix3 e r f) : BitVec 32) = nib ((args V0).W1 e.val r.val f.val) 0 := by
  rw [← W1_at]
  unfold res_main_v12 res_main_v1
  clean_types
  pointwise
  rfl
theorem v40_at (e : Fin 13) (r : Fin 3584) (f : Fin 4096) : (res_main_v40 V0 (ix3 e r f) : BitVec 32) = nib ((args V0).W1 e.val r.val f.val) 1 := by
  rw [← W1_at]
  unfold res_main_v40 res_main_v1
  clean_types
  pointwise
  exact shr_host _
theorem v35_at (e : Fin 13) (r : Fin 3584) (f : Fin 4096) : (res_main_v35 V0 (ix3 e r f) : EReal) = magRef (res_main_v12 V0 (ix3 e r f)) := by
  unfold res_main_v35 res_main_v16 res_main_v20
  clean_types
  pointwise
  rfl
theorem v63_at (e : Fin 13) (r : Fin 3584) (f : Fin 4096) : (res_main_v63 V0 (ix3 e r f) : EReal) = magRef (res_main_v40 V0 (ix3 e r f)) := by
  unfold res_main_v63 res_main_v44 res_main_v48
  clean_types
  pointwise
  rfl
theorem v10_at (e : Fin 13) (r : Fin 3584) (f : Fin 4096) : (res_main_v10 V0 (ix3 e r f) : EReal) = ((scale ((args V0).S1 e.val (r.val / 16) f.val) : ℝ) : EReal) := by
  rw [← scale_ref, ← S1_at V0 e ⟨r.val / 16, by omega⟩ f]
  unfold res_main_v10
  clean_types
  pointwise

theorem v0_at (hP : (args V0).Good) (t : Fin 6) (r : Fin 7168) (k : ℕ) (hk : k = r.val) : (res_main_v0 V0 (ix2 t r) : EReal) = (((args V0).X t.val k : ℝ) : EReal) := by
  subst hk
  unfold Args.X
  rw [← hP.x, md_eq, md_eq]
  unfold res_main_v0
  clean_types
  pointwise
  rfl

/-- The first layer's product. -/
theorem v73_at (hP : (args V0).Good) (e : Fin 13) (t : Fin 6) (f : Fin 4096) : (res_main_v73 V0 (ix3 e t f) : EReal) = (((args V0).gu e.val t.val f.val : ℝ) : EReal) := by
  have key : (args V0).gu e.val t.val f.val
      = (∑ p ∈ Finset.range 3584, code ((args V0).W1 e.val p f.val) 0 * scale ((args V0).S1 e.val (p / 16) f.val) * (args V0).X t.val (2 * p))
        + ∑ p ∈ Finset.range 3584, code ((args V0).W1 e.val p f.val) 1 * scale ((args V0).S1 e.val (p / 16) f.val) * (args V0).X t.val (1 + 2 * p) := by
    refine ((sum_even_odd (fun r => (args V0).X t.val r * code ((args V0).W1 e.val (r / 2) f.val) r * scale ((args V0).S1 e.val (r / 32) f.val)) 3584).symm).trans ?_
    refine congrArg₂ (fun p q : ℝ => p + q) (Finset.sum_congr rfl fun p _ => ?_) (Finset.sum_congr rfl fun p _ => ?_)
    · beta_reduce
      rw [code_even, show 2 * p / 2 = p by omega, show 2 * p / 32 = p / 16 by omega]; ring
    · beta_reduce
      rw [code_odd, show (2 * p + 1) / 2 = p by omega, show (2 * p + 1) / 32 = p / 16 by omega, show 2 * p + 1 = 1 + 2 * p by omega]; ring
  rw [key]
  unfold res_main_v73
  clean_types
  pointwise
  refine add_at (sum_at (f := fun p => code ((args V0).W1 e.val p f.val) 0 * scale ((args V0).S1 e.val (p / 16) f.val) * (args V0).X t.val (2 * p)) fun x => ?_)
    (sum_at (f := fun p => code ((args V0).W1 e.val p f.val) 1 * scale ((args V0).S1 e.val (p / 16) f.val) * (args V0).X t.val (1 + 2 * p)) fun x => ?_)
  · beta_reduce
    refine mul_at ?_ ?_
    · refine mul_at ?_ ?_
      · exact code_of (v12_at V0 e x f) (v35_at V0 e x f)
      · exact v10_at V0 e x f
    · exact v0_at V0 hP t _ _ rfl
  · beta_reduce
    refine mul_at ?_ ?_
    · refine mul_at ?_ ?_
      · exact code_of (v40_at V0 e x f) (v63_at V0 e x f)
      · exact v10_at V0 e x f
    · exact v0_at V0 hP t _ _ rfl

theorem sigmoid_at {x : EReal} {g : ℝ} (h : x = ((g : ℝ) : EReal)) : Ideal.div 1 (1 + Ideal.exp (-x)) = (((1 + Real.exp (-g))⁻¹ : ℝ) : EReal) := by
  have h0 : (1 + Real.exp (-g) : ℝ) ≠ 0 := by positivity
  rw [h, ← EReal.coe_neg, Ideal.exp_coe, ← EReal.coe_one, ← EReal.coe_add, Ideal.div_coe h0, ← EReal.coe_mul]
  congr 1
  rw [one_mul, one_div]

/-- The hidden activations. -/
theorem v84_at (hP : (args V0).Good) (e : Fin 13) (t : Fin 6) (f : Fin 2048) (k : ℕ) (hk : k = f.val) : (res_main_v84 V0 (ix3 e t f) : EReal) = (((args V0).hid e.val t.val k : ℝ) : EReal) := by
  subst hk
  unfold res_main_v84 res_main_v74
  clean_types
  pointwise
  unfold Args.hid
  refine mul_at (mul_at ?_ ?_) ?_
  · exact v73_at V0 hP e t ⟨f.val, by omega⟩
  · exact sigmoid_at (v73_at V0 hP e t ⟨f.val, by omega⟩)
  · exact v73_at V0 hP e t ⟨2048 + f.val, by omega⟩

/-! The second layer's weights. -/

theorem v96_at (e : Fin 13) (r : Fin 1024) (f : Fin 7168) : (res_main_v96 V0 (ix3 e r f) : BitVec 32) = nib ((args V0).W2 e.val r.val f.val) 0 := by
  rw [← W2_at]
  unfold res_main_v96 res_main_v85
  clean_types
  pointwise
  rfl
theorem v124_at (e : Fin 13) (r : Fin 1024) (f : Fin 7168) : (res_main_v124 V0 (ix3 e r f) : BitVec 32) = nib ((args V0).W2 e.val r.val f.val) 1 := by
  rw [← W2_at]
  unfold res_main_v124 res_main_v85
  clean_types
  pointwise
  exact shr_host _
theorem v119_at (e : Fin 13) (r : Fin 1024) (f : Fin 7168) : (res_main_v119 V0 (ix3 e r f) : EReal) = magRef (res_main_v96 V0 (ix3 e r f)) := by
  unfold res_main_v119 res_main_v100 res_main_v104
  clean_types
  pointwise
  rfl
theorem v147_at (e : Fin 13) (r : Fin 1024) (f : Fin 7168) : (res_main_v147 V0 (ix3 e r f) : EReal) = magRef (res_main_v124 V0 (ix3 e r f)) := by
  unfold res_main_v147 res_main_v128 res_main_v132
  clean_types
  pointwise
  rfl
theorem v94_at (e : Fin 13) (r : Fin 1024) (f : Fin 7168) : (res_main_v94 V0 (ix3 e r f) : EReal) = ((scale ((args V0).S2 e.val (r.val / 16) f.val) : ℝ) : EReal) := by
  rw [← scale_ref, ← S2_at V0 e ⟨r.val / 16, by omega⟩ f]
  unfold res_main_v94
  clean_types
  pointwise

/-- The second layer's product, for every expert. -/
def prod2 (h : FVec Ideal S13x6x2048 .bf16) (n0 n1 : IVec S13x1024x7168 32) (g0 g1 sc : FVec Ideal S13x1024x7168 .bf16) : FVec Ideal S13x6x7168 .f32 :=
  addf (Host.dotGeneral dot_S13x6x1024_S13x1024x7168_S13x6x7168_2_1_1_2_0_0 none (Host.slice S13x6x1024 ![0, 0, 0] ![1, 1, 2] h slicesBy_S13x6x2048_S13x6x1024_0s1_0s1_0s2) (mulf (select (cmpi .ne (andi n0 (broadcastInDim S13x1024x7168 ![] bcast_S_S13x1024x7168 (constantI S_ 32 8#32))) (broadcastInDim S13x1024x7168 ![] bcast_S_S13x1024x7168 (constantI S_ 32 0#32))) (Host.negf g0) g0) sc))
    (Host.dotGeneral dot_S13x6x1024_S13x1024x7168_S13x6x7168_2_1_1_2_0_0 none (Host.slice S13x6x1024 ![0, 0, 1] ![1, 1, 2] h slicesBy_S13x6x2048_S13x6x1024_0s1_0s1_1s2) (mulf (select (cmpi .ne (andi n1 (broadcastInDim S13x1024x7168 ![] bcast_S_S13x1024x7168 (constantI S_ 32 8#32))) (broadcastInDim S13x1024x7168 ![] bcast_S_S13x1024x7168 (constantI S_ 32 0#32))) (Host.negf g1) g1) sc))

/-- … of the reference's values. -/
def Yt : FVec Ideal S13x6x7168 .f32 :=
  prod2 (res_main_v84 V0) (res_main_v96 V0) (res_main_v124 V0) (res_main_v119 V0) (res_main_v147 V0) (res_main_v94 V0)

theorem Yt_at (hP : (args V0).Good) (e : Fin 13) (t : Fin 6) (d : Fin 7168) : (Yt V0 (ix3 e t d) : EReal) = (((args V0).y e.val t.val d.val : ℝ) : EReal) := by
  have key : (args V0).y e.val t.val d.val
      = (∑ p ∈ Finset.range 1024, (args V0).hid e.val t.val (2 * p) * (code ((args V0).W2 e.val p d.val) 0 * scale ((args V0).S2 e.val (p / 16) d.val)))
        + ∑ p ∈ Finset.range 1024, (args V0).hid e.val t.val (1 + 2 * p) * (code ((args V0).W2 e.val p d.val) 1 * scale ((args V0).S2 e.val (p / 16) d.val)) := by
    refine ((sum_even_odd (fun r => (args V0).hid e.val t.val r * code ((args V0).W2 e.val (r / 2) d.val) r * scale ((args V0).S2 e.val (r / 32) d.val)) 1024).symm).trans ?_
    refine congrArg₂ (fun p q : ℝ => p + q) (Finset.sum_congr rfl fun p _ => ?_) (Finset.sum_congr rfl fun p _ => ?_)
    · beta_reduce
      rw [code_even, show 2 * p / 2 = p by omega, show 2 * p / 32 = p / 16 by omega]; ring
    · beta_reduce
      rw [code_odd, show (2 * p + 1) / 2 = p by omega, show (2 * p + 1) / 32 = p / 16 by omega, show 2 * p + 1 = 1 + 2 * p by omega]; ring
  rw [key]
  unfold Yt prod2
  pointwise
  refine add_at (sum_at (f := fun p => (args V0).hid e.val t.val (2 * p) * (code ((args V0).W2 e.val p d.val) 0 * scale ((args V0).S2 e.val (p / 16) d.val))) fun x => ?_)
    (sum_at (f := fun p => (args V0).hid e.val t.val (1 + 2 * p) * (code ((args V0).W2 e.val p d.val) 1 * scale ((args V0).S2 e.val (p / 16) d.val))) fun x => ?_)
  · beta_reduce
    refine mul_at ?_ ?_
    · exact v84_at V0 hP e t _ _ rfl
    · refine mul_at ?_ ?_
      · exact code_of (v96_at V0 e x d) (v119_at V0 e x d)
      · exact v94_at V0 e x d
  · beta_reduce
    refine mul_at ?_ ?_
    · exact v84_at V0 hP e t _ _ rfl
    · refine mul_at ?_ ?_
      · exact code_of (v124_at V0 e x d) (v147_at V0 e x d)
      · exact v94_at V0 e x d

/-- The weighted sum over the chosen experts. -/
def comb (ids : IVec S6x1x8 32) (w : FVec Ideal S6x1x8 .f32) (Y : FVec Ideal S13x6x7168 .f32) : FVec Ideal S6x1x7168 .bf16 :=
  shapeCast S6x1x7168 (truncf (F := Ideal) .bf16 (Host.reduceAdd (mulf (broadcastInDim S6x8x7168 ![0, 1, 2] bcast_S6x8x1_S6x8x7168_0_1_2 (shapeCast S6x8x1 w shapeCasts_S6x1x8_S6x8x1)) (Host.reduceAdd (select (broadcastInDim S6x8x13x7168 ![0, 1, 2, 3] bcast_S6x8x13x1_S6x8x13x7168_0_1_2_3 (broadcastInDim S6x8x13x1 ![0, 1, 2] bcast_S6x8x13_S6x8x13x1_0_1_2 (cmpi .eq (broadcastInDim S6x8x13 ![0, 1, 2] bcast_S6x8x1_S6x8x13_0_1_2 (broadcastInDim S6x8x1 ![0, 1] bcast_S6x8_S6x8x1_0_1 (shapeCast S6x8 ids shapeCasts_S6x1x8_S6x8))) (broadcastInDim S6x8x13 ![0, 1, 2] bcast_S1x1x13_S6x8x13_0_1_2 (broadcastInDim S1x1x13 ![2] bcast_S13_S1x1x13_2 (iotaInDim S13 32 0)))))) (broadcastInDim S6x8x13x7168 ![0, 1, 2, 3] bcast_S6x1x13x7168_S6x8x13x7168_0_1_2_3 (broadcastInDim S6x1x13x7168 ![0, 2, 3] bcast_S6x13x7168_S6x1x13x7168_0_2_3 (transpose S6x13x7168 [1, 0, 2] Y transposes_S13x6x7168_S6x13x7168_1_0_2))) (broadcastInDim S6x8x13x7168 ![] bcast_S_S6x8x13x7168 (id (constant S_ .f32 0x00000000#32)))) (constant S_ .f32 0x00000000#32) reducesTo_S6x8x13x7168_S6x8x7168_d2 h_S_)) (constant S_ .f32 0x00000000#32) reducesTo_S6x8x7168_S6x7168_d1 h_S_) bitsLt_bf16_f32) shapeCasts_S6x7168_S6x1x7168

theorem comb_at (ids : IVec S6x1x8 32) (w : FVec Ideal S6x1x8 .f32) (Y : FVec Ideal S13x6x7168 .f32) (t : Fin 6) (d : Fin 7168) (wr : ℕ → ℝ) (y : ℕ → ℝ)
    (hw : ∀ x : Fin 8, (w (ix3 t 0 x) : EReal) = ((wr x.val : ℝ) : EReal)) (hy : ∀ e : Fin 13, (Y (ix3 e t d) : EReal) = ((y e.val : ℝ) : EReal)) :
    (comb ids w Y (ix3 t 0 d) : EReal) = ((∑ x : Fin 8, wr x.val * ∑ e ∈ Finset.range 13, (if ids (ix3 t 0 x) = BitVec.ofNat 32 e then y e else 0) : ℝ) : EReal) := by
  unfold comb
  pointwise
  rw [← coe_sum]
  refine Finset.sum_congr rfl fun x _ => ?_
  refine mul_at (hw x) (sum_at (f := fun e => if ids (ix3 t 0 x) = BitVec.ofNat 32 e then y e else 0) fun e => ?_)
  have hz : ((id (constant (F := Ideal) S_ FTy.f32 0#32) ix0 : EReal)) = 0 := Ideal.ofBits_zero FTy.f32
  refine (congrArg (fun q : EReal => Scalar.select _ _ q) hz).trans ?_
  show (if BitVec.ofBool (ids (ix3 t 0 x) == BitVec.ofNat 32 e.val) = 1#1 then (Y (ix3 e t d) : EReal) else 0) = _
  by_cases h : ids (ix3 t 0 x) = BitVec.ofNat 32 e.val
  · rw [if_pos h, h, beq_self_eq_true, if_pos (by decide)]; exact hy e
  · rw [if_neg h, show (ids (ix3 t 0 x) == BitVec.ofNat 32 e.val) = false from beq_eq_false_iff_ne.mpr h, if_neg (by decide)]; rfl

end Cert.ReferenceIdeal.Value

end
-- ==== Proof.Alg.Tame.lean ====
/- What the precondition `tame` says: ids below 13, scales from 1 to 254, finite activations and weights. -/
module

public import proofs.«01_k».proof.Pre_tame
public import proofs.«01_k».proof.Proof.Gen.Pre_tame
public import Idealize.ShloMosaic.Lib.ReduceAll
public import Idealize.ShloMosaic.Lib.WordArith
public import Idealize.ShloMosaic.Lib.KernelVsHost

@[expose] public section

set_option maxRecDepth 16384
set_option maxHeartbeats 400000

noncomputable section

namespace Cert.Alg

open Idealize.ShloMosaic

theorem id_lt (a : BitVec 32) (h : IntOp.andi (IntOp.cmpi .sge a 0#32) (IntOp.cmpi .slt a 13#32) = 1#1) : a.toNat < 13 := by
  obtain ⟨hge, hlt⟩ := IntOp.andi_eq_one.1 h
  have hge' := IntOp.cmpi_sge.1 hge
  have hlt' := IntOp.cmpi_slt.1 hlt
  have h0 : (0#32 : BitVec 32).toInt = 0 := by decide
  have h13 : (13#32 : BitVec 32).toInt = 13 := by decide
  rw [h0] at hge'
  rw [h13] at hlt'
  have := BitVec.toInt_eq_toNat_cond a
  have hb := a.isLt
  split at this <;> omega

theorem scale_range : ∀ p : BitVec 8, IntOp.andi (IntOp.cmpi .sge (BitVec.setWidth 32 p) 1#32) (IntOp.cmpi .sle (BitVec.setWidth 32 p) 254#32) = 1#1 →
    1 ≤ p.toNat ∧ p.toNat ≤ 254 := by
  decide +kernel

theorem real_of (x top : EReal) (htop : top = ⊤) (h : Ideal.cmp .olt (max x (-x)) top = 1#1) : x = ((x.toReal : ℝ) : EReal) := by
  subst htop
  have hlt : max x (-x) < ⊤ := by
    by_contra hn
    unfold Ideal.cmp at h
    simp [hn] at h
  rw [max_lt_iff] at hlt
  refine (EReal.coe_toReal hlt.1.ne ?_).symm
  intro hb
  rw [hb] at hlt
  simp at hlt

/-- The precondition, read. -/
structure Tame (a0 : FVec Ideal Cert.Pre_tame.S6x1x7168 .bf16) (a2 : IVec Cert.Pre_tame.S13x224x4096 8) (a4 : IVec Cert.Pre_tame.S13x64x7168 8)
    (a5 : IVec Cert.Pre_tame.S6x1x8 32) (a6 : FVec Ideal Cert.Pre_tame.S6x1x8 .f32) : Prop where
  ids : ∀ i, (a5 i).toNat < 13
  s1 : ∀ i, 1 ≤ (a2 i).toNat ∧ (a2 i).toNat ≤ 254
  s2 : ∀ i, 1 ≤ (a4 i).toNat ∧ (a4 i).toNat ≤ 254
  x : ∀ i, (a0 i : EReal) = ((EReal.toReal (a0 i) : ℝ) : EReal)
  w : ∀ i, (a6 i : EReal) = ((EReal.toReal (a6 i) : ℝ) : EReal)

theorem tame_of (a0 : FVec Ideal Cert.Pre_tame.S6x1x7168 .bf16) (a1 : IVec Cert.Pre_tame.S13x3584x4096 8)
    (a2 : IVec Cert.Pre_tame.S13x224x4096 8) (a3 : IVec Cert.Pre_tame.S13x1024x7168 8)
    (a4 : IVec Cert.Pre_tame.S13x64x7168 8) (a5 : IVec Cert.Pre_tame.S6x1x8 32)
    (a6 : FVec Ideal Cert.Pre_tame.S6x1x8 .f32)
    (h : Cert.Pre_tame.fn (F := Ideal) a0 a1 a2 a3 a4 a5 a6 = fun _ => 1#1) : Tame a0 a2 a4 a5 a6 := by
  have e := congrFun h (fun i => i.elim0)
  unfold Cert.Pre_tame.fn Cert.Pre_tame.fn_part1 at e
  obtain ⟨e, ew⟩ := IntOp.andi_eq_one.1 e
  obtain ⟨e, ex⟩ := IntOp.andi_eq_one.1 e
  obtain ⟨e, e2⟩ := IntOp.andi_eq_one.1 e
  obtain ⟨ei, e1⟩ := IntOp.andi_eq_one.1 e
  refine ⟨fun i => ?_, fun i => ?_, fun i => ?_, fun i => ?_, fun i => ?_⟩
  · exact id_lt _ (Host.reduce_andi_all _ _ _ _ _ ei i)
  · exact scale_range _ (Host.reduce_andi_all _ _ _ _ _ e1 i)
  · exact scale_range _ (Host.reduce_andi_all _ _ _ _ _ e2 i)
  · exact real_of _ (Ideal.ofBits .bf16 0x7F80#16) (by simp [Ideal.ofBits, Ideal.ieee]) (Host.reduce_andi_all _ _ _ _ _ ex i)
  · exact real_of _ (Ideal.ofBits .f32 0x7F800000#32) (by simp [Ideal.ofBits, Ideal.ieee]) (Host.reduce_andi_all _ _ _ _ _ ew i)

end Cert.Alg

end
-- ==== Proof.Alg.Value.lean ====
/- The value claim: over the reals the kernel's result is the reference's, from equal arguments the precondition admits. -/
module

public import proofs.«01_k».proof.Defs
public import proofs.«01_k».proof.Proof.HandIdeal.Pre
public import proofs.«01_k».proof.Proof.Gen.ReferenceIdeal
public import proofs.«01_k».proof.Proof.Gen.ReferenceIdeal.Run
public import proofs.«01_k».proof.Proof.Gen.Pre_tame
public import proofs.«01_k».proof.Proof.Alg.Layer
public import proofs.«01_k».proof.Proof.Alg.Ref
public import proofs.«01_k».proof.Proof.Alg.Tame
public import proofs.«01_k».proof.Proof.Frames

@[expose] public section

set_option maxRecDepth 16384
set_option maxHeartbeats 400000

noncomputable section

namespace Cert.KernelIdeal.Alg

open Cert.KernelIdeal Cert.KernelIdeal.Gen Cert.KernelIdeal.Hand Cert.Alg
open Idealize.ShloMosaic Idealize.ShloMosaic.TcCoe
open Idealize.ShloMosaic.Tactic
open Idealize.ShloMosaic.Pipeline (Dat Cfg Window cellOf)
open scoped BigOperators

variable (m : (ℓ : Loc nD τ sig) → Buf (Elt Ideal) ℓ)

/-- The result array after the run is what the body left in the staging buffer. -/
theorem final_out (c : Dev nD) : (dats m 0 c).arrAt (4 : Fin 5) cfg0.N = outAt m c t₀ := by
  have ho : ((cfg0.win (4 : Fin 5)).blk t₀).view.read (Elt Ideal) ((dats m 0 c).arrAt (4 : Fin 5) cfg0.N) = (dats m 0 c).flushed (4 : Fin 5) t₀ := by
    rw [show cfg0.N = (t₀ : Fin cfg0.N).val + 1 from rfl, (dats m 0 c).arrAt_succ (4 : Fin 5) t₀]
    rw [show (cfg0.win (4 : Fin 5)).flush t₀ = true from by decide, if_pos rfl]
    exact View.read_write_univ _ _
  have hz : (fun a => (win0_4.index t₀) a * main_v1.ty.shape.size a) = fun _ => 0 := funext fun a => by fin_cases a <;> decide
  have hr := fun f => Memref.read_access_unit_zero (Elt Ideal) main_v1 hz (fun a => by fin_cases a <;> decide) f
  rw [hr] at ho
  rw [ho]
  show (cfg0.win (4 : Fin 5)).cut _ ((dats m 0 c).after 4 t₀) = _
  rfl

/-- The arguments in memory. -/
def argsOf (c : Dev nD) : Args := ⟨m ((c : Thread nD τ).loc main_arg1), m ((c : Thread nD τ).loc main_arg2), m ((c : Thread nD τ).loc main_arg3), m ((c : Thread nD τ).loc main_arg4), m ((c : Thread nD τ).loc main_arg0)⟩

theorem args_eq (c : Dev nD) : args (MM m c) (m ((c : Thread nD τ).loc main_arg0)) = argsOf m c := by
  unfold args MM argsOf
  rw [V_main_arg1 m c, V_main_arg2 m c, V_main_arg3 m c, V_main_arg4 m c]

theorem flat_at (A : S6x1x8.Idx → BitVec 32) (h : S6x1x8.ShapeCasts S48) (t : Fin 6) (x : Fin 8) :
    shapeCast S48 A h (ValueIdx.ix1 (n := 48) ⟨(8 * t.val + x.val) % 48, Nat.mod_lt _ (by decide)⟩) = A (ix3 t 0 x) := by
  unfold shapeCast
  refine congrArg A ?_
  revert h t x
  decide +kernel

theorem ids_at (c : Dev nD) (t : Fin 6) (x : Fin 8) : idsAt m c t₀ (8 * t.val + x.val) = (m ((c : Thread nD τ).loc main_arg5) : S6x1x8.Idx → BitVec 32) (ix3 t 0 x) := by
  unfold idsAt
  rw [ib0_eq]
  generalize (m ((c : Thread nD τ).loc main_arg5) : S6x1x8.Idx → BitVec 32) = A
  have h := flat_at A shapeCasts_S6x1x8_S48 t x
  exact h

/-- The ids and the routing weights in memory. -/
abbrev ids (c : Dev nD) : S6x1x8.Idx → BitVec 32 := m ((c : Thread nD τ).loc main_arg5)
abbrev weights (c : Dev nD) : S6x1x8.Idx → EReal := m ((c : Thread nD τ).loc main_arg6)

/-- The precondition of the arguments in memory. -/
abbrev TameAt (c : Dev nD) : Prop :=
  Tame (m ((c : Thread nD τ).loc main_arg0)) (m ((c : Thread nD τ).loc main_arg2)) (m ((c : Thread nD τ).loc main_arg4)) (m ((c : Thread nD τ).loc main_arg5)) (m ((c : Thread nD τ).loc main_arg6))

/-- The routing weights as reals. -/
def wts (c : Dev nD) (t x : ℕ) : ℝ := EReal.toReal ((m ((c : Thread nD τ).loc main_arg6) : S6x1x8.Idx → EReal) (ix3 (md 6 (by decide) t) 0 (md 8 (by decide) x)))

theorem kernel_at (c : Dev nD) (hT : TameAt m c)
    (t : Fin 6) (d : Fin 7168) :
    (outAt m c t₀ (ix3 t 0 d) : EReal) = ((∑ j ∈ Finset.range 13, cw (ids m c) (wts m c) (BitVec.ofNat 32 j) t * (argsOf m c).y j t.val d.val : ℝ) : EReal) := by
  have hP : (argsOf m c).Good := ⟨hT.s1, hT.s2, hT.x⟩
  unfold outAt
  rw [ib1_eq, ib2_eq, ib3_eq]
  rw [← args_eq] at hP ⊢
  refine Kout_at (MM m c) _ hP _ _ _ (wts m c) (fun t x => ?_) (ids_at m c) t d
  unfold wts
  rw [md_eq, md_eq]
  exact hT.w _

end Cert.KernelIdeal.Alg

namespace Cert.Proof

open Cert.Alg Cert.KernelIdeal.Alg
open Idealize.ShloMosaic Idealize.ShloMosaic.TcCoe Idealize.SL.Sem
open Idealize.ShloMosaic.Tactic
open scoped BigOperators

/-- Summing over a token's slots or over the experts. -/
theorem swap (iv : Cert.KernelIdeal.S6x1x8.Idx → BitVec 32) (wr : ℕ → ℕ → ℝ) (y : ℕ → ℝ) (t : Fin 6) :
    (∑ x : Fin 8, wr t.val x.val * ∑ e ∈ Finset.range 13, (if iv (ix3 t 0 x) = BitVec.ofNat 32 e then y e else 0))
      = ∑ j ∈ Finset.range 13, cw iv wr (BitVec.ofNat 32 j) t * y j := by
  unfold cw
  simp only [Finset.mul_sum, Finset.sum_mul]
  rw [Finset.sum_comm]
  refine Finset.sum_congr rfl fun j _ => Finset.sum_congr rfl fun x _ => ?_
  by_cases h : iv (ix3 t 0 x) = BitVec.ofNat 32 j
  · rw [if_pos h, if_pos h]
  · rw [if_neg h, if_neg h, mul_zero, zero_mul]

theorem idx_eq (i : Cert.KernelIdeal.S6x1x7168.Idx) : ∃ (t : Fin 6) (d : Fin 7168), i = ix3 t 0 d := by
  refine ⟨i 0, i 2, ?_⟩
  funext a
  fin_cases a
  · rfl
  · exact Subsingleton.elim (α := Fin 1) _ _
  · rfl

/-- The reference's result is the kernel's. -/
theorem result_eq (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (hT : TameAt m c)
    (hA : Cert.ReferenceIdeal.Value.args V0 = argsOf m c) :
    Cert.ReferenceIdeal.Value.comb (ids m c) (weights m c) (Cert.ReferenceIdeal.Value.Yt V0)
      = Cert.KernelIdeal.Hand.outAt m c Cert.KernelIdeal.Hand.t₀ := by
  have hP : (Cert.ReferenceIdeal.Value.args V0).Good := by rw [hA]; exact ⟨hT.s1, hT.s2, hT.x⟩
  funext i
  obtain ⟨t, d, rfl⟩ := idx_eq i
  refine Eq.trans ?_ (kernel_at m c hT t d).symm
  refine (Cert.ReferenceIdeal.Value.comb_at _ _ _ t d (wts m c t.val) (fun j => (argsOf m c).y j t.val d.val) (fun x => ?_) (fun e => ?_)).trans ?_
  · unfold wts
    rw [md_eq, md_eq]
    exact hT.w _
  · rw [Cert.ReferenceIdeal.Value.Yt_at V0 hP e t d, hA]
  · rw [swap]

theorem tame_args (m : (ℓ : Loc Cert.KernelIdeal.nD Cert.KernelIdeal.τ Cert.KernelIdeal.sig) → Buf (Elt Ideal) ℓ) (h : Cert.Pre_KernelIdeal_tame m) (c : Dev Cert.KernelIdeal.nD) :
    TameAt m c :=
  tame_of _ _ _ _ _ _ _ (h c)

theorem frame_kernelIdeal_tame : Cert.quiescent_KernelIdeal_pre_tame := fun m ρ h =>
  (θ_run Cert.KernelIdeal.defs _ _).mono (fun _ h => h.1)
    (Cert.KernelIdeal.Hand.run_all m ρ (Cert.KernelIdeal.Hand.hyp_of_lt m fun c y => (tame_args m h c).ids y))

theorem frame_referenceIdeal_tame : Cert.quiescent_ReferenceIdeal_pre_tame := fun m ρ _ =>
  frame_referenceIdeal m ρ trivial

theorem algebraic : Cert.algebraic_KernelIdeal_ReferenceIdeal_pre_tame := by
  intro m g m' g' hpre hargs
  refine ⟨fun c => Cert.KernelIdeal.Hand.outAt m c Cert.KernelIdeal.Hand.t₀, ?_, ?_⟩
  · refine (θ_run Cert.KernelIdeal.defs _ _).mono (fun r h c => ?_)
      (Cert.KernelIdeal.Hand.run_all m g (Cert.KernelIdeal.Hand.hyp_of_lt m fun c y => (tame_args m hpre c).ids y))
    exact ⟨(h.2 c).trans (final_out m c), h.1.1 c⟩
  · refine (θ_run Cert.ReferenceIdeal.defs _ _).mono (fun r h c => ?_) (Cert.ReferenceIdeal.Value.run m' g')
    obtain ⟨h0, h1, h2, h3, h4, h5, h6⟩ := hargs c
    refine ⟨(h c).1.trans ?_, (h c).2⟩
    have hA : Cert.ReferenceIdeal.Value.args (StableHlo.launchContents m' c) = argsOf m c := by
      show (⟨m' ((c.tc : Thread Cert.ReferenceIdeal.nD Cert.ReferenceIdeal.τ).loc Cert.ReferenceIdeal.main_arg1), m' ((c.tc : Thread Cert.ReferenceIdeal.nD Cert.ReferenceIdeal.τ).loc Cert.ReferenceIdeal.main_arg2), m' ((c.tc : Thread Cert.ReferenceIdeal.nD Cert.ReferenceIdeal.τ).loc Cert.ReferenceIdeal.main_arg3), m' ((c.tc : Thread Cert.ReferenceIdeal.nD Cert.ReferenceIdeal.τ).loc Cert.ReferenceIdeal.main_arg4), m' ((c.tc : Thread Cert.ReferenceIdeal.nD Cert.ReferenceIdeal.τ).loc Cert.ReferenceIdeal.main_arg0)⟩ : Args) = _
      unfold argsOf
      rw [h0, h1, h2, h3, h4]
    refine Eq.trans ?_ (result_eq m c (StableHlo.launchContents m' c) (tame_args m hpre c) hA)
    rw [show ids m c = m' ((c.tc : Thread Cert.ReferenceIdeal.nD Cert.ReferenceIdeal.τ).loc Cert.ReferenceIdeal.main_arg5) from h5.symm, show weights m c = m' ((c.tc : Thread Cert.ReferenceIdeal.nD Cert.ReferenceIdeal.τ).loc Cert.ReferenceIdeal.main_arg6) from h6.symm]
    rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ids_in_range
public import proofs.«01_k».proof.Proof.Gen.Pre_tame
public import proofs.«01_k».proof.Proof.Same
public import proofs.«01_k».proof.Proof.Frames
public import proofs.«01_k».proof.Proof.Alg.Value
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_ids_in_range.Gen.facts,
    Cert.Pre_tame.Gen.facts, frame_kernel, frame_kernelIdeal, frame_kernelIdeal_tame, frame_referenceIdeal, frame_referenceIdeal_tame,
    trivial, algebraic⟩

end Cert.Proof

end
